-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_v10) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg0) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg0) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v7_0)) (v1 : (c : Dev Cert.Kernel13Ideal.nD) → Buf (Elt Ideal) ((c.tc : Thread Cert.Kernel13Ideal.nD Cert.Kernel13Ideal.τ).loc Cert.Kernel13Ideal.main_v7_1)) (v2 : (c : Dev Cert.Kernel13Ideal.nD) → Buf (Elt Ideal) ((c.tc : Thread Cert.Kernel13Ideal.nD Cert.Kernel13Ideal.τ).loc Cert.Kernel13Ideal.main_v7_2)) (v3 : (c : Dev Cert.Kernel13Ideal.nD) → Buf (Elt Ideal) ((c.tc : Thread Cert.Kernel13Ideal.nD Cert.Kernel13Ideal.τ).loc Cert.Kernel13Ideal.main_v7_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7_0) = v0 c
          ∧ r.2.mem ((c.tc : Thread Cert.Kernel13Ideal.nD Cert.Kernel13Ideal.τ).loc Cert.Kernel13Ideal.main_v7_1) = v1 c
          ∧ r.2.mem ((c.tc : Thread Cert.Kernel13Ideal.nD Cert.Kernel13Ideal.τ).loc Cert.Kernel13Ideal.main_v7_2) = v2 c
          ∧ r.2.mem ((c.tc : Thread Cert.Kernel13Ideal.nD Cert.Kernel13Ideal.τ).loc Cert.Kernel13Ideal.main_v7_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_v15) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v7_0)) (v1 : (c : Dev Cert.Kernel14Ideal.nD) → Buf (Elt Ideal) ((c.tc : Thread Cert.Kernel14Ideal.nD Cert.Kernel14Ideal.τ).loc Cert.Kernel14Ideal.main_v7_1)) (v2 : (c : Dev Cert.Kernel14Ideal.nD) → Buf (Elt Ideal) ((c.tc : Thread Cert.Kernel14Ideal.nD Cert.Kernel14Ideal.τ).loc Cert.Kernel14Ideal.main_v7_2)) (v3 : (c : Dev Cert.Kernel14Ideal.nD) → Buf (Elt Ideal) ((c.tc : Thread Cert.Kernel14Ideal.nD Cert.Kernel14Ideal.τ).loc Cert.Kernel14Ideal.main_v7_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7_0) = v0 c
          ∧ r.2.mem ((c.tc : Thread Cert.Kernel14Ideal.nD Cert.Kernel14Ideal.τ).loc Cert.Kernel14Ideal.main_v7_1) = v1 c
          ∧ r.2.mem ((c.tc : Thread Cert.Kernel14Ideal.nD Cert.Kernel14Ideal.τ).loc Cert.Kernel14Ideal.main_v7_2) = v2 c
          ∧ r.2.mem ((c.tc : Thread Cert.Kernel14Ideal.nD Cert.Kernel14Ideal.τ).loc Cert.Kernel14Ideal.main_v7_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v28) = v1 c
          ∧ r.2.mem ((c.tc : Thread Cert.Reference14Ideal.nD Cert.Reference14Ideal.τ).loc Cert.Reference14Ideal.main_v9) = v2 c
          ∧ r.2.mem ((c.tc : Thread Cert.Reference14Ideal.nD Cert.Reference14Ideal.τ).loc Cert.Reference14Ideal.main_v15) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v7_0)) (v1 : (c : Dev Cert.Kernel15Ideal.nD) → Buf (Elt Ideal) ((c.tc : Thread Cert.Kernel15Ideal.nD Cert.Kernel15Ideal.τ).loc Cert.Kernel15Ideal.main_v7_1)) (v2 : (c : Dev Cert.Kernel15Ideal.nD) → Buf (Elt Ideal) ((c.tc : Thread Cert.Kernel15Ideal.nD Cert.Kernel15Ideal.τ).loc Cert.Kernel15Ideal.main_v7_2)) (v3 : (c : Dev Cert.Kernel15Ideal.nD) → Buf (Elt Ideal) ((c.tc : Thread Cert.Kernel15Ideal.nD Cert.Kernel15Ideal.τ).loc Cert.Kernel15Ideal.main_v7_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v7_0) = v0 c
          ∧ r.2.mem ((c.tc : Thread Cert.Kernel15Ideal.nD Cert.Kernel15Ideal.τ).loc Cert.Kernel15Ideal.main_v7_1) = v1 c
          ∧ r.2.mem ((c.tc : Thread Cert.Kernel15Ideal.nD Cert.Kernel15Ideal.τ).loc Cert.Kernel15Ideal.main_v7_2) = v2 c
          ∧ r.2.mem ((c.tc : Thread Cert.Kernel15Ideal.nD Cert.Kernel15Ideal.τ).loc Cert.Kernel15Ideal.main_v7_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v28) = v1 c
          ∧ r.2.mem ((c.tc : Thread Cert.Reference15Ideal.nD Cert.Reference15Ideal.τ).loc Cert.Reference15Ideal.main_v9) = v2 c
          ∧ r.2.mem ((c.tc : Thread Cert.Reference15Ideal.nD Cert.Reference15Ideal.τ).loc Cert.Reference15Ideal.main_v15) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v7_0)) (v1 : (c : Dev Cert.Kernel16Ideal.nD) → Buf (Elt Ideal) ((c.tc : Thread Cert.Kernel16Ideal.nD Cert.Kernel16Ideal.τ).loc Cert.Kernel16Ideal.main_v7_1)) (v2 : (c : Dev Cert.Kernel16Ideal.nD) → Buf (Elt Ideal) ((c.tc : Thread Cert.Kernel16Ideal.nD Cert.Kernel16Ideal.τ).loc Cert.Kernel16Ideal.main_v7_2)) (v3 : (c : Dev Cert.Kernel16Ideal.nD) → Buf (Elt Ideal) ((c.tc : Thread Cert.Kernel16Ideal.nD Cert.Kernel16Ideal.τ).loc Cert.Kernel16Ideal.main_v7_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v7_0) = v0 c
          ∧ r.2.mem ((c.tc : Thread Cert.Kernel16Ideal.nD Cert.Kernel16Ideal.τ).loc Cert.Kernel16Ideal.main_v7_1) = v1 c
          ∧ r.2.mem ((c.tc : Thread Cert.Kernel16Ideal.nD Cert.Kernel16Ideal.τ).loc Cert.Kernel16Ideal.main_v7_2) = v2 c
          ∧ r.2.mem ((c.tc : Thread Cert.Kernel16Ideal.nD Cert.Kernel16Ideal.τ).loc Cert.Kernel16Ideal.main_v7_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v9) = v2 c
          ∧ r.2.mem ((c.tc : Thread Cert.Reference16Ideal.nD Cert.Reference16Ideal.τ).loc Cert.Reference16Ideal.main_v15) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v15) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v34) = v0 c
          ∧ r.2.mem ((c.tc : Thread Cert.Reference18Ideal.nD Cert.Reference18Ideal.τ).loc Cert.Reference18Ideal.main_v17) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v12) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v17) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)) (v2 : (c : Dev Cert.Kernel26Ideal.nD) → Buf (Elt Ideal) ((c.tc : Thread Cert.Kernel26Ideal.nD Cert.Kernel26Ideal.τ).loc Cert.Kernel26Ideal.main_v1_2)) (v3 : (c : Dev Cert.Kernel26Ideal.nD) → Buf (Elt Ideal) ((c.tc : Thread Cert.Kernel26Ideal.nD Cert.Kernel26Ideal.τ).loc Cert.Kernel26Ideal.main_v1_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_v1_2) = v2 c
          ∧ r.2.mem ((c.tc : Thread Cert.Kernel26Ideal.nD Cert.Kernel26Ideal.τ).loc Cert.Kernel26Ideal.main_v1_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v31) = v0 c
          ∧ r.2.mem ((c.tc : Thread Cert.Reference26Ideal.nD Cert.Reference26Ideal.τ).loc Cert.Reference26Ideal.main_v32) = v1 c
          ∧ r.2.mem ((c.tc : Thread Cert.Reference26Ideal.nD Cert.Reference26Ideal.τ).loc Cert.Reference26Ideal.main_v33) = v2 c
          ∧ r.2.mem ((c.tc : Thread Cert.Reference26Ideal.nD Cert.Reference26Ideal.τ).loc Cert.Reference26Ideal.main_v34) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v2) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Kernel.lean ====
abbrev S2048x9216 : Shape := ⟨2, ![2048, 9216]⟩
abbrev S1x128 : Shape := ⟨2, ![1, 128]⟩
abbrev S2048x1024 : Shape := ⟨2, ![2048, 1024]⟩
abbrev S2048x8x128 : Shape := ⟨3, ![2048, 8, 128]⟩
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S1x1x128 : Shape := ⟨3, ![1, 1, 128]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x8 : Shape := ⟨2, ![2048, 8]⟩
abbrev S2048x8x1 : Shape := ⟨3, ![2048, 8, 1]⟩
abbrev S2048x512 : Shape := ⟨2, ![2048, 512]⟩
abbrev S4x2048x128 : Shape := ⟨3, ![4, 2048, 128]⟩
abbrev S2048x128 : Shape := ⟨2, ![2048, 128]⟩
abbrev S1x2048x128 : Shape := ⟨3, ![1, 2048, 128]⟩
abbrev S128x128 : Shape := ⟨2, ![128, 128]⟩
abbrev S4x128x512 : Shape := ⟨3, ![4, 128, 512]⟩
abbrev S4x128x128 : Shape := ⟨3, ![4, 128, 128]⟩
abbrev S128x512 : Shape := ⟨2, ![128, 512]⟩
abbrev S1x128x128 : Shape := ⟨3, ![1, 128, 128]⟩
abbrev S4x128 : Shape := ⟨2, ![4, 128]⟩
abbrev S4x128x1 : Shape := ⟨3, ![4, 128, 1]⟩
abbrev S4x512x128 : Shape := ⟨3, ![4, 512, 128]⟩
abbrev S512x128 : Shape := ⟨2, ![512, 128]⟩
abbrev S128 : Shape := ⟨1, ![128]⟩

abbrev nBuf : Space → Nat
  | .hbm => 85
  | .vmem => 19
  | .smem => 0
  | _ => 0

abbrev bufTy : (tb : Table) → Fin (tcTables nBuf tb) → BufTy
  | .hbm, ⟨0, _⟩ => ⟨S2048x9216, .f32⟩
  | .hbm, ⟨1, _⟩ => ⟨S1x128, .f32⟩
  | .hbm, ⟨2, _⟩ => ⟨S1x128, .f32⟩
  | .hbm, ⟨3, _⟩ => ⟨S2048x1024, .f32⟩
  | .hbm, ⟨4, _⟩ => ⟨S2048x1024, .f32⟩
  | .hbm, ⟨5, _⟩ => ⟨S2048x8x128, .f32⟩
  | .hbm, ⟨6, _⟩ => ⟨S8x2048x128, .f32⟩
  | .hbm, ⟨7, _⟩ => ⟨S8x2048x128, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x128, .f32⟩
  | .hbm, ⟨19, _⟩ => ⟨S8x2048x128, .f32⟩
  | .hbm, ⟨20, _⟩ => ⟨S1x1x128, .f32⟩
  | .hbm, ⟨21, _⟩ => ⟨S8x2048x128, .f32⟩
  | .hbm, ⟨22, _⟩ => ⟨S8x2048x128, .f32⟩
  | .hbm, ⟨23, _⟩ => ⟨S2048x1024, .f32⟩
  | .hbm, ⟨24, _⟩ => ⟨S2048x8x128, .f32⟩
  | .hbm, ⟨25, _⟩ => ⟨S8x2048x128, .f32⟩
  | .hbm, ⟨26, _⟩ => ⟨S8x2048x128, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x128, .f32⟩
  | .hbm, ⟨38, _⟩ => ⟨S8x2048x128, .f32⟩
  | .hbm, ⟨39, _⟩ => ⟨S1x1x128, .f32⟩
  | .hbm, ⟨40, _⟩ => ⟨S8x2048x128, .f32⟩
  | .hbm, ⟨41, _⟩ => ⟨S8x2048x128, .f32⟩
  | .hbm, ⟨42, _⟩ => ⟨S8x2048x2048, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S2048, .i32⟩
  | .hbm, ⟨47, _⟩ => ⟨S1x2048, .i32⟩
  | .hbm, ⟨48, _⟩ => ⟨S2048, .i32⟩
  | .hbm, ⟨49, _⟩ => ⟨S2048x1, .i32⟩
  | .hbm, ⟨50, _⟩ => ⟨S2048x2048, .i32⟩
  | .hbm, ⟨51, _⟩ => ⟨S2048x2048, .i32⟩
  | .hbm, ⟨52, _⟩ => ⟨S2048x2048, .i1⟩
  | .hbm, ⟨53, _⟩ => ⟨S_, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .i1⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S_, .f32⟩
  | .hbm, ⟨70, _⟩ => ⟨S8x2048x2048, .i1⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S8x2048, .f32⟩
  | .hbm, ⟨75, _⟩ => ⟨S8x2048, .f32⟩
  | .hbm, ⟨76, _⟩ => ⟨S2048x8, .f32⟩
  | .hbm, ⟨77, _⟩ => ⟨S2048x8x1, .f32⟩
  | .hbm, ⟨78, _⟩ => ⟨S2048x8x128, .f32⟩
  | .hbm, ⟨79, _⟩ => ⟨S2048x1024, .f32⟩
  | .hbm, ⟨80, _⟩ => ⟨S2048x1024, .bf16⟩
  | .hbm, ⟨81, _⟩ => ⟨S2048x1024, .bf16⟩
  | .hbm, ⟨82, _⟩ => ⟨S2048x1024, .bf16⟩
  | .hbm, ⟨83, _⟩ => ⟨S1x128, .f32⟩
  | .hbm, ⟨84, _⟩ => ⟨S1x128, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S1x128, .f32⟩
  | .local _ .vmem, ⟨4, _⟩ => ⟨S1x128, .f32⟩
  | .local _ .vmem, ⟨5, _⟩ => ⟨S2048x512, .f32⟩
  | .local _ .vmem, ⟨6, _⟩ => ⟨S2048x512, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1x128, .f32⟩
  | .local _ .vmem, ⟨11, _⟩ => ⟨S1x128, .f32⟩
  | .local _ .vmem, ⟨12, _⟩ => ⟨S4x2048x128, .bf16⟩
  | .local _ .vmem, ⟨13, _⟩ => ⟨S4x2048x128, .bf16⟩
  | .local _ .vmem, ⟨14, _⟩ => ⟨S4x2048x128, .bf16⟩
  | .local _ .vmem, ⟨15, _⟩ => ⟨S4x2048x128, .bf16⟩
  | .local _ .vmem, ⟨16, _⟩ => ⟨S4x2048x128, .f32⟩
  | .local _ .vmem, ⟨17, _⟩ => ⟨S4x2048x128, .f32⟩
  | .local _ .vmem, ⟨18, _⟩ => ⟨S4x2048x128, .f32⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51_0 : Ref sig .tc := ⟨.hbm, 80, rfl⟩
abbrev main_v51_1 : Ref sig .tc := ⟨.hbm, 81, rfl⟩
abbrev main_v51_2 : Ref sig .tc := ⟨.hbm, 82, rfl⟩
abbrev main_v51_3 : Ref sig .tc := ⟨.hbm, 83, rfl⟩
abbrev main_v51_4 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c16_i32 : BitVec 32 := 16#32
  let v215 : BitVec 32 := Scalar.addi c0_i32 c16_i32
  let c1_i32 : BitVec 32 := 1#32
  ⟨c0_i32, v215, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c128_i32 : BitVec 32 := 128#32
  let v515 : BitVec 32 := Scalar.muli arg20 c128_i32
  v515
def k0_off1 (k0_t1 : Fin k0_t1_loop.trips) : Fin 3 → Nat :=
  let c0_303 : Index := 0#32
  let c0_i32 : BitVec 32 := 0#32
  let c1_i32 : BitVec 32 := 1#32
  let arg20 : BitVec 32 := Scf.iv c0_i32 c1_i32 k0_t1
  let c128_i32 : BitVec 32 := 128#32
  let v515 : BitVec 32 := Scalar.muli arg20 c128_i32
  let v516 : BitVec 32 := v515
  let v517 : Index := Scalar.indexCast v516
  let c0_304 : Index := 0#32
  ![0, v517.toNat, 0]
def k0_off2 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v515 : BitVec 32 := Scalar.muli arg20 c128_i32
  let v516 : BitVec 32 := v515
  let v521 : Index := Scalar.indexCast v516
  let c0_307 : Index := 0#32
  ![v521.toNat, 0]
@[reducible] def k0_t2_loop (k0_t1 : Fin k0_t1_loop.trips) : Scf.Loop 32 :=
  let c0_i32_317 : BitVec 32 := 0#32
  let c0_i32 : BitVec 32 := 0#32
  let c1_i32 : BitVec 32 := 1#32
  let arg20 : BitVec 32 := Scf.iv c0_i32 c1_i32 k0_t1
  let c0_i32_309 : BitVec 32 := 0#32
  let v536 : BitVec 1 := Scalar.cmpi .sgt arg20 c0_i32_309
  let v537 : BitVec 32 := Scalar.extui v536
  let c0_i32_310 : BitVec 32 := 0#32
  let v538 : BitVec 1 := Scalar.cmpi .slt arg20 c0_i32_310
  let v539 : BitVec 32 := Scalar.extui v538
  let v540 : BitVec 32 := Scalar.subi v537 v539
  let c4_i32 : BitVec 32 := 4#32
  let c0_i32_311 : BitVec 32 := 0#32
  let v541 : BitVec 1 := Scalar.cmpi .sgt c4_i32 c0_i32_311
  let v542 : BitVec 32 := Scalar.extui v541
  let c0_i32_312 : BitVec 32 := 0#32
  let v543 : BitVec 1 := Scalar.cmpi .slt c4_i32 c0_i32_312
  let v544 : BitVec 32 := Scalar.extui v543
  let v545 : BitVec 32 := Scalar.subi v542 v544
  let v546 : BitVec 1 := Scalar.cmpi .ne v540 v545
  let v547 : BitVec 32 := Scalar.remsi arg20 c4_i32
  let c0_i32_313 : BitVec 32 := 0#32
  let v548 : BitVec 1 := Scalar.cmpi .ne v547 c0_i32_313
  let v549 : BitVec 1 := Scalar.andi v546 v548
  let v535 : BitVec 32 := Scalar.divsi arg20 c4_i32
  let c1_i32_314 : BitVec 32 := 1#32
  let v550 : BitVec 32 := Scalar.subi v535 c1_i32_314
  let v551 : BitVec 32 := Scalar.select v549 v550 v535
  let v554 : BitVec 32 := Scalar.subi v551 c0_i32_317
  let c1_i32_318 : BitVec 32 := 1#32
  let v556 : BitVec 32 := Scalar.divsi v554 c1_i32_318
  let v557 : BitVec 32 := Scalar.muli v556 c1_i32_318
  let v558 : BitVec 32 := Scalar.addi c0_i32_317 v557
  let c1_i32_319 : BitVec 32 := 1#32
  ⟨c0_i32_317, v558, c1_i32_319⟩
def k0_mult2 (k0_t1 : Fin k0_t1_loop.trips) (k0_t2 : Fin (k0_t2_loop k0_t1).trips) : BitVec 32 :=
  let c0_i32_317 : BitVec 32 := 0#32
  let c1_i32_319 : BitVec 32 := 1#32
  let arg21 : BitVec 32 := Scf.iv c0_i32_317 c1_i32_319 k0_t2
  let c512_i32_365 : BitVec 32 := 512#32
  let v719 : BitVec 32 := Scalar.muli arg21 c512_i32_365
  v719
def k0_off3 (k0_t1 : Fin k0_t1_loop.trips) (k0_t2 : Fin (k0_t2_loop k0_t1).trips) : Fin 3 → Nat :=
  let c0_366 : Index := 0#32
  let c0_i32_317 : BitVec 32 := 0#32
  let c1_i32_319 : BitVec 32 := 1#32
  let arg21 : BitVec 32 := Scf.iv c0_i32_317 c1_i32_319 k0_t2
  let c512_i32_365 : BitVec 32 := 512#32
  let v719 : BitVec 32 := Scalar.muli arg21 c512_i32_365
  let v720 : BitVec 32 := v719
  let v721 : Index := Scalar.indexCast v720
  let c0_367 : Index := 0#32
  ![0, v721.toNat, 0]
@[reducible] def k0_t3_loop (k0_t1 : Fin k0_t1_loop.trips) : Scf.Loop 32 :=
  let c0_i32_317 : BitVec 32 := 0#32
  let c0_i32 : BitVec 32 := 0#32
  let c1_i32 : BitVec 32 := 1#32
  let arg20 : BitVec 32 := Scf.iv c0_i32 c1_i32 k0_t1
  let c0_i32_309 : BitVec 32 := 0#32
  let v536 : BitVec 1 := Scalar.cmpi .sgt arg20 c0_i32_309
  let v537 : BitVec 32 := Scalar.extui v536
  let c0_i32_310 : BitVec 32 := 0#32
  let v538 : BitVec 1 := Scalar.cmpi .slt arg20 c0_i32_310
  let v539 : BitVec 32 := Scalar.extui v538
  let v540 : BitVec 32 := Scalar.subi v537 v539
  let c4_i32 : BitVec 32 := 4#32
  let c0_i32_311 : BitVec 32 := 0#32
  let v541 : BitVec 1 := Scalar.cmpi .sgt c4_i32 c0_i32_311
  let v542 : BitVec 32 := Scalar.extui v541
  let c0_i32_312 : BitVec 32 := 0#32
  let v543 : BitVec 1 := Scalar.cmpi .slt c4_i32 c0_i32_312
  let v544 : BitVec 32 := Scalar.extui v543
  let v545 : BitVec 32 := Scalar.subi v542 v544
  let v546 : BitVec 1 := Scalar.cmpi .ne v540 v545
  let v547 : BitVec 32 := Scalar.remsi arg20 c4_i32
  let c0_i32_313 : BitVec 32 := 0#32
  let v548 : BitVec 1 := Scalar.cmpi .ne v547 c0_i32_313
  let v549 : BitVec 1 := Scalar.andi v546 v548
  let v535 : BitVec 32 := Scalar.divsi arg20 c4_i32
  let c1_i32_314 : BitVec 32 := 1#32
  let v550 : BitVec 32 := Scalar.subi v535 c1_i32_314
  let v551 : BitVec 32 := Scalar.select v549 v550 v535
  let v554 : BitVec 32 := Scalar.subi v551 c0_i32_317
  let c1_i32_318 : BitVec 32 := 1#32
  let v556 : BitVec 32 := Scalar.divsi v554 c1_i32_318
  let v557 : BitVec 32 := Scalar.muli v556 c1_i32_318
  let v558 : BitVec 32 := Scalar.addi c0_i32_317 v557
  let v555 : BitVec 32 := Scalar.addi c0_i32_317 v554
  let c1_i32_320 : BitVec 32 := 1#32
  ⟨v558, v555, c1_i32_320⟩
def k0_mult3 (k0_t1 : Fin k0_t1_loop.trips) (k0_t3 : Fin (k0_t3_loop k0_t1).trips) : BitVec 32 :=
  let c0_i32_317 : BitVec 32 := 0#32
  let c0_i32 : BitVec 32 := 0#32
  let c1_i32 : BitVec 32 := 1#32
  let arg20 : BitVec 32 := Scf.iv c0_i32 c1_i32 k0_t1
  let c0_i32_309 : BitVec 32 := 0#32
  let v536 : BitVec 1 := Scalar.cmpi .sgt arg20 c0_i32_309
  let v537 : BitVec 32 := Scalar.extui v536
  let c0_i32_310 : BitVec 32 := 0#32
  let v538 : BitVec 1 := Scalar.cmpi .slt arg20 c0_i32_310
  let v539 : BitVec 32 := Scalar.extui v538
  let v540 : BitVec 32 := Scalar.subi v537 v539
  let c4_i32 : BitVec 32 := 4#32
  let c0_i32_311 : BitVec 32 := 0#32
  let v541 : BitVec 1 := Scalar.cmpi .sgt c4_i32 c0_i32_311
  let v542 : BitVec 32 := Scalar.extui v541
  let c0_i32_312 : BitVec 32 := 0#32
  let v543 : BitVec 1 := Scalar.cmpi .slt c4_i32 c0_i32_312
  let v544 : BitVec 32 := Scalar.extui v543
  let v545 : BitVec 32 := Scalar.subi v542 v544
  let v546 : BitVec 1 := Scalar.cmpi .ne v540 v545
  let v547 : BitVec 32 := Scalar.remsi arg20 c4_i32
  let c0_i32_313 : BitVec 32 := 0#32
  let v548 : BitVec 1 := Scalar.cmpi .ne v547 c0_i32_313
  let v549 : BitVec 1 := Scalar.andi v546 v548
  let v535 : BitVec 32 := Scalar.divsi arg20 c4_i32
  let c1_i32_314 : BitVec 32 := 1#32
  let v550 : BitVec 32 := Scalar.subi v535 c1_i32_314
  let v551 : BitVec 32 := Scalar.select v549 v550 v535
  let v554 : BitVec 32 := Scalar.subi v551 c0_i32_317
  let c1_i32_318 : BitVec 32 := 1#32
  let v556 : BitVec 32 := Scalar.divsi v554 c1_i32_318
  let v557 : BitVec 32 := Scalar.muli v556 c1_i32_318
  let v558 : BitVec 32 := Scalar.addi c0_i32_317 v557
  let c1_i32_320 : BitVec 32 := 1#32
  let arg21 : BitVec 32 := Scf.iv v558 c1_i32_320 k0_t3
  let c512_i32_365 : BitVec 32 := 512#32
  let v719 : BitVec 32 := Scalar.muli arg21 c512_i32_365
  v719
def k0_off4 (k0_t1 : Fin k0_t1_loop.trips) (k0_t3 : Fin (k0_t3_loop k0_t1).trips) : Fin 3 → Nat :=
  let c0_366 : Index := 0#32
  let c0_i32_317 : BitVec 32 := 0#32
  let c0_i32 : BitVec 32 := 0#32
  let c1_i32 : BitVec 32 := 1#32
  let arg20 : BitVec 32 := Scf.iv c0_i32 c1_i32 k0_t1
  let c0_i32_309 : BitVec 32 := 0#32
  let v536 : BitVec 1 := Scalar.cmpi .sgt arg20 c0_i32_309
  let v537 : BitVec 32 := Scalar.extui v536
  let c0_i32_310 : BitVec 32 := 0#32
  let v538 : BitVec 1 := Scalar.cmpi .slt arg20 c0_i32_310
  let v539 : BitVec 32 := Scalar.extui v538
  let v540 : BitVec 32 := Scalar.subi v537 v539
  let c4_i32 : BitVec 32 := 4#32
  let c0_i32_311 : BitVec 32 := 0#32
  let v541 : BitVec 1 := Scalar.cmpi .sgt c4_i32 c0_i32_311
  let v542 : BitVec 32 := Scalar.extui v541
  let c0_i32_312 : BitVec 32 := 0#32
  let v543 : BitVec 1 := Scalar.cmpi .slt c4_i32 c0_i32_312
  let v544 : BitVec 32 := Scalar.extui v543
  let v545 : BitVec 32 := Scalar.subi v542 v544
  let v546 : BitVec 1 := Scalar.cmpi .ne v540 v545
  let v547 : BitVec 32 := Scalar.remsi arg20 c4_i32
  let c0_i32_313 : BitVec 32 := 0#32
  let v548 : BitVec 1 := Scalar.cmpi .ne v547 c0_i32_313
  let v549 : BitVec 1 := Scalar.andi v546 v548
  let v535 : BitVec 32 := Scalar.divsi arg20 c4_i32
  let c1_i32_314 : BitVec 32 := 1#32
  let v550 : BitVec 32 := Scalar.subi v535 c1_i32_314
  let v551 : BitVec 32 := Scalar.select v549 v550 v535
  let v554 : BitVec 32 := Scalar.subi v551 c0_i32_317
  let c1_i32_318 : BitVec 32 := 1#32
  let v556 : BitVec 32 := Scalar.divsi v554 c1_i32_318
  let v557 : BitVec 32 := Scalar.muli v556 c1_i32_318
  let v558 : BitVec 32 := Scalar.addi c0_i32_317 v557
  let c1_i32_320 : BitVec 32 := 1#32
  let arg21 : BitVec 32 := Scf.iv v558 c1_i32_320 k0_t3
  let c512_i32_365 : BitVec 32 := 512#32
  let v719 : BitVec 32 := Scalar.muli arg21 c512_i32_365
  let v720 : BitVec 32 := v719
  let v721 : Index := Scalar.indexCast v720
  let c0_367 : Index := 0#32
  ![0, v721.toNat, 0]
def k0_mult4 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_309 : BitVec 32 := 0#32
  let v536 : BitVec 1 := Scalar.cmpi .sgt arg20 c0_i32_309
  let v537 : BitVec 32 := Scalar.extui v536
  let c0_i32_310 : BitVec 32 := 0#32
  let v538 : BitVec 1 := Scalar.cmpi .slt arg20 c0_i32_310
  let v539 : BitVec 32 := Scalar.extui v538
  let v540 : BitVec 32 := Scalar.subi v537 v539
  let c4_i32 : BitVec 32 := 4#32
  let c0_i32_311 : BitVec 32 := 0#32
  let v541 : BitVec 1 := Scalar.cmpi .sgt c4_i32 c0_i32_311
  let v542 : BitVec 32 := Scalar.extui v541
  let c0_i32_312 : BitVec 32 := 0#32
  let v543 : BitVec 1 := Scalar.cmpi .slt c4_i32 c0_i32_312
  let v544 : BitVec 32 := Scalar.extui v543
  let v545 : BitVec 32 := Scalar.subi v542 v544
  let v546 : BitVec 1 := Scalar.cmpi .ne v540 v545
  let v547 : BitVec 32 := Scalar.remsi arg20 c4_i32
  let c0_i32_313 : BitVec 32 := 0#32
  let v548 : BitVec 1 := Scalar.cmpi .ne v547 c0_i32_313
  let v549 : BitVec 1 := Scalar.andi v546 v548
  let v535 : BitVec 32 := Scalar.divsi arg20 c4_i32
  let c1_i32_314 : BitVec 32 := 1#32
  let v550 : BitVec 32 := Scalar.subi v535 c1_i32_314
  let v551 : BitVec 32 := Scalar.select v549 v550 v535
  let c512_i32 : BitVec 32 := 512#32
  let v561 : BitVec 32 := Scalar.muli v551 c512_i32
  v561
def k0_off5 (k0_t1 : Fin k0_t1_loop.trips) : Fin 3 → Nat :=
  let c0_321 : Index := 0#32
  let c0_i32 : BitVec 32 := 0#32
  let c1_i32 : BitVec 32 := 1#32
  let arg20 : BitVec 32 := Scf.iv c0_i32 c1_i32 k0_t1
  let c0_i32_309 : BitVec 32 := 0#32
  let v536 : BitVec 1 := Scalar.cmpi .sgt arg20 c0_i32_309
  let v537 : BitVec 32 := Scalar.extui v536
  let c0_i32_310 : BitVec 32 := 0#32
  let v538 : BitVec 1 := Scalar.cmpi .slt arg20 c0_i32_310
  let v539 : BitVec 32 := Scalar.extui v538
  let v540 : BitVec 32 := Scalar.subi v537 v539
  let c4_i32 : BitVec 32 := 4#32
  let c0_i32_311 : BitVec 32 := 0#32
  let v541 : BitVec 1 := Scalar.cmpi .sgt c4_i32 c0_i32_311
  let v542 : BitVec 32 := Scalar.extui v541
  let c0_i32_312 : BitVec 32 := 0#32
  let v543 : BitVec 1 := Scalar.cmpi .slt c4_i32 c0_i32_312
  let v544 : BitVec 32 := Scalar.extui v543
  let v545 : BitVec 32 := Scalar.subi v542 v544
  let v546 : BitVec 1 := Scalar.cmpi .ne v540 v545
  let v547 : BitVec 32 := Scalar.remsi arg20 c4_i32
  let c0_i32_313 : BitVec 32 := 0#32
  let v548 : BitVec 1 := Scalar.cmpi .ne v547 c0_i32_313
  let v549 : BitVec 1 := Scalar.andi v546 v548
  let v535 : BitVec 32 := Scalar.divsi arg20 c4_i32
  let c1_i32_314 : BitVec 32 := 1#32
  let v550 : BitVec 32 := Scalar.subi v535 c1_i32_314
  let v551 : BitVec 32 := Scalar.select v549 v550 v535
  let c512_i32 : BitVec 32 := 512#32
  let v561 : BitVec 32 := Scalar.muli v551 c512_i32
  let v562 : BitVec 32 := v561
  let v563 : Index := Scalar.indexCast v562
  let c0_322 : Index := 0#32
  ![0, v563.toNat, 0]
def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2048x9216 : Shape := ⟨2, ![2048, 9216]⟩
abbrev S1x128 : Shape := ⟨2, ![1, 128]⟩
abbrev S2048x1024 : Shape := ⟨2, ![2048, 1024]⟩
abbrev S2048x8x128 : Shape := ⟨3, ![2048, 8, 128]⟩
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S1x1x128 : Shape := ⟨3, ![1, 1, 128]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S128 : Shape := ⟨1, ![128]⟩

abbrev nBuf : Space → Nat
  | .hbm => 271
  | .vmem => 0
  | .smem => 0
  | _ => 0

abbrev hbmTy0_0 (i : Nat) : BufTy := match i % 128 with
  | 0 => ⟨S2048x9216, .f32⟩
  | 1 => ⟨S1x128, .f32⟩
  | 2 => ⟨S1x128, .f32⟩
  | 3 => ⟨S2048x1024, .f32⟩
  | 4 => ⟨S2048x1024, .f32⟩
  | 5 => ⟨S2048x1024, .f32⟩
  | 6 => ⟨S2048x1024, .f32⟩
  | 7 => ⟨S2048x8x128, .f32⟩
  | 8 => ⟨S8x2048x128, .f32⟩
  | 9 => ⟨S8x2048x128, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1, .f32⟩
  | 21 => ⟨S_, .f32⟩
  | 22 => ⟨S8x2048x1, .f32⟩
  | 23 => ⟨S8x2048x1, .f32⟩
  | 24 => ⟨S8x2048x128, .f32⟩
  | 25 => ⟨S8x2048x128, .f32⟩
  | 26 => ⟨S1x1x128, .f32⟩
  | 27 => ⟨S8x2048x128, .f32⟩
  | 28 => ⟨S8x2048x128, .f32⟩
  | 29 => ⟨S2048x8x128, .f32⟩
  | 30 => ⟨S8x2048x128, .f32⟩
  | 31 => ⟨S8x2048x128, .f32⟩
  | 32 => ⟨S_, .f32⟩
  | 33 => ⟨S8x2048, .f32⟩
  | 34 => ⟨S8x2048x1, .f32⟩
  | 35 => ⟨S_, .f32⟩
  | 36 => ⟨S8x2048x1, .f32⟩
  | 37 => ⟨S8x2048x1, .f32⟩
  | 38 => ⟨S_, .f32⟩
  | 39 => ⟨S8x2048x1, .f32⟩
  | 40 => ⟨S8x2048x1, .f32⟩
  | 41 => ⟨S8x2048x1, .f32⟩
  | 42 => ⟨S8x2048x1, .f32⟩
  | 43 => ⟨S_, .f32⟩
  | 44 => ⟨S8x2048x1, .f32⟩
  | 45 => ⟨S8x2048x1, .f32⟩
  | 46 => ⟨S8x2048x128, .f32⟩
  | 47 => ⟨S8x2048x128, .f32⟩
  | 48 => ⟨S1x1x128, .f32⟩
  | 49 => ⟨S8x2048x128, .f32⟩
  | 50 => ⟨S8x2048x128, .f32⟩
  | 51 => ⟨S2048x8x128, .f32⟩
  | 52 => ⟨S8x2048x128, .f32⟩
  | 53 => ⟨S8x2048x2048, .f32⟩
  | 54 => ⟨S_, .f32⟩
  | 55 => ⟨S8x2048x2048, .f32⟩
  | 56 => ⟨S8x2048x2048, .f32⟩
  | 57 => ⟨S2048, .i32⟩
  | 58 => ⟨S1x2048, .i32⟩
  | 59 => ⟨S2048, .i32⟩
  | 60 => ⟨S2048x1, .i32⟩
  | 61 => ⟨S2048x2048, .i32⟩
  | 62 => ⟨S2048x2048, .i32⟩
  | 63 => ⟨S2048x2048, .i1⟩
  | 64 => ⟨S_, .f32⟩
  | 65 => ⟨S8x2048x2048, .f32⟩
  | 66 => ⟨S8x2048x2048, .f32⟩
  | 67 => ⟨S8x2048x2048, .f32⟩
  | 68 => ⟨S8x2048x2048, .f32⟩
  | 69 => ⟨S8x2048x2048, .i1⟩
  | 70 => ⟨S8x2048x2048, .f32⟩
  | 71 => ⟨S8x2048x2048, .f32⟩
  | 72 => ⟨S8x2048x2048, .f32⟩
  | 73 => ⟨S8x2048x2048, .f32⟩
  | 74 => ⟨S8x2048x2048, .f32⟩
  | 75 => ⟨S8x2048x2048, .f32⟩
  | 76 => ⟨S8x2048x2048, .f32⟩
  | 77 => ⟨S8x2048x2048, .f32⟩
  | 78 => ⟨S_, .f32⟩
  | 79 => ⟨S8x2048x2048, .f32⟩
  | 80 => ⟨S8x2048x2048, .i1⟩
  | 81 => ⟨S_, .f32⟩
  | 82 => ⟨S8x2048x2048, .f32⟩
  | 83 => ⟨S8x2048x2048, .f32⟩
  | 84 => ⟨S_, .f32⟩
  | 85 => ⟨S8x2048x2048, .f32⟩
  | 86 => ⟨S8x2048x2048, .i1⟩
  | 87 => ⟨S_, .f32⟩
  | 88 => ⟨S8x2048x2048, .f32⟩
  | 89 => ⟨S8x2048x2048, .f32⟩
  | 90 => ⟨S8x2048x2048, .f32⟩
  | 91 => ⟨S8x2048x2048, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S_, .f32⟩
  | 99 => ⟨S8x2048x2048, .f32⟩
  | 100 => ⟨S8x2048x2048, .i1⟩
  | 101 => ⟨S_, .f32⟩
  | 102 => ⟨S8x2048x2048, .f32⟩
  | 103 => ⟨S8x2048x2048, .f32⟩
  | 104 => ⟨S8x2048x2048, .f32⟩
  | 105 => ⟨S8x2048x2048, .f32⟩
  | 106 => ⟨S8x2048x2048, .f32⟩
  | 107 => ⟨S_, .f32⟩
  | 108 => ⟨S8x2048x2048, .f32⟩
  | 109 => ⟨S8x2048x2048, .f32⟩
  | 110 => ⟨S8x2048x2048, .f32⟩
  | 111 => ⟨S_, .f32⟩
  | 112 => ⟨S_, .f32⟩
  | 113 => ⟨S8x2048x2048, .i1⟩
  | 114 => ⟨S8x2048x2048, .f32⟩
  | 115 => ⟨S8x2048x2048, .f32⟩
  | 116 => ⟨S_, .f32⟩
  | 117 => ⟨S8x2048x2048, .f32⟩
  | 118 => ⟨S_, .f32⟩
  | 119 => ⟨S_, .f32⟩
  | 120 => ⟨S8x2048x2048, .f32⟩
  | 121 => ⟨S8x2048x2048, .f32⟩
  | 122 => ⟨S8x2048x2048, .f32⟩
  | 123 => ⟨S_, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x9216, .f32⟩

abbrev hbmTy0_1 (i : Nat) : BufTy := match i % 128 with
  | 0 => ⟨S8x2048x2048, .i1⟩
  | 1 => ⟨S8x2048x2048, .f32⟩
  | 2 => ⟨S8x2048x2048, .f32⟩
  | 3 => ⟨S8x2048x2048, .f32⟩
  | 4 => ⟨S8x2048x2048, .f32⟩
  | 5 => ⟨S8x2048x2048, .f32⟩
  | 6 => ⟨S8x2048x2048, .f32⟩
  | 7 => ⟨S8x2048x2048, .f32⟩
  | 8 => ⟨S8x2048x2048, .f32⟩
  | 9 => ⟨S_, .f32⟩
  | 10 => ⟨S8x2048x2048, .f32⟩
  | 11 => ⟨S8x2048x2048, .i1⟩
  | 12 => ⟨S_, .f32⟩
  | 13 => ⟨S8x2048x2048, .f32⟩
  | 14 => ⟨S8x2048x2048, .f32⟩
  | 15 => ⟨S_, .f32⟩
  | 16 => ⟨S8x2048x2048, .f32⟩
  | 17 => ⟨S8x2048x2048, .i1⟩
  | 18 => ⟨S_, .f32⟩
  | 19 => ⟨S8x2048x2048, .f32⟩
  | 20 => ⟨S8x2048x2048, .f32⟩
  | 21 => ⟨S8x2048x2048, .f32⟩
  | 22 => ⟨S8x2048x2048, .f32⟩
  | 23 => ⟨S_, .f32⟩
  | 24 => ⟨S_, .f32⟩
  | 25 => ⟨S_, .i1⟩
  | 26 => ⟨S_, .f32⟩
  | 27 => ⟨S_, .f32⟩
  | 28 => ⟨S_, .f32⟩
  | 29 => ⟨S_, .f32⟩
  | 30 => ⟨S8x2048x2048, .f32⟩
  | 31 => ⟨S8x2048x2048, .i1⟩
  | 32 => ⟨S_, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S_, .f32⟩
  | 39 => ⟨S8x2048x2048, .f32⟩
  | 40 => ⟨S8x2048x2048, .f32⟩
  | 41 => ⟨S8x2048x2048, .f32⟩
  | 42 => ⟨S8x2048x2048, .f32⟩
  | 43 => ⟨S8x2048x2048, .f32⟩
  | 44 => ⟨S_, .f32⟩
  | 45 => ⟨S_, .f32⟩
  | 46 => ⟨S8x2048x2048, .i1⟩
  | 47 => ⟨S8x2048x2048, .f32⟩
  | 48 => ⟨S8x2048x2048, .f32⟩
  | 49 => ⟨S_, .f32⟩
  | 50 => ⟨S8x2048x2048, .f32⟩
  | 51 => ⟨S8x2048x128, .f32⟩
  | 52 => ⟨S2048x8x128, .f32⟩
  | 53 => ⟨S2048x1024, .f32⟩
  | 54 => ⟨S2048x8x128, .f32⟩
  | 55 => ⟨S8x2048x128, .f32⟩
  | 56 => ⟨S8x128x2048, .f32⟩
  | 57 => ⟨S8x2048x128, .f32⟩
  | 58 => ⟨S8x2048x2048, .f32⟩
  | 59 => ⟨S_, .f32⟩
  | 60 => ⟨S8x2048x2048, .f32⟩
  | 61 => ⟨S8x2048x2048, .f32⟩
  | 62 => ⟨S8x2048x2048, .f32⟩
  | 63 => ⟨S8x2048x2048, .f32⟩
  | 64 => ⟨S8x2048x2048, .f32⟩
  | 65 => ⟨S8x2048x2048, .f32⟩
  | 66 => ⟨S8x2048x2048, .f32⟩
  | 67 => ⟨S_, .f32⟩
  | 68 => ⟨S_, .f32⟩
  | 69 => ⟨S8x2048x2048, .f32⟩
  | 70 => ⟨S8x2048x2048, .f32⟩
  | 71 => ⟨S_, .f32⟩
  | 72 => ⟨S8x2048x2048, .f32⟩
  | 73 => ⟨S8x2048x2048, .f32⟩
  | 74 => ⟨S8x2048x2048, .f32⟩
  | 75 => ⟨S8x2048x2048, .f32⟩
  | 76 => ⟨S8x2048x2048, .f32⟩
  | 77 => ⟨S_, .f32⟩
  | 78 => ⟨S8x2048x2048, .f32⟩
  | 79 => ⟨S8x2048x2048, .f32⟩
  | 80 => ⟨S8x2048x128, .f32⟩
  | 81 => ⟨S8x2048x128, .f32⟩
  | 82 => ⟨S2048x8x128, .f32⟩
  | 83 => ⟨S2048x1024, .f32⟩
  | 84 => ⟨S8x2048x128, .f32⟩
  | 85 => ⟨S_, .f32⟩
  | 86 => ⟨S128, .f32⟩
  | 87 => ⟨S1x1x128, .f32⟩
  | 88 => ⟨S8x2048x128, .f32⟩
  | 89 => ⟨S8x2048x128, .f32⟩
  | 90 => ⟨S_, .f32⟩
  | 91 => ⟨S128, .f32⟩
  | 92 => ⟨S1x128, .f32⟩
  | 93 => ⟨S8x2048x128, .f32⟩
  | 94 => ⟨S_, .f32⟩
  | 95 => ⟨S8x2048, .f32⟩
  | 96 => ⟨S8x2048x1, .f32⟩
  | 97 => ⟨S8x2048x128, .f32⟩
  | 98 => ⟨S8x2048x128, .f32⟩
  | 99 => ⟨S8x2048x1, .f32⟩
  | 100 => ⟨S_, .f32⟩
  | 101 => ⟨S8x2048x1, .f32⟩
  | 102 => ⟨S8x2048x1, .f32⟩
  | 103 => ⟨S_, .f32⟩
  | 104 => ⟨S8x2048, .f32⟩
  | 105 => ⟨S8x2048x128, .f32⟩
  | 106 => ⟨S8x2048x128, .f32⟩
  | 107 => ⟨S8x2048x128, .f32⟩
  | 108 => ⟨S8x2048x128, .f32⟩
  | 109 => ⟨S8x2048x128, .f32⟩
  | 110 => ⟨S2048x8x128, .f32⟩
  | 111 => ⟨S2048x1024, .f32⟩
  | 112 => ⟨S8x2048x128, .f32⟩
  | 113 => ⟨S_, .f32⟩
  | 114 => ⟨S128, .f32⟩
  | 115 => ⟨S1x1x128, .f32⟩
  | 116 => ⟨S8x2048x128, .f32⟩
  | 117 => ⟨S8x2048x128, .f32⟩
  | 118 => ⟨S_, .f32⟩
  | 119 => ⟨S128, .f32⟩
  | 120 => ⟨S1x128, .f32⟩
  | 121 => ⟨S8x2048x128, .f32⟩
  | 122 => ⟨S_, .f32⟩
  | 123 => ⟨S8x2048, .f32⟩
  | 124 => ⟨S8x2048x1, .f32⟩
  | 125 => ⟨S8x2048x128, .f32⟩
  | 126 => ⟨S8x2048x128, .f32⟩
  | 127 => ⟨S8x2048x1, .f32⟩
  | _ => ⟨S2048x9216, .f32⟩

abbrev hbmTy0_2 (i : Nat) : BufTy := match i % 128 with
  | 0 => ⟨S_, .f32⟩
  | 1 => ⟨S8x2048x1, .f32⟩
  | 2 => ⟨S8x2048x1, .f32⟩
  | 3 => ⟨S_, .f32⟩
  | 4 => ⟨S8x2048, .f32⟩
  | 5 => ⟨S8x2048x128, .f32⟩
  | 6 => ⟨S8x2048x128, .f32⟩
  | 7 => ⟨S8x2048x128, .f32⟩
  | 8 => ⟨S8x2048x128, .f32⟩
  | 9 => ⟨S8x2048x128, .f32⟩
  | 10 => ⟨S2048x8x128, .f32⟩
  | 11 => ⟨S2048x1024, .f32⟩
  | 12 => ⟨S2048x1024, .bf16⟩
  | 13 => ⟨S2048x1024, .bf16⟩
  | 14 => ⟨S2048x1024, .bf16⟩
  | _ => ⟨S2048x9216, .f32⟩

abbrev hbmTy (i : Nat) : BufTy := match i / 128 with
  | 0 => hbmTy0_0 i
  | 1 => hbmTy0_1 i
  | 2 => hbmTy0_2 i
  | _ => ⟨S2048x9216, .f32⟩

abbrev bufTy : (tb : Table) → Fin (tcTables nBuf tb) → BufTy
  | .hbm, ⟨i, _⟩ => hbmTy i
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_v51_0 : Ref sig .tc := ⟨.hbm, 77, rfl⟩
abbrev main_call0_cst_0 : Ref sig .tc := ⟨.hbm, 78, rfl⟩
abbrev main_call0_v13 : Ref sig .tc := ⟨.hbm, 79, rfl⟩
abbrev main_call0_v14 : Ref sig .tc := ⟨.hbm, 80, rfl⟩
abbrev main_call0_cst_1 : Ref sig .tc := ⟨.hbm, 81, rfl⟩
abbrev main_call0_v15 : Ref sig .tc := ⟨.hbm, 82, rfl⟩
abbrev main_call0_v16 : Ref sig .tc := ⟨.hbm, 83, rfl⟩
abbrev main_call0_cst_2 : Ref sig .tc := ⟨.hbm, 84, rfl⟩
abbrev main_call0_v17 : Ref sig .tc := ⟨.hbm, 85, rfl⟩
abbrev main_call0_v18 : Ref sig .tc := ⟨.hbm, 86, rfl⟩
abbrev main_call0_cst_3 : Ref sig .tc := ⟨.hbm, 87, rfl⟩
abbrev main_call0_v19 : Ref sig .tc := ⟨.hbm, 88, rfl⟩
abbrev main_call0_v20 : Ref sig .tc := ⟨.hbm, 89, rfl⟩
abbrev main_call0_v21 : Ref sig .tc := ⟨.hbm, 90, rfl⟩
abbrev main_v51_1 : Ref sig .tc := ⟨.hbm, 91, rfl⟩
abbrev main_call0_cst_4 : Ref sig .tc := ⟨.hbm, 92, rfl⟩
abbrev main_call0_cst_5 : Ref sig .tc := ⟨.hbm, 93, rfl⟩
abbrev main_call0_v23 : Ref sig .tc := ⟨.hbm, 94, rfl⟩
abbrev main_call0_cst_6 : Ref sig .tc := ⟨.hbm, 95, rfl⟩
abbrev main_call0_cst_7 : Ref sig .tc := ⟨.hbm, 96, rfl⟩
abbrev main_call0_v24 : Ref sig .tc := ⟨.hbm, 97, rfl⟩
abbrev main_call0_cst_8 : Ref sig .tc := ⟨.hbm, 98, rfl⟩
abbrev main_call0_v25 : Ref sig .tc := ⟨.hbm, 99, rfl⟩
abbrev main_call0_v26 : Ref sig .tc := ⟨.hbm, 100, rfl⟩
abbrev main_call0_cst_9 : Ref sig .tc := ⟨.hbm, 101, rfl⟩
abbrev main_call0_v27 : Ref sig .tc := ⟨.hbm, 102, rfl⟩
abbrev main_call0_v28 : Ref sig .tc := ⟨.hbm, 103, rfl⟩
abbrev main_call0_v29 : Ref sig .tc := ⟨.hbm, 104, rfl⟩
abbrev main_call0_v30 : Ref sig .tc := ⟨.hbm, 105, rfl⟩
abbrev main_call0_v31 : Ref sig .tc := ⟨.hbm, 106, rfl⟩
abbrev main_call0_cst_10 : Ref sig .tc := ⟨.hbm, 107, rfl⟩
abbrev main_call0_v32 : Ref sig .tc := ⟨.hbm, 108, rfl⟩
abbrev main_v51_2 : Ref sig .tc := ⟨.hbm, 109, rfl⟩
abbrev main_v52 : Ref sig .tc := ⟨.hbm, 110, rfl⟩
abbrev main_cst_8 : Ref sig .tc := ⟨.hbm, 111, rfl⟩
abbrev main_call1_v0 : Ref sig .tc := ⟨.hbm, 112, rfl⟩
abbrev main_v53_1 : Ref sig .tc := ⟨.hbm, 113, rfl⟩
abbrev main_call1_v2 : Ref sig .tc := ⟨.hbm, 114, rfl⟩
abbrev main_v53_0 : Ref sig .tc := ⟨.hbm, 115, rfl⟩
abbrev main_call1_cst : Ref sig .tc := ⟨.hbm, 116, rfl⟩
abbrev main_v53_2 : Ref sig .tc := ⟨.hbm, 117, rfl⟩
abbrev main_call2_cst : Ref sig .tc := ⟨.hbm, 118, rfl⟩
abbrev main_call2_v0 : Ref sig .tc := ⟨.hbm, 119, rfl⟩
abbrev main_v54 : Ref sig .tc := ⟨.hbm, 120, rfl⟩
abbrev main_v55 : Ref sig .tc := ⟨.hbm, 121, rfl⟩
abbrev main_call3_v0 : Ref sig .tc := ⟨.hbm, 122, rfl⟩
abbrev main_call3_call0_cst : Ref sig .tc := ⟨.hbm, 123, rfl⟩
abbrev main_call3_call0_v0 : Ref sig .tc := ⟨.hbm, 124, rfl⟩
abbrev main_call3_call0_v1 : Ref sig .tc := ⟨.hbm, 125, rfl⟩
abbrev main_call3_call0_v2 : Ref sig .tc := ⟨.hbm, 126, rfl⟩
abbrev main_call3_call0_v3 : Ref sig .tc := ⟨.hbm, 127, rfl⟩
abbrev main_call3_call0_v4 : Ref sig .tc := ⟨.hbm, 128, rfl⟩
abbrev main_call3_call0_v5 : Ref sig .tc := ⟨.hbm, 129, rfl⟩
abbrev main_call3_call0_v6 : Ref sig .tc := ⟨.hbm, 130, rfl⟩
abbrev main_call3_call0_v7 : Ref sig .tc := ⟨.hbm, 131, rfl⟩
abbrev main_call3_call0_v8 : Ref sig .tc := ⟨.hbm, 132, rfl⟩
abbrev main_call3_call0_v9 : Ref sig .tc := ⟨.hbm, 133, rfl⟩
abbrev main_call3_call0_v10 : Ref sig .tc := ⟨.hbm, 134, rfl⟩
abbrev main_call3_call0_v11 : Ref sig .tc := ⟨.hbm, 135, rfl⟩
abbrev main_call3_v1_0 : Ref sig .tc := ⟨.hbm, 136, rfl⟩
abbrev main_call3_call0_cst_0 : Ref sig .tc := ⟨.hbm, 137, rfl⟩
abbrev main_call3_call0_v13 : Ref sig .tc := ⟨.hbm, 138, rfl⟩
abbrev main_call3_call0_v14 : Ref sig .tc := ⟨.hbm, 139, rfl⟩
abbrev main_call3_call0_cst_1 : Ref sig .tc := ⟨.hbm, 140, rfl⟩
abbrev main_call3_call0_v15 : Ref sig .tc := ⟨.hbm, 141, rfl⟩
abbrev main_call3_call0_v16 : Ref sig .tc := ⟨.hbm, 142, rfl⟩
abbrev main_call3_call0_cst_2 : Ref sig .tc := ⟨.hbm, 143, rfl⟩
abbrev main_call3_call0_v17 : Ref sig .tc := ⟨.hbm, 144, rfl⟩
abbrev main_call3_call0_v18 : Ref sig .tc := ⟨.hbm, 145, rfl⟩
abbrev main_call3_call0_cst_3 : Ref sig .tc := ⟨.hbm, 146, rfl⟩
abbrev main_call3_call0_v19 : Ref sig .tc := ⟨.hbm, 147, rfl⟩
abbrev main_call3_call0_v20 : Ref sig .tc := ⟨.hbm, 148, rfl⟩
abbrev main_call3_call0_v21 : Ref sig .tc := ⟨.hbm, 149, rfl⟩
abbrev main_v56_1 : Ref sig .tc := ⟨.hbm, 150, rfl⟩
abbrev main_call3_call0_cst_4 : Ref sig .tc := ⟨.hbm, 151, rfl⟩
abbrev main_call3_call0_cst_5 : Ref sig .tc := ⟨.hbm, 152, rfl⟩
abbrev main_call3_call0_v23 : Ref sig .tc := ⟨.hbm, 153, rfl⟩
abbrev main_call3_call0_cst_6 : Ref sig .tc := ⟨.hbm, 154, rfl⟩
abbrev main_call3_call0_cst_7 : Ref sig .tc := ⟨.hbm, 155, rfl⟩
abbrev main_call3_call0_v24 : Ref sig .tc := ⟨.hbm, 156, rfl⟩
abbrev main_call3_call0_cst_8 : Ref sig .tc := ⟨.hbm, 157, rfl⟩
abbrev main_call3_call0_v25 : Ref sig .tc := ⟨.hbm, 158, rfl⟩
abbrev main_call3_call0_v26 : Ref sig .tc := ⟨.hbm, 159, rfl⟩
abbrev main_call3_call0_cst_9 : Ref sig .tc := ⟨.hbm, 160, rfl⟩
abbrev main_call3_call0_v27 : Ref sig .tc := ⟨.hbm, 161, rfl⟩
abbrev main_call3_call0_v28 : Ref sig .tc := ⟨.hbm, 162, rfl⟩
abbrev main_call3_call0_v29 : Ref sig .tc := ⟨.hbm, 163, rfl⟩
abbrev main_call3_call0_v30 : Ref sig .tc := ⟨.hbm, 164, rfl⟩
abbrev main_call3_call0_v31 : Ref sig .tc := ⟨.hbm, 165, rfl⟩
abbrev main_call3_call0_cst_10 : Ref sig .tc := ⟨.hbm, 166, rfl⟩
abbrev main_call3_call0_v32 : Ref sig .tc := ⟨.hbm, 167, rfl⟩
abbrev main_v56_2 : Ref sig .tc := ⟨.hbm, 168, rfl⟩
abbrev main_v56_0 : Ref sig .tc := ⟨.hbm, 169, rfl⟩
abbrev main_v57 : Ref sig .tc := ⟨.hbm, 170, rfl⟩
abbrev main_v58 : Ref sig .tc := ⟨.hbm, 171, rfl⟩
abbrev main_cst_9 : Ref sig .tc := ⟨.hbm, 172, rfl⟩
abbrev main_call4_v0 : Ref sig .tc := ⟨.hbm, 173, rfl⟩
abbrev main_v59_1 : Ref sig .tc := ⟨.hbm, 174, rfl⟩
abbrev main_call4_v2 : Ref sig .tc := ⟨.hbm, 175, rfl⟩
abbrev main_v59_0 : Ref sig .tc := ⟨.hbm, 176, rfl⟩
abbrev main_call4_cst : Ref sig .tc := ⟨.hbm, 177, rfl⟩
abbrev main_v59_2 : Ref sig .tc := ⟨.hbm, 178, rfl⟩
abbrev main_v60 : Ref sig .tc := ⟨.hbm, 179, rfl⟩
abbrev main_v61 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev main_v67 : Ref sig .tc := ⟨.hbm, 186, rfl⟩
abbrev main_call5_cst : Ref sig .tc := ⟨.hbm, 187, rfl⟩
abbrev main_call5_v0 : Ref sig .tc := ⟨.hbm, 188, rfl⟩
abbrev main_v68 : Ref sig .tc := ⟨.hbm, 189, rfl⟩
abbrev main_v69 : Ref sig .tc := ⟨.hbm, 190, rfl⟩
abbrev main_call6_v0 : Ref sig .tc := ⟨.hbm, 191, rfl⟩
abbrev main_call6_v1 : Ref sig .tc := ⟨.hbm, 192, rfl⟩
abbrev main_v70 : Ref sig .tc := ⟨.hbm, 193, rfl⟩
abbrev main_v71 : Ref sig .tc := ⟨.hbm, 194, rfl⟩
abbrev main_call7_cst : Ref sig .tc := ⟨.hbm, 195, rfl⟩
abbrev main_call7_v0 : Ref sig .tc := ⟨.hbm, 196, rfl⟩
abbrev main_v72 : Ref sig .tc := ⟨.hbm, 197, rfl⟩
abbrev main_v73 : Ref sig .tc := ⟨.hbm, 198, rfl⟩
abbrev main_call8_cst : Ref sig .tc := ⟨.hbm, 199, rfl⟩
abbrev main_call8_v0 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_v77 : Ref sig .tc := ⟨.hbm, 204, rfl⟩
abbrev main_cst_10 : Ref sig .tc := ⟨.hbm, 205, rfl⟩
abbrev main_v78 : Ref sig .tc := ⟨.hbm, 206, rfl⟩
abbrev main_v79 : Ref sig .tc := ⟨.hbm, 207, rfl⟩
abbrev main_v80 : Ref sig .tc := ⟨.hbm, 208, rfl⟩
abbrev main_v81 : Ref sig .tc := ⟨.hbm, 209, rfl⟩
abbrev main_v82 : Ref sig .tc := ⟨.hbm, 210, rfl⟩
abbrev main_v83 : Ref sig .tc := ⟨.hbm, 211, rfl⟩
abbrev main_v84 : Ref sig .tc := ⟨.hbm, 212, rfl⟩
abbrev main_cst_11 : Ref sig .tc := ⟨.hbm, 213, rfl⟩
abbrev main_v85 : Ref sig .tc := ⟨.hbm, 214, rfl⟩
abbrev main_v86 : Ref sig .tc := ⟨.hbm, 215, rfl⟩
abbrev main_v87 : Ref sig .tc := ⟨.hbm, 216, rfl⟩
abbrev main_v88 : Ref sig .tc := ⟨.hbm, 217, rfl⟩
abbrev main_cst_12 : Ref sig .tc := ⟨.hbm, 218, rfl⟩
abbrev main_v89 : Ref sig .tc := ⟨.hbm, 219, rfl⟩
abbrev main_v90 : Ref sig .tc := ⟨.hbm, 220, rfl⟩
abbrev main_v91 : Ref sig .tc := ⟨.hbm, 221, rfl⟩
abbrev main_cst_13 : Ref sig .tc := ⟨.hbm, 222, rfl⟩
abbrev main_v92 : Ref sig .tc := ⟨.hbm, 223, rfl⟩
abbrev main_v93 : Ref sig .tc := ⟨.hbm, 224, rfl⟩
abbrev main_v94 : Ref sig .tc := ⟨.hbm, 225, rfl⟩
abbrev main_v95 : Ref sig .tc := ⟨.hbm, 226, rfl⟩
abbrev main_v96 : Ref sig .tc := ⟨.hbm, 227, rfl⟩
abbrev main_cst_14 : Ref sig .tc := ⟨.hbm, 228, rfl⟩
abbrev main_v97 : Ref sig .tc := ⟨.hbm, 229, rfl⟩
abbrev main_v98 : Ref sig .tc := ⟨.hbm, 230, rfl⟩
abbrev main_cst_15 : Ref sig .tc := ⟨.hbm, 231, rfl⟩
abbrev main_v99 : Ref sig .tc := ⟨.hbm, 232, rfl⟩
abbrev main_v100 : Ref sig .tc := ⟨.hbm, 233, rfl⟩
abbrev main_v101 : Ref sig .tc := ⟨.hbm, 234, rfl⟩
abbrev main_v102 : Ref sig .tc := ⟨.hbm, 235, rfl⟩
abbrev main_v103 : Ref sig .tc := ⟨.hbm, 236, rfl⟩
abbrev main_v104 : Ref sig .tc := ⟨.hbm, 237, rfl⟩
abbrev main_v105 : Ref sig .tc := ⟨.hbm, 238, rfl⟩
abbrev main_v106 : Ref sig .tc := ⟨.hbm, 239, rfl⟩
abbrev main_v107 : Ref sig .tc := ⟨.hbm, 240, rfl⟩
abbrev main_cst_16 : Ref sig .tc := ⟨.hbm, 241, rfl⟩
abbrev main_v108 : Ref sig .tc := ⟨.hbm, 242, rfl⟩
abbrev main_v109 : Ref sig .tc := ⟨.hbm, 243, rfl⟩
abbrev main_v110 : Ref sig .tc := ⟨.hbm, 244, rfl⟩
abbrev main_v111 : Ref sig .tc := ⟨.hbm, 245, rfl⟩
abbrev main_cst_17 : Ref sig .tc := ⟨.hbm, 246, rfl⟩
abbrev main_v112 : Ref sig .tc := ⟨.hbm, 247, rfl⟩
abbrev main_v113 : Ref sig .tc := ⟨.hbm, 248, rfl⟩
abbrev main_v114 : Ref sig .tc := ⟨.hbm, 249, rfl⟩
abbrev main_cst_18 : Ref sig .tc := ⟨.hbm, 250, rfl⟩
abbrev main_v115 : Ref sig .tc := ⟨.hbm, 251, rfl⟩
abbrev main_v116 : Ref sig .tc := ⟨.hbm, 252, rfl⟩
abbrev main_v117 : Ref sig .tc := ⟨.hbm, 253, rfl⟩
abbrev main_v118 : Ref sig .tc := ⟨.hbm, 254, rfl⟩
abbrev main_v119 : Ref sig .tc := ⟨.hbm, 255, rfl⟩
abbrev main_cst_19 : Ref sig .tc := ⟨.hbm, 256, rfl⟩
abbrev main_v120 : Ref sig .tc := ⟨.hbm, 257, rfl⟩
abbrev main_v121 : Ref sig .tc := ⟨.hbm, 258, rfl⟩
abbrev main_cst_20 : Ref sig .tc := ⟨.hbm, 259, rfl⟩
abbrev main_v122 : Ref sig .tc := ⟨.hbm, 260, rfl⟩
abbrev main_v123 : Ref sig .tc := ⟨.hbm, 261, rfl⟩
abbrev main_v124 : Ref sig .tc := ⟨.hbm, 262, rfl⟩
abbrev main_v125 : Ref sig .tc := ⟨.hbm, 263, rfl⟩
abbrev main_v126 : Ref sig .tc := ⟨.hbm, 264, rfl⟩
abbrev main_v127 : Ref sig .tc := ⟨.hbm, 265, rfl⟩
abbrev main_v128 : Ref sig .tc := ⟨.hbm, 266, rfl⟩
abbrev main_v129 : Ref sig .tc := ⟨.hbm, 267, rfl⟩
abbrev main_v130 : Ref sig .tc := ⟨.hbm, 268, rfl⟩
abbrev main_v131 : Ref sig .tc := ⟨.hbm, 269, rfl⟩
abbrev main_v132 : Ref sig .tc := ⟨.hbm, 270, rfl⟩

abbrev nD : Nat := 1
abbrev τ : Topo := Topo.v7x

variable {F : FTy → Type} [FloatOps F]
-- ==== Kernel2.lean ====
abbrev S2048x1024 : Shape := ⟨2, ![2048, 1024]⟩
abbrev S2816x1024 : Shape := ⟨2, ![2816, 1024]⟩
abbrev S4x2048x704 : Shape := ⟨3, ![4, 2048, 704]⟩
abbrev S1024x1024 : Shape := ⟨2, ![1024, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2816x1024, .bf16⟩
  | .hbm, ⟨3, _⟩ => ⟨S4x2048x704, .bf16⟩
  | .local _ .vmem, ⟨0, _⟩ => ⟨S1024x1024, .f32⟩
  | .local _ .vmem, ⟨1, _⟩ => ⟨S1024x1024, .f32⟩
  | .local _ .vmem, ⟨2, _⟩ => ⟨S704x1024, .bf16⟩
  | .local _ .vmem, ⟨3, _⟩ => ⟨S704x1024, .bf16⟩
  | .local _ .vmem, ⟨4, _⟩ => ⟨S1x1024x704, .bf16⟩
  | .local _ .vmem, ⟨5, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x2816, .f32⟩
  | .hbm, ⟨6, _⟩ => ⟨S2048x2816, .bf16⟩
  | .hbm, ⟨7, _⟩ => ⟨S2048x4x704, .bf16⟩
  | .hbm, ⟨8, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S2048x512 : Shape := ⟨2, ![2048, 512]⟩
abbrev S1x704x512 : Shape := ⟨3, ![1, 704, 512]⟩
abbrev S2048x704 : Shape := ⟨2, ![2048, 704]⟩
abbrev S704x512 : Shape := ⟨2, ![704, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2048x4x704, .bf16⟩
  | .hbm, ⟨4, _⟩ => ⟨S4x2048x704, .bf16⟩
  | .hbm, ⟨5, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x512, .f32⟩
  | .local _ .vmem, ⟨3, _⟩ => ⟨S2048x512, .f32⟩
  | .local _ .vmem, ⟨4, _⟩ => ⟨S1x704x512, .bf16⟩
  | .local _ .vmem, ⟨5, _⟩ => ⟨S1x704x512, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2816 : Shape := ⟨2, ![2048, 2816]⟩
abbrev S2048x1024 : Shape := ⟨2, ![2048, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S4x704x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2048x1024 : Shape := ⟨2, ![2048, 1024]⟩
abbrev S2048x5632 : Shape := ⟨2, ![2048, 5632]⟩
abbrev S2048x8x704 : Shape := ⟨3, ![2048, 8, 704]⟩
abbrev S8x2048x704 : Shape := ⟨3, ![8, 2048, 704]⟩
abbrev S8x1024x704 : Shape := ⟨3, ![8, 1024, 704]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x1024, .bf16⟩
  | .hbm, ⟨3, _⟩ => ⟨S2048x5632, .bf16⟩
  | .hbm, ⟨4, _⟩ => ⟨S2048x8x704, .bf16⟩
  | .hbm, ⟨5, _⟩ => ⟨S8x2048x704, .bf16⟩
  | .hbm, ⟨6, _⟩ => ⟨S8x1024x704, .bf16⟩
  | .local _ .vmem, ⟨0, _⟩ => ⟨S2048x1024, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x1024x704, .bf16⟩
  | .local _ .vmem, ⟨4, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S2048x1024 : Shape := ⟨2, ![2048, 1024]⟩
abbrev S2048x5632 : Shape := ⟨2, ![2048, 5632]⟩
abbrev S5632x1024 : Shape := ⟨2, ![5632, 1024]⟩
abbrev S1024x5632 : Shape := ⟨2, ![1024, 5632]⟩
abbrev S1024x8x704 : Shape := ⟨3, ![1024, 8, 704]⟩
abbrev S8x1024x704 : Shape := ⟨3, ![8, 1024, 704]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S5632x1024, .f32⟩
  | .hbm, ⟨3, _⟩ => ⟨S1024x5632, .f32⟩
  | .hbm, ⟨4, _⟩ => ⟨S1024x5632, .bf16⟩
  | .hbm, ⟨5, _⟩ => ⟨S1024x8x704, .bf16⟩
  | .hbm, ⟨6, _⟩ => ⟨S8x1024x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S2048x5632 : Shape := ⟨2, ![2048, 5632]⟩
abbrev S1024x5632 : Shape := ⟨2, ![1024, 5632]⟩
abbrev S2048x8x704 : Shape := ⟨3, ![2048, 8, 704]⟩
abbrev S8x2048x704 : Shape := ⟨3, ![8, 2048, 704]⟩
abbrev S1024x8x704 : Shape := ⟨3, ![1024, 8, 704]⟩
abbrev S8x1024x704 : Shape := ⟨3, ![8, 1024, 704]⟩
abbrev S2048x1024 : Shape := ⟨2, ![2048, 1024]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 9
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x5632, .bf16⟩
  | .hbm, ⟨3, _⟩ => ⟨S2048x8x704, .bf16⟩
  | .hbm, ⟨4, _⟩ => ⟨S8x2048x704, .bf16⟩
  | .hbm, ⟨5, _⟩ => ⟨S1024x5632, .bf16⟩
  | .hbm, ⟨6, _⟩ => ⟨S1024x8x704, .bf16⟩
  | .hbm, ⟨7, _⟩ => ⟨S8x1024x704, .bf16⟩
  | .hbm, ⟨8, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S2048x5632 : Shape := ⟨2, ![2048, 5632]⟩
abbrev S1024x5632 : Shape := ⟨2, ![1024, 5632]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x1024, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S2048x1024 : Shape := ⟨2, ![2048, 1024]⟩
abbrev S2048x9216 : Shape := ⟨2, ![2048, 9216]⟩
abbrev S1024x9216 : Shape := ⟨2, ![1024, 9216]⟩
abbrev S2048x512 : Shape := ⟨2, ![2048, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x9216, .f32⟩
  | .hbm, ⟨2, _⟩ => ⟨S2048x1024, .bf16⟩
  | .hbm, ⟨3, _⟩ => ⟨S2048x9216, .bf16⟩
  | .hbm, ⟨4, _⟩ => ⟨S1024x9216, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 18, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S2048x9216 : Shape := ⟨2, ![2048, 9216]⟩
abbrev S9216x1024 : Shape := ⟨2, ![9216, 1024]⟩
abbrev S1024x9216 : Shape := ⟨2, ![1024, 9216]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x9216, .f32⟩
  | .hbm, ⟨2, _⟩ => ⟨S9216x1024, .f32⟩
  | .hbm, ⟨3, _⟩ => ⟨S1024x9216, .f32⟩
  | .hbm, ⟨4, _⟩ => ⟨S1024x9216, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S2048x9216 : Shape := ⟨2, ![2048, 9216]⟩
abbrev S1024x9216 : Shape := ⟨2, ![1024, 9216]⟩
abbrev S2048x1024 : Shape := ⟨2, ![2048, 1024]⟩
abbrev S1024x2304 : Shape := ⟨2, ![1024, 2304]⟩
abbrev S512x2304 : Shape := ⟨2, ![512, 2304]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x9216, .f32⟩
  | .hbm, ⟨1, _⟩ => ⟨S1024x9216, .f32⟩
  | .hbm, ⟨2, _⟩ => ⟨S2048x1024, .f32⟩
  | .hbm, ⟨3, _⟩ => ⟨S2048x9216, .bf16⟩
  | .hbm, ⟨4, _⟩ => ⟨S1024x9216, .bf16⟩
  | .hbm, ⟨5, _⟩ => ⟨S2048x1024, .f32⟩
  | .local _ .vmem, ⟨0, _⟩ => ⟨S1024x2304, .bf16⟩
  | .local _ .vmem, ⟨1, _⟩ => ⟨S1024x2304, .bf16⟩
  | .local _ .vmem, ⟨2, _⟩ => ⟨S512x2304, .bf16⟩
  | .local _ .vmem, ⟨3, _⟩ => ⟨S512x2304, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x9216 : Shape := ⟨2, ![2048, 9216]⟩
abbrev S1024x9216 : Shape := ⟨2, ![1024, 9216]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x9216, .f32⟩
  | .hbm, ⟨1, _⟩ => ⟨S1024x9216, .f32⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S2048x1024 : Shape := ⟨2, ![2048, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S2x4x2048x704 : Shape := ⟨4, ![2, 4, 2048, 704]⟩
abbrev S4x2048x704 : Shape := ⟨3, ![4, 2048, 704]⟩
abbrev S1024x1024 : Shape := ⟨2, ![1024, 1024]⟩
abbrev S1x1024x704 : Shape := ⟨3, ![1, 1024, 704]⟩
abbrev S2x1x1024x704 : Shape := ⟨4, ![2, 1, 1024, 704]⟩
abbrev S1024x704 : Shape := ⟨2, ![1024, 704]⟩
abbrev S1x1x1024x704 : Shape := ⟨4, ![1, 1, 1024, 704]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S1024x5632, .bf16⟩
  | .hbm, ⟨4, _⟩ => ⟨S1024x8x704, .bf16⟩
  | .hbm, ⟨5, _⟩ => ⟨S8x1024x704, .bf16⟩
  | .hbm, ⟨6, _⟩ => ⟨S2x4x2048x704, .bf16⟩
  | .hbm, ⟨7, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S1x1024x704, .bf16⟩
  | .local _ .vmem, ⟨9, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩
abbrev S2048x2x4x704 : Shape := ⟨4, ![2048, 2, 4, 704]⟩
abbrev S2x4x2048x704 : Shape := ⟨4, ![2, 4, 2048, 704]⟩
abbrev S2048x4x704 : Shape := ⟨3, ![2048, 4, 704]⟩
abbrev S4x2048x704 : Shape := ⟨3, ![4, 2048, 704]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x5632, .bf16⟩
  | .hbm, ⟨16, _⟩ => ⟨S2048x2x4x704, .bf16⟩
  | .hbm, ⟨17, _⟩ => ⟨S2x4x2048x704, .bf16⟩
  | .hbm, ⟨18, _⟩ => ⟨S2048x2816, .bf16⟩
  | .hbm, ⟨19, _⟩ => ⟨S2048x4x704, .bf16⟩
  | .hbm, ⟨20, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel9.lean ====
abbrev S2048x1024 : Shape := ⟨2, ![2048, 1024]⟩
abbrev S2048x2816 : Shape := ⟨2, ![2048, 2816]⟩
abbrev S2816x1024 : Shape := ⟨2, ![2816, 1024]⟩
abbrev S2048x4x704 : Shape := ⟨3, ![2048, 4, 704]⟩
abbrev S4x2048x704 : Shape := ⟨3, ![4, 2048, 704]⟩
abbrev S1x1024x704 : Shape := ⟨3, ![1, 1024, 704]⟩
abbrev S704x1024 : Shape := ⟨2, ![704, 1024]⟩
abbrev S1024x1024 : Shape := ⟨2, ![1024, 1024]⟩
abbrev S1024x704 : Shape := ⟨2, ![1024, 704]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2816x1024, .f32⟩
  | .hbm, ⟨3, _⟩ => ⟨S2048x2816, .bf16⟩
  | .hbm, ⟨4, _⟩ => ⟨S2048x4x704, .bf16⟩
  | .hbm, ⟨5, _⟩ => ⟨S4x2048x704, .bf16⟩
  | .hbm, ⟨6, _⟩ => ⟨S2816x1024, .bf16⟩
  | .hbm, ⟨7, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S704x1024, .bf16⟩
  | .local _ .vmem, ⟨3, _⟩ => ⟨S704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference9Ideal.lean ====
abbrev S2048x1024 : Shape := ⟨2, ![2048, 1024]⟩
abbrev S2048x2816 : Shape := ⟨2, ![2048, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel10.lean ====
abbrev S2048x1024 : Shape := ⟨2, ![2048, 1024]⟩
abbrev S1024x9216 : Shape := ⟨2, ![1024, 9216]⟩
abbrev S2048x9216 : Shape := ⟨2, ![2048, 9216]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S2048x1024, .bf16⟩
  | .hbm, ⟨3, _⟩ => ⟨S1024x9216, .bf16⟩
  | .hbm, ⟨4, _⟩ => ⟨S2048x9216, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 18, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S1024x9216 : Shape := ⟨2, ![1024, 9216]⟩
abbrev S2048x9216 : Shape := ⟨2, ![2048, 9216]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S2048x9216, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S112x128 : Shape := ⟨2, ![112, 128]⟩
abbrev S1x112x128 : Shape := ⟨3, ![1, 112, 128]⟩

abbrev nBuf : Space → Nat
  | .hbm => 9
  | .vmem => 8
  | .smem => 0
  | _ => 0

abbrev bufTy : (tb : Table) → Fin (tcTables nBuf tb) → BufTy
  | .hbm, ⟨0, _⟩ => ⟨S112x128, .f32⟩
  | .hbm, ⟨1, _⟩ => ⟨S112x128, .f32⟩
  | .hbm, ⟨2, _⟩ => ⟨S112x128, .f32⟩
  | .hbm, ⟨3, _⟩ => ⟨S112x128, .f32⟩
  | .hbm, ⟨4, _⟩ => ⟨S1x112x128, .f32⟩
  | .hbm, ⟨5, _⟩ => ⟨S112x128, .f32⟩
  | .hbm, ⟨6, _⟩ => ⟨S112x128, .f32⟩
  | .hbm, ⟨7, _⟩ => ⟨S112x128, .f32⟩
  | .hbm, ⟨8, _⟩ => ⟨S112x128, .f32⟩
  | .local _ .vmem, ⟨0, _⟩ => ⟨S1x112x128, .f32⟩
  | .local _ .vmem, ⟨1, _⟩ => ⟨S112x128, .f32⟩
  | .local _ .vmem, ⟨2, _⟩ => ⟨S112x128, .f32⟩
  | .local _ .vmem, ⟨3, _⟩ => ⟨S112x128, .f32⟩
  | .local _ .vmem, ⟨4, _⟩ => ⟨S112x128, .f32⟩
  | .local _ .vmem, ⟨5, _⟩ => ⟨S112x128, .f32⟩
  | .local _ .vmem, ⟨6, _⟩ => ⟨S112x128, .f32⟩
  | .local _ .vmem, ⟨7, _⟩ => ⟨S112x128, .f32⟩
  | _, _ => ⟨S112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S1x112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S112x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S112x128 : Shape := ⟨2, ![112, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S112x128, .f32⟩
  | .hbm, ⟨1, _⟩ => ⟨S112x128, .f32⟩
  | .hbm, ⟨2, _⟩ => ⟨S112x128, .f32⟩
  | .hbm, ⟨3, _⟩ => ⟨S112x128, .f32⟩
  | .hbm, ⟨4, _⟩ => ⟨S_, .f32⟩
  | .hbm, ⟨5, _⟩ => ⟨S112x128, .f32⟩
  | .hbm, ⟨6, _⟩ => ⟨S112x128, .f32⟩
  | .hbm, ⟨7, _⟩ => ⟨S_, .f32⟩
  | .hbm, ⟨8, _⟩ => ⟨S112x128, .f32⟩
  | .hbm, ⟨9, _⟩ => ⟨S112x128, .f32⟩
  | .hbm, ⟨10, _⟩ => ⟨S112x128, .f32⟩
  | .hbm, ⟨11, _⟩ => ⟨S_, .f32⟩
  | .hbm, ⟨12, _⟩ => ⟨S112x128, .f32⟩
  | .hbm, ⟨13, _⟩ => ⟨S112x128, .f32⟩
  | .hbm, ⟨14, _⟩ => ⟨S112x128, .f32⟩
  | .hbm, ⟨15, _⟩ => ⟨S_, .f32⟩
  | .hbm, ⟨16, _⟩ => ⟨S112x128, .f32⟩
  | .hbm, ⟨17, _⟩ => ⟨S112x128, .f32⟩
  | .hbm, ⟨18, _⟩ => ⟨S112x128, .f32⟩
  | .hbm, ⟨19, _⟩ => ⟨S_, .f32⟩
  | .hbm, ⟨20, _⟩ => ⟨S112x128, .f32⟩
  | .hbm, ⟨21, _⟩ => ⟨S112x128, .f32⟩
  | .hbm, ⟨22, _⟩ => ⟨S_, .f32⟩
  | .hbm, ⟨23, _⟩ => ⟨S112x128, .f32⟩
  | .hbm, ⟨24, _⟩ => ⟨S112x128, .f32⟩
  | .hbm, ⟨25, _⟩ => ⟨S112x128, .f32⟩
  | .hbm, ⟨26, _⟩ => ⟨S_, .f32⟩
  | .hbm, ⟨27, _⟩ => ⟨S112x128, .f32⟩
  | .hbm, ⟨28, _⟩ => ⟨S112x128, .f32⟩
  | .hbm, ⟨29, _⟩ => ⟨S112x128, .f32⟩
  | .hbm, ⟨30, _⟩ => ⟨S_, .f32⟩
  | .hbm, ⟨31, _⟩ => ⟨S112x128, .f32⟩
  | .hbm, ⟨32, _⟩ => ⟨S112x128, .f32⟩
  | .hbm, ⟨33, _⟩ => ⟨S112x128, .f32⟩
  | .hbm, ⟨34, _⟩ => ⟨S_, .f32⟩
  | .hbm, ⟨35, _⟩ => ⟨S112x128, .f32⟩
  | .hbm, ⟨36, _⟩ => ⟨S112x128, .f32⟩
  | _, _ => ⟨S112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S16x384 : Shape := ⟨2, ![16, 384]⟩
abbrev S1x16x384 : Shape := ⟨3, ![1, 16, 384]⟩

abbrev nBuf : Space → Nat
  | .hbm => 9
  | .vmem => 8
  | .smem => 0
  | _ => 0

abbrev bufTy : (tb : Table) → Fin (tcTables nBuf tb) → BufTy
  | .hbm, ⟨0, _⟩ => ⟨S16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S1x16x384, .f32⟩
  | .hbm, ⟨5, _⟩ => ⟨S16x384, .f32⟩
  | .hbm, ⟨6, _⟩ => ⟨S16x384, .f32⟩
  | .hbm, ⟨7, _⟩ => ⟨S16x384, .f32⟩
  | .hbm, ⟨8, _⟩ => ⟨S16x384, .f32⟩
  | .local _ .vmem, ⟨0, _⟩ => ⟨S1x16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | .local _ .vmem, ⟨7, _⟩ => ⟨S16x384, .f32⟩
  | _, _ => ⟨S16x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S1x16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S16x384 : Shape := ⟨2, ![16, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S_, .f32⟩
  | .hbm, ⟨5, _⟩ => ⟨S16x384, .f32⟩
  | .hbm, ⟨6, _⟩ => ⟨S16x384, .f32⟩
  | .hbm, ⟨7, _⟩ => ⟨S_, .f32⟩
  | .hbm, ⟨8, _⟩ => ⟨S16x384, .f32⟩
  | .hbm, ⟨9, _⟩ => ⟨S16x384, .f32⟩
  | .hbm, ⟨10, _⟩ => ⟨S16x384, .f32⟩
  | .hbm, ⟨11, _⟩ => ⟨S_, .f32⟩
  | .hbm, ⟨12, _⟩ => ⟨S16x384, .f32⟩
  | .hbm, ⟨13, _⟩ => ⟨S16x384, .f32⟩
  | .hbm, ⟨14, _⟩ => ⟨S16x384, .f32⟩
  | .hbm, ⟨15, _⟩ => ⟨S_, .f32⟩
  | .hbm, ⟨16, _⟩ => ⟨S16x384, .f32⟩
  | .hbm, ⟨17, _⟩ => ⟨S16x384, .f32⟩
  | .hbm, ⟨18, _⟩ => ⟨S16x384, .f32⟩
  | .hbm, ⟨19, _⟩ => ⟨S_, .f32⟩
  | .hbm, ⟨20, _⟩ => ⟨S16x384, .f32⟩
  | .hbm, ⟨21, _⟩ => ⟨S16x384, .f32⟩
  | .hbm, ⟨22, _⟩ => ⟨S_, .f32⟩
  | .hbm, ⟨23, _⟩ => ⟨S16x384, .f32⟩
  | .hbm, ⟨24, _⟩ => ⟨S16x384, .f32⟩
  | .hbm, ⟨25, _⟩ => ⟨S16x384, .f32⟩
  | .hbm, ⟨26, _⟩ => ⟨S_, .f32⟩
  | .hbm, ⟨27, _⟩ => ⟨S16x384, .f32⟩
  | .hbm, ⟨28, _⟩ => ⟨S16x384, .f32⟩
  | .hbm, ⟨29, _⟩ => ⟨S16x384, .f32⟩
  | .hbm, ⟨30, _⟩ => ⟨S_, .f32⟩
  | .hbm, ⟨31, _⟩ => ⟨S16x384, .f32⟩
  | .hbm, ⟨32, _⟩ => ⟨S16x384, .f32⟩
  | .hbm, ⟨33, _⟩ => ⟨S16x384, .f32⟩
  | .hbm, ⟨34, _⟩ => ⟨S_, .f32⟩
  | .hbm, ⟨35, _⟩ => ⟨S16x384, .f32⟩
  | .hbm, ⟨36, _⟩ => ⟨S16x384, .f32⟩
  | _, _ => ⟨S16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S8x128x1024 : Shape := ⟨3, ![8, 128, 1024]⟩
abbrev S512x1024 : Shape := ⟨2, ![512, 1024]⟩
abbrev S128x1024 : Shape := ⟨2, ![128, 1024]⟩
abbrev S1x128x1024 : Shape := ⟨3, ![1, 128, 1024]⟩

abbrev nBuf : Space → Nat
  | .hbm => 27
  | .vmem => 32
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S8x128x1024, .f32⟩
  | .hbm, ⟨3, _⟩ => ⟨S8x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S8x128x1024, .bf16⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S8x128x1024, .bf16⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S8x128x1024, .bf16⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S8x128x1024, .bf16⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S512x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S8x128x1024, .bf16⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S8x128x1024, .bf16⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S8x128x1024, .bf16⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage1_0 : Fin 1 → Memref sig .tc .vmem S8x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage2_0 : Fin 1 → Memref sig .tc .vmem S8x128x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S128x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S128x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S128x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S128x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S128x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S128x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_3 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_8 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_9 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_10 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_11 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage3_0 : Fin 1 → Memref sig .tc .vmem S8x128x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S128x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S128x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S128x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S128x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S128x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S128x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]
-- ==== Reference13Ideal.lean ====
abbrev S8x128x1024 : Shape := ⟨3, ![8, 128, 1024]⟩
abbrev S512x1024 : Shape := ⟨2, ![512, 1024]⟩
abbrev S_ : Shape := ⟨0, ![]⟩
abbrev S128x1024 : Shape := ⟨2, ![128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S8x128x1024, .f32⟩
  | .hbm, ⟨3, _⟩ => ⟨S8x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S512x1024, .f32⟩
  | .hbm, ⟨48, _⟩ => ⟨S512x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_9 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_11 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Kernel14.lean ====
abbrev S8x1024x704 : Shape := ⟨3, ![8, 1024, 704]⟩
abbrev S4096x704 : Shape := ⟨2, ![4096, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 27
  | .vmem => 64
  | .smem => 0
  | _ => 0

abbrev bufTy : (tb : Table) → Fin (tcTables nBuf tb) → BufTy
  | .hbm, ⟨0, _⟩ => ⟨S8x1024x704, .f32⟩
  | .hbm, ⟨1, _⟩ => ⟨S8x1024x704, .f32⟩
  | .hbm, ⟨2, _⟩ => ⟨S8x1024x704, .f32⟩
  | .hbm, ⟨3, _⟩ => ⟨S8x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S8x1024x704, .bf16⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4096x704, .f32⟩
  | .hbm, ⟨12, _⟩ => ⟨S8x1024x704, .bf16⟩
  | .hbm, ⟨13, _⟩ => ⟨S4096x704, .f32⟩
  | .hbm, ⟨14, _⟩ => ⟨S4096x704, .f32⟩
  | .hbm, ⟨15, _⟩ => ⟨S4096x704, .f32⟩
  | .hbm, ⟨16, _⟩ => ⟨S4096x704, .f32⟩
  | .hbm, ⟨17, _⟩ => ⟨S8x1024x704, .bf16⟩
  | .hbm, ⟨18, _⟩ => ⟨S4096x704, .f32⟩
  | .hbm, ⟨19, _⟩ => ⟨S4096x704, .f32⟩
  | .hbm, ⟨20, _⟩ => ⟨S4096x704, .f32⟩
  | .hbm, ⟨21, _⟩ => ⟨S4096x704, .f32⟩
  | .hbm, ⟨22, _⟩ => ⟨S8x1024x704, .bf16⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S4096x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S8x256x704, .bf16⟩
  | .local _ .vmem, ⟨17, _⟩ => ⟨S8x256x704, .bf16⟩
  | .local _ .vmem, ⟨18, _⟩ => ⟨S256x704, .f32⟩
  | .local _ .vmem, ⟨19, _⟩ => ⟨S256x704, .f32⟩
  | .local _ .vmem, ⟨20, _⟩ => ⟨S256x704, .f32⟩
  | .local _ .vmem, ⟨21, _⟩ => ⟨S256x704, .f32⟩
  | .local _ .vmem, ⟨22, _⟩ => ⟨S256x704, .f32⟩
  | .local _ .vmem, ⟨23, _⟩ => ⟨S256x704, .f32⟩
  | .local _ .vmem, ⟨24, _⟩ => ⟨S256x704, .f32⟩
  | .local _ .vmem, ⟨25, _⟩ => ⟨S256x704, .f32⟩
  | .local _ .vmem, ⟨26, _⟩ => ⟨S256x704, .f32⟩
  | .local _ .vmem, ⟨27, _⟩ => ⟨S256x704, .f32⟩
  | .local _ .vmem, ⟨28, _⟩ => ⟨S256x704, .f32⟩
  | .local _ .vmem, ⟨29, _⟩ => ⟨S256x704, .f32⟩
  | .local _ .vmem, ⟨30, _⟩ => ⟨S256x704, .f32⟩
  | .local _ .vmem, ⟨31, _⟩ => ⟨S256x704, .f32⟩
  | .local _ .vmem, ⟨32, _⟩ => ⟨S8x256x704, .bf16⟩
  | .local _ .vmem, ⟨33, _⟩ => ⟨S8x256x704, .bf16⟩
  | .local _ .vmem, ⟨34, _⟩ => ⟨S256x704, .f32⟩
  | .local _ .vmem, ⟨35, _⟩ => ⟨S256x704, .f32⟩
  | .local _ .vmem, ⟨36, _⟩ => ⟨S256x704, .f32⟩
  | .local _ .vmem, ⟨37, _⟩ => ⟨S256x704, .f32⟩
  | .local _ .vmem, ⟨38, _⟩ => ⟨S256x704, .f32⟩
  | .local _ .vmem, ⟨39, _⟩ => ⟨S256x704, .f32⟩
  | .local _ .vmem, ⟨40, _⟩ => ⟨S256x704, .f32⟩
  | .local _ .vmem, ⟨41, _⟩ => ⟨S256x704, .f32⟩
  | .local _ .vmem, ⟨42, _⟩ => ⟨S256x704, .f32⟩
  | .local _ .vmem, ⟨43, _⟩ => ⟨S256x704, .f32⟩
  | .local _ .vmem, ⟨44, _⟩ => ⟨S256x704, .f32⟩
  | .local _ .vmem, ⟨45, _⟩ => ⟨S256x704, .f32⟩
  | .local _ .vmem, ⟨46, _⟩ => ⟨S256x704, .f32⟩
  | .local _ .vmem, ⟨47, _⟩ => ⟨S256x704, .f32⟩
  | .local _ .vmem, ⟨48, _⟩ => ⟨S8x256x704, .bf16⟩
  | .local _ .vmem, ⟨49, _⟩ => ⟨S8x256x704, .bf16⟩
  | .local _ .vmem, ⟨50, _⟩ => ⟨S256x704, .f32⟩
  | .local _ .vmem, ⟨51, _⟩ => ⟨S256x704, .f32⟩
  | .local _ .vmem, ⟨52, _⟩ => ⟨S256x704, .f32⟩
  | .local _ .vmem, ⟨53, _⟩ => ⟨S256x704, .f32⟩
  | .local _ .vmem, ⟨54, _⟩ => ⟨S256x704, .f32⟩
  | .local _ .vmem, ⟨55, _⟩ => ⟨S256x704, .f32⟩
  | .local _ .vmem, ⟨56, _⟩ => ⟨S256x704, .f32⟩
  | .local _ .vmem, ⟨57, _⟩ => ⟨S256x704, .f32⟩
  | .local _ .vmem, ⟨58, _⟩ => ⟨S256x704, .f32⟩
  | .local _ .vmem, ⟨59, _⟩ => ⟨S256x704, .f32⟩
  | .local _ .vmem, ⟨60, _⟩ => ⟨S256x704, .f32⟩
  | .local _ .vmem, ⟨61, _⟩ => ⟨S256x704, .f32⟩
  | .local _ .vmem, ⟨62, _⟩ => ⟨S256x704, .f32⟩
  | .local _ .vmem, ⟨63, _⟩ => ⟨S256x704, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage1_0 : Fin 2 → Memref sig .tc .vmem S8x256x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x704 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x704 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x704 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x704 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x704 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x704 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x704 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage2_0 : Fin 2 → Memref sig .tc .vmem S8x256x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x704 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x704 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x704 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x704 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x704 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x704 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x704 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_3 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_8 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_9 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_10 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_11 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage3_0 : Fin 2 → Memref sig .tc .vmem S8x256x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x704 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x704 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x704 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x704 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x704 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x704 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x704 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference14Ideal.lean ====
abbrev S8x1024x704 : Shape := ⟨3, ![8, 1024, 704]⟩
abbrev S4096x704 : Shape := ⟨2, ![4096, 704]⟩
abbrev S_ : Shape := ⟨0, ![]⟩
abbrev S1024x704 : Shape := ⟨2, ![1024, 704]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S8x1024x704, .f32⟩
  | .hbm, ⟨2, _⟩ => ⟨S8x1024x704, .f32⟩
  | .hbm, ⟨3, _⟩ => ⟨S8x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S4096x704, .f32⟩
  | .hbm, ⟨16, _⟩ => ⟨S_, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S4096x704, .f32⟩
  | .hbm, ⟨23, _⟩ => ⟨S_, .f32⟩
  | .hbm, ⟨24, _⟩ => ⟨S4096x704, .f32⟩
  | .hbm, ⟨25, _⟩ => ⟨S4096x704, .f32⟩
  | .hbm, ⟨26, _⟩ => ⟨S4096x704, .f32⟩
  | .hbm, ⟨27, _⟩ => ⟨S_, .f32⟩
  | .hbm, ⟨28, _⟩ => ⟨S4096x704, .f32⟩
  | .hbm, ⟨29, _⟩ => ⟨S4096x704, .f32⟩
  | .hbm, ⟨30, _⟩ => ⟨S4096x704, .f32⟩
  | .hbm, ⟨31, _⟩ => ⟨S_, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | .hbm, ⟨37, _⟩ => ⟨S4096x704, .f32⟩
  | .hbm, ⟨38, _⟩ => ⟨S_, .f32⟩
  | .hbm, ⟨39, _⟩ => ⟨S4096x704, .f32⟩
  | .hbm, ⟨40, _⟩ => ⟨S4096x704, .f32⟩
  | .hbm, ⟨41, _⟩ => ⟨S4096x704, .f32⟩
  | .hbm, ⟨42, _⟩ => ⟨S_, .f32⟩
  | .hbm, ⟨43, _⟩ => ⟨S4096x704, .f32⟩
  | .hbm, ⟨44, _⟩ => ⟨S4096x704, .f32⟩
  | .hbm, ⟨45, _⟩ => ⟨S4096x704, .f32⟩
  | .hbm, ⟨46, _⟩ => ⟨S_, .f32⟩
  | .hbm, ⟨47, _⟩ => ⟨S4096x704, .f32⟩
  | .hbm, ⟨48, _⟩ => ⟨S4096x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_9 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_11 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Kernel15.lean ====
abbrev S8x352x1024 : Shape := ⟨3, ![8, 352, 1024]⟩
abbrev S1408x1024 : Shape := ⟨2, ![1408, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 27
  | .vmem => 64
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S8x352x1024, .f32⟩
  | .hbm, ⟨3, _⟩ => ⟨S8x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S8x352x1024, .bf16⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S8x352x1024, .bf16⟩
  | .hbm, ⟨13, _⟩ => ⟨S1408x1024, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S8x352x1024, .bf16⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S8x352x1024, .bf16⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S1408x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S8x176x1024, .bf16⟩
  | .local _ .vmem, ⟨17, _⟩ => ⟨S8x176x1024, .bf16⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | .local _ .vmem, ⟨32, _⟩ => ⟨S8x176x1024, .bf16⟩
  | .local _ .vmem, ⟨33, _⟩ => ⟨S8x176x1024, .bf16⟩
  | .local _ .vmem, ⟨34, _⟩ => ⟨S176x1024, .f32⟩
  | .local _ .vmem, ⟨35, _⟩ => ⟨S176x1024, .f32⟩
  | .local _ .vmem, ⟨36, _⟩ => ⟨S176x1024, .f32⟩
  | .local _ .vmem, ⟨37, _⟩ => ⟨S176x1024, .f32⟩
  | .local _ .vmem, ⟨38, _⟩ => ⟨S176x1024, .f32⟩
  | .local _ .vmem, ⟨39, _⟩ => ⟨S176x1024, .f32⟩
  | .local _ .vmem, ⟨40, _⟩ => ⟨S176x1024, .f32⟩
  | .local _ .vmem, ⟨41, _⟩ => ⟨S176x1024, .f32⟩
  | .local _ .vmem, ⟨42, _⟩ => ⟨S176x1024, .f32⟩
  | .local _ .vmem, ⟨43, _⟩ => ⟨S176x1024, .f32⟩
  | .local _ .vmem, ⟨44, _⟩ => ⟨S176x1024, .f32⟩
  | .local _ .vmem, ⟨45, _⟩ => ⟨S176x1024, .f32⟩
  | .local _ .vmem, ⟨46, _⟩ => ⟨S176x1024, .f32⟩
  | .local _ .vmem, ⟨47, _⟩ => ⟨S176x1024, .f32⟩
  | .local _ .vmem, ⟨48, _⟩ => ⟨S8x176x1024, .bf16⟩
  | .local _ .vmem, ⟨49, _⟩ => ⟨S8x176x1024, .bf16⟩
  | .local _ .vmem, ⟨50, _⟩ => ⟨S176x1024, .f32⟩
  | .local _ .vmem, ⟨51, _⟩ => ⟨S176x1024, .f32⟩
  | .local _ .vmem, ⟨52, _⟩ => ⟨S176x1024, .f32⟩
  | .local _ .vmem, ⟨53, _⟩ => ⟨S176x1024, .f32⟩
  | .local _ .vmem, ⟨54, _⟩ => ⟨S176x1024, .f32⟩
  | .local _ .vmem, ⟨55, _⟩ => ⟨S176x1024, .f32⟩
  | .local _ .vmem, ⟨56, _⟩ => ⟨S176x1024, .f32⟩
  | .local _ .vmem, ⟨57, _⟩ => ⟨S176x1024, .f32⟩
  | .local _ .vmem, ⟨58, _⟩ => ⟨S176x1024, .f32⟩
  | .local _ .vmem, ⟨59, _⟩ => ⟨S176x1024, .f32⟩
  | .local _ .vmem, ⟨60, _⟩ => ⟨S176x1024, .f32⟩
  | .local _ .vmem, ⟨61, _⟩ => ⟨S176x1024, .f32⟩
  | .local _ .vmem, ⟨62, _⟩ => ⟨S176x1024, .f32⟩
  | .local _ .vmem, ⟨63, _⟩ => ⟨S176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage1_0 : Fin 2 → Memref sig .tc .vmem S8x176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage2_0 : Fin 2 → Memref sig .tc .vmem S8x176x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S176x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S176x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S176x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S176x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S176x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S176x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S176x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_3 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_8 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_9 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_10 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_11 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage3_0 : Fin 2 → Memref sig .tc .vmem S8x176x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S176x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S176x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S176x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S176x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S176x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S176x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S176x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference15Ideal.lean ====
abbrev S8x352x1024 : Shape := ⟨3, ![8, 352, 1024]⟩
abbrev S1408x1024 : Shape := ⟨2, ![1408, 1024]⟩
abbrev S_ : Shape := ⟨0, ![]⟩
abbrev S352x1024 : Shape := ⟨2, ![352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S8x352x1024, .f32⟩
  | .hbm, ⟨3, _⟩ => ⟨S8x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S1408x1024, .f32⟩
  | .hbm, ⟨16, _⟩ => ⟨S_, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S1408x1024, .f32⟩
  | .hbm, ⟨23, _⟩ => ⟨S_, .f32⟩
  | .hbm, ⟨24, _⟩ => ⟨S1408x1024, .f32⟩
  | .hbm, ⟨25, _⟩ => ⟨S1408x1024, .f32⟩
  | .hbm, ⟨26, _⟩ => ⟨S1408x1024, .f32⟩
  | .hbm, ⟨27, _⟩ => ⟨S_, .f32⟩
  | .hbm, ⟨28, _⟩ => ⟨S1408x1024, .f32⟩
  | .hbm, ⟨29, _⟩ => ⟨S1408x1024, .f32⟩
  | .hbm, ⟨30, _⟩ => ⟨S1408x1024, .f32⟩
  | .hbm, ⟨31, _⟩ => ⟨S_, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | .hbm, ⟨37, _⟩ => ⟨S1408x1024, .f32⟩
  | .hbm, ⟨38, _⟩ => ⟨S_, .f32⟩
  | .hbm, ⟨39, _⟩ => ⟨S1408x1024, .f32⟩
  | .hbm, ⟨40, _⟩ => ⟨S1408x1024, .f32⟩
  | .hbm, ⟨41, _⟩ => ⟨S1408x1024, .f32⟩
  | .hbm, ⟨42, _⟩ => ⟨S_, .f32⟩
  | .hbm, ⟨43, _⟩ => ⟨S1408x1024, .f32⟩
  | .hbm, ⟨44, _⟩ => ⟨S1408x1024, .f32⟩
  | .hbm, ⟨45, _⟩ => ⟨S1408x1024, .f32⟩
  | .hbm, ⟨46, _⟩ => ⟨S_, .f32⟩
  | .hbm, ⟨47, _⟩ => ⟨S1408x1024, .f32⟩
  | .hbm, ⟨48, _⟩ => ⟨S1408x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_9 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_11 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Kernel16.lean ====
abbrev S8x1024x1154 : Shape := ⟨3, ![8, 1024, 1154]⟩
abbrev S4096x1154 : Shape := ⟨2, ![4096, 1154]⟩
abbrev S8x256x1154 : Shape := ⟨3, ![8, 256, 1154]⟩
abbrev S256x1154 : Shape := ⟨2, ![256, 1154]⟩
abbrev S1x256x1154 : Shape := ⟨3, ![1, 256, 1154]⟩

abbrev nBuf : Space → Nat
  | .hbm => 27
  | .vmem => 64
  | .smem => 0
  | _ => 0

abbrev bufTy : (tb : Table) → Fin (tcTables nBuf tb) → BufTy
  | .hbm, ⟨0, _⟩ => ⟨S8x1024x1154, .f32⟩
  | .hbm, ⟨1, _⟩ => ⟨S8x1024x1154, .f32⟩
  | .hbm, ⟨2, _⟩ => ⟨S8x1024x1154, .f32⟩
  | .hbm, ⟨3, _⟩ => ⟨S8x1024x1154, .f32⟩
  | .hbm, ⟨4, _⟩ => ⟨S4096x1154, .f32⟩
  | .hbm, ⟨5, _⟩ => ⟨S4096x1154, .f32⟩
  | .hbm, ⟨6, _⟩ => ⟨S4096x1154, .f32⟩
  | .hbm, ⟨7, _⟩ => ⟨S8x1024x1154, .bf16⟩
  | .hbm, ⟨8, _⟩ => ⟨S4096x1154, .f32⟩
  | .hbm, ⟨9, _⟩ => ⟨S4096x1154, .f32⟩
  | .hbm, ⟨10, _⟩ => ⟨S4096x1154, .f32⟩
  | .hbm, ⟨11, _⟩ => ⟨S4096x1154, .f32⟩
  | .hbm, ⟨12, _⟩ => ⟨S8x1024x1154, .bf16⟩
  | .hbm, ⟨13, _⟩ => ⟨S4096x1154, .f32⟩
  | .hbm, ⟨14, _⟩ => ⟨S4096x1154, .f32⟩
  | .hbm, ⟨15, _⟩ => ⟨S4096x1154, .f32⟩
  | .hbm, ⟨16, _⟩ => ⟨S4096x1154, .f32⟩
  | .hbm, ⟨17, _⟩ => ⟨S8x1024x1154, .bf16⟩
  | .hbm, ⟨18, _⟩ => ⟨S4096x1154, .f32⟩
  | .hbm, ⟨19, _⟩ => ⟨S4096x1154, .f32⟩
  | .hbm, ⟨20, _⟩ => ⟨S4096x1154, .f32⟩
  | .hbm, ⟨21, _⟩ => ⟨S4096x1154, .f32⟩
  | .hbm, ⟨22, _⟩ => ⟨S8x1024x1154, .bf16⟩
  | .hbm, ⟨23, _⟩ => ⟨S4096x1154, .f32⟩
  | .hbm, ⟨24, _⟩ => ⟨S4096x1154, .f32⟩
  | .hbm, ⟨25, _⟩ => ⟨S4096x1154, .f32⟩
  | .hbm, ⟨26, _⟩ => ⟨S4096x1154, .f32⟩
  | .local _ .vmem, ⟨0, _⟩ => ⟨S8x256x1154, .bf16⟩
  | .local _ .vmem, ⟨1, _⟩ => ⟨S8x256x1154, .bf16⟩
  | .local _ .vmem, ⟨2, _⟩ => ⟨S256x1154, .f32⟩
  | .local _ .vmem, ⟨3, _⟩ => ⟨S256x1154, .f32⟩
  | .local _ .vmem, ⟨4, _⟩ => ⟨S256x1154, .f32⟩
  | .local _ .vmem, ⟨5, _⟩ => ⟨S256x1154, .f32⟩
  | .local _ .vmem, ⟨6, _⟩ => ⟨S256x1154, .f32⟩
  | .local _ .vmem, ⟨7, _⟩ => ⟨S256x1154, .f32⟩
  | .local _ .vmem, ⟨8, _⟩ => ⟨S256x1154, .f32⟩
  | .local _ .vmem, ⟨9, _⟩ => ⟨S256x1154, .f32⟩
  | .local _ .vmem, ⟨10, _⟩ => ⟨S256x1154, .f32⟩
  | .local _ .vmem, ⟨11, _⟩ => ⟨S256x1154, .f32⟩
  | .local _ .vmem, ⟨12, _⟩ => ⟨S256x1154, .f32⟩
  | .local _ .vmem, ⟨13, _⟩ => ⟨S256x1154, .f32⟩
  | .local _ .vmem, ⟨14, _⟩ => ⟨S256x1154, .f32⟩
  | .local _ .vmem, ⟨15, _⟩ => ⟨S256x1154, .f32⟩
  | .local _ .vmem, ⟨16, _⟩ => ⟨S8x256x1154, .bf16⟩
  | .local _ .vmem, ⟨17, _⟩ => ⟨S8x256x1154, .bf16⟩
  | .local _ .vmem, ⟨18, _⟩ => ⟨S256x1154, .f32⟩
  | .local _ .vmem, ⟨19, _⟩ => ⟨S256x1154, .f32⟩
  | .local _ .vmem, ⟨20, _⟩ => ⟨S256x1154, .f32⟩
  | .local _ .vmem, ⟨21, _⟩ => ⟨S256x1154, .f32⟩
  | .local _ .vmem, ⟨22, _⟩ => ⟨S256x1154, .f32⟩
  | .local _ .vmem, ⟨23, _⟩ => ⟨S256x1154, .f32⟩
  | .local _ .vmem, ⟨24, _⟩ => ⟨S256x1154, .f32⟩
  | .local _ .vmem, ⟨25, _⟩ => ⟨S256x1154, .f32⟩
  | .local _ .vmem, ⟨26, _⟩ => ⟨S256x1154, .f32⟩
  | .local _ .vmem, ⟨27, _⟩ => ⟨S256x1154, .f32⟩
  | .local _ .vmem, ⟨28, _⟩ => ⟨S256x1154, .f32⟩
  | .local _ .vmem, ⟨29, _⟩ => ⟨S256x1154, .f32⟩
  | .local _ .vmem, ⟨30, _⟩ => ⟨S256x1154, .f32⟩
  | .local _ .vmem, ⟨31, _⟩ => ⟨S256x1154, .f32⟩
  | .local _ .vmem, ⟨32, _⟩ => ⟨S8x256x1154, .bf16⟩
  | .local _ .vmem, ⟨33, _⟩ => ⟨S8x256x1154, .bf16⟩
  | .local _ .vmem, ⟨34, _⟩ => ⟨S256x1154, .f32⟩
  | .local _ .vmem, ⟨35, _⟩ => ⟨S256x1154, .f32⟩
  | .local _ .vmem, ⟨36, _⟩ => ⟨S256x1154, .f32⟩
  | .local _ .vmem, ⟨37, _⟩ => ⟨S256x1154, .f32⟩
  | .local _ .vmem, ⟨38, _⟩ => ⟨S256x1154, .f32⟩
  | .local _ .vmem, ⟨39, _⟩ => ⟨S256x1154, .f32⟩
  | .local _ .vmem, ⟨40, _⟩ => ⟨S256x1154, .f32⟩
  | .local _ .vmem, ⟨41, _⟩ => ⟨S256x1154, .f32⟩
  | .local _ .vmem, ⟨42, _⟩ => ⟨S256x1154, .f32⟩
  | .local _ .vmem, ⟨43, _⟩ => ⟨S256x1154, .f32⟩
  | .local _ .vmem, ⟨44, _⟩ => ⟨S256x1154, .f32⟩
  | .local _ .vmem, ⟨45, _⟩ => ⟨S256x1154, .f32⟩
  | .local _ .vmem, ⟨46, _⟩ => ⟨S256x1154, .f32⟩
  | .local _ .vmem, ⟨47, _⟩ => ⟨S256x1154, .f32⟩
  | .local _ .vmem, ⟨48, _⟩ => ⟨S8x256x1154, .bf16⟩
  | .local _ .vmem, ⟨49, _⟩ => ⟨S8x256x1154, .bf16⟩
  | .local _ .vmem, ⟨50, _⟩ => ⟨S256x1154, .f32⟩
  | .local _ .vmem, ⟨51, _⟩ => ⟨S256x1154, .f32⟩
  | .local _ .vmem, ⟨52, _⟩ => ⟨S256x1154, .f32⟩
  | .local _ .vmem, ⟨53, _⟩ => ⟨S256x1154, .f32⟩
  | .local _ .vmem, ⟨54, _⟩ => ⟨S256x1154, .f32⟩
  | .local _ .vmem, ⟨55, _⟩ => ⟨S256x1154, .f32⟩
  | .local _ .vmem, ⟨56, _⟩ => ⟨S256x1154, .f32⟩
  | .local _ .vmem, ⟨57, _⟩ => ⟨S256x1154, .f32⟩
  | .local _ .vmem, ⟨58, _⟩ => ⟨S256x1154, .f32⟩
  | .local _ .vmem, ⟨59, _⟩ => ⟨S256x1154, .f32⟩
  | .local _ .vmem, ⟨60, _⟩ => ⟨S256x1154, .f32⟩
  | .local _ .vmem, ⟨61, _⟩ => ⟨S256x1154, .f32⟩
  | .local _ .vmem, ⟨62, _⟩ => ⟨S256x1154, .f32⟩
  | .local _ .vmem, ⟨63, _⟩ => ⟨S256x1154, .f32⟩
  | _, _ => ⟨S8x1024x1154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

abbrev stage0_0 : Fin 2 → Memref sig .tc .vmem S8x256x1154 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1154 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1154 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage1_0 : Fin 2 → Memref sig .tc .vmem S8x256x1154 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1154 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1154 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1154 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1154 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1154 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1154 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1154 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage2_0 : Fin 2 → Memref sig .tc .vmem S8x256x1154 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1154 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1154 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1154 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1154 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1154 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1154 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1154 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_3 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_8 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_9 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_10 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_11 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage3_0 : Fin 2 → Memref sig .tc .vmem S8x256x1154 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1154 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1154 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1154 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1154 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1154 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1154 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x1154 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference16Ideal.lean ====
abbrev S8x1024x1154 : Shape := ⟨3, ![8, 1024, 1154]⟩
abbrev S4096x1154 : Shape := ⟨2, ![4096, 1154]⟩
abbrev S_ : Shape := ⟨0, ![]⟩
abbrev S1024x1154 : Shape := ⟨2, ![1024, 1154]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x1154, .f32⟩
  | .hbm, ⟨1, _⟩ => ⟨S8x1024x1154, .f32⟩
  | .hbm, ⟨2, _⟩ => ⟨S8x1024x1154, .f32⟩
  | .hbm, ⟨3, _⟩ => ⟨S8x1024x1154, .f32⟩
  | .hbm, ⟨4, _⟩ => ⟨S4096x1154, .f32⟩
  | .hbm, ⟨5, _⟩ => ⟨S4096x1154, .f32⟩
  | .hbm, ⟨6, _⟩ => ⟨S4096x1154, .f32⟩
  | .hbm, ⟨7, _⟩ => ⟨S_, .f32⟩
  | .hbm, ⟨8, _⟩ => ⟨S1024x1154, .f32⟩
  | .hbm, ⟨9, _⟩ => ⟨S_, .f32⟩
  | .hbm, ⟨10, _⟩ => ⟨S1024x1154, .f32⟩
  | .hbm, ⟨11, _⟩ => ⟨S_, .f32⟩
  | .hbm, ⟨12, _⟩ => ⟨S1024x1154, .f32⟩
  | .hbm, ⟨13, _⟩ => ⟨S_, .f32⟩
  | .hbm, ⟨14, _⟩ => ⟨S1024x1154, .f32⟩
  | .hbm, ⟨15, _⟩ => ⟨S4096x1154, .f32⟩
  | .hbm, ⟨16, _⟩ => ⟨S_, .f32⟩
  | .hbm, ⟨17, _⟩ => ⟨S4096x1154, .f32⟩
  | .hbm, ⟨18, _⟩ => ⟨S4096x1154, .f32⟩
  | .hbm, ⟨19, _⟩ => ⟨S_, .f32⟩
  | .hbm, ⟨20, _⟩ => ⟨S4096x1154, .f32⟩
  | .hbm, ⟨21, _⟩ => ⟨S4096x1154, .f32⟩
  | .hbm, ⟨22, _⟩ => ⟨S4096x1154, .f32⟩
  | .hbm, ⟨23, _⟩ => ⟨S_, .f32⟩
  | .hbm, ⟨24, _⟩ => ⟨S4096x1154, .f32⟩
  | .hbm, ⟨25, _⟩ => ⟨S4096x1154, .f32⟩
  | .hbm, ⟨26, _⟩ => ⟨S4096x1154, .f32⟩
  | .hbm, ⟨27, _⟩ => ⟨S_, .f32⟩
  | .hbm, ⟨28, _⟩ => ⟨S4096x1154, .f32⟩
  | .hbm, ⟨29, _⟩ => ⟨S4096x1154, .f32⟩
  | .hbm, ⟨30, _⟩ => ⟨S4096x1154, .f32⟩
  | .hbm, ⟨31, _⟩ => ⟨S_, .f32⟩
  | .hbm, ⟨32, _⟩ => ⟨S4096x1154, .f32⟩
  | .hbm, ⟨33, _⟩ => ⟨S4096x1154, .f32⟩
  | .hbm, ⟨34, _⟩ => ⟨S_, .f32⟩
  | .hbm, ⟨35, _⟩ => ⟨S4096x1154, .f32⟩
  | .hbm, ⟨36, _⟩ => ⟨S4096x1154, .f32⟩
  | .hbm, ⟨37, _⟩ => ⟨S4096x1154, .f32⟩
  | .hbm, ⟨38, _⟩ => ⟨S_, .f32⟩
  | .hbm, ⟨39, _⟩ => ⟨S4096x1154, .f32⟩
  | .hbm, ⟨40, _⟩ => ⟨S4096x1154, .f32⟩
  | .hbm, ⟨41, _⟩ => ⟨S4096x1154, .f32⟩
  | .hbm, ⟨42, _⟩ => ⟨S_, .f32⟩
  | .hbm, ⟨43, _⟩ => ⟨S4096x1154, .f32⟩
  | .hbm, ⟨44, _⟩ => ⟨S4096x1154, .f32⟩
  | .hbm, ⟨45, _⟩ => ⟨S4096x1154, .f32⟩
  | .hbm, ⟨46, _⟩ => ⟨S_, .f32⟩
  | .hbm, ⟨47, _⟩ => ⟨S4096x1154, .f32⟩
  | .hbm, ⟨48, _⟩ => ⟨S4096x1154, .f32⟩
  | _, _ => ⟨S8x1024x1154, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_9 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_11 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Kernel17.lean ====
abbrev S2048x1024 : Shape := ⟨2, ![2048, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel18.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference18Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel19.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel20.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S2048x1024, .bf16⟩
  | .hbm, ⟨4, _⟩ => ⟨S1024x1024, .bf16⟩
  | .hbm, ⟨5, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S2048x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel22.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel24.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S2048x1024 : Shape := ⟨2, ![2048, 1024]⟩
abbrev S2048x9216 : Shape := ⟨2, ![2048, 9216]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x9216, .f32⟩
  | .hbm, ⟨3, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference25Ideal.lean ====
abbrev S2048x1024 : Shape := ⟨2, ![2048, 1024]⟩
abbrev S2048x9216 : Shape := ⟨2, ![2048, 9216]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x9216, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel26.lean ====
abbrev S2048x1024 : Shape := ⟨2, ![2048, 1024]⟩
abbrev S2048x9216 : Shape := ⟨2, ![2048, 9216]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x9216, .f32⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference26Ideal.lean ====
abbrev S2048x1024 : Shape := ⟨2, ![2048, 1024]⟩
abbrev S2048x9216 : Shape := ⟨2, ![2048, 9216]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x9216, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .bf16⟩
  | .hbm, ⟨42, _⟩ => ⟨S2048x1024, .bf16⟩
  | .hbm, ⟨43, _⟩ => ⟨S2048x1024, .bf16⟩
  | .hbm, ⟨44, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel27.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .local _ .vmem, ⟨0, _⟩ => ⟨S2048x1024, .bf16⟩
  | .local _ .vmem, ⟨1, _⟩ => ⟨S2048x512, .f32⟩
  | .local _ .vmem, ⟨2, _⟩ => ⟨S2048x512, .f32⟩
  | .local _ .vmem, ⟨3, _⟩ => ⟨S1024x512, .bf16⟩
  | .local _ .vmem, ⟨4, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel28.lean ====
abbrev S2048x1024 : Shape := ⟨2, ![2048, 1024]⟩
abbrev S1024x128 : Shape := ⟨2, ![1024, 128]⟩
abbrev S2048x128 : Shape := ⟨2, ![2048, 128]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x128, .f32⟩
  | .hbm, ⟨2, _⟩ => ⟨S2048x1024, .bf16⟩
  | .hbm, ⟨3, _⟩ => ⟨S1024x128, .bf16⟩
  | .hbm, ⟨4, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x128, .f32⟩
  | .hbm, ⟨2, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S2048x1024 : Shape := ⟨2, ![2048, 1024]⟩
abbrev S2048x128 : Shape := ⟨2, ![2048, 128]⟩
abbrev S1024x128 : Shape := ⟨2, ![1024, 128]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S2048x1024, .bf16⟩
  | .hbm, ⟨3, _⟩ => ⟨S2048x128, .bf16⟩
  | .hbm, ⟨4, _⟩ => ⟨S1024x128, .bf16⟩
  | .local _ .vmem, ⟨0, _⟩ => ⟨S2048x1024, .bf16⟩
  | .local _ .vmem, ⟨1, _⟩ => ⟨S2048x128, .bf16⟩
  | .local _ .vmem, ⟨2, _⟩ => ⟨S1024x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference29Ideal.lean ====
abbrev S2048x1024 : Shape := ⟨2, ![2048, 1024]⟩
abbrev S2048x128 : Shape := ⟨2, ![2048, 128]⟩
abbrev S128x1024 : Shape := ⟨2, ![128, 1024]⟩
abbrev S1024x128 : Shape := ⟨2, ![1024, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S128x1024, .f32⟩
  | .hbm, ⟨3, _⟩ => ⟨S1024x128, .f32⟩
  | .hbm, ⟨4, _⟩ => ⟨S1024x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S2048x128 : Shape := ⟨2, ![2048, 128]⟩
abbrev S1024x128 : Shape := ⟨2, ![1024, 128]⟩
abbrev S2048x1024 : Shape := ⟨2, ![2048, 1024]⟩
abbrev S512x128 : Shape := ⟨2, ![512, 128]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S1024x128, .f32⟩
  | .hbm, ⟨2, _⟩ => ⟨S2048x128, .bf16⟩
  | .hbm, ⟨3, _⟩ => ⟨S1024x128, .bf16⟩
  | .hbm, ⟨4, _⟩ => ⟨S2048x1024, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1024x512, .f32⟩
  | .local _ .vmem, ⟨5, _⟩ => ⟨S1024x512, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S2048x128 : Shape := ⟨2, ![2048, 128]⟩
abbrev S1024x128 : Shape := ⟨2, ![1024, 128]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S1024x128, .f32⟩
  | .hbm, ⟨2, _⟩ => ⟨S2048x1024, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Loops.lean ====
/- The loop over blocks of 128 query rows of the attention's gradient: one trip at a symbolic block, and the pieces that the
   trips leave in the three accumulators. The loop over key tiles inside it goes by its generated invariant. -/
module

public import proofs.«01_k».proof.Proof.Gen.KernelIdeal.Loops
public import proofs.«01_k».proof.Proof.Gen.KernelIdeal.Frame

@[expose] public section

set_option maxRecDepth 16384
set_option maxHeartbeats 4000000

noncomputable section

namespace Cert.Proof.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip over a block of query rows touches: it reads the row totals and the four staged operands at their
   contents, and it writes the three accumulators, which it finds at any contents. -/
abbrev RowTrip (c : Dev nD) (arg6 : Memref sig .tc .vmem S2048x512 .f32) (arg13 : Memref sig .tc .vmem S4x2048x128 .bf16) (arg14 : Memref sig .tc .vmem S4x2048x128 .bf16) (arg15 : Memref sig .tc .vmem S4x2048x128 .bf16) (arg16 : Memref sig .tc .vmem S4x2048x128 .bf16) (arg17 : Memref sig .tc .vmem S4x2048x128 .f32) (arg18 : Memref sig .tc .vmem S4x2048x128 .f32) (arg19 : Memref sig .tc .vmem S4x2048x128 .f32) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (f_arg17 : BufTy.Contents (Elt F) arg17.view.ty) (f_arg18 : BufTy.Contents (Elt F) arg18.view.ty) (f_arg19 : BufTy.Contents (Elt F) arg19.view.ty) : sProp 𝕄G :=
  iprop((arg6.view.loc (c : Thread nD τ) ↦[arg6.view.set]{fullShare} X_arg6) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19))

/-- One trip at a symbolic block of rows: the pieces it writes into the three accumulators are functions of the contents it
   finds there, since the key tiles' loop inside adds to what it reads back. -/
@[irreducible] def rowTrip (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (arg0 : BitVec 32) (v200 : IVec S128x128 32) (v201 : IVec S128x128 32) (v206 : FVec F S128x128 .bf16) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (k : Fin k0_t1_loop.trips) :
    Σ' (L_arg17 : (BufTy.Contents (Elt F) arg18.view.ty → BufTy.Contents (Elt F) arg19.view.ty → List (View.Piece (Elt F) S4x2048x128 .f32))) (L_arg18 : (BufTy.Contents (Elt F) arg18.view.ty → BufTy.Contents (Elt F) arg19.view.ty → List (View.Piece (Elt F) S4x2048x128 .f32))) , { L_arg19 : (BufTy.Contents (Elt F) arg18.view.ty → BufTy.Contents (Elt F) arg19.view.ty → List (View.Piece (Elt F) S4x2048x128 .f32)) // ∀ (E : Set ℕ) (f_arg17 : BufTy.Contents (Elt F) arg17.view.ty) (f_arg18 : BufTy.Contents (Elt F) arg18.view.ty) (f_arg19 : BufTy.Contents (Elt F) arg19.view.ty),
      RowTrip (F := F) c arg6 arg13 arg14 arg15 arg16 arg17 arg18 arg19 X_arg6 X_arg13 X_arg14 X_arg15 X_arg16 f_arg17 f_arg18 f_arg19
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 k PUnit.unit)
          (fun _ => RowTrip (F := F) c arg6 arg13 arg14 arg15 arg16 arg17 arg18 arg19 X_arg6 X_arg13 X_arg14 X_arg15 X_arg16 (arg17.view.writes (Elt F) f_arg17 (L_arg17 f_arg18 f_arg19)) (arg18.view.writes (Elt F) f_arg18 (L_arg18 f_arg18 f_arg19)) (arg19.view.writes (Elt F) f_arg19 (L_arg19 f_arg18 f_arg19))) } := by
  have hk : k.val < 16 := Nat.lt_of_lt_of_le k.isLt k0_t1_abs.2.1
  refine ⟨?_, ?_, ?_, fun E f_arg17 f_arg18 f_arg19 => ?run⟩
  case run =>
    unfold k0_t1_body
    iintro ⟨HR_arg6, HR_arg13, HR_arg14, HR_arg15, HR_arg16, HW_arg17, HW_arg18, HW_arg19⟩
    sl_exec
    sl_step
    sl_close

/-- The pieces of one trip, per accumulator, at the contents the trip finds. -/
abbrev rowPieces (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (arg0 : BitVec 32) (v200 : IVec S128x128 32) (v201 : IVec S128x128 32) (v206 : FVec F S128x128 .bf16) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (k : Fin k0_t1_loop.trips) (f_arg18 : BufTy.Contents (Elt F) arg18.view.ty) (f_arg19 : BufTy.Contents (Elt F) arg19.view.ty) : List (View.Piece (Elt F) S4x2048x128 .f32) × List (View.Piece (Elt F) S4x2048x128 .f32) × List (View.Piece (Elt F) S4x2048x128 .f32) :=
  ((rowTrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 k).1 f_arg18 f_arg19, (rowTrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 k).2.1 f_arg18 f_arg19, (rowTrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 k).2.2.1 f_arg18 f_arg19)

/-- Adds trip `k`'s pieces in front of those of the trips before it; past the last trip, nothing. -/
@[irreducible] def rowsBeforeStep (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (arg0 : BitVec 32) (v200 : IVec S128x128 32) (v201 : IVec S128x128 32) (v206 : FVec F S128x128 .bf16) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg18 : BufTy.Contents (Elt F) arg18.view.ty) (G_arg19 : BufTy.Contents (Elt F) arg19.view.ty) (k : ℕ) (prev : List (View.Piece (Elt F) S4x2048x128 .f32) × List (View.Piece (Elt F) S4x2048x128 .f32) × List (View.Piece (Elt F) S4x2048x128 .f32)) : List (View.Piece (Elt F) S4x2048x128 .f32) × List (View.Piece (Elt F) S4x2048x128 .f32) × List (View.Piece (Elt F) S4x2048x128 .f32) :=
  if h : k < k0_t1_loop.trips then
    ((rowPieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 ⟨k, h⟩ (arg18.view.writes (Elt F) G_arg18 prev.2.1) (arg19.view.writes (Elt F) G_arg19 prev.2.2)).1 ++ prev.1, (rowPieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 ⟨k, h⟩ (arg18.view.writes (Elt F) G_arg18 prev.2.1) (arg19.view.writes (Elt F) G_arg19 prev.2.2)).2.1 ++ prev.2.1, (rowPieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 ⟨k, h⟩ (arg18.view.writes (Elt F) G_arg18 prev.2.1) (arg19.view.writes (Elt F) G_arg19 prev.2.2)).2.2 ++ prev.2.2)
  else prev

/-- The pieces of the trips before trip `k`, last first, from the contents at loop entry. -/
def rowsBefore (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (arg0 : BitVec 32) (v200 : IVec S128x128 32) (v201 : IVec S128x128 32) (v206 : FVec F S128x128 .bf16) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg18 : BufTy.Contents (Elt F) arg18.view.ty) (G_arg19 : BufTy.Contents (Elt F) arg19.view.ty) : ℕ → List (View.Piece (Elt F) S4x2048x128 .f32) × List (View.Piece (Elt F) S4x2048x128 .f32) × List (View.Piece (Elt F) S4x2048x128 .f32)
  | 0 => ([], [], [])
  | k + 1 => rowsBeforeStep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k (rowsBefore 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k)

theorem rowsBefore_succ (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (arg0 : BitVec 32) (v200 : IVec S128x128 32) (v201 : IVec S128x128 32) (v206 : FVec F S128x128 .bf16) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg18 : BufTy.Contents (Elt F) arg18.view.ty) (G_arg19 : BufTy.Contents (Elt F) arg19.view.ty) (k : Fin k0_t1_loop.trips) :
    rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 (k.val + 1)
      = ((rowPieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 k (arg18.view.writes (Elt F) G_arg18 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k.val).2.1) (arg19.view.writes (Elt F) G_arg19 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k.val).2.2)).1 ++ (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k.val).1, (rowPieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 k (arg18.view.writes (Elt F) G_arg18 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k.val).2.1) (arg19.view.writes (Elt F) G_arg19 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k.val).2.2)).2.1 ++ (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k.val).2.1, (rowPieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 k (arg18.view.writes (Elt F) G_arg18 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k.val).2.1) (arg19.view.writes (Elt F) G_arg19 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k.val).2.2)).2.2 ++ (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k.val).2.2) := by
  rw [rowsBefore.eq_2]; unfold rowsBeforeStep; exact dif_pos k.isLt

/-- Before trip `k` the operands are at their contents and every accumulator holds the pieces of the trips before. -/
abbrev rowsInv (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (arg0 : BitVec 32) (v200 : IVec S128x128 32) (v201 : IVec S128x128 32) (v206 : FVec F S128x128 .bf16) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg17 : BufTy.Contents (Elt F) arg17.view.ty) (G_arg18 : BufTy.Contents (Elt F) arg18.view.ty) (G_arg19 : BufTy.Contents (Elt F) arg19.view.ty) (k : ℕ) (_u : PUnit) : sProp 𝕄G :=
  iprop((arg6.view.loc (c : Thread nD τ) ↦[arg6.view.set]{fullShare} X_arg6) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (∃ f, (arg17.view.loc (c : Thread nD τ) ↦[arg17.view.set]{fullShare} f) ∗ ⌜f = arg17.view.writes (Elt F) G_arg17 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k).1⌝) ∗ (∃ f, (arg18.view.loc (c : Thread nD τ) ↦[arg18.view.set]{fullShare} f) ∗ ⌜f = arg18.view.writes (Elt F) G_arg18 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k).2.1⌝) ∗ (∃ f, (arg19.view.loc (c : Thread nD τ) ↦[arg19.view.set]{fullShare} f) ∗ ⌜f = arg19.view.writes (Elt F) G_arg19 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k).2.2⌝))

set_option warn.classDefReducibility false in
/-- The loop over blocks of rows by its invariant. -/
@[sl_loop] def rowsLoop (𝒱 : Variants) (c : Dev nD) (bd : Option 𝒱.V) (E : Set ℕ) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (arg0 : BitVec 32) (v200 : IVec S128x128 32) (v201 : IVec S128x128 32) (v206 : FVec F S128x128 .bf16) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg17 : BufTy.Contents (Elt F) arg17.view.ty) (G_arg18 : BufTy.Contents (Elt F) arg18.view.ty) (G_arg19 : BufTy.Contents (Elt F) arg19.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 where
  inv := rowsInv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg17 G_arg18 G_arg19
  step k acc := by
    iintro ⟨HR_arg6, HR_arg13, HR_arg14, HR_arg15, HR_arg16, ⟨%f_arg17, HW_arg17, %h_arg17⟩, ⟨%f_arg18, HW_arg18, %h_arg18⟩, ⟨%f_arg19, HW_arg19, %h_arg19⟩⟩
    iapply (wp_wand_r Idealize.ShloMosaic.frame (wpE (defs₀ (F := F)) 𝒱 (c : Thread nD τ) bd) E)
    isplitl [HR_arg6 HR_arg13 HR_arg14 HR_arg15 HR_arg16 HW_arg17 HW_arg18 HW_arg19]
    · iapply ((rowTrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 k).2.2.2 E f_arg17 f_arg18 f_arg19)
      isplitl [HR_arg6]; · iexact HR_arg6
      isplitl [HR_arg13]; · iexact HR_arg13
      isplitl [HR_arg14]; · iexact HR_arg14
      isplitl [HR_arg15]; · iexact HR_arg15
      isplitl [HR_arg16]; · iexact HR_arg16
      isplitl [HW_arg17]; · iexact HW_arg17
      isplitl [HW_arg18]; · iexact HW_arg18
      iexact HW_arg19
    · iintro %_ ⟨HR_arg6, HR_arg13, HR_arg14, HR_arg15, HR_arg16, HW_arg17, HW_arg18, HW_arg19⟩
      isplitl [HR_arg6]; · iexact HR_arg6
      isplitl [HR_arg13]; · iexact HR_arg13
      isplitl [HR_arg14]; · iexact HR_arg14
      isplitl [HR_arg15]; · iexact HR_arg15
      isplitl [HR_arg16]; · iexact HR_arg16
      rw [rowsBefore_succ]
      isplitl [HW_arg17]
      · iexists _; isplitl [HW_arg17]; · iexact HW_arg17
        ipureintro; rw [h_arg17, h_arg18, h_arg19, ← View.writes_append]
      isplitl [HW_arg18]
      · iexists _; isplitl [HW_arg18]; · iexact HW_arg18
        ipureintro; rw [h_arg18, h_arg19, ← View.writes_append]
      iexists _; isplitl [HW_arg19]; · iexact HW_arg19
      ipureintro; rw [h_arg18, h_arg19, ← View.writes_append]

/-- What a trip stores into the query gradient's accumulator is one piece: its own block of rows. -/
theorem rowTrip_fst (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (arg0 : BitVec 32) (v200 : IVec S128x128 32) (v201 : IVec S128x128 32) (v206 : FVec F S128x128 .bf16) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (k : Fin k0_t1_loop.trips) (f_arg18 : BufTy.Contents (Elt F) arg18.view.ty) (f_arg19 : BufTy.Contents (Elt F) arg19.view.ty) :
    ∃ w, (rowTrip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 k).1 f_arg18 f_arg19 = [⟨Rect.unit (s := S4x2048x128) (k0_off1 k) S4x128x128.size (k0_off1_inb k), w⟩] := by
  unfold rowTrip; exact ⟨_, rfl⟩

/-- The blocks of rows before trip `k` are covered by the pieces of the trips before. -/
theorem rowsBefore_cover (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (arg0 : BitVec 32) (v200 : IVec S128x128 32) (v201 : IVec S128x128 32) (v206 : FVec F S128x128 .bf16) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg18 : BufTy.Contents (Elt F) arg18.view.ty) (G_arg19 : BufTy.Contents (Elt F) arg19.view.ty) : ∀ k : ℕ, k ≤ 16 → ∀ y : S4x2048x128.Idx, (y 1).val < 128 * k →
      ∃ p ∈ (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k).1, y ∈ p.1.set
  | 0, _, y, h => absurd h (by omega)
  | k + 1, hk, y, h => by
    have hT : k0_t1_loop.trips = 16 := by decide +kernel
    have e := rowsBefore_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 ⟨k, by omega⟩
    dsimp only at e
    rw [e]
    by_cases hy : (y 1).val < 128 * k
    · obtain ⟨p, hp, hm⟩ := rowsBefore_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k (by omega) y hy
      exact ⟨p, List.mem_append_right _ hp, hm⟩
    · dsimp only
      obtain ⟨w, hw⟩ := rowTrip_fst (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 ⟨k, by omega⟩ (arg18.view.writes (Elt F) G_arg18 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k).2.1) (arg19.view.writes (Elt F) G_arg19 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 k).2.2)
      refine ⟨⟨Rect.unit (s := S4x2048x128) (k0_off1 ⟨k, by omega⟩) S4x128x128.size (k0_off1_inb ⟨k, by omega⟩), w⟩, List.mem_append_left _ (by rw [hw]; exact List.mem_singleton_self _), ?_⟩
      refine (Rect.mem_set_unit (inb := k0_off1_inb ⟨k, by omega⟩)).mpr fun a => ?_
      rw [k0_off1_eq]
      have h0 : (y 0).val < 4 := (y 0).isLt
      have h2 : (y 2).val < 128 := (y 2).isLt
      fin_cases a
      · exact ⟨Nat.zero_le _, by show (y 0).val < 0 + 4; omega⟩
      · exact ⟨by show 128 * k ≤ (y 1).val; omega, by show (y 1).val < 128 * k + 128; omega⟩
      · exact ⟨Nat.zero_le _, by show (y 2).val < 0 + 128; omega⟩

/-- What the sixteen trips leave in the three accumulators. -/
@[irreducible] def rowsAcc (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (arg0 : BitVec 32) (v200 : IVec S128x128 32) (v201 : IVec S128x128 32) (v206 : FVec F S128x128 .bf16) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg18 : BufTy.Contents (Elt F) arg18.view.ty) (G_arg19 : BufTy.Contents (Elt F) arg19.view.ty) : Vec F S4x2048x128 .f32 × Vec F S4x2048x128 .f32 × Vec F S4x2048x128 .f32 :=
  (View.canon (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 16).1,
   arg18.view.read (Elt F) (arg18.view.writes (Elt F) G_arg18 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 16).2.1),
   arg19.view.read (Elt F) (arg19.view.writes (Elt F) G_arg19 (rowsBefore (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 16).2.2))

/-- After the loop every accumulator holds what the trips leave, whatever the query gradient's held before. -/
instance rowsExit (𝒱 : Variants) (c : Dev nD) (bd : Option 𝒱.V) (E : Set ℕ) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (arg0 : BitVec 32) (v200 : IVec S128x128 32) (v201 : IVec S128x128 32) (v206 : FVec F S128x128 .bf16) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg18 : BufTy.Contents (Elt F) arg18.view.ty) (G_arg19 : BufTy.Contents (Elt F) arg19.view.ty) (G_arg17 : BufTy.Contents (Elt F) arg17.view.ty) :
    LoopExit (rowsLoop (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg17 G_arg18 G_arg19) where
  post _ := RowTrip (F := F) c arg6 arg13 arg14 arg15 arg16 arg17 arg18 arg19 X_arg6 X_arg13 X_arg14 X_arg15 X_arg16
    (harg17.unread (rowsAcc (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19).1) (harg18.unread (rowsAcc (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19).2.1) (harg19.unread (rowsAcc (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19).2.2)
  exit acc := by
    have hT : k0_t1_loop.trips = 16 := by decide +kernel
    show rowsInv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg17 G_arg18 G_arg19 k0_t1_loop.trips acc ⊢ _
    rw [hT]
    iintro ⟨HR_arg6, HR_arg13, HR_arg14, HR_arg15, HR_arg16, ⟨%f_arg17, HW_arg17, %h_arg17⟩, ⟨%f_arg18, HW_arg18, %h_arg18⟩, ⟨%f_arg19, HW_arg19, %h_arg19⟩⟩
    have e17 : f_arg17 = harg17.unread (rowsAcc (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19).1 := by
      refine harg17.eq_unread ?_
      unfold rowsAcc; dsimp only
      rw [h_arg17]
      exact View.read_writes_eq_canon _ _ _ fun y => rowsBefore_cover (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19 16 (le_refl _) y (by have := (y 1).isLt; exact this)
    have e18 : f_arg18 = harg18.unread (rowsAcc (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19).2.1 := by
      refine harg18.eq_unread ?_
      unfold rowsAcc; dsimp only
      rw [h_arg18]
    have e19 : f_arg19 = harg19.unread (rowsAcc (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v200 v201 v206 X_arg6 X_arg13 X_arg14 X_arg15 X_arg16 G_arg18 G_arg19).2.2 := by
      refine harg19.eq_unread ?_
      unfold rowsAcc; dsimp only
      rw [h_arg19]
    subst e17 e18 e19
    isplitl [HR_arg6]; · iexact HR_arg6
    isplitl [HR_arg13]; · iexact HR_arg13
    isplitl [HR_arg14]; · iexact HR_arg14
    isplitl [HR_arg15]; · iexact HR_arg15
    isplitl [HR_arg16]; · iexact HR_arg16
    isplitl [HW_arg17]; · iexact HW_arg17
    isplitl [HW_arg18]; · iexact HW_arg18
    iexact HW_arg19

end Cert.Proof.SbBwd

end
-- ==== Proof.Setup.lean ====
/- The names the attention gradient's run is stated over: the test for the first grid point, the staging buffers of
   the twelve windows and the seven scratch buffers. -/
module

public import proofs.«01_k».proof.Proof.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body is at the first grid point: there it clears the two gain gradients. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 2 = 0 :=
  (fun t => by
    have ht : t.val < 2 := Nat.lt_of_lt_of_eq t.isLt N_0
    have e0 : (grid0.coords t 0).val = t.val / 1 % 2 := Pipeline.Grid.coords_val t 0 (by decide) rfl
    simp only [isFirst, e0]
    word_cmp
   : ∀ t : Fin grid0.N, isFirst (grid0.coords t) ↔ t.val % 2 = 0)

abbrev outView7 : View sig .tc .vmem S2048x512 .bf16 := (Memref.whole cc0_stg7_0 : Memref sig .tc .vmem S2048x512 .bf16).view
abbrev outView8 : View sig .tc .vmem S2048x512 .bf16 := (Memref.whole cc0_stg8_0 : Memref sig .tc .vmem S2048x512 .bf16).view
abbrev outView9 : View sig .tc .vmem S2048x512 .bf16 := (Memref.whole cc0_stg9_0 : Memref sig .tc .vmem S2048x512 .bf16).view
abbrev outView10 : View sig .tc .vmem S1x128 .f32 := (Memref.whole cc0_stg10_0 : Memref sig .tc .vmem S1x128 .f32).view
abbrev outView11 : View sig .tc .vmem S1x128 .f32 := (Memref.whole cc0_stg11_0 : Memref sig .tc .vmem S1x128 .f32).view
abbrev stg0 (t : Fin cfg0.N) : Memref sig .tc .vmem S2048x512 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S2048x512 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S2048x512 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x128 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S1x128 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S2048x512 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S2048x512 .f32 := win0_6.stage (cfg0.slots t 6)
abbrev stg6_whole (t : Fin cfg0.N) : (stg6 t).IsWhole := hstage0_6 ((cfg0.slots t 6).cast nbuf0_6)
abbrev stg7 (t : Fin cfg0.N) : Memref sig .tc .vmem S2048x512 .bf16 := win0_7.stage (cfg0.slots t 7)
abbrev stg7_whole (t : Fin cfg0.N) : (stg7 t).IsWhole := hstage0_7 ((cfg0.slots t 7).cast nbuf0_7)
abbrev stg8 (t : Fin cfg0.N) : Memref sig .tc .vmem S2048x512 .bf16 := win0_8.stage (cfg0.slots t 8)
abbrev stg8_whole (t : Fin cfg0.N) : (stg8 t).IsWhole := hstage0_8 ((cfg0.slots t 8).cast nbuf0_8)
abbrev stg9 (t : Fin cfg0.N) : Memref sig .tc .vmem S2048x512 .bf16 := win0_9.stage (cfg0.slots t 9)
abbrev stg9_whole (t : Fin cfg0.N) : (stg9 t).IsWhole := hstage0_9 ((cfg0.slots t 9).cast nbuf0_9)
abbrev stg10 (t : Fin cfg0.N) : Memref sig .tc .vmem S1x128 .f32 := win0_10.stage (cfg0.slots t 10)
abbrev stg10_whole (t : Fin cfg0.N) : (stg10 t).IsWhole := hstage0_10 ((cfg0.slots t 10).cast nbuf0_10)
abbrev stg11 (t : Fin cfg0.N) : Memref sig .tc .vmem S1x128 .f32 := win0_11.stage (cfg0.slots t 11)
abbrev stg11_whole (t : Fin cfg0.N) : (stg11 t).IsWhole := hstage0_11 ((cfg0.slots t 11).cast nbuf0_11)
abbrev scr0 : Memref sig .tc .vmem S4x2048x128 .bf16 := Memref.whole cc0_scratch0
abbrev scr1 : Memref sig .tc .vmem S4x2048x128 .bf16 := Memref.whole cc0_scratch1
abbrev scr2 : Memref sig .tc .vmem S4x2048x128 .bf16 := Memref.whole cc0_scratch2
abbrev scr3 : Memref sig .tc .vmem S4x2048x128 .bf16 := Memref.whole cc0_scratch3
abbrev scr4 : Memref sig .tc .vmem S4x2048x128 .f32 := Memref.whole cc0_scratch4
abbrev scr5 : Memref sig .tc .vmem S4x2048x128 .f32 := Memref.whole cc0_scratch5
abbrev scr6 : Memref sig .tc .vmem S4x2048x128 .f32 := Memref.whole cc0_scratch6

/-- The seven scratch buffers one by one, and the generator register. -/
theorem scopedRest_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r)) := by
  unfold Pipeline.ΦA; rw [scopedRest0_eq]; simp only [scr0, scr1, scr2, scr3, scr4, scr5, scr6, owns_whole]; try rfl

end Cert.Proof.SbBwd

end
-- ==== Proof.RunFirst.lean ====
/- The body of the attention gradient at the first grid point, run once over symbolic contents. -/
module

public import proofs.«01_k».proof.Proof.Setup

@[expose] public section

set_option maxRecDepth 16384

noncomputable section

namespace Cert.Proof.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first grid point, from the inputs' blocks, any outputs and any scratch, the body leaves the inputs as they were
    and each output with the pieces named here (last store first). -/
noncomputable def runFirst (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) :
    Σ' (L7 : List (View.Piece (Elt F) S2048x512 .bf16)), Σ' (L8 : List (View.Piece (Elt F) S2048x512 .bf16)), Σ' (L9 : List (View.Piece (Elt F) S2048x512 .bf16)), Σ' (L10 : List (View.Piece (Elt F) S1x128 .f32)), { L11 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_sb_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_sb_bwd_eq_skeleton]; unfold cc0_sb_bwd_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HL0]
    · iexists _; isplitr; · ipureintro; exact harg6.read_unread _
      iexact HL0
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HL1]
    · iexists _, _; isplitr; swap; · iexact HL1
      ipureintro; rfl
    isplitl [HL2]
    · iexists _, _; isplitr; swap; · iexact HL2
      ipureintro; rfl
    isplitl [HL3]
    · iexists _, _; isplitr; swap; · iexact HL3
      ipureintro; rfl
    isplitl [HL4]
    · iexists _, _; isplitr; swap; · iexact HL4
      ipureintro; rfl
    isplitl [HL5]
    · iexists _, _; isplitr; swap; · iexact HL5
      ipureintro; rfl
    isplitl [HL6]
    · iexists _, _; isplitr; swap; · iexact HL6
      ipureintro; rfl
    iexists _, _; isplitr; swap; · iexact HL7
    ipureintro; rfl

end Cert.Proof.SbBwd

end
-- ==== Proof.RunNext.lean ====
/- The body of the attention gradient at the second grid point, run once over symbolic contents. -/
module

public import proofs.«01_k».proof.Proof.RunFirst

@[expose] public section

set_option maxRecDepth 16384

noncomputable section

namespace Cert.Proof.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the second grid point the two gain gradients are added to what the point before left (`xo10`, `xo11`); the
    rest is as at the first. -/
noncomputable def runNext (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : ¬isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (xo10 : Vec F S1x128 .f32) (xo11 : Vec F S1x128 .f32) :
    Σ' (L7 : List (View.Piece (Elt F) S2048x512 .bf16)), Σ' (L8 : List (View.Piece (Elt F) S2048x512 .bf16)), Σ' (L9 : List (View.Piece (Elt F) S2048x512 .bf16)), Σ' (L10 : List (View.Piece (Elt F) S1x128 .f32)), { L11 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo10 ∗ owns (c : Thread nD τ) arg12 fullShare xo11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_sb_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_sb_bwd_eq_skeleton]; unfold cc0_sb_bwd_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HL0]
    · iexists _; isplitr; · ipureintro; exact harg6.read_unread _
      iexact HL0
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HL1]
    · iexists _, _; isplitr; swap; · iexact HL1
      ipureintro; rfl
    isplitl [HL2]
    · iexists _, _; isplitr; swap; · iexact HL2
      ipureintro; rfl
    isplitl [HL3]
    · iexists _, _; isplitr; swap; · iexact HL3
      ipureintro; rfl
    isplitl [HL4]
    · iexists _, _; isplitr; swap; · iexact HL4
      ipureintro; rfl
    isplitl [HL5]
    · iexists _, _; isplitr; swap; · iexact HL5
      ipureintro; rfl
    isplitl [HL6]
    · iexists _, _; isplitr; swap; · iexact HL6
      ipureintro; rfl
    iexists _, _; isplitr; swap; · iexact HL7
    ipureintro; rfl

end Cert.Proof.SbBwd

end
-- ==== Proof.Frame.lean ====
/- The attention gradient from launch to end: what each grid point leaves, the whole run, and the frame. -/
module

public import proofs.«01_k».proof.Proof.RunNext
public import Idealize.ShloMosaic.Lib.Claim

@[expose] public section

set_option maxRecDepth 16384

noncomputable section

namespace Cert.Proof.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores into each output cover its block (four heads side by side, or the whole row of gains). -/
theorem coverFirst_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (y : S2048x512.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).1 S2048x128.size (by sl_kernel_rfl) y

/-- What the body leaves in an output at the first point. -/
def leftFirst_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) : Vec F S2048x512 .bf16 :=
  outView7.read (Elt F) (outView7.writes (Elt F) outView7.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).1)

theorem coverFirst_8 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (y : S2048x512.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.1 S2048x128.size (by sl_kernel_rfl) y

def leftFirst_8 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) : Vec F S2048x512 .bf16 :=
  outView8.read (Elt F) (outView8.writes (Elt F) outView8.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.1)

theorem coverFirst_9 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (y : S2048x512.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.2.1 S2048x128.size (by sl_kernel_rfl) y

def leftFirst_9 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) : Vec F S2048x512 .bf16 :=
  outView9.read (Elt F) (outView9.writes (Elt F) outView9.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.2.1)

theorem coverFirst_10 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (y : S1x128.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.2.2.1 S1x128.size (by sl_kernel_rfl) y

def leftFirst_10 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) : Vec F S1x128 .f32 :=
  outView10.read (Elt F) (outView10.writes (Elt F) outView10.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.2.2.1)

theorem coverFirst_11 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (y : S1x128.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.2.2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.2.2.2.1 S1x128.size (by sl_kernel_rfl) y

def leftFirst_11 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) : Vec F S1x128 .f32 :=
  outView11.read (Elt F) (outView11.writes (Elt F) outView11.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.2.2.2.1)

theorem coverNext_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : ¬isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (xo10 : Vec F S1x128 .f32) (xo11 : Vec F S1x128 .f32) (y : S2048x512.Idx) :
    ∃ pc ∈ (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).1, y ∈ pc.1.set :=
  View.cover_of_tiledL (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).1 S2048x128.size (by sl_kernel_rfl) y

/-- What the body leaves in an output at the second point. -/
def leftNext_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : ¬isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (xo10 : Vec F S1x128 .f32) (xo11 : Vec F S1x128 .f32) : Vec F S2048x512 .bf16 :=
  outView7.read (Elt F) (outView7.writes (Elt F) outView7.junk (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).1)

theorem coverNext_8 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : ¬isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (xo10 : Vec F S1x128 .f32) (xo11 : Vec F S1x128 .f32) (y : S2048x512.Idx) :
    ∃ pc ∈ (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.1, y ∈ pc.1.set :=
  View.cover_of_tiledL (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.1 S2048x128.size (by sl_kernel_rfl) y

def leftNext_8 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : ¬isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (xo10 : Vec F S1x128 .f32) (xo11 : Vec F S1x128 .f32) : Vec F S2048x512 .bf16 :=
  outView8.read (Elt F) (outView8.writes (Elt F) outView8.junk (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.1)

theorem coverNext_9 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : ¬isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (xo10 : Vec F S1x128 .f32) (xo11 : Vec F S1x128 .f32) (y : S2048x512.Idx) :
    ∃ pc ∈ (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.2.1, y ∈ pc.1.set :=
  View.cover_of_tiledL (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.2.1 S2048x128.size (by sl_kernel_rfl) y

def leftNext_9 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : ¬isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (xo10 : Vec F S1x128 .f32) (xo11 : Vec F S1x128 .f32) : Vec F S2048x512 .bf16 :=
  outView9.read (Elt F) (outView9.writes (Elt F) outView9.junk (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.2.1)

theorem coverNext_10 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : ¬isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (xo10 : Vec F S1x128 .f32) (xo11 : Vec F S1x128 .f32) (y : S1x128.Idx) :
    ∃ pc ∈ (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.2.2.1, y ∈ pc.1.set :=
  View.cover_of_tiledL (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.2.2.1 S1x128.size (by sl_kernel_rfl) y

def leftNext_10 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : ¬isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (xo10 : Vec F S1x128 .f32) (xo11 : Vec F S1x128 .f32) : Vec F S1x128 .f32 :=
  outView10.read (Elt F) (outView10.writes (Elt F) outView10.junk (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.2.2.1)

theorem coverNext_11 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : ¬isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (xo10 : Vec F S1x128 .f32) (xo11 : Vec F S1x128 .f32) (y : S1x128.Idx) :
    ∃ pc ∈ (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.2.2.2.1, y ∈ pc.1.set :=
  View.cover_of_tiledL (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.2.2.2.1 S1x128.size (by sl_kernel_rfl) y

def leftNext_11 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S4x2048x128 .bf16) (harg13 : arg13.IsWhole) (arg14 : Memref sig .tc .vmem S4x2048x128 .bf16) (harg14 : arg14.IsWhole) (arg15 : Memref sig .tc .vmem S4x2048x128 .bf16) (harg15 : arg15.IsWhole) (arg16 : Memref sig .tc .vmem S4x2048x128 .bf16) (harg16 : arg16.IsWhole) (arg17 : Memref sig .tc .vmem S4x2048x128 .f32) (harg17 : arg17.IsWhole) (arg18 : Memref sig .tc .vmem S4x2048x128 .f32) (harg18 : arg18.IsWhole) (arg19 : Memref sig .tc .vmem S4x2048x128 .f32) (harg19 : arg19.IsWhole) (hc0 : ¬isFirst i)
    (x0 : Vec F S2048x512 .f32) (x1 : Vec F S2048x512 .f32) (x2 : Vec F S2048x512 .f32) (x3 : Vec F S1x128 .f32) (x4 : Vec F S1x128 .f32) (x5 : Vec F S2048x512 .f32) (x6 : Vec F S2048x512 .f32) (xo10 : Vec F S1x128 .f32) (xo11 : Vec F S1x128 .f32) : Vec F S1x128 .f32 :=
  outView11.read (Elt F) (outView11.writes (Elt F) outView11.junk (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xo10 xo11).2.2.2.2.1)

/-- What the five outputs' buffers hold after point `n`: at the second point the gain gradients continue the first's. -/
def left (c : Dev nD) : (n : ℕ) → n < cfg0.N → Vec F S2048x512 .bf16 × Vec F S2048x512 .bf16 × Vec F S2048x512 .bf16 × Vec F S1x128 .f32 × Vec F S1x128 .f32
  | 0, hn => (leftFirst_7 c (grid0.coords ⟨0, hn⟩) (stg0 ⟨0, hn⟩) (stg0_whole ⟨0, hn⟩) (stg1 ⟨0, hn⟩) (stg1_whole ⟨0, hn⟩) (stg2 ⟨0, hn⟩) (stg2_whole ⟨0, hn⟩) (stg3 ⟨0, hn⟩) (stg3_whole ⟨0, hn⟩) (stg4 ⟨0, hn⟩) (stg4_whole ⟨0, hn⟩) (stg5 ⟨0, hn⟩) (stg5_whole ⟨0, hn⟩) (stg6 ⟨0, hn⟩) (stg6_whole ⟨0, hn⟩) (stg7 ⟨0, hn⟩) (stg7_whole ⟨0, hn⟩) (stg8 ⟨0, hn⟩) (stg8_whole ⟨0, hn⟩) (stg9 ⟨0, hn⟩) (stg9_whole ⟨0, hn⟩) (stg10 ⟨0, hn⟩) (stg10_whole ⟨0, hn⟩) (stg11 ⟨0, hn⟩) (stg11_whole ⟨0, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), leftFirst_8 c (grid0.coords ⟨0, hn⟩) (stg0 ⟨0, hn⟩) (stg0_whole ⟨0, hn⟩) (stg1 ⟨0, hn⟩) (stg1_whole ⟨0, hn⟩) (stg2 ⟨0, hn⟩) (stg2_whole ⟨0, hn⟩) (stg3 ⟨0, hn⟩) (stg3_whole ⟨0, hn⟩) (stg4 ⟨0, hn⟩) (stg4_whole ⟨0, hn⟩) (stg5 ⟨0, hn⟩) (stg5_whole ⟨0, hn⟩) (stg6 ⟨0, hn⟩) (stg6_whole ⟨0, hn⟩) (stg7 ⟨0, hn⟩) (stg7_whole ⟨0, hn⟩) (stg8 ⟨0, hn⟩) (stg8_whole ⟨0, hn⟩) (stg9 ⟨0, hn⟩) (stg9_whole ⟨0, hn⟩) (stg10 ⟨0, hn⟩) (stg10_whole ⟨0, hn⟩) (stg11 ⟨0, hn⟩) (stg11_whole ⟨0, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), leftFirst_9 c (grid0.coords ⟨0, hn⟩) (stg0 ⟨0, hn⟩) (stg0_whole ⟨0, hn⟩) (stg1 ⟨0, hn⟩) (stg1_whole ⟨0, hn⟩) (stg2 ⟨0, hn⟩) (stg2_whole ⟨0, hn⟩) (stg3 ⟨0, hn⟩) (stg3_whole ⟨0, hn⟩) (stg4 ⟨0, hn⟩) (stg4_whole ⟨0, hn⟩) (stg5 ⟨0, hn⟩) (stg5_whole ⟨0, hn⟩) (stg6 ⟨0, hn⟩) (stg6_whole ⟨0, hn⟩) (stg7 ⟨0, hn⟩) (stg7_whole ⟨0, hn⟩) (stg8 ⟨0, hn⟩) (stg8_whole ⟨0, hn⟩) (stg9 ⟨0, hn⟩) (stg9_whole ⟨0, hn⟩) (stg10 ⟨0, hn⟩) (stg10_whole ⟨0, hn⟩) (stg11 ⟨0, hn⟩) (stg11_whole ⟨0, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), leftFirst_10 c (grid0.coords ⟨0, hn⟩) (stg0 ⟨0, hn⟩) (stg0_whole ⟨0, hn⟩) (stg1 ⟨0, hn⟩) (stg1_whole ⟨0, hn⟩) (stg2 ⟨0, hn⟩) (stg2_whole ⟨0, hn⟩) (stg3 ⟨0, hn⟩) (stg3_whole ⟨0, hn⟩) (stg4 ⟨0, hn⟩) (stg4_whole ⟨0, hn⟩) (stg5 ⟨0, hn⟩) (stg5_whole ⟨0, hn⟩) (stg6 ⟨0, hn⟩) (stg6_whole ⟨0, hn⟩) (stg7 ⟨0, hn⟩) (stg7_whole ⟨0, hn⟩) (stg8 ⟨0, hn⟩) (stg8_whole ⟨0, hn⟩) (stg9 ⟨0, hn⟩) (stg9_whole ⟨0, hn⟩) (stg10 ⟨0, hn⟩) (stg10_whole ⟨0, hn⟩) (stg11 ⟨0, hn⟩) (stg11_whole ⟨0, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), leftFirst_11 c (grid0.coords ⟨0, hn⟩) (stg0 ⟨0, hn⟩) (stg0_whole ⟨0, hn⟩) (stg1 ⟨0, hn⟩) (stg1_whole ⟨0, hn⟩) (stg2 ⟨0, hn⟩) (stg2_whole ⟨0, hn⟩) (stg3 ⟨0, hn⟩) (stg3_whole ⟨0, hn⟩) (stg4 ⟨0, hn⟩) (stg4_whole ⟨0, hn⟩) (stg5 ⟨0, hn⟩) (stg5_whole ⟨0, hn⟩) (stg6 ⟨0, hn⟩) (stg6_whole ⟨0, hn⟩) (stg7 ⟨0, hn⟩) (stg7_whole ⟨0, hn⟩) (stg8 ⟨0, hn⟩) (stg8_whole ⟨0, hn⟩) (stg9 ⟨0, hn⟩) (stg9_whole ⟨0, hn⟩) (stg10 ⟨0, hn⟩) (stg10_whole ⟨0, hn⟩) (stg11 ⟨0, hn⟩) (stg11_whole ⟨0, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 2 = 0 then
      (leftFirst_7 c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) (stg4 ⟨n + 1, hn⟩) (stg4_whole ⟨n + 1, hn⟩) (stg5 ⟨n + 1, hn⟩) (stg5_whole ⟨n + 1, hn⟩) (stg6 ⟨n + 1, hn⟩) (stg6_whole ⟨n + 1, hn⟩) (stg7 ⟨n + 1, hn⟩) (stg7_whole ⟨n + 1, hn⟩) (stg8 ⟨n + 1, hn⟩) (stg8_whole ⟨n + 1, hn⟩) (stg9 ⟨n + 1, hn⟩) (stg9_whole ⟨n + 1, hn⟩) (stg10 ⟨n + 1, hn⟩) (stg10_whole ⟨n + 1, hn⟩) (stg11 ⟨n + 1, hn⟩) (stg11_whole ⟨n + 1, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), leftFirst_8 c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) (stg4 ⟨n + 1, hn⟩) (stg4_whole ⟨n + 1, hn⟩) (stg5 ⟨n + 1, hn⟩) (stg5_whole ⟨n + 1, hn⟩) (stg6 ⟨n + 1, hn⟩) (stg6_whole ⟨n + 1, hn⟩) (stg7 ⟨n + 1, hn⟩) (stg7_whole ⟨n + 1, hn⟩) (stg8 ⟨n + 1, hn⟩) (stg8_whole ⟨n + 1, hn⟩) (stg9 ⟨n + 1, hn⟩) (stg9_whole ⟨n + 1, hn⟩) (stg10 ⟨n + 1, hn⟩) (stg10_whole ⟨n + 1, hn⟩) (stg11 ⟨n + 1, hn⟩) (stg11_whole ⟨n + 1, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), leftFirst_9 c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) (stg4 ⟨n + 1, hn⟩) (stg4_whole ⟨n + 1, hn⟩) (stg5 ⟨n + 1, hn⟩) (stg5_whole ⟨n + 1, hn⟩) (stg6 ⟨n + 1, hn⟩) (stg6_whole ⟨n + 1, hn⟩) (stg7 ⟨n + 1, hn⟩) (stg7_whole ⟨n + 1, hn⟩) (stg8 ⟨n + 1, hn⟩) (stg8_whole ⟨n + 1, hn⟩) (stg9 ⟨n + 1, hn⟩) (stg9_whole ⟨n + 1, hn⟩) (stg10 ⟨n + 1, hn⟩) (stg10_whole ⟨n + 1, hn⟩) (stg11 ⟨n + 1, hn⟩) (stg11_whole ⟨n + 1, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), leftFirst_10 c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) (stg4 ⟨n + 1, hn⟩) (stg4_whole ⟨n + 1, hn⟩) (stg5 ⟨n + 1, hn⟩) (stg5_whole ⟨n + 1, hn⟩) (stg6 ⟨n + 1, hn⟩) (stg6_whole ⟨n + 1, hn⟩) (stg7 ⟨n + 1, hn⟩) (stg7_whole ⟨n + 1, hn⟩) (stg8 ⟨n + 1, hn⟩) (stg8_whole ⟨n + 1, hn⟩) (stg9 ⟨n + 1, hn⟩) (stg9_whole ⟨n + 1, hn⟩) (stg10 ⟨n + 1, hn⟩) (stg10_whole ⟨n + 1, hn⟩) (stg11 ⟨n + 1, hn⟩) (stg11_whole ⟨n + 1, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), leftFirst_11 c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) (stg4 ⟨n + 1, hn⟩) (stg4_whole ⟨n + 1, hn⟩) (stg5 ⟨n + 1, hn⟩) (stg5_whole ⟨n + 1, hn⟩) (stg6 ⟨n + 1, hn⟩) (stg6_whole ⟨n + 1, hn⟩) (stg7 ⟨n + 1, hn⟩) (stg7_whole ⟨n + 1, hn⟩) (stg8 ⟨n + 1, hn⟩) (stg8_whole ⟨n + 1, hn⟩) (stg9 ⟨n + 1, hn⟩) (stg9_whole ⟨n + 1, hn⟩) (stg10 ⟨n + 1, hn⟩) (stg10_whole ⟨n + 1, hn⟩) (stg11 ⟨n + 1, hn⟩) (stg11_whole ⟨n + 1, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (leftNext_7 c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) (stg4 ⟨n + 1, hn⟩) (stg4_whole ⟨n + 1, hn⟩) (stg5 ⟨n + 1, hn⟩) (stg5_whole ⟨n + 1, hn⟩) (stg6 ⟨n + 1, hn⟩) (stg6_whole ⟨n + 1, hn⟩) (stg7 ⟨n + 1, hn⟩) (stg7_whole ⟨n + 1, hn⟩) (stg8 ⟨n + 1, hn⟩) (stg8_whole ⟨n + 1, hn⟩) (stg9 ⟨n + 1, hn⟩) (stg9_whole ⟨n + 1, hn⟩) (stg10 ⟨n + 1, hn⟩) (stg10_whole ⟨n + 1, hn⟩) (stg11 ⟨n + 1, hn⟩) (stg11_whole ⟨n + 1, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (left c n (Nat.lt_of_succ_lt hn)).2.2.2.1 (left c n (Nat.lt_of_succ_lt hn)).2.2.2.2, leftNext_8 c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) (stg4 ⟨n + 1, hn⟩) (stg4_whole ⟨n + 1, hn⟩) (stg5 ⟨n + 1, hn⟩) (stg5_whole ⟨n + 1, hn⟩) (stg6 ⟨n + 1, hn⟩) (stg6_whole ⟨n + 1, hn⟩) (stg7 ⟨n + 1, hn⟩) (stg7_whole ⟨n + 1, hn⟩) (stg8 ⟨n + 1, hn⟩) (stg8_whole ⟨n + 1, hn⟩) (stg9 ⟨n + 1, hn⟩) (stg9_whole ⟨n + 1, hn⟩) (stg10 ⟨n + 1, hn⟩) (stg10_whole ⟨n + 1, hn⟩) (stg11 ⟨n + 1, hn⟩) (stg11_whole ⟨n + 1, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (left c n (Nat.lt_of_succ_lt hn)).2.2.2.1 (left c n (Nat.lt_of_succ_lt hn)).2.2.2.2, leftNext_9 c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) (stg4 ⟨n + 1, hn⟩) (stg4_whole ⟨n + 1, hn⟩) (stg5 ⟨n + 1, hn⟩) (stg5_whole ⟨n + 1, hn⟩) (stg6 ⟨n + 1, hn⟩) (stg6_whole ⟨n + 1, hn⟩) (stg7 ⟨n + 1, hn⟩) (stg7_whole ⟨n + 1, hn⟩) (stg8 ⟨n + 1, hn⟩) (stg8_whole ⟨n + 1, hn⟩) (stg9 ⟨n + 1, hn⟩) (stg9_whole ⟨n + 1, hn⟩) (stg10 ⟨n + 1, hn⟩) (stg10_whole ⟨n + 1, hn⟩) (stg11 ⟨n + 1, hn⟩) (stg11_whole ⟨n + 1, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (left c n (Nat.lt_of_succ_lt hn)).2.2.2.1 (left c n (Nat.lt_of_succ_lt hn)).2.2.2.2, leftNext_10 c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) (stg4 ⟨n + 1, hn⟩) (stg4_whole ⟨n + 1, hn⟩) (stg5 ⟨n + 1, hn⟩) (stg5_whole ⟨n + 1, hn⟩) (stg6 ⟨n + 1, hn⟩) (stg6_whole ⟨n + 1, hn⟩) (stg7 ⟨n + 1, hn⟩) (stg7_whole ⟨n + 1, hn⟩) (stg8 ⟨n + 1, hn⟩) (stg8_whole ⟨n + 1, hn⟩) (stg9 ⟨n + 1, hn⟩) (stg9_whole ⟨n + 1, hn⟩) (stg10 ⟨n + 1, hn⟩) (stg10_whole ⟨n + 1, hn⟩) (stg11 ⟨n + 1, hn⟩) (stg11_whole ⟨n + 1, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (left c n (Nat.lt_of_succ_lt hn)).2.2.2.1 (left c n (Nat.lt_of_succ_lt hn)).2.2.2.2, leftNext_11 c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) (stg4 ⟨n + 1, hn⟩) (stg4_whole ⟨n + 1, hn⟩) (stg5 ⟨n + 1, hn⟩) (stg5_whole ⟨n + 1, hn⟩) (stg6 ⟨n + 1, hn⟩) (stg6_whole ⟨n + 1, hn⟩) (stg7 ⟨n + 1, hn⟩) (stg7_whole ⟨n + 1, hn⟩) (stg8 ⟨n + 1, hn⟩) (stg8_whole ⟨n + 1, hn⟩) (stg9 ⟨n + 1, hn⟩) (stg9_whole ⟨n + 1, hn⟩) (stg10 ⟨n + 1, hn⟩) (stg10_whole ⟨n + 1, hn⟩) (stg11 ⟨n + 1, hn⟩) (stg11_whole ⟨n + 1, hn⟩) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (left c n (Nat.lt_of_succ_lt hn)).2.2.2.1 (left c n (Nat.lt_of_succ_lt hn)).2.2.2.2)

theorem left_first (c : Dev nD) (t : Fin cfg0.N) (h0 : t.val % 2 = 0) :
    left m c t.val t.isLt = (leftFirst_7 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff t).mpr h0) (iblk m c 0 t) (iblk m c 1 t) (iblk m c 2 t) (iblk m c 3 t) (iblk m c 4 t) (iblk m c 5 t) (iblk m c 6 t), leftFirst_8 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff t).mpr h0) (iblk m c 0 t) (iblk m c 1 t) (iblk m c 2 t) (iblk m c 3 t) (iblk m c 4 t) (iblk m c 5 t) (iblk m c 6 t), leftFirst_9 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff t).mpr h0) (iblk m c 0 t) (iblk m c 1 t) (iblk m c 2 t) (iblk m c 3 t) (iblk m c 4 t) (iblk m c 5 t) (iblk m c 6 t), leftFirst_10 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff t).mpr h0) (iblk m c 0 t) (iblk m c 1 t) (iblk m c 2 t) (iblk m c 3 t) (iblk m c 4 t) (iblk m c 5 t) (iblk m c 6 t), leftFirst_11 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) ((isFirst_iff t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

theorem left_next (c : Dev nD) (t : Fin cfg0.N) (h0 : ¬t.val % 2 = 0) :
    left m c t.val t.isLt = (leftNext_7 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) (fun h => h0 ((isFirst_iff t).mp h)) (iblk m c 0 t) (iblk m c 1 t) (iblk m c 2 t) (iblk m c 3 t) (iblk m c 4 t) (iblk m c 5 t) (iblk m c 6 t) (left m c (t.val - 1) (Nat.lt_of_le_of_lt (Nat.sub_le _ _) t.isLt)).2.2.2.1 (left m c (t.val - 1) (Nat.lt_of_le_of_lt (Nat.sub_le _ _) t.isLt)).2.2.2.2, leftNext_8 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) (fun h => h0 ((isFirst_iff t).mp h)) (iblk m c 0 t) (iblk m c 1 t) (iblk m c 2 t) (iblk m c 3 t) (iblk m c 4 t) (iblk m c 5 t) (iblk m c 6 t) (left m c (t.val - 1) (Nat.lt_of_le_of_lt (Nat.sub_le _ _) t.isLt)).2.2.2.1 (left m c (t.val - 1) (Nat.lt_of_le_of_lt (Nat.sub_le _ _) t.isLt)).2.2.2.2, leftNext_9 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) (fun h => h0 ((isFirst_iff t).mp h)) (iblk m c 0 t) (iblk m c 1 t) (iblk m c 2 t) (iblk m c 3 t) (iblk m c 4 t) (iblk m c 5 t) (iblk m c 6 t) (left m c (t.val - 1) (Nat.lt_of_le_of_lt (Nat.sub_le _ _) t.isLt)).2.2.2.1 (left m c (t.val - 1) (Nat.lt_of_le_of_lt (Nat.sub_le _ _) t.isLt)).2.2.2.2, leftNext_10 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) (fun h => h0 ((isFirst_iff t).mp h)) (iblk m c 0 t) (iblk m c 1 t) (iblk m c 2 t) (iblk m c 3 t) (iblk m c 4 t) (iblk m c 5 t) (iblk m c 6 t) (left m c (t.val - 1) (Nat.lt_of_le_of_lt (Nat.sub_le _ _) t.isLt)).2.2.2.1 (left m c (t.val - 1) (Nat.lt_of_le_of_lt (Nat.sub_le _ _) t.isLt)).2.2.2.2, leftNext_11 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) (fun h => h0 ((isFirst_iff t).mp h)) (iblk m c 0 t) (iblk m c 1 t) (iblk m c 2 t) (iblk m c 3 t) (iblk m c 4 t) (iblk m c 5 t) (iblk m c 6 t) (left m c (t.val - 1) (Nat.lt_of_le_of_lt (Nat.sub_le _ _) t.isLt)).2.2.2.1 (left m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The pipeline's data: the arrays as the region finds them, each input at its block, the outputs at `left`; windows that share
    the projection share its ownership. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (left m c t.val t.isLt).1
    | ⟨8, _⟩ => (left m c t.val t.isLt).2.1
    | ⟨9, _⟩ => (left m c t.val t.isLt).2.2.1
    | ⟨10, _⟩ => (left m c t.val t.isLt).2.2.2.1
    | ⟨11, _⟩ => (left m c t.val t.isLt).2.2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (left m c t.val t.isLt).1 := by dsimp only [dats]
theorem after_8 (c : Dev nD) (t : Fin cfg0.N) : (dats m 0 c).after 8 t = (left m c t.val t.isLt).2.1 := by dsimp only [dats]
theorem after_9 (c : Dev nD) (t : Fin cfg0.N) : (dats m 0 c).after 9 t = (left m c t.val t.isLt).2.2.1 := by dsimp only [dats]
theorem after_10 (c : Dev nD) (t : Fin cfg0.N) : (dats m 0 c).after 10 t = (left m c t.val t.isLt).2.2.2.1 := by dsimp only [dats]
theorem after_11 (c : Dev nD) (t : Fin cfg0.N) : (dats m 0 c).after 11 t = (left m c t.val t.isLt).2.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
/-- The gains' windows keep their buffer from the first point to the second. -/
theorem before_10_next (c : Dev nD) (t : Fin cfg0.N) (h0 : ¬t.val % 2 = 0) (d) :
    (dats m 0 c).before 10 t d = (left m c (t.val - 1) (Nat.lt_of_le_of_lt (Nat.sub_le _ _) t.isLt)).2.2.2.1 := by
  have hN : t.val < 2 := lt_of_lt_of_eq t.isLt (show cfg0.N = 2 from N_0)
  rw [Dat.before_out_kept _ 10 rfl t (by omega) (Bool.eq_false_iff.mpr fun h => by have := (flush0_10 _).mp h; dsimp only at this; omega)
    (fun _ => rfl) (fun _ _ => rfl)]
  dsimp only [dats]
theorem before_11_next (c : Dev nD) (t : Fin cfg0.N) (h0 : ¬t.val % 2 = 0) (d) :
    (dats m 0 c).before 11 t d = (left m c (t.val - 1) (Nat.lt_of_le_of_lt (Nat.sub_le _ _) t.isLt)).2.2.2.2 := by
  have hN : t.val < 2 := lt_of_lt_of_eq t.isLt (show cfg0.N = 2 from N_0)
  rw [Dat.before_out_kept _ 11 rfl t (by omega) (Bool.eq_false_iff.mpr fun h => by have := (flush0_11 _).mp h; dsimp only at this; omega)
    (fun _ => rfl) (fun _ _ => rfl)]
  dsimp only [dats]

/-- What the body starts from at point `t`, window by window. -/
def rowIn (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- What it ends with. -/
def rowOut (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t))

set_option maxHeartbeats 3200000 in
/-- The body at a point: the first run or the next. -/
theorem body_runs (c : Dev nD) (t : Fin cfg0.N) :
    rowIn m c t ⊢ wp frame (wpE (defs₀ (F := F)) Variants.none c none) Set.univ (bodyAt0 t) (fun _ => rowOut m c t) := by
  unfold rowIn rowOut bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  rw [show (dats m 0 c).Φ t.castSucc = Pipeline.ΦA spec0 c from rfl, scopedRest_eq]
  have hN : t.val < 2 := lt_of_lt_of_eq t.isLt (show cfg0.N = 2 from N_0)
  by_cases h0 : t.val % 2 = 0
  · rw [left_first m c t h0]
    unfold leftFirst_7 leftFirst_8 leftFirst_9 leftFirst_10 leftFirst_11; (try dsimp only)
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runFirst c (grid0.coords t) _ _ _ _ _ _ _ _ _ _ _ _ _ _ _ _ _ _ _ _ _ _ _ _ _ _ _ _ _ _ _ _ _ _ _ _ _ _ ((isFirst_iff t).mpr h0) (iblk m c 0 t) (iblk m c 1 t) (iblk m c 2 t) (iblk m c 3 t) (iblk m c 4 t) (iblk m c 5 t) (iblk m c 6 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, ⟨%e7, H7⟩, ⟨%e8, H8⟩, ⟨%e9, H9⟩, ⟨%e10, H10⟩, ⟨%e11, H11⟩, HS0, HS1, HS2, HS3, HS4, HS5, HS6⟩
    isplitl [HS0 HS1 HS2 HS3 HS4 HS5 HS6 Hg]
    · isplitl [HS0 HS1 HS2 HS3 HS4 HS5 HS6]
      · isplitl [HS0]
        · iexact HS0
        isplitl [HS1]
        · iexact HS1
        isplitl [HS2]
        · iexact HS2
        isplitl [HS3]
        · iexact HS3
        isplitl [HS4]
        · iexact HS4
        isplitl [HS5]
        · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverFirst_7 c _ _ _ _ _ _ _ _ _ _ _ _ _ _ _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (coverFirst_8 c _ _ _ _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (coverFirst_9 c _ _ _ _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (coverFirst_10 c _ _ _ _ _ _ _ _ _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (coverFirst_11 c _ _ _ _ _ _ _ _ _ _ _ _ _ _ _ _ _ _ _ _ _ _ _ _ _ _ _ _ _ _ _ _ _ _ _ _ _ _ _ _ _ _ _ _ _ _ _)
  · rw [left_next m c t h0]
    simp only [before_10_next m c t h0, before_11_next m c t h0]
    unfold leftNext_7 leftNext_8 leftNext_9 leftNext_10 leftNext_11; (try dsimp only)
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runNext c (grid0.coords t) _ _ _ _ _ _ _ _ _ _ _ _ _ _ _ _ _ _ _ _ _ _ _ _ _ _ _ _ _ _ _ _ _ _ _ _ _ _ (fun h => h0 ((isFirst_iff t).mp h)) (iblk m c 0 t) (iblk m c 1 t) (iblk m c 2 t) (iblk m c 3 t) (iblk m c 4 t) (iblk m c 5 t) (iblk m c 6 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, ⟨%e7, H7⟩, ⟨%e8, H8⟩, ⟨%e9, H9⟩, ⟨%e10, H10⟩, ⟨%e11, H11⟩, HS0, HS1, HS2, HS3, HS4, HS5, HS6⟩
    isplitl [HS0 HS1 HS2 HS3 HS4 HS5 HS6 Hg]
    · isplitl [HS0 HS1 HS2 HS3 HS4 HS5 HS6]
      · isplitl [HS0]
        · iexact HS0
        isplitl [HS1]
        · iexact HS1
        isplitl [HS2]
        · iexact HS2
        isplitl [HS3]
        · iexact HS3
        isplitl [HS4]
        · iexact HS4
        isplitl [HS5]
        · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverNext_7 c _ _ _ _ _ _ _ _ _ _ _ _ _ _ _ _ _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (coverNext_8 c _ _ _ _ _ _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (coverNext_9 c _ _ _ _ _ _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (coverNext_10 c _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (coverNext_11 c _ _ _ _ _ _ _ _ _ _ _ _ _ _ _ _ _ _ _ _ _ _ _ _ _ _ _ _ _ _ _ _ _ _ _ _ _ _ _ _ _ _ _ _ _ _ _ _ _)

theorem body_row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_runs m c t) rfl .rfl fun _ => .rfl

set_option backward.isDefEq.respectTransparency.types false in
/-- The whole program: the arrays end as the data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.SbBwd

end
-- ==== Proof.Products.Basic.lean ====
/-
  Facts about products over the extended reals, for the tiled products of this step.

  * A matrix product from zero at an index is a sum over one coordinate, for each of the three layouts
    that the step uses: rows by columns (`matmul_rows_cols`), rows by rows (`matmul_rows_rows`: the right operand is
    contracted on its last axis) and columns by columns (`matmul_cols_cols`: both operands are contracted on their first
    axis).
  * One half distributes over a sum, whatever the terms are (`half_mul_sum`).
-/
module

public import Idealize.ShloMosaic.PureOps.Ideal
public import Idealize.ShloMosaic.Lib.ValueIdx
public import Idealize.ShloMosaic.Lib.IdealHost
public import Idealize.ShloMosaic.Lib.Pipeline.Value

@[expose] public section

noncomputable section

namespace Cert.Proof.Products

open Idealize.ShloMosaic Idealize.ShloMosaic.ValueIdx
open scoped BigOperators

/-- A product of `M×K` by `N×K`, both contracted on the last axis, at an index. -/
theorem matmul_rows_rows {M K N : Nat} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = []) {φ₁ φ₂ : FTy}
    (a : FVec Ideal ⟨2, ![M, K]⟩ φ₁) (b : FVec Ideal ⟨2, ![N, K]⟩ φ₂)
    (j : (⟨2, ![M, N]⟩ : Shape).Idx) :
    matmul D none a b (constant ⟨2, ![M, N]⟩ .f32 0x00000000#32) j = ∑ k : Fin K, a (ix2 (j 0) k) * b (ix2 (j 1) k) := by
  obtain ⟨lc, rc, ln, rn, lb, rb, wf⟩ := D
  dsimp only at h1 h2 h3 h4 h5 h6
  subst h1 h2 h3 h4 h5 h6
  show Ideal.ofBits .f32 0x00000000#32 + _ = _
  rw [Ideal.ofBits_zero_f32, zero_add]
  rw [← Equiv.sum_comp (contrEquiv1 _ K rfl rfl).symm]
  refine Finset.sum_congr rfl fun k _ => ?_
  congr 1
  · refine congrArg a (funext fun x => Fin.ext ?_)
    match x with
    | ⟨0, _⟩ => unfold DotDims.lhsIdx; rw [dif_neg (by simp), dif_pos (by simp)]; rfl
    | ⟨1, _⟩ => exact (DotDims.lhsIdx_val_of_single _ rfl _ _).trans (contrEquiv1_symm_val _ K rfl rfl k)
  · refine congrArg b (funext fun x => Fin.ext ?_)
    match x with
    | ⟨0, _⟩ => unfold DotDims.rhsIdx; rw [dif_neg (by simp), dif_pos (by simp)]; rfl
    | ⟨1, _⟩ => exact (DotDims.rhsIdx_val_of_single _ rfl _ _).trans (contrEquiv1_symm_val _ K rfl rfl k)

/-- A product of `K×M` by `K×N`, both contracted on the first axis, at an index. -/
theorem matmul_cols_cols {M K N : Nat} (D : DotDims ⟨2, ![K, M]⟩ ⟨2, ![K, N]⟩ ⟨2, ![M, N]⟩)
    (h1 : D.lhsContracting = [0]) (h2 : D.rhsContracting = [0]) (h3 : D.lhsNonContracting = [1])
    (h4 : D.rhsNonContracting = [1]) (h5 : D.lhsBatch = []) (h6 : D.rhsBatch = []) {φ₁ φ₂ : FTy}
    (a : FVec Ideal ⟨2, ![K, M]⟩ φ₁) (b : FVec Ideal ⟨2, ![K, N]⟩ φ₂)
    (j : (⟨2, ![M, N]⟩ : Shape).Idx) :
    matmul D none a b (constant ⟨2, ![M, N]⟩ .f32 0x00000000#32) j = ∑ k : Fin K, a (ix2 k (j 0)) * b (ix2 k (j 1)) := by
  obtain ⟨lc, rc, ln, rn, lb, rb, wf⟩ := D
  dsimp only at h1 h2 h3 h4 h5 h6
  subst h1 h2 h3 h4 h5 h6
  show Ideal.ofBits .f32 0x00000000#32 + _ = _
  rw [Ideal.ofBits_zero_f32, zero_add]
  rw [← Equiv.sum_comp (contrEquiv1 _ K rfl rfl).symm]
  refine Finset.sum_congr rfl fun k _ => ?_
  congr 1
  · refine congrArg a (funext fun x => Fin.ext ?_)
    match x with
    | ⟨1, _⟩ => unfold DotDims.lhsIdx; rw [dif_neg (by simp), dif_pos (by simp)]; rfl
    | ⟨0, _⟩ => exact (DotDims.lhsIdx_val_of_single _ rfl _ _).trans (contrEquiv1_symm_val _ K rfl rfl k)
  · refine congrArg b (funext fun x => Fin.ext ?_)
    match x with
    | ⟨1, _⟩ => unfold DotDims.rhsIdx; rw [dif_neg (by simp), dif_pos (by simp)]; rfl
    | ⟨0, _⟩ => exact (DotDims.rhsIdx_val_of_single _ rfl _ _).trans (contrEquiv1_symm_val _ K rfl rfl k)

/-- A product of `M×K` by `K×N` at an index. -/
theorem matmul_rows_cols {M K N : Nat} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) {φ₁ φ₂ : FTy}
    (a : FVec Ideal ⟨2, ![M, K]⟩ φ₁) (b : FVec Ideal ⟨2, ![K, N]⟩ φ₂)
    (j : (⟨2, ![M, N]⟩ : Shape).Idx) :
    matmul D none a b (constant ⟨2, ![M, N]⟩ .f32 0x00000000#32) j = ∑ k : Fin K, a (ix2 (j 0) k) * b (ix2 k (j 1)) := by
  obtain ⟨lc, rc, ln, rn, lb, rb, wf⟩ := D
  dsimp only at h1 h2 h3 h4 h5 h6
  subst h1 h2 h3 h4 h5 h6
  show Ideal.ofBits .f32 0x00000000#32 + _ = _
  rw [Ideal.ofBits_zero_f32, zero_add]
  rw [← Equiv.sum_comp (contrEquiv1 _ K rfl rfl).symm]
  refine Finset.sum_congr rfl fun k _ => ?_
  congr 1
  · refine congrArg a (funext fun x => Fin.ext ?_)
    match x with
    | ⟨0, _⟩ => unfold DotDims.lhsIdx; rw [dif_neg (by simp), dif_pos (by simp)]; rfl
    | ⟨1, _⟩ => exact (DotDims.lhsIdx_val_of_single _ rfl _ _).trans (contrEquiv1_symm_val _ K rfl rfl k)
  · refine congrArg b (funext fun x => Fin.ext ?_)
    match x with
    | ⟨1, _⟩ => unfold DotDims.rhsIdx; rw [dif_neg (by simp), dif_pos (by simp)]; rfl
    | ⟨0, _⟩ => exact (DotDims.rhsIdx_val_of_single _ rfl _ _).trans (contrEquiv1_symm_val _ K rfl rfl k)

/-- The word `0x3F000000` is one half. -/
theorem ofBits_half : Ideal.ofBits .f32 0x3F000000#32 = ((1 / 2 : ℝ) : EReal) := by
  simp [Ideal.ofBits, Ideal.ieee, -EReal.coe_mul]; norm_num

/-- One half times a sum is the sum of the halves, whatever the terms: infinite ones of either sign too. -/
theorem half_mul_sum {ι : Type} (s : Finset ι) (f : ι → EReal) :
    Ideal.ofBits .f32 0x3F000000#32 * ∑ k ∈ s, f k = ∑ k ∈ s, Ideal.ofBits .f32 0x3F000000#32 * f k := by
  classical
  rw [ofBits_half]
  induction s using Finset.induction_on with
  | empty => simp
  | insert a s ha ih =>
    rw [Finset.sum_insert ha, Finset.sum_insert ha, ← ih]
    exact EReal.left_distrib_of_nonneg_of_ne_top (by exact_mod_cast (by norm_num : (0 : ℝ) ≤ 1 / 2)) (EReal.coe_ne_top _) _ _

/-- A sum of products, halved afterwards, is the sum with the left factors halved first. -/
theorem half_sum_left {ι : Type} [Fintype ι] (f g : ι → EReal) :
    (∑ k, f k * g k) * Ideal.ofBits .f32 0x3F000000#32 = ∑ k, (Ideal.ofBits .f32 0x3F000000#32 * f k) * g k := by
  rw [mul_comm, half_mul_sum]
  exact Finset.sum_congr rfl fun k _ => (mul_assoc _ _ _).symm

/-- Column `c` of block `b` is a column of the whole. -/
theorem block_lt (L B n : Nat) (h : L = B * n) (b : Fin B) (c : Fin n) : b.val * n + c.val < L := by
  have h1 : (b.val + 1) * n ≤ B * n := Nat.mul_le_mul_right n b.isLt
  have h2 := c.isLt
  rw [Nat.add_mul, Nat.one_mul] at h1
  omega

/-- A matrix laid out as `B` blocks of `n` columns, at an index. -/
theorem blocks_apply {M B n L : Nat} (h : L = B * n) {α : Type} (v : (⟨2, ![M, L]⟩ : Shape).Idx → α)
    (h1 : (⟨2, ![M, L]⟩ : Shape).ShapeCasts ⟨3, ![M, B, n]⟩) (h2 : (⟨3, ![M, B, n]⟩ : Shape).Transposes [1, 0, 2] ⟨3, ![B, M, n]⟩)
    (i : (⟨3, ![B, M, n]⟩ : Shape).Idx) :
    transpose ⟨3, ![B, M, n]⟩ [1, 0, 2] (shapeCast ⟨3, ![M, B, n]⟩ v h1) h2 i
      = v (ix2 (i 1) ⟨(i 0).val * n + (i 2).val, block_lt L B n h (i 0) (i 2)⟩) := by
  refine (transpose_apply [1, 0, 2] _ h2 i (ix3 (i 1) (i 0) (i 2)) (fun b => match b with
    | ⟨0, _⟩ => rfl
    | ⟨1, _⟩ => rfl
    | ⟨2, _⟩ => rfl)).trans ?_
  refine shapeCast_apply v h1 _ _ ?_
  rewrite [Shape.rowMajor_val_two, Shape.rowMajor_val_three]
  show (i 1).val * L + ((i 0).val * n + (i 2).val) = ((i 1).val * B + (i 0).val) * n + (i 2).val
  rw [h, Nat.add_mul, Nat.mul_assoc, Nat.add_assoc]

/-- A block of one matrix as that matrix, at an index. -/
theorem unit_apply {M N : Nat} {α : Type} (v : (⟨3, ![1, M, N]⟩ : Shape).Idx → α)
    (h : (⟨3, ![1, M, N]⟩ : Shape).ShapeCasts ⟨2, ![M, N]⟩) (r : Fin M) (c : Fin N) :
    shapeCast ⟨2, ![M, N]⟩ v h (ix2 r c) = v (ix3 0 r c) := by
  refine shapeCast_apply v h _ _ ?_
  rewrite [Shape.rowMajor_val_two, Shape.rowMajor_val_three]
  show ((0 : Nat) * M + r.val) * N + c.val = r.val * N + c.val
  rw [Nat.zero_mul, Nat.zero_add]

end Cert.Proof.Products

end
-- ==== Proof.Products.FfnOutDx.lean ====
/-
  The input gradient of the feed-forward output product: `0.5 · dy · w_outᵀ`, laid out as four blocks of 704 columns.
-/
module

public import proofs.«01_k».proof.Defs
public import proofs.«01_k».proof.Proof.Products.Basic
public import proofs.«01_k».proof.Proof.Gen.Kernel2.Frame
public import proofs.«01_k».proof.Proof.Gen.Kernel2Ideal.Value
public import proofs.«01_k».proof.Proof.Gen.Reference2Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.FfnOutDx

open Cert.Kernel2Ideal Cert.Kernel2Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The weights are staged narrowed, which over the extended reals is as they are. -/
theorem staged (c : Dev nD) :
    V m c main_v0 = (truncf .bf16 (m ((c : Thread nD τ).loc main_arg1) : FVec Ideal S2816x1024 .f32) bitsLt_bf16_f32 : FVec Ideal S2816x1024 .bf16) := by
  unfold V; after_results <;> rfl

/-- What the body stores, at an index. -/
theorem pay_apply (a : Vec Ideal S1024x1024 .f32) (b : Vec Ideal S704x1024 .bf16) (y : S1x1024x704.Idx) :
    k0_pay1 a b y = (∑ k : Fin 1024, a (ix2 (y 1) k) * b (ix2 (y 2) k)) * Ideal.ofBits .f32 0x3F000000#32 := by
  unfold k0_pay1
  refine (shapeCast_addUnit_apply ![1024, 704] _ _ y).trans ?_
  refine congrArg (· * Ideal.ofBits .f32 0x3F000000#32) ((matmul_rows_rows _ rfl rfl rfl rfl rfl rfl _ _ _).trans ?_)
  rw [shapeCast_self]
  rfl

theorem idx0 : ∀ t : Fin cfg0.N, win0_0.index t = ![(grid0.coords t 0).val, 0] :=
  (by decide +kernel : ∀ t : Fin grid0.N, _)
theorem idx1 : ∀ t : Fin cfg0.N, win0_1.index t = ![(grid0.coords t 1).val, 0] :=
  (by decide +kernel : ∀ t : Fin grid0.N, _)
theorem idx2 : ∀ t : Fin cfg0.N, win0_2.index t = ![(grid0.coords t 1).val, (grid0.coords t 0).val, 0] :=
  (by decide +kernel : ∀ t : Fin grid0.N, _)

theorem final (c : Dev nD) : (dats m 0 c).arrAt 2 cfg0.N
    = Cert.Reference2Ideal.Read.val_main_v5 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  rw [Cert.Reference2Ideal.Read.val_main_v5_apply, Cert.Reference2Ideal.Read.val_main_v4_apply, Cert.Reference2Ideal.Read.val_main_v3_apply]
  refine Eq.trans ?_ (Cert.Reference2Ideal.Read.val_main_v2_apply _ _ _).symm
  blk_simp [iblk, idx0, idx1, idx2]
  have g1 : (grid0.coords t 1).val < 4 := (grid0.coords t 1).isLt
  rw [half_sum_left, V_main_arg0, staged]
  refine Finset.sum_congr rfl fun k _ => congrArg₂ (· * ·) ?_ ?_
  · refine congrArg (Ideal.ofBits .f32 0x3F000000#32 * ·) (congrArg (m ((c : Thread nD τ).loc main_arg0)) ?_)
    blk_ext [idx0, idx1, idx2, ix2, Matrix.cons_val_zero, Matrix.cons_val_one]
  · refine congrArg (m ((c : Thread nD τ).loc main_arg1)) ?_
    blk_ext [idx0, idx1, idx2, ix2, Matrix.cons_val_zero, Matrix.cons_val_one]

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem value : Cert.algebraic_Kernel2Ideal_Reference2Ideal := fun m ρ m' ρ' _ agree =>
  ⟨fun c => Cert.Reference2Ideal.Read.val_main_v5 (m ((c : Thread nD τ).loc main_arg0)) (m ((c : Thread nD τ).loc main_arg1)),
    (θ_run defs _ _).mono (fun _ h c => ⟨(h c).1.trans (final m c), (h c).2⟩) (Cert.Kernel2Ideal.Value.run_blocks m ρ),
    (θ_run Cert.Reference2Ideal.defs _ _).mono
      (fun _ h c => ⟨(h c).1.trans ((Cert.Reference2Ideal.Read.val_main_v5_eq _ _).trans
        (congrArg₂ Cert.Reference2Ideal.Read.val_main_v5 (agree c).1 (agree c).2)), (h c).2⟩)
      (Cert.Reference2Ideal.Value.run m' ρ')⟩

end Cert.Proof.FfnOutDx

end
-- ==== Proof.Products.FfnOutDw.lean ====
/-
  The weight gradient of the feed-forward output product: `0.5 · aᵀ · dy`, laid out as four blocks of 704 rows.
-/
module

public import proofs.«01_k».proof.Defs
public import proofs.«01_k».proof.Proof.Products.Basic
public import proofs.«01_k».proof.Proof.Gen.Kernel3.Frame
public import proofs.«01_k».proof.Proof.Gen.Kernel3Ideal.Value
public import proofs.«01_k».proof.Proof.Gen.Reference3Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.FfnOutDw

open Cert.Kernel3Ideal Cert.Kernel3Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The activations are staged as 4 blocks of 704 columns. -/
theorem staged (c : Dev nD) :
    V m c main_v2 = (fun i : S4x2048x704.Idx => (m ((c : Thread nD τ).loc main_arg0) : FVec Ideal S2048x2816 .f32)
      (ix2 (i 1) ⟨(i 0).val * 704 + (i 2).val, block_lt 2816 4 704 rfl (i 0) (i 2)⟩)) := by
  have e : V m c main_v2 = transpose S4x2048x704 [1, 0, 2] (shapeCast S2048x4x704
      (truncf .bf16 (m ((c : Thread nD τ).loc main_arg0) : FVec Ideal S2048x2816 .f32) bitsLt_bf16_f32 : FVec Ideal S2048x2816 .bf16)
      shapeCasts_S2048x2816_S2048x4x704) transposes_S2048x4x704_S4x2048x704_1_0_2 := by
    unfold V; after_results <;> rfl
  rw [e]
  exact funext fun i => blocks_apply (M := 2048) (B := 4) (n := 704) rfl _ _ _ i

/-- What the body stores, at an index. -/
theorem pay_apply (a : Vec Ideal S1x2048x704 .bf16) (b : Vec Ideal S2048x512 .f32) (y : S1x704x512.Idx) :
    k0_pay1 a b y = (∑ k : Fin 2048, a (ix3 0 k (y 1)) * b (ix2 k (y 2))) * Ideal.ofBits .f32 0x3F000000#32 := by
  unfold k0_pay1
  refine (shapeCast_addUnit_apply ![704, 512] _ _ y).trans ?_
  refine congrArg (· * Ideal.ofBits .f32 0x3F000000#32) ((matmul_cols_cols _ rfl rfl rfl rfl rfl rfl _ _ _).trans ?_)
  exact Finset.sum_congr rfl fun k _ => congrArg (· * b (ix2 k (y 2))) (unit_apply a _ _ _)

theorem idx0 : ∀ t : Fin cfg0.N, win0_0.index t = ![(grid0.coords t 0).val, 0, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, 0, (grid0.coords t 1).val] :=
  (by decide +kernel : ∀ t : Fin grid0.N, _)

/-- The kernel's output array is the reference's result. -/
theorem final (c : Dev nD) : (dats m 0 c).arrAt 2 cfg0.N
    = Cert.Reference3Ideal.Read.val_main_v5 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  rw [Cert.Reference3Ideal.Read.val_main_v5_apply, Cert.Reference3Ideal.Read.val_main_v4_apply, Cert.Reference3Ideal.Read.val_main_v3_apply]
  refine Eq.trans ?_ (Cert.Reference3Ideal.Read.val_main_v2_apply _ _ _).symm
  blk_simp [iblk]
  have g0 : (grid0.coords t 0).val < 4 := (grid0.coords t 0).isLt
  have g1 : (grid0.coords t 1).val < 2 := (grid0.coords t 1).isLt
  rw [mul_comm, half_mul_sum, V_main_arg1, staged]
  refine Finset.sum_congr rfl fun k _ => (mul_left_comm _ _ _).trans ((mul_comm _ _).trans (congrArg₂ (· * ·) ?_ ?_))
  · refine congrArg (Ideal.ofBits .f32 0x3F000000#32 * ·) (congrArg (m ((c : Thread nD τ).loc main_arg1)) ?_)
    blk_ext [idx0, idx1, idx2, ix2, ix3, Matrix.cons_val_zero, Matrix.cons_val_one]
  · refine congrArg (m ((c : Thread nD τ).loc main_arg0)) ?_
    blk_ext [idx0, idx1, idx2, ix2, ix3, Matrix.cons_val_zero, Matrix.cons_val_one]

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem value : Cert.algebraic_Kernel3Ideal_Reference3Ideal := fun m ρ m' ρ' _ agree =>
  ⟨fun c => Cert.Reference3Ideal.Read.val_main_v5 (m ((c : Thread nD τ).loc main_arg0)) (m ((c : Thread nD τ).loc main_arg1)),
    (θ_run defs _ _).mono (fun _ h c => ⟨(h c).1.trans (final m c), (h c).2⟩) (Cert.Kernel3Ideal.Value.run_blocks m ρ),
    (θ_run Cert.Reference3Ideal.defs _ _).mono
      (fun _ h c => ⟨(h c).1.trans ((Cert.Reference3Ideal.Read.val_main_v5_eq _ _).trans
        (congrArg₂ Cert.Reference3Ideal.Read.val_main_v5 (agree c).1 (agree c).2)), (h c).2⟩)
      (Cert.Reference3Ideal.Value.run m' ρ')⟩

end Cert.Proof.FfnOutDw

end
-- ==== Proof.Products.FfnInDw.lean ====
/-
  The weight gradient of the feed-forward input product: `hᵀ · dp`, laid out as eight blocks of 704 columns.
-/
module

public import proofs.«01_k».proof.Defs
public import proofs.«01_k».proof.Proof.Products.Basic
public import proofs.«01_k».proof.Proof.Gen.Kernel4.Frame
public import proofs.«01_k».proof.Proof.Gen.Kernel4Ideal.Value
public import proofs.«01_k».proof.Proof.Gen.Reference4Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.FfnInDw

open Cert.Kernel4Ideal Cert.Kernel4Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The normed rows are staged narrowed, which over the extended reals is as they are. -/
theorem staged_h (c : Dev nD) :
    V m c main_v0 = (truncf .bf16 (m ((c : Thread nD τ).loc main_arg0) : FVec Ideal S2048x1024 .f32) bitsLt_bf16_f32 : FVec Ideal S2048x1024 .bf16) := by
  unfold V; after_results <;> rfl

/-- The gradients are staged as 8 blocks of 704 columns. -/
theorem staged_dp (c : Dev nD) :
    V m c main_v3 = (fun i : S8x2048x704.Idx => (m ((c : Thread nD τ).loc main_arg1) : FVec Ideal S2048x5632 .f32)
      (ix2 (i 1) ⟨(i 0).val * 704 + (i 2).val, block_lt 5632 8 704 rfl (i 0) (i 2)⟩)) := by
  have e : V m c main_v3 = transpose S8x2048x704 [1, 0, 2] (shapeCast S2048x8x704
      (truncf .bf16 (m ((c : Thread nD τ).loc main_arg1) : FVec Ideal S2048x5632 .f32) bitsLt_bf16_f32 : FVec Ideal S2048x5632 .bf16)
      shapeCasts_S2048x5632_S2048x8x704) transposes_S2048x8x704_S8x2048x704_1_0_2 := by
    unfold V; after_results <;> rfl
  rw [e]
  exact funext fun i => blocks_apply (M := 2048) (B := 8) (n := 704) rfl _ _ _ i

/-- What the body stores, at an index. -/
theorem pay_apply (a : Vec Ideal S2048x1024 .bf16) (b : Vec Ideal S1x2048x704 .bf16) (y : S1x1024x704.Idx) :
    k0_pay1 a b y = ∑ k : Fin 2048, a (ix2 k (y 1)) * b (ix3 0 k (y 2)) := by
  unfold k0_pay1
  refine (shapeCast_addUnit_apply ![1024, 704] _ _ y).trans ?_
  refine (matmul_cols_cols _ rfl rfl rfl rfl rfl rfl _ _ _).trans ?_
  rw [shapeCast_self]
  exact Finset.sum_congr rfl fun k _ => congrArg (a (ix2 k (y 1)) * ·) (unit_apply b _ _ _)

theorem idx0 : ∀ t : Fin cfg0.N, win0_0.index t = ![0, 0] :=
  (by decide +kernel : ∀ t : Fin grid0.N, _)
theorem idx1 : ∀ t : Fin cfg0.N, win0_1.index t = ![(grid0.coords t 1).val, 0, 0] :=
  (by decide +kernel : ∀ t : Fin grid0.N, _)
theorem idx2 : ∀ t : Fin cfg0.N, win0_2.index t = ![(grid0.coords t 1).val, 0, 0] :=
  (by decide +kernel : ∀ t : Fin grid0.N, _)

/-- The kernel's output array is the reference's result. -/
theorem final (c : Dev nD) : (dats m 0 c).arrAt 2 cfg0.N
    = Cert.Reference4Ideal.Read.val_main_v4 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  rw [Cert.Reference4Ideal.Read.val_main_v4_apply, Cert.Reference4Ideal.Read.val_main_v3_apply, Cert.Reference4Ideal.Read.val_main_v2_apply, Cert.Reference4Ideal.Read.val_main_v1_apply]
  refine Eq.trans ?_ (Cert.Reference4Ideal.Read.val_main_v0_apply _ _ _).symm
  blk_simp [iblk]
  have g1 : (grid0.coords t 1).val < 8 := (grid0.coords t 1).isLt
  rw [staged_h, staged_dp]
  refine Finset.sum_congr rfl fun k _ => (mul_comm _ _).trans (congrArg₂ (· * ·) ?_ ?_)
  · refine congrArg (m ((c : Thread nD τ).loc main_arg1)) ?_
    blk_ext [idx0, idx1, idx2, ix2, ix3, Matrix.cons_val_zero, Matrix.cons_val_one]
  · refine congrArg (m ((c : Thread nD τ).loc main_arg0)) ?_
    blk_ext [idx0, idx1, idx2, ix2, ix3, Matrix.cons_val_zero, Matrix.cons_val_one]

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem value : Cert.algebraic_Kernel4Ideal_Reference4Ideal := fun m ρ m' ρ' _ agree =>
  ⟨fun c => Cert.Reference4Ideal.Read.val_main_v4 (m ((c : Thread nD τ).loc main_arg0)) (m ((c : Thread nD τ).loc main_arg1)),
    (θ_run defs _ _).mono (fun _ h c => ⟨(h c).1.trans (final m c), (h c).2⟩) (Cert.Kernel4Ideal.Value.run_blocks m ρ),
    (θ_run Cert.Reference4Ideal.defs _ _).mono
      (fun _ h c => ⟨(h c).1.trans ((Cert.Reference4Ideal.Read.val_main_v4_eq _ _).trans
        (congrArg₂ Cert.Reference4Ideal.Read.val_main_v4 (agree c).1 (agree c).2)), (h c).2⟩)
      (Cert.Reference4Ideal.Value.run m' ρ')⟩

end Cert.Proof.FfnInDw

end
-- ==== Proof.Products.FfnInDx.lean ====
/-
  The feed-forward layer's gradient for its normed input: `dp · w_inᵀ`, accumulated over the eight blocks of columns.
-/
module

public import proofs.«01_k».proof.Defs
public import proofs.«01_k».proof.Proof.Products.Basic
public import proofs.«01_k».proof.Proof.Gen.Kernel5.Frame
public import proofs.«01_k».proof.Proof.Gen.Kernel5Ideal.Value
public import proofs.«01_k».proof.Proof.Gen.Reference5Ideal.Read
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.Proof.FfnInDx

open Cert.Kernel5Ideal Cert.Kernel5Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The gradients are staged as 8 blocks of 704 columns. -/
theorem staged_dp (c : Dev nD) :
    V m c main_v2 = (fun i : S8x2048x704.Idx => (m ((c : Thread nD τ).loc main_arg0) : FVec Ideal S2048x5632 .f32)
      (ix2 (i 1) ⟨(i 0).val * 704 + (i 2).val, block_lt 5632 8 704 rfl (i 0) (i 2)⟩)) := by
  have e : V m c main_v2 = transpose S8x2048x704 [1, 0, 2] (shapeCast S2048x8x704
      (truncf .bf16 (m ((c : Thread nD τ).loc main_arg0) : FVec Ideal S2048x5632 .f32) bitsLt_bf16_f32 : FVec Ideal S2048x5632 .bf16)
      shapeCasts_S2048x5632_S2048x8x704) transposes_S2048x8x704_S8x2048x704_1_0_2 := by
    unfold V; after_results <;> rfl
  rw [e]
  exact funext fun i => blocks_apply (M := 2048) (B := 8) (n := 704) rfl _ _ _ i

/-- The weights are staged as 8 blocks of 704 columns. -/
theorem staged_w (c : Dev nD) :
    V m c main_v5 = (fun i : S8x1024x704.Idx => (m ((c : Thread nD τ).loc main_arg1) : FVec Ideal S1024x5632 .f32)
      (ix2 (i 1) ⟨(i 0).val * 704 + (i 2).val, block_lt 5632 8 704 rfl (i 0) (i 2)⟩)) := by
  have e : V m c main_v5 = transpose S8x1024x704 [1, 0, 2] (shapeCast S1024x8x704
      (truncf .bf16 (m ((c : Thread nD τ).loc main_arg1) : FVec Ideal S1024x5632 .f32) bitsLt_bf16_f32 : FVec Ideal S1024x5632 .bf16)
      shapeCasts_S1024x5632_S1024x8x704) transposes_S1024x8x704_S8x1024x704_1_0_2 := by
    unfold V; after_results <;> rfl
  rw [e]
  exact funext fun i => blocks_apply (M := 1024) (B := 8) (n := 704) rfl _ _ _ i

/-- One block's product, at an index. -/
theorem part_apply (a b : Vec Ideal S1x1024x704 .bf16) (y : S1024x1024.Idx) :
    k0_pay1 a b y = ∑ k : Fin 704, a (ix3 0 (y 0) k) * b (ix3 0 (y 1) k) := by
  unfold k0_pay1
  refine (matmul_rows_rows _ rfl rfl rfl rfl rfl rfl _ _ _).trans ?_
  exact Finset.sum_congr rfl fun k _ => congrArg₂ (· * ·) (unit_apply a _ _ _) (unit_apply b _ _ _)

/-- What the first step leaves in the accumulator. -/
theorem first_apply (a b : Vec Ideal S1x1024x704 .bf16) (y : S1024x1024.Idx) : k0_pay2 a b y = k0_pay1 a b y := by
  unfold k0_pay2
  exact congrFun (shapeCast_self _ _) y

/-- What a later step leaves in the accumulator. -/
theorem next_apply (a b : Vec Ideal S1x1024x704 .bf16) (acc : Vec Ideal S1024x1024 .f32) (y : S1024x1024.Idx) :
    k0_pay3 a b acc y = acc y + k0_pay1 a b y := by
  unfold k0_pay3
  exact congrFun (shapeCast_self _ _) y

theorem idx0 : ∀ (t : Fin cfg0.N) (s : Fin 8) (h : 8 * (t.val / 8) + s.val < cfg0.N),
    win0_0.index ⟨8 * (t.val / 8) + s.val, h⟩ = ![s.val, (grid0.coords t 0).val, 0] :=
  (by decide +kernel : ∀ (t : Fin grid0.N) (s : Fin 8) (h : 8 * (t.val / 8) + s.val < grid0.N), _)
theorem idx1 : ∀ (t : Fin cfg0.N) (s : Fin 8) (h : 8 * (t.val / 8) + s.val < cfg0.N),
    win0_1.index ⟨8 * (t.val / 8) + s.val, h⟩ = ![s.val, 0, 0] :=
  (by decide +kernel : ∀ (t : Fin grid0.N) (s : Fin 8) (h : 8 * (t.val / 8) + s.val < grid0.N), _)
theorem idx2 : ∀ t : Fin cfg0.N, win0_2.index t = ![(grid0.coords t 0).val, 0] :=
  (by decide +kernel : ∀ t : Fin grid0.N, _)

/-- At a run's last point the accumulator holds the sum of the run's products. -/
theorem acc_apply (c : Dev nD) (t : Fin cfg0.N) (h : t.val % 8 = 7) (y : S1024x1024.Idx) :
    (outsAt0 m c t.val t.isLt).2 y = ∑ s : Fin 8,
      k0_pay1 (iblk m c 0 ⟨8 * (t.val / 8) + s.val, Pipeline.run_point_lt_of_flush t h s⟩)
        (iblk m c 1 ⟨8 * (t.val / 8) + s.val, Pipeline.run_point_lt_of_flush t h s⟩) y := by
  rw [Pipeline.eq_sum_fin_of_reset_step_apply_of_flush (fun n h => (outsAt0 m c n h).2) 8 (fun _ => 0)
    (fun t y => k0_pay1 (iblk m c 0 t) (iblk m c 1 t) y)
    (fun t h y => by
      rw [outsAt0_A m c t h (by omega) (by omega)]; frame_out
      exact (first_apply _ _ y).trans (zero_add _).symm)
    (fun t h y => by
      by_cases h2 : t.val % 8 = 7
      · rw [outsAt0_C m c t h (by omega) h2]; frame_out
        rw [read_unread_whole]
        exact next_apply _ _ _ y
      · rw [outsAt0_B m c t h (by omega) h2]; frame_out
        rw [read_unread_whole]
        exact next_apply _ _ _ y) t h y]
  exact zero_add _

/-- At a run's last point the output block is the accumulator. -/
theorem out_apply (c : Dev nD) (t : Fin cfg0.N) (h : t.val % 8 = 7) (y : S1024x1024.Idx) :
    (outsAt0 m c t.val t.isLt).1 y = (outsAt0 m c t.val t.isLt).2 y := by
  rw [outsAt0_C m c t (by omega) (by omega) h]
  frame_out

/-- The kernel's output array is the reference's result. -/
theorem final (c : Dev nD) : (dats m 0 c).arrAt 2 cfg0.N
    = Cert.Reference5Ideal.Read.val_main_v0 (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2]
  refine (out_apply m c t h7 y).trans ((acc_apply m c t h7 y).trans ?_)
  refine Eq.trans ?_ (Cert.Reference5Ideal.Read.val_main_v0_apply _ _ _).symm
  refine (Finset.sum_congr rfl fun s _ => part_apply _ _ y).trans ?_
  refine Fin.sum_mul_add_congr fun s k hl => ?_
  blk_simp [iblk]
  have g0 : (grid0.coords t 0).val < 2 := (grid0.coords t 0).isLt
  rw [staged_dp, staged_w]
  refine congrArg₂ (· * ·) ?_ ?_
  · refine congrArg (m ((c : Thread nD τ).loc main_arg0)) ?_
    blk_ext [idx0, idx1, idx2, ix2, ix3, Matrix.cons_val_zero, Matrix.cons_val_one]
  · refine congrArg (m ((c : Thread nD τ).loc main_arg1)) ?_
    blk_ext [idx0, idx1, idx2, ix2, ix3, Matrix.cons_val_zero, Matrix.cons_val_one]

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem value : Cert.algebraic_Kernel5Ideal_Reference5Ideal := fun m ρ m' ρ' _ agree =>
  ⟨fun c => Cert.Reference5Ideal.Read.val_main_v0 (m ((c : Thread nD τ).loc main_arg0)) (m ((c : Thread nD τ).loc main_arg1)),
    (θ_run defs _ _).mono (fun _ h c => ⟨(h c).1.trans (final m c), (h c).2⟩) (Cert.Kernel5Ideal.Value.run_blocks m ρ),
    (θ_run Cert.Reference5Ideal.defs _ _).mono
      (fun _ h c => ⟨(h c).1.trans ((Cert.Reference5Ideal.Read.val_main_v0_eq _ _).trans
        (congrArg₂ Cert.Reference5Ideal.Read.val_main_v0 (agree c).1 (agree c).2)), (h c).2⟩)
      (Cert.Reference5Ideal.Value.run m' ρ')⟩

end Cert.Proof.FfnInDx

end
-- ==== Proof.Products.ProjDw.lean ====
/-
  The weight gradient of the mixer's combined projection: `hᵀ · d_proj`.
-/
module

public import proofs.«01_k».proof.Defs
public import proofs.«01_k».proof.Proof.Products.Basic
public import proofs.«01_k».proof.Proof.Gen.Kernel6.Frame
public import proofs.«01_k».proof.Proof.Gen.Kernel6Ideal.Value
public import proofs.«01_k».proof.Proof.Gen.Reference6Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.ProjDw

open Cert.Kernel6Ideal Cert.Kernel6Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The normed rows are staged narrowed, which over the extended reals is as they are. -/
theorem staged_h (c : Dev nD) :
    V m c main_v0 = (truncf .bf16 (m ((c : Thread nD τ).loc main_arg0) : FVec Ideal S2048x1024 .f32) bitsLt_bf16_f32 : FVec Ideal S2048x1024 .bf16) := by
  unfold V; after_results <;> rfl

/-- The gradients are staged narrowed, which over the extended reals is as they are. -/
theorem staged_d (c : Dev nD) :
    V m c main_v1 = (truncf .bf16 (m ((c : Thread nD τ).loc main_arg1) : FVec Ideal S2048x9216 .f32) bitsLt_bf16_f32 : FVec Ideal S2048x9216 .bf16) := by
  unfold V; after_results <;> rfl

/-- What the body stores, at an index. -/
theorem pay_apply (a : Vec Ideal S2048x1024 .bf16) (b : Vec Ideal S2048x512 .bf16) (y : S1024x512.Idx) :
    k0_pay1 a b y = ∑ k : Fin 2048, a (ix2 k (y 0)) * b (ix2 k (y 1)) := by
  unfold k0_pay1
  refine (matmul_cols_cols _ rfl rfl rfl rfl rfl rfl _ _ _).trans ?_
  rw [shapeCast_self, shapeCast_self]

theorem idx0 : ∀ t : Fin cfg0.N, win0_0.index t = ![0, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![0, (grid0.coords t 1).val] :=
  (by decide +kernel : ∀ t : Fin grid0.N, _)

/-- The kernel's output array is the reference's result. -/
theorem final (c : Dev nD) : (dats m 0 c).arrAt 2 cfg0.N
    = Cert.Reference6Ideal.Read.val_main_v2 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  rw [Cert.Reference6Ideal.Read.val_main_v2_apply, Cert.Reference6Ideal.Read.val_main_v1_apply]
  refine Eq.trans ?_ (Cert.Reference6Ideal.Read.val_main_v0_apply _ _ _).symm
  blk_simp [iblk]
  rw [staged_h, staged_d]
  refine Finset.sum_congr rfl fun k _ => (mul_comm _ _).trans (congrArg₂ (· * ·) ?_ ?_)
  · refine congrArg (m ((c : Thread nD τ).loc main_arg1)) ?_
    blk_ext [idx0, idx1, idx2, ix2, ix3, Matrix.cons_val_zero, Matrix.cons_val_one]
  · refine congrArg (m ((c : Thread nD τ).loc main_arg0)) ?_
    blk_ext [idx0, idx1, idx2, ix2, ix3, Matrix.cons_val_zero, Matrix.cons_val_one]

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem value : Cert.algebraic_Kernel6Ideal_Reference6Ideal := fun m ρ m' ρ' _ agree =>
  ⟨fun c => Cert.Reference6Ideal.Read.val_main_v2 (m ((c : Thread nD τ).loc main_arg0)) (m ((c : Thread nD τ).loc main_arg1)),
    (θ_run defs _ _).mono (fun _ h c => ⟨(h c).1.trans (final m c), (h c).2⟩) (Cert.Kernel6Ideal.Value.run_blocks m ρ),
    (θ_run Cert.Reference6Ideal.defs _ _).mono
      (fun _ h c => ⟨(h c).1.trans ((Cert.Reference6Ideal.Read.val_main_v2_eq _ _).trans
        (congrArg₂ Cert.Reference6Ideal.Read.val_main_v2 (agree c).1 (agree c).2)), (h c).2⟩)
      (Cert.Reference6Ideal.Value.run m' ρ')⟩

end Cert.Proof.ProjDw

end
-- ==== Proof.Products.ProjDx.lean ====
/-
  The mixer's gradient for its normed input: `dh + d_proj · w_mainᵀ`, accumulated over four slices of the columns.
-/
module

public import proofs.«01_k».proof.Defs
public import proofs.«01_k».proof.Proof.Products.Basic
public import proofs.«01_k».proof.Proof.Gen.Kernel7.Frame
public import proofs.«01_k».proof.Proof.Gen.Kernel7Ideal.Value
public import proofs.«01_k».proof.Proof.Gen.Reference7Ideal.Read
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.Proof.ProjDx

open Cert.Kernel7Ideal Cert.Kernel7Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The gradients are staged narrowed, which over the extended reals is as they are. -/
theorem staged_dp (c : Dev nD) :
    V m c main_v0 = (truncf .bf16 (m ((c : Thread nD τ).loc main_arg0) : FVec Ideal S2048x9216 .f32) bitsLt_bf16_f32 : FVec Ideal S2048x9216 .bf16) := by
  unfold V; after_results <;> rfl

/-- So are the weights. -/
theorem staged_w (c : Dev nD) :
    V m c main_v1 = (truncf .bf16 (m ((c : Thread nD τ).loc main_arg1) : FVec Ideal S1024x9216 .f32) bitsLt_bf16_f32 : FVec Ideal S1024x9216 .bf16) := by
  unfold V; after_results <;> rfl

/-- One slice's product, at an index. -/
theorem part_apply (a : Vec Ideal S1024x2304 .bf16) (b : Vec Ideal S512x2304 .bf16) (y : S1024x512.Idx) :
    k0_pay1 a b y = ∑ k : Fin 2304, a (ix2 (y 0) k) * b (ix2 (y 1) k) := by
  unfold k0_pay1
  refine (matmul_rows_rows _ rfl rfl rfl rfl rfl rfl _ _ _).trans ?_
  rw [shapeCast_self, shapeCast_self]

/-- What the first step leaves in the accumulator. -/
theorem first_apply (a : Vec Ideal S1024x2304 .bf16) (b : Vec Ideal S512x2304 .bf16) (y : S1024x512.Idx) : k0_pay2 a b y = k0_pay1 a b y := by
  unfold k0_pay2
  exact congrFun (shapeCast_self _ _) y

/-- What a later step leaves in the accumulator. -/
theorem next_apply (a : Vec Ideal S1024x2304 .bf16) (b : Vec Ideal S512x2304 .bf16) (acc : Vec Ideal S1024x512 .f32) (y : S1024x512.Idx) :
    k0_pay3 a b acc y = acc y + k0_pay1 a b y := by
  unfold k0_pay3
  exact congrFun (shapeCast_self _ _) y

theorem idx0 : ∀ (t : Fin cfg0.N) (s : Fin 4) (h : 4 * (t.val / 4) + s.val < cfg0.N),
    win0_0.index ⟨4 * (t.val / 4) + s.val, h⟩ = ![(grid0.coords t 0).val, s.val] :=
  (by decide +kernel : ∀ (t : Fin grid0.N) (s : Fin 4) (h : 4 * (t.val / 4) + s.val < grid0.N), _)
theorem idx1 : ∀ (t : Fin cfg0.N) (s : Fin 4) (h : 4 * (t.val / 4) + s.val < cfg0.N),
    win0_1.index ⟨4 * (t.val / 4) + s.val, h⟩ = ![(grid0.coords t 1).val, s.val] :=
  (by decide +kernel : ∀ (t : Fin grid0.N) (s : Fin 4) (h : 4 * (t.val / 4) + s.val < grid0.N), _)
theorem idx2 : ∀ t : Fin cfg0.N, win0_2.index t = ![(grid0.coords t 0).val, (grid0.coords t 1).val] :=
  (by decide +kernel : ∀ t : Fin grid0.N, _)
theorem idx3 : ∀ t : Fin cfg0.N, win0_3.index t = ![(grid0.coords t 0).val, (grid0.coords t 1).val] :=
  (by decide +kernel : ∀ t : Fin grid0.N, _)

/-- At a run's last point the accumulator holds the sum of the run's products. -/
theorem acc_apply (c : Dev nD) (t : Fin cfg0.N) (h : t.val % 4 = 3) (y : S1024x512.Idx) :
    (outsAt0 m c t.val t.isLt).2 y = ∑ s : Fin 4,
      k0_pay1 (iblk m c 0 ⟨4 * (t.val / 4) + s.val, Pipeline.run_point_lt_of_flush t h s⟩)
        (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t y => k0_pay1 (iblk m c 0 t) (iblk m c 1 t) y)
    (fun t h y => by
      rw [outsAt0_A m c t h (by omega) (by omega)]; frame_out
      exact (first_apply _ _ y).trans (zero_add _).symm)
    (fun t h y => by
      by_cases h2 : t.val % 4 = 3
      · rw [outsAt0_C m c t h (by omega) h2]; frame_out
        rw [read_unread_whole]
        exact next_apply _ _ _ y
      · rw [outsAt0_B m c t h (by omega) h2]; frame_out
        rw [read_unread_whole]
        exact next_apply _ _ _ y) t h y]
  exact zero_add _

/-- What the last step stores: the residual plus the accumulator. -/
theorem last_apply (acc resid : Vec Ideal S1024x512 .f32) (y : S1024x512.Idx) :
    k0_pay4 acc resid y = resid y + acc y := rfl

/-- At a run's last point the output block is that, of what the accumulator then holds. -/
theorem out_apply (c : Dev nD) (t : Fin cfg0.N) (h : t.val % 4 = 3) (y : S1024x512.Idx) :
    (outsAt0 m c t.val t.isLt).1 y = k0_pay4 (outsAt0 m c t.val t.isLt).2 (iblk m c 2 t) y := by
  rw [outsAt0_C m c t (by omega) (by omega) h]
  frame_out

/-- The kernel's output array is the reference's result. -/
theorem final (c : Dev nD) : (dats m 0 c).arrAt 3 cfg0.N
    = Cert.Reference7Ideal.Read.val_main_v1 (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  blk_simp
  rw [after0_3]
  refine (out_apply m c t h3 y).trans ((last_apply _ _ y).trans ?_)
  rw [Cert.Reference7Ideal.Read.val_main_v1_apply]
  refine (add_comm _ _).trans ?_
  have g0 : (grid0.coords t 0).val < 2 := (grid0.coords t 0).isLt
  have g1 : (grid0.coords t 1).val < 2 := (grid0.coords t 1).isLt
  refine congrArg₂ (· + ·) ?_ ?_
  · refine (acc_apply m c t h3 y).trans ?_
    refine Eq.trans ?_ (Cert.Reference7Ideal.Read.val_main_v0_apply _ _ _).symm
    refine (Finset.sum_congr rfl fun s _ => part_apply _ _ y).trans ?_
    refine Fin.sum_mul_add_congr fun s k hl => ?_
    blk_simp [iblk]
    rw [staged_dp, staged_w]
    refine congrArg₂ (· * ·) ?_ ?_
    · refine congrArg (m ((c : Thread nD τ).loc main_arg0)) ?_
      blk_ext [idx0, idx1, idx2, idx3, ix2, ix3, Matrix.cons_val_zero, Matrix.cons_val_one]
    · refine congrArg (m ((c : Thread nD τ).loc main_arg1)) ?_
      blk_ext [idx0, idx1, idx2, idx3, ix2, ix3, Matrix.cons_val_zero, Matrix.cons_val_one]
  · blk_simp [iblk]
    rw [V_main_arg2]
    refine congrArg (m ((c : Thread nD τ).loc main_arg2)) ?_
    blk_ext [idx2, idx3, ix2, ix3, Matrix.cons_val_zero, Matrix.cons_val_one]

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem value : Cert.algebraic_Kernel7Ideal_Reference7Ideal := fun m ρ m' ρ' _ agree =>
  ⟨fun c => Cert.Reference7Ideal.Read.val_main_v1 (m ((c : Thread nD τ).loc main_arg0)) (m ((c : Thread nD τ).loc main_arg1)) (m ((c : Thread nD τ).loc main_arg2)),
    (θ_run defs _ _).mono (fun _ h c => ⟨(h c).1.trans (final m c), (h c).2⟩) (Cert.Kernel7Ideal.Value.run_blocks m ρ),
    (θ_run Cert.Reference7Ideal.defs _ _).mono
      (fun _ h c => ⟨(h c).1.trans ((Cert.Reference7Ideal.Read.val_main_v1_eq _ _ _).trans
        (congr (congrArg₂ Cert.Reference7Ideal.Read.val_main_v1 (agree c).1 (agree c).2.1) (agree c).2.2)), (h c).2⟩)
      (Cert.Reference7Ideal.Value.run m' ρ')⟩

end Cert.Proof.ProjDx

end
-- ==== Proof.Products.FfnInAct.lean ====
/-
  The feed-forward layer's first product and its activation: `h · w_in` as blocks of gate and up columns, and
  `silu(gate) · up`.
-/
module

public import proofs.«01_k».proof.Defs
public import proofs.«01_k».proof.Proof.Products.Basic
public import proofs.«01_k».proof.Proof.Gen.Kernel8.Frame
public import proofs.«01_k».proof.Proof.Gen.Kernel8Ideal.Value
public import proofs.«01_k».proof.Proof.Gen.Reference8Ideal.Read
public import Idealize.ShloMosaic.Lib.Quiescent
public import Idealize.ShloMosaic.Lib.Pipeline.ValueKit.Geometry
public import Idealize.ShloMosaic.Lib.Pipeline.ValueKit.Acc
public import Idealize.ShloMosaic.Lib.Pipeline.ValueKit.Tiles

@[expose] public section

noncomputable section

namespace Cert.Proof.FfnInAct

open Cert.Kernel8Ideal Cert.Kernel8Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The normed rows are staged narrowed, which over the extended reals is as they are. -/
theorem staged_h (c : Dev nD) :
    V m c main_v0 = (truncf .bf16 (m ((c : Thread nD τ).loc main_arg0) : FVec Ideal S2048x1024 .f32) bitsLt_bf16_f32 : FVec Ideal S2048x1024 .bf16) := by
  unfold V; after_results <;> rfl

/-- The weights are staged as 8 blocks of 704 columns. -/
theorem staged_w (c : Dev nD) :
    V m c main_v3 = (fun i : S8x1024x704.Idx => (m ((c : Thread nD τ).loc main_arg1) : FVec Ideal S1024x5632 .f32)
      (ix2 (i 1) ⟨(i 0).val * 704 + (i 2).val, block_lt 5632 8 704 rfl (i 0) (i 2)⟩)) := by
  have e : V m c main_v3 = transpose S8x1024x704 [1, 0, 2] (shapeCast S1024x8x704
      (truncf .bf16 (m ((c : Thread nD τ).loc main_arg1) : FVec Ideal S1024x5632 .f32) bitsLt_bf16_f32 : FVec Ideal S1024x5632 .bf16)
      shapeCasts_S1024x5632_S1024x8x704) transposes_S1024x8x704_S8x1024x704_1_0_2 := by
    unfold V; after_results <;> rfl
  rw [e]
  exact funext fun i => blocks_apply (M := 1024) (B := 8) (n := 704) rfl _ _ _ i

/-- The product of the rows and the weights, at a row and a column. -/
def prod (x : FVec Ideal S2048x1024 .f32) (w : FVec Ideal S1024x5632 .f32) (r : Fin 2048) (l : Fin 5632) : EReal :=
  ∑ k : Fin 1024, x (ix2 r k) * w (ix2 k l)

/-- `gate · sigmoid(gate) · up`. -/
def act (g u : EReal) : EReal :=
  g * Ideal.div (Ideal.ofBits .f32 0x3F800000#32) (Ideal.ofBits .f32 0x3F800000#32 + Ideal.exp (-g)) * u

/-- The gate columns of a block, at an index. -/
theorem gate_apply (a : Vec Ideal S1024x1024 .bf16) (b : Vec Ideal S1x1024x704 .bf16) (y : S1024x704.Idx) :
    k0_pay2 a b y = ∑ k : Fin 1024, a (ix2 (y 0) k) * b (ix3 0 k (y 1)) := by
  unfold k0_pay2 k0_pay1
  refine (matmul_rows_cols _ rfl rfl rfl rfl rfl rfl _ _ _).trans ?_
  rw [shapeCast_self]
  exact Finset.sum_congr rfl fun k _ => congrArg (a (ix2 (y 0) k) * ·) (unit_apply b _ _ _)

/-- The up columns of a block, at an index. -/
theorem up_apply (a : Vec Ideal S1024x1024 .bf16) (b : Vec Ideal S1x1024x704 .bf16) (y : S1024x704.Idx) :
    k0_pay3 a b y = ∑ k : Fin 1024, a (ix2 (y 0) k) * b (ix3 0 k (y 1)) := gate_apply a b y

/-- What is stored of the activation, at an index. -/
theorem act_apply (a : Vec Ideal S1024x1024 .bf16) (b d : Vec Ideal S1x1024x704 .bf16) (y : S1x1024x704.Idx) :
    k0_pay6 a b d y = act (k0_pay2 a b (ix2 (y 1) (y 2))) (k0_pay3 a d (ix2 (y 1) (y 2))) := by
  unfold k0_pay6
  refine (shapeCast_addUnit_apply ![1024, 704] _ _ y).trans ?_
  have e : ∀ g u : EReal, g * Ideal.div (Ideal.ofBits .f32 0x3F800000#32) (Ideal.ofBits .f32 0x3F800000#32
      + Ideal.exp (Ideal.ofBits .f32 0x00000000#32 - g)) * u = act g u := fun g u => by
    rw [Ideal.ofBits_zero_f32, zero_sub]; rfl
  exact e _ _

theorem idx0 : ∀ t : Fin cfg0.N, win0_0.index t = ![(grid0.coords t 0).val, 0] :=
  (by decide +kernel : ∀ t : Fin grid0.N, _)
theorem idx1 : ∀ t : Fin cfg0.N, win0_1.index t = ![(grid0.coords t 1).val, 0, 0] :=
  (by decide +kernel : ∀ t : Fin grid0.N, _)
theorem idx2 : ∀ t : Fin cfg0.N, win0_2.index t = ![(grid0.coords t 1).val + 4, 0, 0] :=
  (by decide +kernel : ∀ t : Fin grid0.N, _)
theorem idx3 : ∀ t : Fin cfg0.N, win0_3.index t = ![0, (grid0.coords t 1).val, (grid0.coords t 0).val, 0] :=
  (by decide +kernel : ∀ t : Fin grid0.N, _)
theorem idx4 : ∀ t : Fin cfg0.N, win0_4.index t = ![(grid0.coords t 1).val, (grid0.coords t 0).val, 0] :=
  (by decide +kernel : ∀ t : Fin grid0.N, _)

/-- A block's gate columns are the product's. -/
theorem gate_block (c : Dev nD) (t : Fin cfg0.N) (r : Fin 1024) (q : Fin 704) (R : Fin 2048) (L : Fin 5632)
    (hR : R.val = (grid0.coords t 0).val * 1024 + r.val) (hL : L.val = (grid0.coords t 1).val * 704 + q.val) :
    k0_pay2 (iblk m c 0 t) (iblk m c 1 t) (ix2 r q)
      = prod (m ((c : Thread nD τ).loc main_arg0)) (m ((c : Thread nD τ).loc main_arg1)) R L := by
  refine (gate_apply _ _ _).trans ?_
  unfold prod
  blk_simp [iblk]
  have g0 : (grid0.coords t 0).val < 2 := (grid0.coords t 0).isLt
  have g1 : (grid0.coords t 1).val < 4 := (grid0.coords t 1).isLt
  rw [staged_h, staged_w]
  refine Finset.sum_congr rfl fun k _ => congrArg₂ (· * ·) ?_ ?_
  · refine congrArg (m ((c : Thread nD τ).loc main_arg0)) ?_
    blk_ext [idx0, ix2, ix3, Matrix.cons_val_zero, Matrix.cons_val_one]
  · refine congrArg (m ((c : Thread nD τ).loc main_arg1)) ?_
    blk_ext [idx1, ix2, ix3, Matrix.cons_val_zero, Matrix.cons_val_one]

/-- A block's up columns are the product's, four blocks on. -/
theorem up_block (c : Dev nD) (t : Fin cfg0.N) (r : Fin 1024) (q : Fin 704) (R : Fin 2048) (L : Fin 5632)
    (hR : R.val = (grid0.coords t 0).val * 1024 + r.val) (hL : L.val = ((grid0.coords t 1).val + 4) * 704 + q.val) :
    k0_pay3 (iblk m c 0 t) (iblk m c 2 t) (ix2 r q)
      = prod (m ((c : Thread nD τ).loc main_arg0)) (m ((c : Thread nD τ).loc main_arg1)) R L := by
  refine (up_apply _ _ _).trans ?_
  unfold prod
  blk_simp [iblk]
  have g0 : (grid0.coords t 0).val < 2 := (grid0.coords t 0).isLt
  have g1 : (grid0.coords t 1).val < 4 := (grid0.coords t 1).isLt
  rw [staged_h, staged_w]
  refine Finset.sum_congr rfl fun k _ => congrArg₂ (· * ·) ?_ ?_
  · refine congrArg (m ((c : Thread nD τ).loc main_arg0)) ?_
    blk_ext [idx0, ix2, ix3, Matrix.cons_val_zero, Matrix.cons_val_one]
  · refine congrArg (m ((c : Thread nD τ).loc main_arg1)) ?_
    blk_ext [idx2, ix2, ix3, Matrix.cons_val_zero, Matrix.cons_val_one]

open Cert.Reference8Ideal.Read in
/-- The reference's product, at an index. -/
theorem ref_prod (x : FVec Ideal S2048x1024 .f32) (w : FVec Ideal S1024x5632 .f32) (i : Cert.Reference8Ideal.S2048x5632.Idx) :
    val_main_v0 (F := Ideal) x w i = prod x w (i 0) (i 1) := by
  refine (val_main_v0_apply x w i).trans (Finset.sum_congr rfl fun k _ => congrArg₂ (· * ·) ?_ ?_)
  · exact congrArg x (funext fun a => match a with | ⟨0, _⟩ => rfl | ⟨1, _⟩ => rfl)
  · exact congrArg w (funext fun a => match a with | ⟨0, _⟩ => rfl | ⟨1, _⟩ => rfl)

open Cert.Reference8Ideal.Read in
/-- The reference's activation, at an index. -/
theorem ref_act (x : FVec Ideal S2048x1024 .f32) (w : FVec Ideal S1024x5632 .f32) (i : Cert.Reference8Ideal.S2048x2816.Idx) :
    val_main_v4 (F := Ideal) x w i = act (val_main_v0 (F := Ideal) x w (idx_main_v1 i)) (val_main_v0 (F := Ideal) x w (idx_main_v2 i)) := by
  rw [val_main_v4_apply, val_main_v3_apply, val_main_v2_apply, val_main_call0_v5_apply, val_main_call0_v3_apply, val_main_call0_v1_apply,
    val_main_call0_v0_apply, val_main_v1_apply, val_main_call0_v4_apply, val_main_call0_v2_apply, val_main_call0_cst_apply, val_main_call0_cst_0_apply]
  rfl

/-- What is stored of the gate columns, at an index. -/
theorem gate_store (a : Vec Ideal S1024x1024 .bf16) (b : Vec Ideal S1x1024x704 .bf16) (y : S1x1x1024x704.Idx) :
    k0_pay4 a b y = k0_pay2 a b (ix2 (y 2) (y 3)) := by
  unfold k0_pay4
  refine shapeCast_apply _ _ _ _ ?_
  have y0 : (y 0).val < 1 := (y 0).isLt
  have y1 : (y 1).val < 1 := (y 1).isLt
  refine (Shape.rowMajor_val_two _).trans (Eq.trans ?_ (Shape.rowMajor_val_four _).symm)
  show (y 2).val * 704 + (y 3).val = (((y 0).val * 1 + (y 1).val) * 1024 + (y 2).val) * 704 + (y 3).val
  omega

/-- What is stored of the up columns, at an index. -/
theorem up_store (a : Vec Ideal S1024x1024 .bf16) (b : Vec Ideal S1x1024x704 .bf16) (y : S1x1x1024x704.Idx) :
    k0_pay5 a b y = k0_pay3 a b (ix2 (y 2) (y 3)) := gate_store a b y

open Cert.Reference8Ideal.Read in
/-- The first output array is the reference's first result. -/
theorem final_p (c : Dev nD) : (dats m 0 c).arrAt 3 cfg0.N
    = val_main_v7 (m ((c : Thread nD τ).loc main_arg0)) (m ((c : Thread nD τ).loc main_arg1)) := by
  refine (dats m 0 c).arrAt_eq_of_covers 3 _ (by decide +kernel) fun t _ y => ?_
  have g0 : (grid0.coords t 0).val < 2 := (grid0.coords t 0).isLt
  have g1 : (grid0.coords t 1).val < 4 := (grid0.coords t 1).isLt
  blk_simp
  rw [after0_3]
  rw [val_main_v7_apply, val_main_v6_apply, val_main_v5_apply]
  refine Eq.trans ?_ (ref_prod _ _ _).symm
  have y0 : (y 0).val < 2 := (y 0).isLt
  have y1 : (y 1).val < 1 := (y 1).isLt
  have y2 : (y 2).val < 1024 := (y 2).isLt
  have y3 : (y 3).val < 704 := (y 3).isLt
  have e0 : ((((View.whole main_v4_0).slice (win0_3.rect t)).emb y) 0).val = (y 0).val := by
    refine Eq.trans (b := win0_3.index t 0 * 2 + (y 0).val) (ValueKit.view_emb_slice_whole_unit_val _ _ _ _ _ _) ?_
    rw [idx3]; exact Nat.zero_add _
  have e1 : ((((View.whole main_v4_0).slice (win0_3.rect t)).emb y) 1).val = (grid0.coords t 1).val := by
    refine Eq.trans (b := win0_3.index t 1 * 1 + (y 1).val) (ValueKit.view_emb_slice_whole_unit_val _ _ _ _ _ _) ?_
    rw [idx3]; show (grid0.coords t 1).val * 1 + (y 1).val = _; omega
  have e2 : ((((View.whole main_v4_0).slice (win0_3.rect t)).emb y) 2).val = (grid0.coords t 0).val * 1024 + (y 2).val := by
    refine Eq.trans (b := win0_3.index t 2 * 1024 + (y 2).val) (ValueKit.view_emb_slice_whole_unit_val _ _ _ _ _ _) ?_
    rw [idx3]; rfl
  have e3 : ((((View.whole main_v4_0).slice (win0_3.rect t)).emb y) 3).val = (y 3).val := by
    refine Eq.trans (b := win0_3.index t 3 * 704 + (y 3).val) (ValueKit.view_emb_slice_whole_unit_val _ _ _ _ _ _) ?_
    rw [idx3]; exact Nat.zero_add _
  canon_tiles x h using cover0_3 ..
  · frame_out
    have x0 : (x 0).val < 1 := (x 0).isLt
    refine (up_store _ _ x).trans (up_block m c t _ _ _ _ ?_ ?_)
    · generalize ((View.whole main_v4_0).slice (win0_3.rect t)).emb y = Y at *
      simp only [idx_main_v6, idx_main_v7]
      omega
    · generalize ((View.whole main_v4_0).slice (win0_3.rect t)).emb y = Y at *
      simp only [idx_main_v6, idx_main_v7]
      omega
  · frame_out
    have x0 : (x 0).val < 1 := (x 0).isLt
    refine (gate_store _ _ x).trans (gate_block m c t _ _ _ _ ?_ ?_)
    · generalize ((View.whole main_v4_0).slice (win0_3.rect t)).emb y = Y at *
      simp only [idx_main_v6, idx_main_v7]
      omega
    · generalize ((View.whole main_v4_0).slice (win0_3.rect t)).emb y = Y at *
      simp only [idx_main_v6, idx_main_v7]
      omega

open Cert.Reference8Ideal.Read in
/-- The second output array is the reference's second result. -/
theorem final_a (c : Dev nD) : (dats m 0 c).arrAt 4 cfg0.N
    = val_main_v10 (m ((c : Thread nD τ).loc main_arg0)) (m ((c : Thread nD τ).loc main_arg1)) := by
  refine (dats m 0 c).arrAt_eq_of_covers 4 _ (by decide +kernel) fun t _ y => ?_
  have g0 : (grid0.coords t 0).val < 2 := (grid0.coords t 0).isLt
  have g1 : (grid0.coords t 1).val < 4 := (grid0.coords t 1).isLt
  blk_simp
  rw [after0_4]
  frame_out
  refine (act_apply _ _ _ y).trans ?_
  rw [val_main_v10_apply, val_main_v9_apply, val_main_v8_apply]
  refine Eq.trans ?_ (ref_act _ _ _).symm
  rw [ref_prod, ref_prod]
  refine congrArg₂ act (gate_block m c t _ _ _ _ ?_ ?_) (up_block m c t _ _ _ _ ?_ ?_)
  all_goals
    have y0 : (y 0).val < 1 := (y 0).isLt
    have y1 : (y 1).val < 1024 := (y 1).isLt
    have y2 : (y 2).val < 704 := (y 2).isLt
    have e0 : ((((View.whole main_v4_1).slice (win0_4.rect t)).emb y) 0).val = (grid0.coords t 1).val := by
      refine Eq.trans (b := win0_4.index t 0 * 1 + (y 0).val) (ValueKit.view_emb_slice_whole_unit_val _ _ _ _ _ _) ?_
      rw [idx4]; show (grid0.coords t 1).val * 1 + (y 0).val = _; omega
    have e1 : ((((View.whole main_v4_1).slice (win0_4.rect t)).emb y) 1).val = (grid0.coords t 0).val * 1024 + (y 1).val := by
      refine Eq.trans (b := win0_4.index t 1 * 1024 + (y 1).val) (ValueKit.view_emb_slice_whole_unit_val _ _ _ _ _ _) ?_
      rw [idx4]; rfl
    have e2 : ((((View.whole main_v4_1).slice (win0_4.rect t)).emb y) 2).val = (y 2).val := by
      refine Eq.trans (b := win0_4.index t 2 * 704 + (y 2).val) (ValueKit.view_emb_slice_whole_unit_val _ _ _ _ _ _) ?_
      rw [idx4]; exact Nat.zero_add _
    generalize ((View.whole main_v4_1).slice (win0_4.rect t)).emb y = Y at *
    simp only [idx_main_v1, idx_main_v2, idx_main_v9, idx_main_v10]
    omega

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

open Cert.Reference8Ideal.Read in
theorem value : Cert.algebraic_Kernel8Ideal_Reference8Ideal := fun m ρ m' ρ' _ agree =>
  ⟨fun c => val_main_v7 (m ((c : Thread nD τ).loc main_arg0)) (m ((c : Thread nD τ).loc main_arg1)),
    fun c => val_main_v10 (m ((c : Thread nD τ).loc main_arg0)) (m ((c : Thread nD τ).loc main_arg1)),
    (θ_run defs _ _).mono (fun _ h c => ⟨(h c).1.trans (final_p m c), (h c).2.1.trans (final_a m c), (h c).2.2⟩)
      (Cert.Kernel8Ideal.Value.run_blocks m ρ),
    (θ_run Cert.Reference8Ideal.defs _ _).mono
      (fun _ h c => ⟨(h c).1.trans ((val_main_v7_eq _ _).trans (congrArg₂ val_main_v7 (agree c).1 (agree c).2)),
        (h c).2.1.trans ((val_main_v10_eq _ _).trans (congrArg₂ val_main_v10 (agree c).1 (agree c).2)), (h c).2.2⟩)
      (Cert.Reference8Ideal.Value.run m' ρ')⟩

end Cert.Proof.FfnInAct

end
-- ==== Proof.Products.FfnOut.lean ====
/-
  The feed-forward layer's second product: `x + ½ · (a · w_out)`, accumulated over the four blocks of hidden columns.
-/
module

public import proofs.«01_k».proof.Defs
public import proofs.«01_k».proof.Proof.Products.Basic
public import proofs.«01_k».proof.Proof.Gen.Kernel9.Frame
public import proofs.«01_k».proof.Proof.Gen.Kernel9Ideal.Value
public import proofs.«01_k».proof.Proof.Gen.Reference9Ideal.Read
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.Proof.FfnOut

open Cert.Kernel9Ideal Cert.Kernel9Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The hidden activations are staged as 4 blocks of 704 columns. -/
theorem staged_a (c : Dev nD) :
    V m c main_v2 = (fun i : S4x2048x704.Idx => (m ((c : Thread nD τ).loc main_arg1) : FVec Ideal S2048x2816 .f32)
      (ix2 (i 1) ⟨(i 0).val * 704 + (i 2).val, block_lt 2816 4 704 rfl (i 0) (i 2)⟩)) := by
  have e : V m c main_v2 = transpose S4x2048x704 [1, 0, 2] (shapeCast S2048x4x704
      (truncf .bf16 (m ((c : Thread nD τ).loc main_arg1) : FVec Ideal S2048x2816 .f32) bitsLt_bf16_f32 : FVec Ideal S2048x2816 .bf16)
      shapeCasts_S2048x2816_S2048x4x704) transposes_S2048x4x704_S4x2048x704_1_0_2 := by
    unfold V; after_results <;> rfl
  rw [e]
  exact funext fun i => blocks_apply (M := 2048) (B := 4) (n := 704) rfl _ _ _ i

/-- The weights are staged narrowed, which over the extended reals is as they are. -/
theorem staged_w (c : Dev nD) :
    V m c main_v3 = (truncf .bf16 (m ((c : Thread nD τ).loc main_arg2) : FVec Ideal S2816x1024 .f32) bitsLt_bf16_f32 : FVec Ideal S2816x1024 .bf16) := by
  unfold V; after_results <;> rfl

/-- One block's product, at an index. -/
theorem part_apply (a : Vec Ideal S1x1024x704 .bf16) (b : Vec Ideal S704x1024 .bf16) (y : S1024x1024.Idx) :
    k0_pay1 a b y = ∑ k : Fin 704, a (ix3 0 (y 0) k) * b (ix2 k (y 1)) := by
  unfold k0_pay1
  refine (matmul_rows_cols _ rfl rfl rfl rfl rfl rfl _ _ _).trans ?_
  rw [shapeCast_self]
  exact Finset.sum_congr rfl fun k _ => congrArg (· * b (ix2 k (y 1))) (unit_apply a _ _ _)

/-- What the first step leaves in the accumulator. -/
theorem first_apply (a : Vec Ideal S1x1024x704 .bf16) (b : Vec Ideal S704x1024 .bf16) (y : S1024x1024.Idx) : k0_pay2 a b y = k0_pay1 a b y := by
  unfold k0_pay2
  exact congrFun (shapeCast_self _ _) y

/-- What a later step leaves in the accumulator. -/
theorem next_apply (a : Vec Ideal S1x1024x704 .bf16) (b : Vec Ideal S704x1024 .bf16) (acc : Vec Ideal S1024x1024 .f32) (y : S1024x1024.Idx) :
    k0_pay3 a b acc y = acc y + k0_pay1 a b y := by
  unfold k0_pay3
  exact congrFun (shapeCast_self _ _) y

theorem idx0 : ∀ (t : Fin cfg0.N) (s : Fin 4) (h : 4 * (t.val / 4) + s.val < cfg0.N),
    win0_0.index ⟨4 * (t.val / 4) + s.val, h⟩ = ![s.val, (grid0.coords t 0).val, 0] :=
  (by decide +kernel : ∀ (t : Fin grid0.N) (s : Fin 4) (h : 4 * (t.val / 4) + s.val < grid0.N), _)
theorem idx1 : ∀ (t : Fin cfg0.N) (s : Fin 4) (h : 4 * (t.val / 4) + s.val < cfg0.N),
    win0_1.index ⟨4 * (t.val / 4) + s.val, h⟩ = ![s.val, 0] :=
  (by decide +kernel : ∀ (t : Fin grid0.N) (s : Fin 4) (h : 4 * (t.val / 4) + s.val < grid0.N), _)
theorem idx2 : ∀ t : Fin cfg0.N, win0_2.index t = ![(grid0.coords t 0).val, 0] :=
  (by decide +kernel : ∀ t : Fin grid0.N, _)
theorem idx3 : ∀ t : Fin cfg0.N, win0_3.index t = ![(grid0.coords t 0).val, 0] :=
  (by decide +kernel : ∀ t : Fin grid0.N, _)

/-- At a run's last point the accumulator holds the sum of the run's products. -/
theorem acc_apply (c : Dev nD) (t : Fin cfg0.N) (h : t.val % 4 = 3) (y : S1024x1024.Idx) :
    (outsAt0 m c t.val t.isLt).2 y = ∑ s : Fin 4,
      k0_pay1 (iblk m c 0 ⟨4 * (t.val / 4) + s.val, Pipeline.run_point_lt_of_flush t h s⟩)
        (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t y => k0_pay1 (iblk m c 0 t) (iblk m c 1 t) y)
    (fun t h y => by
      rw [outsAt0_A m c t h (by omega) (by omega)]; frame_out
      exact (first_apply _ _ y).trans (zero_add _).symm)
    (fun t h y => by
      by_cases h2 : t.val % 4 = 3
      · rw [outsAt0_C m c t h (by omega) h2]; frame_out
        rw [read_unread_whole]
        exact next_apply _ _ _ y
      · rw [outsAt0_B m c t h (by omega) h2]; frame_out
        rw [read_unread_whole]
        exact next_apply _ _ _ y) t h y]
  exact zero_add _

/-- What the last step stores: the residual plus half the accumulator. -/
theorem last_apply (acc resid : Vec Ideal S1024x1024 .f32) (y : S1024x1024.Idx) :
    k0_pay4 acc resid y = resid y + acc y * Ideal.ofBits .f32 0x3F000000#32 := rfl

/-- At a run's last point the output block is that, of what the accumulator then holds. -/
theorem out_apply (c : Dev nD) (t : Fin cfg0.N) (h : t.val % 4 = 3) (y : S1024x1024.Idx) :
    (outsAt0 m c t.val t.isLt).1 y = k0_pay4 (outsAt0 m c t.val t.isLt).2 (iblk m c 2 t) y := by
  rw [outsAt0_C m c t (by omega) (by omega) h]
  frame_out

/-- The kernel's output array is the reference's result. -/
theorem final (c : Dev nD) : (dats m 0 c).arrAt 3 cfg0.N
    = Cert.Reference9Ideal.Read.val_main_v3 (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  blk_simp
  rw [after0_3]
  refine (out_apply m c t h3 y).trans ((last_apply _ _ y).trans ?_)
  rw [Cert.Reference9Ideal.Read.val_main_v3_apply, Cert.Reference9Ideal.Read.val_main_v2_apply, Cert.Reference9Ideal.Read.val_main_v1_apply, Cert.Reference9Ideal.Read.val_main_cst_apply]
  have g0 : (grid0.coords t 0).val < 2 := (grid0.coords t 0).isLt
  refine congrArg₂ (· + ·) ?_ ?_
  · blk_simp [iblk]
    rw [V_main_arg0]
    refine congrArg (m ((c : Thread nD τ).loc main_arg0)) ?_
    blk_ext [idx2, idx3, ix2, ix3, Matrix.cons_val_zero, Matrix.cons_val_one]
  · refine (mul_comm _ _).trans (congrArg (Ideal.ofBits .f32 0x3F000000#32 * ·) ?_)
    refine (acc_apply m c t h3 y).trans ?_
    refine Eq.trans ?_ (Cert.Reference9Ideal.Read.val_main_v0_apply _ _ _).symm
    refine (Finset.sum_congr rfl fun s _ => part_apply _ _ y).trans ?_
    refine Fin.sum_mul_add_congr fun s k hl => ?_
    blk_simp [iblk]
    rw [staged_a, staged_w]
    refine congrArg₂ (· * ·) ?_ ?_
    · refine congrArg (m ((c : Thread nD τ).loc main_arg1)) ?_
      blk_ext [idx0, idx1, idx2, idx3, ix2, ix3, Matrix.cons_val_zero, Matrix.cons_val_one]
    · refine congrArg (m ((c : Thread nD τ).loc main_arg2)) ?_
      blk_ext [idx0, idx1, idx2, idx3, ix2, ix3, Matrix.cons_val_zero, Matrix.cons_val_one]

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem value : Cert.algebraic_Kernel9Ideal_Reference9Ideal := fun m ρ m' ρ' _ agree =>
  ⟨fun c => Cert.Reference9Ideal.Read.val_main_v3 (m ((c : Thread nD τ).loc main_arg0)) (m ((c : Thread nD τ).loc main_arg1)) (m ((c : Thread nD τ).loc main_arg2)),
    (θ_run defs _ _).mono (fun _ h c => ⟨(h c).1.trans (final m c), (h c).2⟩) (Cert.Kernel9Ideal.Value.run_blocks m ρ),
    (θ_run Cert.Reference9Ideal.defs _ _).mono
      (fun _ h c => ⟨(h c).1.trans ((Cert.Reference9Ideal.Read.val_main_v3_eq _ _ _).trans
        (congr (congrArg₂ Cert.Reference9Ideal.Read.val_main_v3 (agree c).1 (agree c).2.1) (agree c).2.2)), (h c).2⟩)
      (Cert.Reference9Ideal.Value.run m' ρ')⟩

end Cert.Proof.FfnOut

end
-- ==== Proof.Products.Proj.lean ====
/-
  The mixer's combined projection: `h · w`.
-/
module

public import proofs.«01_k».proof.Defs
public import proofs.«01_k».proof.Proof.Products.Basic
public import proofs.«01_k».proof.Proof.Gen.Kernel10.Frame
public import proofs.«01_k».proof.Proof.Gen.Kernel10Ideal.Value
public import proofs.«01_k».proof.Proof.Gen.Reference10Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.Proj

open Cert.Kernel10Ideal Cert.Kernel10Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The normed rows are staged narrowed, which over the extended reals is as they are. -/
theorem staged_h (c : Dev nD) :
    V m c main_v0 = (truncf .bf16 (m ((c : Thread nD τ).loc main_arg0) : FVec Ideal S2048x1024 .f32) bitsLt_bf16_f32 : FVec Ideal S2048x1024 .bf16) := by
  unfold V; after_results <;> rfl

/-- The weights are staged narrowed, which over the extended reals is as they are. -/
theorem staged_w (c : Dev nD) :
    V m c main_v1 = (truncf .bf16 (m ((c : Thread nD τ).loc main_arg1) : FVec Ideal S1024x9216 .f32) bitsLt_bf16_f32 : FVec Ideal S1024x9216 .bf16) := by
  unfold V; after_results <;> rfl

/-- What the body stores, at an index. -/
theorem pay_apply (a : Vec Ideal S1024x1024 .bf16) (b : Vec Ideal S1024x512 .bf16) (y : S1024x512.Idx) :
    k0_pay1 a b y = ∑ k : Fin 1024, a (ix2 (y 0) k) * b (ix2 k (y 1)) := by
  unfold k0_pay1
  refine (matmul_rows_cols _ rfl rfl rfl rfl rfl rfl _ _ _).trans ?_
  rw [shapeCast_self, shapeCast_self]

theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The kernel's output array is the reference's result. -/
theorem final (c : Dev nD) : (dats m 0 c).arrAt 2 cfg0.N
    = Cert.Reference10Ideal.Read.val_main_v0 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  refine Eq.trans ?_ (Cert.Reference10Ideal.Read.val_main_v0_apply _ _ _).symm
  blk_simp [iblk]
  rw [staged_h, staged_w]
  refine Finset.sum_congr rfl fun k _ => congrArg₂ (· * ·) ?_ ?_
  · refine congrArg (m ((c : Thread nD τ).loc main_arg0)) ?_
    blk_ext [idx0, idx1, idx2, ix2, ix3, Matrix.cons_val_zero, Matrix.cons_val_one]
  · refine congrArg (m ((c : Thread nD τ).loc main_arg1)) ?_
    blk_ext [idx0, idx1, idx2, ix2, ix3, Matrix.cons_val_zero, Matrix.cons_val_one]

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem value : Cert.algebraic_Kernel10Ideal_Reference10Ideal := fun m ρ m' ρ' _ agree =>
  ⟨fun c => Cert.Reference10Ideal.Read.val_main_v0 (m ((c : Thread nD τ).loc main_arg0)) (m ((c : Thread nD τ).loc main_arg1)),
    (θ_run defs _ _).mono (fun _ h c => ⟨(h c).1.trans (final m c), (h c).2⟩) (Cert.Kernel10Ideal.Value.run_blocks m ρ),
    (θ_run Cert.Reference10Ideal.defs _ _).mono
      (fun _ h c => ⟨(h c).1.trans ((Cert.Reference10Ideal.Read.val_main_v0_eq _ _).trans
        (congrArg₂ Cert.Reference10Ideal.Read.val_main_v0 (agree c).1 (agree c).2)), (h c).2⟩)
      (Cert.Reference10Ideal.Value.run m' ρ')⟩

end Cert.Proof.Proj

end
-- ==== Proof.Update.Basic.lean ====
/-
  One AdamW step of one weight over the extended reals: the two moments and the weight's change.
-/
module

public import proofs.«01_k».proof.Defs
public import Idealize.ShloMosaic.PureOps.Ideal
public import Idealize.ShloMosaic.Lib.ValueIdx
public import Idealize.ShloMosaic.Lib.Pipeline.Value
public import Idealize.ShloMosaic.Lib.Pipeline.ValueKit.Geometry
public import Idealize.ShloMosaic.Lib.Quiescent

@[expose] public section

noncomputable section

namespace Cert.Proof.Update

open Idealize.ShloMosaic Idealize.ShloMosaic.ValueIdx
open scoped BigOperators

/-- The f32 number that a word spells. -/
abbrev lit (b : BitVec 32) : EReal := Ideal.ofBits .f32 b

/-- The new first moment of a gradient `g`. -/
def first (g m : EReal) : EReal := lit 0x3F666666#32 * m + lit 0x3DCCCCCD#32 * g

/-- The new second moment of a gradient `g`. -/
def second (g v : EReal) : EReal := lit 0x3F7FBE77#32 * v + lit 0x3A83126F#32 * (g * g)

/-- The change of a weight `w`. -/
def change (g w m v : EReal) : EReal :=
  lit 0xBA83126F#32 * (Ideal.div (Ideal.div (first g m) (lit 0x3F26BD02#32))
    (Ideal.sqrt (Ideal.div (second g v) (lit 0x3C231ACC#32)) + lit 0x322BCC77#32) + lit 0x3C23D70A#32 * w)

/-- The sum of a block's eight parts. -/
def sumParts {a b : Nat} (x : Vec Ideal ⟨3, ![8, a, b]⟩ .bf16) (y : (⟨2, ![a, b]⟩ : Shape).Idx) : EReal :=
  ∑ k : Fin 8, x (ix3 k (y 0) (y 1))

/-- One of a block's eight parts, at an index. -/
theorem slab {a b : Nat} (x : Vec Ideal ⟨3, ![8, a, b]⟩ .bf16) (y : (⟨2, ![a, b]⟩ : Shape).Idx) (k : Fin 8) (n : Nat) (hk : n = k.val)
    (h : ∀ d : Fin 3, (![n, 0, 0] : Fin 3 → Nat) d + (⟨3, ![1, a, b]⟩ : Shape).size d ≤ (⟨3, ![8, a, b]⟩ : Shape).size d)
    (hs : (⟨3, ![1, a, b]⟩ : Shape).ShapeCasts ⟨2, ![a, b]⟩) :
    shapeCast ⟨2, ![a, b]⟩ (View.ld x (Rect.unit (s := ⟨3, ![8, a, b]⟩) ![n, 0, 0] (⟨3, ![1, a, b]⟩ : Shape).size h)) hs y = x (ix3 k (y 0) (y 1)) := by
  subst hk
  exact (shapeCast_dropUnit_apply _ _ _ y).trans (congrArg x (by
    funext d
    match d with
    | ⟨0, _⟩ => exact Fin.ext (by show k.val + 1 * 0 = k.val; omega)
    | ⟨1, _⟩ => exact Fin.ext (by show 0 + 1 * (y 0).val = (y 0).val; omega)
    | ⟨2, _⟩ => exact Fin.ext (by show 0 + 1 * (y 1).val = (y 1).val; omega)))

end Cert.Proof.Update

end
-- ==== Proof.Update.UpdateSmall.lean ====
/-
  The small weights' step.
-/
module

public import proofs.«01_k».proof.Defs
public import proofs.«01_k».proof.Proof.Update.Basic
public import proofs.«01_k».proof.Proof.Gen.Kernel11.Frame
public import proofs.«01_k».proof.Proof.Gen.Kernel11Ideal.Value
public import proofs.«01_k».proof.Proof.Gen.Reference11Ideal.Read
public import Idealize.ShloMosaic.PureOps.Ideal
public import Idealize.ShloMosaic.Lib.ValueIdx
public import Idealize.ShloMosaic.Lib.IdealHost
public import Idealize.ShloMosaic.Lib.Pipeline.Value
public import Idealize.ShloMosaic.Lib.Quiescent
public import Idealize.ShloMosaic.Lib.Pipeline.ValueKit.Geometry
public import Idealize.ShloMosaic.Lib.Pipeline.ValueKit.Acc

@[expose] public section

noncomputable section

namespace Cert.Proof.UpdateSmall

open Cert.Kernel11Ideal Cert.Kernel11Ideal.Gen Cert.Proof.Update
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The gradient is staged with a unit axis in front, as is. -/
theorem staged (c : Dev nD) (y : S1x112x128.Idx) :
    (V m c main_v0 : Vec Ideal S1x112x128 .f32) y = (m ((c : Thread nD τ).loc main_arg0) : Vec Ideal S112x128 .f32) (ix2 (y 1) (y 2)) := by
  have e : V m c main_v0 = (broadcastInDim S1x112x128 ![1, 2] bcast_S112x128_S1x112x128_1_2
      (m ((c : Thread nD τ).loc main_arg0) : Vec Ideal S112x128 .f32) : Vec Ideal S1x112x128 .f32) := by unfold V; after_results <;> rfl
  rw [e]
  exact broadcastInDim_apply _ bcast_S112x128_S1x112x128_1_2 _ y (ix2 (y 1) (y 2)) (fun a => by match a with | ⟨0, _⟩ => rfl | ⟨1, _⟩ => rfl)

/-- The gradient of a block, at an index. -/
theorem grad_apply (g : Vec Ideal S1x112x128 .f32) (y : S112x128.Idx) : k0_pay1 g y = g (ix3 0 (y 0) (y 1)) := by
  unfold k0_pay1
  refine (shapeCast_dropUnit_apply _ _ _ y).trans (congrArg g ?_)
  funext a; match a with | ⟨0, _⟩ => rfl | ⟨1, _⟩ => rfl | ⟨2, _⟩ => rfl

/-- The new first moment of a block, at an index. -/
theorem first_apply (g : Vec Ideal S1x112x128 .f32) (p : Vec Ideal S112x128 .f32) (y : S112x128.Idx) :
    k0_pay2 g p y = first (k0_pay1 g y) (p y) := rfl

/-- The new second moment of a block, at an index. -/
theorem second_apply (g : Vec Ideal S1x112x128 .f32) (q : Vec Ideal S112x128 .f32) (y : S112x128.Idx) :
    k0_pay3 g q y = second (k0_pay1 g y) (q y) := rfl

/-- The change of a block's weights, at an index. -/
theorem change_apply (g : Vec Ideal S1x112x128 .f32) (w p q : Vec Ideal S112x128 .f32) (y : S112x128.Idx) :
    k0_pay4 g p q w y = change (k0_pay1 g y) (w y) (p y) (q y) := rfl

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

/-- The block of the gradient is the gradient. -/
theorem block_g (c : Dev nD) (t : Fin cfg0.N) (y : S112x128.Idx) :
    k0_pay1 (iblk m c 0 t) y = (m ((c : Thread nD τ).loc main_arg0) : Vec Ideal S112x128 .f32) y := by
  refine (grad_apply _ y).trans ?_
  blk_simp [iblk]
  refine (staged m c _).trans (congrArg (m ((c : Thread nD τ).loc main_arg0)) ?_)
  blk_ext [idx0, ix2, ix3, Matrix.cons_val_zero, Matrix.cons_val_one]

/-- The block of the weights is the weights. -/
theorem block_w (c : Dev nD) (t : Fin cfg0.N) (y : S112x128.Idx) :
    (iblk m c 1 t : Vec Ideal S112x128 .f32) y = (m ((c : Thread nD τ).loc main_arg1) : Vec Ideal S112x128 .f32) y := by
  blk_simp [iblk, V]
  refine congrArg (m ((c : Thread nD τ).loc main_arg1)) ?_
  blk_ext [idx1]

/-- The block of the first moments is these. -/
theorem block_p (c : Dev nD) (t : Fin cfg0.N) (y : S112x128.Idx) :
    (iblk m c 2 t : Vec Ideal S112x128 .f32) y = (m ((c : Thread nD τ).loc main_arg2) : Vec Ideal S112x128 .f32) y := by
  blk_simp [iblk, V]
  refine congrArg (m ((c : Thread nD τ).loc main_arg2)) ?_
  blk_ext [idx2]

/-- The block of the second moments is these. -/
theorem block_q (c : Dev nD) (t : Fin cfg0.N) (y : S112x128.Idx) :
    (iblk m c 3 t : Vec Ideal S112x128 .f32) y = (m ((c : Thread nD τ).loc main_arg3) : Vec Ideal S112x128 .f32) y := by
  blk_simp [iblk, V]
  refine congrArg (m ((c : Thread nD τ).loc main_arg3)) ?_
  blk_ext [idx3]

/-- The first output array is the gradient. -/
theorem final_g (c : Dev nD) : (dats m 0 c).arrAt 4 cfg0.N = (m ((c : Thread nD τ).loc main_arg0) : Vec Ideal S112x128 .f32) := by
  refine (dats m 0 c).arrAt_eq_of_covers 4 _ (by decide +kernel) fun t _ y => ?_
  blk_simp
  rw [after0_4]
  frame_out
  refine (block_g m c t y).trans (congrArg (m ((c : Thread nD τ).loc main_arg0)) ?_)
  blk_ext [idx4]

/-- The reference's new first moment, at an index. -/
theorem ref_first (g p : Vec Ideal S112x128 .f32) (y : S112x128.Idx) : Cert.Reference11Ideal.Read.val_main_v4 g p y = first (g y) (p y) := by
  rw [Cert.Reference11Ideal.Read.val_main_v4_apply, Cert.Reference11Ideal.Read.val_main_v1_apply, Cert.Reference11Ideal.Read.val_main_v3_apply,
    Cert.Reference11Ideal.Read.val_main_v0_apply, Cert.Reference11Ideal.Read.val_main_v2_apply]
  rfl

/-- The reference's new second moment, at an index. -/
theorem ref_second (g q : Vec Ideal S112x128 .f32) (y : S112x128.Idx) : Cert.Reference11Ideal.Read.val_main_v10 g q y = second (g y) (q y) := by
  rw [Cert.Reference11Ideal.Read.val_main_v10_apply, Cert.Reference11Ideal.Read.val_main_v6_apply, Cert.Reference11Ideal.Read.val_main_v9_apply,
    Cert.Reference11Ideal.Read.val_main_v5_apply, Cert.Reference11Ideal.Read.val_main_v8_apply]
  rfl

/-- The reference's change, at an index. -/
theorem ref_change (g w p q : Vec Ideal S112x128 .f32) (y : S112x128.Idx) :
    Cert.Reference11Ideal.Read.val_main_v23 g w p q y = change (g y) (w y) (p y) (q y) := by
  simp only [Cert.Reference11Ideal.Read.val_main_v11_apply, Cert.Reference11Ideal.Read.val_main_v12_apply, Cert.Reference11Ideal.Read.val_main_v13_apply, Cert.Reference11Ideal.Read.val_main_v14_apply, Cert.Reference11Ideal.Read.val_main_v15_apply, Cert.Reference11Ideal.Read.val_main_v16_apply, Cert.Reference11Ideal.Read.val_main_v17_apply, Cert.Reference11Ideal.Read.val_main_v18_apply, Cert.Reference11Ideal.Read.val_main_v19_apply, Cert.Reference11Ideal.Read.val_main_v20_apply, Cert.Reference11Ideal.Read.val_main_v21_apply, Cert.Reference11Ideal.Read.val_main_v22_apply, Cert.Reference11Ideal.Read.val_main_v23_apply, ref_first, ref_second]
  rfl

/-- The second is the change of the weights. -/
theorem final_d (c : Dev nD) : (dats m 0 c).arrAt 5 cfg0.N = Cert.Reference11Ideal.Read.val_main_v23 (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine (change_apply _ _ _ _ y).trans ?_
  rw [block_g, block_w, block_p, block_q]
  refine (ref_change _ _ _ _ y).symm.trans (congrArg (Cert.Reference11Ideal.Read.val_main_v23 _ _ _ _) ?_)
  blk_ext [idx5]

/-- The third is the new first moment. -/
theorem final_p (c : Dev nD) : (dats m 0 c).arrAt 6 cfg0.N = Cert.Reference11Ideal.Read.val_main_v4 (m ((c : Thread nD τ).loc main_arg0))
    (m ((c : Thread nD τ).loc main_arg2)) := by
  refine (dats m 0 c).arrAt_eq_of_covers 6 _ (by decide +kernel) fun t _ y => ?_
  blk_simp
  rw [after0_6]
  frame_out
  refine (first_apply _ _ y).trans ?_
  rw [block_g, block_p]
  refine (ref_first _ _ y).symm.trans (congrArg (Cert.Reference11Ideal.Read.val_main_v4 _ _) ?_)
  blk_ext [idx6]

/-- The fourth is the new second moment. -/
theorem final_q (c : Dev nD) : (dats m 0 c).arrAt 7 cfg0.N = Cert.Reference11Ideal.Read.val_main_v10 (m ((c : Thread nD τ).loc main_arg0))
    (m ((c : Thread nD τ).loc main_arg3)) := by
  refine (dats m 0 c).arrAt_eq_of_covers 7 _ (by decide +kernel) fun t _ y => ?_
  blk_simp
  rw [after0_7]
  frame_out
  refine (second_apply _ _ y).trans ?_
  rw [block_g, block_q]
  refine (ref_second _ _ y).symm.trans (congrArg (Cert.Reference11Ideal.Read.val_main_v10 _ _) ?_)
  blk_ext [idx7]

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run m ρ)

theorem value : Cert.algebraic_Kernel11Ideal_Reference11Ideal := fun m ρ m' ρ' _ agree =>
  ⟨fun c => m ((c : Thread nD τ).loc main_arg0),
    fun c => Cert.Reference11Ideal.Read.val_main_v23 (m ((c : Thread nD τ).loc main_arg0)) (m ((c : Thread nD τ).loc main_arg1)) (m ((c : Thread nD τ).loc main_arg2)) (m ((c : Thread nD τ).loc main_arg3)),
    fun c => Cert.Reference11Ideal.Read.val_main_v4 (m ((c : Thread nD τ).loc main_arg0)) (m ((c : Thread nD τ).loc main_arg2)),
    fun c => Cert.Reference11Ideal.Read.val_main_v10 (m ((c : Thread nD τ).loc main_arg0)) (m ((c : Thread nD τ).loc main_arg3)),
    (θ_run defs _ _).mono (fun _ h c => ⟨(h c).1.trans (final_g m c), (h c).2.1.trans (final_d m c),
      (h c).2.2.1.trans (final_p m c), (h c).2.2.2.1.trans (final_q m c), (h c).2.2.2.2⟩) (Cert.Kernel11Ideal.Value.run_blocks m ρ),
    (θ_run Cert.Reference11Ideal.defs _ _).mono
      (fun _ h c => ⟨(h c).1.trans (agree c).1,
        (h c).2.1.trans ((Cert.Reference11Ideal.Read.val_main_v23_eq _ _ _ _).trans
          (congr (congr (congrArg₂ Cert.Reference11Ideal.Read.val_main_v23 (agree c).1 (agree c).2.1) (agree c).2.2.1) (agree c).2.2.2)),
        (h c).2.2.1.trans ((Cert.Reference11Ideal.Read.val_main_v4_eq _ _).trans (congrArg₂ Cert.Reference11Ideal.Read.val_main_v4 (agree c).1 (agree c).2.2.1)),
        (h c).2.2.2.1.trans ((Cert.Reference11Ideal.Read.val_main_v10_eq _ _).trans (congrArg₂ Cert.Reference11Ideal.Read.val_main_v10 (agree c).1 (agree c).2.2.2)),
        (h c).2.2.2.2⟩)
      (Cert.Reference11Ideal.Value.run m' ρ')⟩

end Cert.Proof.UpdateSmall

end
-- ==== Proof.Update.UpdateConv.lean ====
/-
  The convolution's step.
-/
module

public import proofs.«01_k».proof.Defs
public import proofs.«01_k».proof.Proof.Update.Basic
public import proofs.«01_k».proof.Proof.Gen.Kernel12.Frame
public import proofs.«01_k».proof.Proof.Gen.Kernel12Ideal.Value
public import proofs.«01_k».proof.Proof.Gen.Reference12Ideal.Read
public import Idealize.ShloMosaic.PureOps.Ideal
public import Idealize.ShloMosaic.Lib.ValueIdx
public import Idealize.ShloMosaic.Lib.IdealHost
public import Idealize.ShloMosaic.Lib.Pipeline.Value
public import Idealize.ShloMosaic.Lib.Quiescent
public import Idealize.ShloMosaic.Lib.Pipeline.ValueKit.Geometry
public import Idealize.ShloMosaic.Lib.Pipeline.ValueKit.Acc

@[expose] public section

noncomputable section

namespace Cert.Proof.UpdateConv

open Cert.Kernel12Ideal Cert.Kernel12Ideal.Gen Cert.Proof.Update
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The gradient is staged with a unit axis in front, as is. -/
theorem staged (c : Dev nD) (y : S1x16x384.Idx) :
    (V m c main_v0 : Vec Ideal S1x16x384 .f32) y = (m ((c : Thread nD τ).loc main_arg0) : Vec Ideal S16x384 .f32) (ix2 (y 1) (y 2)) := by
  have e : V m c main_v0 = (broadcastInDim S1x16x384 ![1, 2] bcast_S16x384_S1x16x384_1_2
      (m ((c : Thread nD τ).loc main_arg0) : Vec Ideal S16x384 .f32) : Vec Ideal S1x16x384 .f32) := by unfold V; after_results <;> rfl
  rw [e]
  exact broadcastInDim_apply _ bcast_S16x384_S1x16x384_1_2 _ y (ix2 (y 1) (y 2)) (fun a => by match a with | ⟨0, _⟩ => rfl | ⟨1, _⟩ => rfl)

/-- The gradient of a block, at an index. -/
theorem grad_apply (g : Vec Ideal S1x16x384 .f32) (y : S16x384.Idx) : k0_pay1 g y = g (ix3 0 (y 0) (y 1)) := by
  unfold k0_pay1
  refine (shapeCast_dropUnit_apply _ _ _ y).trans (congrArg g ?_)
  funext a; match a with | ⟨0, _⟩ => rfl | ⟨1, _⟩ => rfl | ⟨2, _⟩ => rfl

/-- The new first moment of a block, at an index. -/
theorem first_apply (g : Vec Ideal S1x16x384 .f32) (p : Vec Ideal S16x384 .f32) (y : S16x384.Idx) :
    k0_pay2 g p y = first (k0_pay1 g y) (p y) := rfl

/-- The new second moment of a block, at an index. -/
theorem second_apply (g : Vec Ideal S1x16x384 .f32) (q : Vec Ideal S16x384 .f32) (y : S16x384.Idx) :
    k0_pay3 g q y = second (k0_pay1 g y) (q y) := rfl

/-- The change of a block's weights, at an index. -/
theorem change_apply (g : Vec Ideal S1x16x384 .f32) (w p q : Vec Ideal S16x384 .f32) (y : S16x384.Idx) :
    k0_pay4 g p q w y = change (k0_pay1 g y) (w y) (p y) (q y) := rfl

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

/-- The block of the gradient is the gradient. -/
theorem block_g (c : Dev nD) (t : Fin cfg0.N) (y : S16x384.Idx) :
    k0_pay1 (iblk m c 0 t) y = (m ((c : Thread nD τ).loc main_arg0) : Vec Ideal S16x384 .f32) y := by
  refine (grad_apply _ y).trans ?_
  blk_simp [iblk]
  refine (staged m c _).trans (congrArg (m ((c : Thread nD τ).loc main_arg0)) ?_)
  blk_ext [idx0, ix2, ix3, Matrix.cons_val_zero, Matrix.cons_val_one]

/-- The block of the weights is the weights. -/
theorem block_w (c : Dev nD) (t : Fin cfg0.N) (y : S16x384.Idx) :
    (iblk m c 1 t : Vec Ideal S16x384 .f32) y = (m ((c : Thread nD τ).loc main_arg1) : Vec Ideal S16x384 .f32) y := by
  blk_simp [iblk, V]
  refine congrArg (m ((c : Thread nD τ).loc main_arg1)) ?_
  blk_ext [idx1]

/-- The block of the first moments is these. -/
theorem block_p (c : Dev nD) (t : Fin cfg0.N) (y : S16x384.Idx) :
    (iblk m c 2 t : Vec Ideal S16x384 .f32) y = (m ((c : Thread nD τ).loc main_arg2) : Vec Ideal S16x384 .f32) y := by
  blk_simp [iblk, V]
  refine congrArg (m ((c : Thread nD τ).loc main_arg2)) ?_
  blk_ext [idx2]

/-- The block of the second moments is these. -/
theorem block_q (c : Dev nD) (t : Fin cfg0.N) (y : S16x384.Idx) :
    (iblk m c 3 t : Vec Ideal S16x384 .f32) y = (m ((c : Thread nD τ).loc main_arg3) : Vec Ideal S16x384 .f32) y := by
  blk_simp [iblk, V]
  refine congrArg (m ((c : Thread nD τ).loc main_arg3)) ?_
  blk_ext [idx3]

/-- The first output array is the gradient. -/
theorem final_g (c : Dev nD) : (dats m 0 c).arrAt 4 cfg0.N = (m ((c : Thread nD τ).loc main_arg0) : Vec Ideal S16x384 .f32) := by
  refine (dats m 0 c).arrAt_eq_of_covers 4 _ (by decide +kernel) fun t _ y => ?_
  blk_simp
  rw [after0_4]
  frame_out
  refine (block_g m c t y).trans (congrArg (m ((c : Thread nD τ).loc main_arg0)) ?_)
  blk_ext [idx4]

/-- The reference's new first moment, at an index. -/
theorem ref_first (g p : Vec Ideal S16x384 .f32) (y : S16x384.Idx) : Cert.Reference12Ideal.Read.val_main_v4 g p y = first (g y) (p y) := by
  rw [Cert.Reference12Ideal.Read.val_main_v4_apply, Cert.Reference12Ideal.Read.val_main_v1_apply, Cert.Reference12Ideal.Read.val_main_v3_apply,
    Cert.Reference12Ideal.Read.val_main_v0_apply, Cert.Reference12Ideal.Read.val_main_v2_apply]
  rfl

/-- The reference's new second moment, at an index. -/
theorem ref_second (g q : Vec Ideal S16x384 .f32) (y : S16x384.Idx) : Cert.Reference12Ideal.Read.val_main_v10 g q y = second (g y) (q y) := by
  rw [Cert.Reference12Ideal.Read.val_main_v10_apply, Cert.Reference12Ideal.Read.val_main_v6_apply, Cert.Reference12Ideal.Read.val_main_v9_apply,
    Cert.Reference12Ideal.Read.val_main_v5_apply, Cert.Reference12Ideal.Read.val_main_v8_apply]
  rfl

/-- The reference's change, at an index. -/
theorem ref_change (g w p q : Vec Ideal S16x384 .f32) (y : S16x384.Idx) :
    Cert.Reference12Ideal.Read.val_main_v23 g w p q y = change (g y) (w y) (p y) (q y) := by
  simp only [Cert.Reference12Ideal.Read.val_main_v11_apply, Cert.Reference12Ideal.Read.val_main_v12_apply, Cert.Reference12Ideal.Read.val_main_v13_apply, Cert.Reference12Ideal.Read.val_main_v14_apply, Cert.Reference12Ideal.Read.val_main_v15_apply, Cert.Reference12Ideal.Read.val_main_v16_apply, Cert.Reference12Ideal.Read.val_main_v17_apply, Cert.Reference12Ideal.Read.val_main_v18_apply, Cert.Reference12Ideal.Read.val_main_v19_apply, Cert.Reference12Ideal.Read.val_main_v20_apply, Cert.Reference12Ideal.Read.val_main_v21_apply, Cert.Reference12Ideal.Read.val_main_v22_apply, Cert.Reference12Ideal.Read.val_main_v23_apply, ref_first, ref_second]
  rfl

/-- The second is the change of the weights. -/
theorem final_d (c : Dev nD) : (dats m 0 c).arrAt 5 cfg0.N = Cert.Reference12Ideal.Read.val_main_v23 (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine (change_apply _ _ _ _ y).trans ?_
  rw [block_g, block_w, block_p, block_q]
  refine (ref_change _ _ _ _ y).symm.trans (congrArg (Cert.Reference12Ideal.Read.val_main_v23 _ _ _ _) ?_)
  blk_ext [idx5]

/-- The third is the new first moment. -/
theorem final_p (c : Dev nD) : (dats m 0 c).arrAt 6 cfg0.N = Cert.Reference12Ideal.Read.val_main_v4 (m ((c : Thread nD τ).loc main_arg0))
    (m ((c : Thread nD τ).loc main_arg2)) := by
  refine (dats m 0 c).arrAt_eq_of_covers 6 _ (by decide +kernel) fun t _ y => ?_
  blk_simp
  rw [after0_6]
  frame_out
  refine (first_apply _ _ y).trans ?_
  rw [block_g, block_p]
  refine (ref_first _ _ y).symm.trans (congrArg (Cert.Reference12Ideal.Read.val_main_v4 _ _) ?_)
  blk_ext [idx6]

/-- The fourth is the new second moment. -/
theorem final_q (c : Dev nD) : (dats m 0 c).arrAt 7 cfg0.N = Cert.Reference12Ideal.Read.val_main_v10 (m ((c : Thread nD τ).loc main_arg0))
    (m ((c : Thread nD τ).loc main_arg3)) := by
  refine (dats m 0 c).arrAt_eq_of_covers 7 _ (by decide +kernel) fun t _ y => ?_
  blk_simp
  rw [after0_7]
  frame_out
  refine (second_apply _ _ y).trans ?_
  rw [block_g, block_q]
  refine (ref_second _ _ y).symm.trans (congrArg (Cert.Reference12Ideal.Read.val_main_v10 _ _) ?_)
  blk_ext [idx7]

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run m ρ)

theorem value : Cert.algebraic_Kernel12Ideal_Reference12Ideal := fun m ρ m' ρ' _ agree =>
  ⟨fun c => m ((c : Thread nD τ).loc main_arg0),
    fun c => Cert.Reference12Ideal.Read.val_main_v23 (m ((c : Thread nD τ).loc main_arg0)) (m ((c : Thread nD τ).loc main_arg1)) (m ((c : Thread nD τ).loc main_arg2)) (m ((c : Thread nD τ).loc main_arg3)),
    fun c => Cert.Reference12Ideal.Read.val_main_v4 (m ((c : Thread nD τ).loc main_arg0)) (m ((c : Thread nD τ).loc main_arg2)),
    fun c => Cert.Reference12Ideal.Read.val_main_v10 (m ((c : Thread nD τ).loc main_arg0)) (m ((c : Thread nD τ).loc main_arg3)),
    (θ_run defs _ _).mono (fun _ h c => ⟨(h c).1.trans (final_g m c), (h c).2.1.trans (final_d m c),
      (h c).2.2.1.trans (final_p m c), (h c).2.2.2.1.trans (final_q m c), (h c).2.2.2.2⟩) (Cert.Kernel12Ideal.Value.run_blocks m ρ),
    (θ_run Cert.Reference12Ideal.defs _ _).mono
      (fun _ h c => ⟨(h c).1.trans (agree c).1,
        (h c).2.1.trans ((Cert.Reference12Ideal.Read.val_main_v23_eq _ _ _ _).trans
          (congr (congr (congrArg₂ Cert.Reference12Ideal.Read.val_main_v23 (agree c).1 (agree c).2.1) (agree c).2.2.1) (agree c).2.2.2)),
        (h c).2.2.1.trans ((Cert.Reference12Ideal.Read.val_main_v4_eq _ _).trans (congrArg₂ Cert.Reference12Ideal.Read.val_main_v4 (agree c).1 (agree c).2.2.1)),
        (h c).2.2.2.1.trans ((Cert.Reference12Ideal.Read.val_main_v10_eq _ _).trans (congrArg₂ Cert.Reference12Ideal.Read.val_main_v10 (agree c).1 (agree c).2.2.2)),
        (h c).2.2.2.2⟩)
      (Cert.Reference12Ideal.Value.run m' ρ')⟩

end Cert.Proof.UpdateConv

end
-- ==== Proof.Update.UpdateBranch.lean ====
/-
  The branch and output weights' steps: four calls, one for each layer, the last layer first.
-/
module

public import proofs.«01_k».proof.Defs
public import proofs.«01_k».proof.Proof.Update.Basic
public import proofs.«01_k».proof.Proof.Gen.Kernel13.Frame
public import proofs.«01_k».proof.Proof.Gen.Kernel13Ideal.Frame
public import proofs.«01_k».proof.Proof.Gen.Reference13Ideal.Read
public import Idealize.ShloMosaic.PureOps.Ideal
public import Idealize.ShloMosaic.Lib.ValueIdx
public import Idealize.ShloMosaic.Lib.IdealHost
public import Idealize.ShloMosaic.Lib.Pipeline.Value
public import Idealize.ShloMosaic.Lib.Quiescent
public import Idealize.ShloMosaic.Lib.Pipeline.ValueKit.Geometry
public import Idealize.ShloMosaic.Lib.Pipeline.ValueKit.Partial
public import Idealize.ShloMosaic.Lib.Pipeline.ValueKit.Acc
public import Idealize.ShloMosaic.Lib.Pipeline.ReadBack

@[expose] public section

noncomputable section

namespace Cert.Proof.UpdateBranch

open Cert.Kernel13Ideal Cert.Kernel13Ideal.Gen Cert.Proof.Update
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The argument arrays: the four layers' parts (the last layer's first), the weights and the two moments. -/
abbrev part0 (c : Dev nD) : Vec Ideal S8x128x1024 .f32 := m ((c : Thread nD τ).loc main_arg0)
abbrev part1 (c : Dev nD) : Vec Ideal S8x128x1024 .f32 := m ((c : Thread nD τ).loc main_arg1)
abbrev part2 (c : Dev nD) : Vec Ideal S8x128x1024 .f32 := m ((c : Thread nD τ).loc main_arg2)
abbrev part3 (c : Dev nD) : Vec Ideal S8x128x1024 .f32 := m ((c : Thread nD τ).loc main_arg3)
abbrev wts (c : Dev nD) : Vec Ideal S512x1024 .f32 := m ((c : Thread nD τ).loc main_arg4)
abbrev mom (c : Dev nD) : Vec Ideal S512x1024 .f32 := m ((c : Thread nD τ).loc main_arg5)
abbrev sq (c : Dev nD) : Vec Ideal S512x1024 .f32 := m ((c : Thread nD τ).loc main_arg6)

/-- The summed gradients, the layers' rows one after another. -/
abbrev total (c : Dev nD) : Vec Ideal S512x1024 .f32 := Cert.Reference13Ideal.Read.val_main_v4 (part0 m c) (part1 m c) (part2 m c) (part3 m c)

/-- The rows of layer 3 of the summed gradients. -/
theorem total3 (c : Dev nD) (i : S512x1024.Idx) (y : Cert.Reference13Ideal.S128x1024.Idx) (h : (i 0).val = 384 + (y 0).val) (h' : (i 1).val = (y 1).val) :
    total m c i = ∑ k : Fin 8, part0 m c (ix3 k (y 0) (y 1)) := by
  refine (concatenate_apply_piece (t := S512x1024) (0 : Fin 2) _ _ i 3 (by show 3 < 4; decide) Cert.Reference13Ideal.S128x1024 (Cert.Reference13Ideal.Read.val_main_v3 (F := Ideal) (part0 m c)) rfl rfl 384 rfl y
    (fun b hb => ?_) h.symm).trans ?_
  · match b, hb with
    | ⟨0, _⟩, hb => exact absurd rfl hb
    | ⟨1, _⟩, _ => exact h'.symm
  · refine (Cert.Reference13Ideal.Read.val_main_v3_apply _ y).trans ((congrArg (· + _) (?_ : _ = (0 : EReal))).trans ((zero_add _).trans ?_))
    · exact Ideal.ofBits_zero_f32
    · refine Finset.sum_congr rfl fun k _ => congrArg (part0 m c) ?_
      funext a; match a with | ⟨0, _⟩ => rfl | ⟨1, _⟩ => rfl | ⟨2, _⟩ => rfl

/-- The rows of layer 2 of the summed gradients. -/
theorem total2 (c : Dev nD) (i : S512x1024.Idx) (y : Cert.Reference13Ideal.S128x1024.Idx) (h : (i 0).val = 256 + (y 0).val) (h' : (i 1).val = (y 1).val) :
    total m c i = ∑ k : Fin 8, part1 m c (ix3 k (y 0) (y 1)) := by
  refine (concatenate_apply_piece (t := S512x1024) (0 : Fin 2) _ _ i 2 (by show 2 < 4; decide) Cert.Reference13Ideal.S128x1024 (Cert.Reference13Ideal.Read.val_main_v2 (F := Ideal) (part1 m c)) rfl rfl 256 rfl y
    (fun b hb => ?_) h.symm).trans ?_
  · match b, hb with
    | ⟨0, _⟩, hb => exact absurd rfl hb
    | ⟨1, _⟩, _ => exact h'.symm
  · refine (Cert.Reference13Ideal.Read.val_main_v2_apply _ y).trans ((congrArg (· + _) (?_ : _ = (0 : EReal))).trans ((zero_add _).trans ?_))
    · exact Ideal.ofBits_zero_f32
    · refine Finset.sum_congr rfl fun k _ => congrArg (part1 m c) ?_
      funext a; match a with | ⟨0, _⟩ => rfl | ⟨1, _⟩ => rfl | ⟨2, _⟩ => rfl

/-- The rows of layer 1 of the summed gradients. -/
theorem total1 (c : Dev nD) (i : S512x1024.Idx) (y : Cert.Reference13Ideal.S128x1024.Idx) (h : (i 0).val = 128 + (y 0).val) (h' : (i 1).val = (y 1).val) :
    total m c i = ∑ k : Fin 8, part2 m c (ix3 k (y 0) (y 1)) := by
  refine (concatenate_apply_piece (t := S512x1024) (0 : Fin 2) _ _ i 1 (by show 1 < 4; decide) Cert.Reference13Ideal.S128x1024 (Cert.Reference13Ideal.Read.val_main_v1 (F := Ideal) (part2 m c)) rfl rfl 128 rfl y
    (fun b hb => ?_) h.symm).trans ?_
  · match b, hb with
    | ⟨0, _⟩, hb => exact absurd rfl hb
    | ⟨1, _⟩, _ => exact h'.symm
  · refine (Cert.Reference13Ideal.Read.val_main_v1_apply _ y).trans ((congrArg (· + _) (?_ : _ = (0 : EReal))).trans ((zero_add _).trans ?_))
    · exact Ideal.ofBits_zero_f32
    · refine Finset.sum_congr rfl fun k _ => congrArg (part2 m c) ?_
      funext a; match a with | ⟨0, _⟩ => rfl | ⟨1, _⟩ => rfl | ⟨2, _⟩ => rfl

/-- The rows of layer 0 of the summed gradients. -/
theorem total0 (c : Dev nD) (i : S512x1024.Idx) (y : Cert.Reference13Ideal.S128x1024.Idx) (h : (i 0).val = 0 + (y 0).val) (h' : (i 1).val = (y 1).val) :
    total m c i = ∑ k : Fin 8, part3 m c (ix3 k (y 0) (y 1)) := by
  refine (concatenate_apply_piece (t := S512x1024) (0 : Fin 2) _ _ i 0 (by show 0 < 4; decide) Cert.Reference13Ideal.S128x1024 (Cert.Reference13Ideal.Read.val_main_v0 (F := Ideal) (part3 m c)) rfl rfl 0 rfl y
    (fun b hb => ?_) h.symm).trans ?_
  · match b, hb with
    | ⟨0, _⟩, hb => exact absurd rfl hb
    | ⟨1, _⟩, _ => exact h'.symm
  · refine (Cert.Reference13Ideal.Read.val_main_v0_apply _ y).trans ((congrArg (· + _) (?_ : _ = (0 : EReal))).trans ((zero_add _).trans ?_))
    · exact Ideal.ofBits_zero_f32
    · refine Finset.sum_congr rfl fun k _ => congrArg (part3 m c) ?_
      funext a; match a with | ⟨0, _⟩ => rfl | ⟨1, _⟩ => rfl | ⟨2, _⟩ => rfl

/-- The reference's new first moment, at an index. -/
theorem ref_first (c : Dev nD) (i : S512x1024.Idx) :
    Cert.Reference13Ideal.Read.val_main_v9 (part0 m c) (part1 m c) (part2 m c) (part3 m c) (mom m c) i = first (total m c i) (mom m c i) := by
  rw [Cert.Reference13Ideal.Read.val_main_v9_apply, Cert.Reference13Ideal.Read.val_main_v6_apply, Cert.Reference13Ideal.Read.val_main_v8_apply, Cert.Reference13Ideal.Read.val_main_v5_apply, Cert.Reference13Ideal.Read.val_main_v7_apply]
  rfl

/-- The reference's new second moment, at an index. -/
theorem ref_second (c : Dev nD) (i : S512x1024.Idx) :
    Cert.Reference13Ideal.Read.val_main_v15 (part0 m c) (part1 m c) (part2 m c) (part3 m c) (sq m c) i = second (total m c i) (sq m c i) := by
  rw [Cert.Reference13Ideal.Read.val_main_v15_apply, Cert.Reference13Ideal.Read.val_main_v11_apply, Cert.Reference13Ideal.Read.val_main_v14_apply, Cert.Reference13Ideal.Read.val_main_v10_apply, Cert.Reference13Ideal.Read.val_main_v13_apply]
  rfl

/-- The reference's change, at an index. -/
theorem ref_change (c : Dev nD) (i : S512x1024.Idx) :
    Cert.Reference13Ideal.Read.val_main_v28 (part0 m c) (part1 m c) (part2 m c) (part3 m c) (wts m c) (mom m c) (sq m c) i
      = change (total m c i) (wts m c i) (mom m c i) (sq m c i) := by
  simp only [Cert.Reference13Ideal.Read.val_main_v16_apply, Cert.Reference13Ideal.Read.val_main_v17_apply, Cert.Reference13Ideal.Read.val_main_v18_apply, Cert.Reference13Ideal.Read.val_main_v19_apply, Cert.Reference13Ideal.Read.val_main_v20_apply, Cert.Reference13Ideal.Read.val_main_v21_apply, Cert.Reference13Ideal.Read.val_main_v22_apply, Cert.Reference13Ideal.Read.val_main_v23_apply, Cert.Reference13Ideal.Read.val_main_v24_apply, Cert.Reference13Ideal.Read.val_main_v25_apply, Cert.Reference13Ideal.Read.val_main_v26_apply, Cert.Reference13Ideal.Read.val_main_v27_apply, Cert.Reference13Ideal.Read.val_main_v28_apply, ref_first, ref_second]
  rfl

/-- Layer 3's parts are staged narrowed, which over the extended reals is as they are. -/
theorem staged0 (c : Dev nD) : V1 m ρ c main_v0 = (truncf .bf16 (part0 m c) bitsLt_bf16_f32 : FVec Ideal S8x128x1024 .bf16) := by
  show StableHlo.after hostOps0 _ _ = _
  after_results

/-! The slices of a block of landed parts that the body reads. -/

abbrev slice0 (x : Vec Ideal S8x128x1024 .bf16) := View.ld x (Rect.unit (s := S8x128x1024) ![0, 0, 0] S1x128x1024.size inb_S8x128x1024_S1x128x1024_0_0_0)
abbrev slice1 (x : Vec Ideal S8x128x1024 .bf16) := View.ld x (Rect.unit (s := S8x128x1024) ![1, 0, 0] S1x128x1024.size inb_S8x128x1024_S1x128x1024_1_0_0)
abbrev slice2 (x : Vec Ideal S8x128x1024 .bf16) := View.ld x (Rect.unit (s := S8x128x1024) ![2, 0, 0] S1x128x1024.size inb_S8x128x1024_S1x128x1024_2_0_0)
abbrev slice3 (x : Vec Ideal S8x128x1024 .bf16) := View.ld x (Rect.unit (s := S8x128x1024) ![3, 0, 0] S1x128x1024.size inb_S8x128x1024_S1x128x1024_3_0_0)
abbrev slice4 (x : Vec Ideal S8x128x1024 .bf16) := View.ld x (Rect.unit (s := S8x128x1024) ![4, 0, 0] S1x128x1024.size inb_S8x128x1024_S1x128x1024_4_0_0)
abbrev slice5 (x : Vec Ideal S8x128x1024 .bf16) := View.ld x (Rect.unit (s := S8x128x1024) ![5, 0, 0] S1x128x1024.size inb_S8x128x1024_S1x128x1024_5_0_0)
abbrev slice6 (x : Vec Ideal S8x128x1024 .bf16) := View.ld x (Rect.unit (s := S8x128x1024) ![6, 0, 0] S1x128x1024.size inb_S8x128x1024_S1x128x1024_6_0_0)
abbrev slice7 (x : Vec Ideal S8x128x1024 .bf16) := View.ld x (Rect.unit (s := S8x128x1024) ![7, 0, 0] S1x128x1024.size inb_S8x128x1024_S1x128x1024_7_0_0)

/-- The sum of a block's eight parts, at an index. -/
theorem parts0_apply (x : Vec Ideal S8x128x1024 .bf16) (y : S128x1024.Idx) :
    k0_pay4 (slice0 x) (slice1 x) (slice2 x) (slice3 x) (slice4 x) (slice5 x) (slice6 x) (slice7 x) y = sumParts x y := by
  unfold k0_pay4 sumParts
  rw [Fin.sum_univ_eight]
  have h0 := slab x y 0 0 rfl inb_S8x128x1024_S1x128x1024_0_0_0 shapeCasts_S1x128x1024_S128x1024
  have h1 := slab x y 1 1 rfl inb_S8x128x1024_S1x128x1024_1_0_0 shapeCasts_S1x128x1024_S128x1024
  have h2 := slab x y 2 2 rfl inb_S8x128x1024_S1x128x1024_2_0_0 shapeCasts_S1x128x1024_S128x1024
  have h3 := slab x y 3 3 rfl inb_S8x128x1024_S1x128x1024_3_0_0 shapeCasts_S1x128x1024_S128x1024
  have h4 := slab x y 4 4 rfl inb_S8x128x1024_S1x128x1024_4_0_0 shapeCasts_S1x128x1024_S128x1024
  have h5 := slab x y 5 5 rfl inb_S8x128x1024_S1x128x1024_5_0_0 shapeCasts_S1x128x1024_S128x1024
  have h6 := slab x y 6 6 rfl inb_S8x128x1024_S1x128x1024_6_0_0 shapeCasts_S1x128x1024_S128x1024
  have h7 := slab x y 7 7 rfl inb_S8x128x1024_S1x128x1024_7_0_0 shapeCasts_S1x128x1024_S128x1024
  rw [← h0, ← h1, ← h2, ← h3, ← h4, ← h5, ← h6, ← h7]
  rfl

theorem idx0_0 : ∀ t : Fin cfg0.N, win0_0.index t = ![0, t.val, 0] := (by decide +kernel : ∀ t : Fin grid0.N, _)
theorem idx0_1 : ∀ t : Fin cfg0.N, win0_1.index t = ![3 + t.val, 0] := (by decide +kernel : ∀ t : Fin grid0.N, _)
theorem idx0_2 : ∀ t : Fin cfg0.N, win0_2.index t = ![3 + t.val, 0] := (by decide +kernel : ∀ t : Fin grid0.N, _)
theorem idx0_3 : ∀ t : Fin cfg0.N, win0_3.index t = ![3 + t.val, 0] := (by decide +kernel : ∀ t : Fin grid0.N, _)
theorem idx0_4 : ∀ t : Fin cfg0.N, win0_4.index t = ![3 + t.val, 0] := (by decide +kernel : ∀ t : Fin grid0.N, _)
theorem idx0_5 : ∀ t : Fin cfg0.N, win0_5.index t = ![3 + t.val, 0] := (by decide +kernel : ∀ t : Fin grid0.N, _)
theorem idx0_6 : ∀ t : Fin cfg0.N, win0_6.index t = ![3 + t.val, 0] := (by decide +kernel : ∀ t : Fin grid0.N, _)
theorem idx0_7 : ∀ t : Fin cfg0.N, win0_7.index t = ![3 + t.val, 0] := (by decide +kernel : ∀ t : Fin grid0.N, _)

/-- A block of layer 3's summed gradients. -/
theorem block0_g (c : Dev nD) (t : Fin cfg0.N) (y : S128x1024.Idx) (i : S512x1024.Idx) (h0 : (i 0).val = (3 + t.val) * 128 + (y 0).val) (h1 : (i 1).val = (y 1).val) :
    sumParts (iblk0 (V1 m ρ) c 0 t) y = total m c i := by
  have ht : t.val < 1 := t.isLt
  have hy : (y 0).val < 128 := (y 0).isLt
  refine Eq.trans (Finset.sum_congr rfl fun k _ => ?_) (total3 m c i (ix2 (⟨t.val * 128 + (y 0).val, by omega⟩ : Fin 128) (y 1)) (by show _ = 384 + (t.val * 128 + (y 0).val); omega) h1).symm
  blk_simp [iblk0]
  rw [staged0]
  refine congrArg (part0 m c) ?_
  blk_ext [idx0_0, ix2, ix3, Matrix.cons_val_zero, Matrix.cons_val_one]

/-- A block of the weights. -/
theorem block0_wts (c : Dev nD) (t : Fin cfg0.N) (y : S128x1024.Idx) (i : S512x1024.Idx) (h0 : (i 0).val = (3 + t.val) * 128 + (y 0).val) (h1 : (i 1).val = (y 1).val) :
    (iblk0 (V1 m ρ) c 1 t : Vec Ideal S128x1024 .f32) y = wts m c i := by
  blk_simp [iblk0]
  refine (congrFun (W1_args m ρ c main_arg4 (by decide)) _).trans (congrArg (wts m c) ?_)
  blk_ext [idx0_1, Matrix.cons_val_zero, Matrix.cons_val_one]

/-- A block of the first moments. -/
theorem block0_mom (c : Dev nD) (t : Fin cfg0.N) (y : S128x1024.Idx) (i : S512x1024.Idx) (h0 : (i 0).val = (3 + t.val) * 128 + (y 0).val) (h1 : (i 1).val = (y 1).val) :
    (iblk0 (V1 m ρ) c 2 t : Vec Ideal S128x1024 .f32) y = mom m c i := by
  blk_simp [iblk0]
  refine (congrFun (W1_args m ρ c main_arg5 (by decide)) _).trans (congrArg (mom m c) ?_)
  blk_ext [idx0_2, Matrix.cons_val_zero, Matrix.cons_val_one]

/-- A block of the second moments. -/
theorem block0_sq (c : Dev nD) (t : Fin cfg0.N) (y : S128x1024.Idx) (i : S512x1024.Idx) (h0 : (i 0).val = (3 + t.val) * 128 + (y 0).val) (h1 : (i 1).val = (y 1).val) :
    (iblk0 (V1 m ρ) c 3 t : Vec Ideal S128x1024 .f32) y = sq m c i := by
  blk_simp [iblk0]
  refine (congrFun (W1_args m ρ c main_arg6 (by decide)) _).trans (congrArg (sq m c) ?_)
  blk_ext [idx0_3, Matrix.cons_val_zero, Matrix.cons_val_one]

/-- After the call for layer 3, the rows from this layer on of the array of the summed gradients. -/
theorem grad0 (c : Dev nD) (i : S512x1024.Idx) (hi : 384 ≤ (i 0).val) :
    ((dat0 (V1 m ρ) c).arrAt 4 cfg0.N : Vec Ideal S512x1024 .f32) i = total m c i := by
  refine (dat0 (V1 m ρ) c).arrAt_forall_of_coversWhere 4 (fun (i : S512x1024.Idx) v => 384 ≤ (i 0).val → v = total m c i)
    (fun β => 3 ≤ β (0 : Fin _) ∧ β (0 : Fin _) < 4) (by decide +kernel) (fun t _ y _ => ?_) (fun j hj hl => ?_) i (Memref.isWhole_whole _) hi
  · blk_simp
    rw [after0_4]
    frame_out
    have e0 : ((((View.whole main_v1_0).slice (win0_4.rect t)).emb y : S512x1024.Idx) 0).val = (3 + t.val) * 128 + (y 0).val := by
      refine Eq.trans (b := win0_4.index t 0 * 128 + (y 0).val) (ValueKit.view_emb_slice_whole_unit_val _ _ _ _ _ _) ?_
      rw [idx0_4]; rfl
    have e1 : ((((View.whole main_v1_0).slice (win0_4.rect t)).emb y : S512x1024.Idx) 1).val = (y 1).val := by
      refine Eq.trans (b := win0_4.index t 1 * 1024 + (y 1).val) (ValueKit.view_emb_slice_whole_unit_val _ _ _ _ _ _) ?_
      rw [idx0_4]; exact (congrArg (· + _) (Nat.zero_mul 1024)).trans (Nat.zero_add _)
    exact ((parts0_apply _ y).trans (block0_g m ρ c t y _ e0 e1))
  · blk_simp [Pipeline.Window.cell_apply] at hj hl
    have hb : (j 0).val < 512 := (j 0).isLt
    exact absurd hj (by omega)

/-- After the call for layer 3, the rows from this layer on of the array of the changes. -/
theorem delta0 (c : Dev nD) (i : S512x1024.Idx) (hi : 384 ≤ (i 0).val) :
    ((dat0 (V1 m ρ) c).arrAt 5 cfg0.N : Vec Ideal S512x1024 .f32) i = change (total m c i) (wts m c i) (mom m c i) (sq m c i) := by
  refine (dat0 (V1 m ρ) c).arrAt_forall_of_coversWhere 5 (fun (i : S512x1024.Idx) v => 384 ≤ (i 0).val → v = change (total m c i) (wts m c i) (mom m c i) (sq m c i))
    (fun β => 3 ≤ β (0 : Fin _) ∧ β (0 : Fin _) < 4) (by decide +kernel) (fun t _ y _ => ?_) (fun j hj hl => ?_) i (Memref.isWhole_whole _) hi
  · blk_simp
    rw [after0_5]
    frame_out
    have e0 : ((((View.whole main_v1_1).slice (win0_5.rect t)).emb y : S512x1024.Idx) 0).val = (3 + t.val) * 128 + (y 0).val := by
      refine Eq.trans (b := win0_5.index t 0 * 128 + (y 0).val) (ValueKit.view_emb_slice_whole_unit_val _ _ _ _ _ _) ?_
      rw [idx0_5]; rfl
    have e1 : ((((View.whole main_v1_1).slice (win0_5.rect t)).emb y : S512x1024.Idx) 1).val = (y 1).val := by
      refine Eq.trans (b := win0_5.index t 1 * 1024 + (y 1).val) (ValueKit.view_emb_slice_whole_unit_val _ _ _ _ _ _) ?_
      rw [idx0_5]; exact (congrArg (· + _) (Nat.zero_mul 1024)).trans (Nat.zero_add _)
    exact (show _ = change _ _ _ _ from congr (congr (congrArg₂ change ((parts0_apply _ y).trans (block0_g m ρ c t y _ e0 e1)) (block0_wts m ρ c t y _ e0 e1)) (block0_mom m ρ c t y _ e0 e1)) (block0_sq m ρ c t y _ e0 e1))
  · blk_simp [Pipeline.Window.cell_apply] at hj hl
    have hb : (j 0).val < 512 := (j 0).isLt
    exact absurd hj (by omega)

/-- After the call for layer 3, the rows from this layer on of the array of the first moments. -/
theorem moment0 (c : Dev nD) (i : S512x1024.Idx) (hi : 384 ≤ (i 0).val) :
    ((dat0 (V1 m ρ) c).arrAt 6 cfg0.N : Vec Ideal S512x1024 .f32) i = first (total m c i) (mom m c i) := by
  refine (dat0 (V1 m ρ) c).arrAt_forall_of_coversWhere 6 (fun (i : S512x1024.Idx) v => 384 ≤ (i 0).val → v = first (total m c i) (mom m c i))
    (fun β => 3 ≤ β (0 : Fin _) ∧ β (0 : Fin _) < 4) (by decide +kernel) (fun t _ y _ => ?_) (fun j hj hl => ?_) i (Memref.isWhole_whole _) hi
  · blk_simp
    rw [after0_6]
    frame_out
    have e0 : ((((View.whole main_v1_2).slice (win0_6.rect t)).emb y : S512x1024.Idx) 0).val = (3 + t.val) * 128 + (y 0).val := by
      refine Eq.trans (b := win0_6.index t 0 * 128 + (y 0).val) (ValueKit.view_emb_slice_whole_unit_val _ _ _ _ _ _) ?_
      rw [idx0_6]; rfl
    have e1 : ((((View.whole main_v1_2).slice (win0_6.rect t)).emb y : S512x1024.Idx) 1).val = (y 1).val := by
      refine Eq.trans (b := win0_6.index t 1 * 1024 + (y 1).val) (ValueKit.view_emb_slice_whole_unit_val _ _ _ _ _ _) ?_
      rw [idx0_6]; exact (congrArg (· + _) (Nat.zero_mul 1024)).trans (Nat.zero_add _)
    exact (show _ = first _ _ from congrArg₂ first ((parts0_apply _ y).trans (block0_g m ρ c t y _ e0 e1)) (block0_mom m ρ c t y _ e0 e1))
  · blk_simp [Pipeline.Window.cell_apply] at hj hl
    have hb : (j 0).val < 512 := (j 0).isLt
    exact absurd hj (by omega)

/-- After the call for layer 3, the rows from this layer on of the array of the second moments. -/
theorem square0 (c : Dev nD) (i : S512x1024.Idx) (hi : 384 ≤ (i 0).val) :
    ((dat0 (V1 m ρ) c).arrAt 7 cfg0.N : Vec Ideal S512x1024 .f32) i = second (total m c i) (sq m c i) := by
  refine (dat0 (V1 m ρ) c).arrAt_forall_of_coversWhere 7 (fun (i : S512x1024.Idx) v => 384 ≤ (i 0).val → v = second (total m c i) (sq m c i))
    (fun β => 3 ≤ β (0 : Fin _) ∧ β (0 : Fin _) < 4) (by decide +kernel) (fun t _ y _ => ?_) (fun j hj hl => ?_) i (Memref.isWhole_whole _) hi
  · blk_simp
    rw [after0_7]
    frame_out
    have e0 : ((((View.whole main_v1_3).slice (win0_7.rect t)).emb y : S512x1024.Idx) 0).val = (3 + t.val) * 128 + (y 0).val := by
      refine Eq.trans (b := win0_7.index t 0 * 128 + (y 0).val) (ValueKit.view_emb_slice_whole_unit_val _ _ _ _ _ _) ?_
      rw [idx0_7]; rfl
    have e1 : ((((View.whole main_v1_3).slice (win0_7.rect t)).emb y : S512x1024.Idx) 1).val = (y 1).val := by
      refine Eq.trans (b := win0_7.index t 1 * 1024 + (y 1).val) (ValueKit.view_emb_slice_whole_unit_val _ _ _ _ _ _) ?_
      rw [idx0_7]; exact (congrArg (· + _) (Nat.zero_mul 1024)).trans (Nat.zero_add _)
    exact (show _ = second _ _ from congrArg₂ second ((parts0_apply _ y).trans (block0_g m ρ c t y _ e0 e1)) (block0_sq m ρ c t y _ e0 e1))
  · blk_simp [Pipeline.Window.cell_apply] at hj hl
    have hb : (j 0).val < 512 := (j 0).isLt
    exact absurd hj (by omega)

/-- Layer 2's parts are staged narrowed, which over the extended reals is as they are. -/
theorem staged1 (c : Dev nD) : V3 m ρ c main_v2 = (truncf .bf16 (part1 m c) bitsLt_bf16_f32 : FVec Ideal S8x128x1024 .bf16) := by
  show StableHlo.after hostOps1 _ _ = _
  after_results
  exact congrArg (fun x : Vec Ideal S8x128x1024 .f32 => (truncf .bf16 x bitsLt_bf16_f32 : FVec Ideal S8x128x1024 .bf16)) (W2_args m ρ c main_arg1 (by decide))

/-- The sum of a block's eight parts, at an index. -/
theorem parts1_apply (x : Vec Ideal S8x128x1024 .bf16) (y : S128x1024.Idx) :
    k1_pay4 (slice0 x) (slice1 x) (slice2 x) (slice3 x) (slice4 x) (slice5 x) (slice6 x) (slice7 x) y = sumParts x y :=
  parts0_apply x y

theorem idx1_0 : ∀ t : Fin cfg1.N, win1_0.index t = ![0, t.val, 0] := (by decide +kernel : ∀ t : Fin grid1.N, _)
theorem idx1_1 : ∀ t : Fin cfg1.N, win1_1.index t = ![2 + t.val, 0] := (by decide +kernel : ∀ t : Fin grid1.N, _)
theorem idx1_2 : ∀ t : Fin cfg1.N, win1_2.index t = ![2 + t.val, 0] := (by decide +kernel : ∀ t : Fin grid1.N, _)
theorem idx1_3 : ∀ t : Fin cfg1.N, win1_3.index t = ![2 + t.val, 0] := (by decide +kernel : ∀ t : Fin grid1.N, _)
theorem idx1_4 : ∀ t : Fin cfg1.N, win1_4.index t = ![2 + t.val, 0] := (by decide +kernel : ∀ t : Fin grid1.N, _)
theorem idx1_5 : ∀ t : Fin cfg1.N, win1_5.index t = ![2 + t.val, 0] := (by decide +kernel : ∀ t : Fin grid1.N, _)
theorem idx1_6 : ∀ t : Fin cfg1.N, win1_6.index t = ![2 + t.val, 0] := (by decide +kernel : ∀ t : Fin grid1.N, _)
theorem idx1_7 : ∀ t : Fin cfg1.N, win1_7.index t = ![2 + t.val, 0] := (by decide +kernel : ∀ t : Fin grid1.N, _)

/-- A block of layer 2's summed gradients. -/
theorem block1_g (c : Dev nD) (t : Fin cfg1.N) (y : S128x1024.Idx) (i : S512x1024.Idx) (h0 : (i 0).val = (2 + t.val) * 128 + (y 0).val) (h1 : (i 1).val = (y 1).val) :
    sumParts (iblk1 (V3 m ρ) c 0 t) y = total m c i := by
  have ht : t.val < 1 := t.isLt
  have hy : (y 0).val < 128 := (y 0).isLt
  refine Eq.trans (Finset.sum_congr rfl fun k _ => ?_) (total2 m c i (ix2 (⟨t.val * 128 + (y 0).val, by omega⟩ : Fin 128) (y 1)) (by show _ = 256 + (t.val * 128 + (y 0).val); omega) h1).symm
  blk_simp [iblk1]
  rw [staged1]
  refine congrArg (part1 m c) ?_
  blk_ext [idx1_0, ix2, ix3, Matrix.cons_val_zero, Matrix.cons_val_one]

/-- A block of the weights. -/
theorem block1_wts (c : Dev nD) (t : Fin cfg1.N) (y : S128x1024.Idx) (i : S512x1024.Idx) (h0 : (i 0).val = (2 + t.val) * 128 + (y 0).val) (h1 : (i 1).val = (y 1).val) :
    (iblk1 (V3 m ρ) c 1 t : Vec Ideal S128x1024 .f32) y = wts m c i := by
  blk_simp [iblk1]
  refine (congrFun (W3_args m ρ c main_arg4 (by decide)) _).trans (congrArg (wts m c) ?_)
  blk_ext [idx1_1, Matrix.cons_val_zero, Matrix.cons_val_one]

/-- A block of the first moments. -/
theorem block1_mom (c : Dev nD) (t : Fin cfg1.N) (y : S128x1024.Idx) (i : S512x1024.Idx) (h0 : (i 0).val = (2 + t.val) * 128 + (y 0).val) (h1 : (i 1).val = (y 1).val) :
    (iblk1 (V3 m ρ) c 2 t : Vec Ideal S128x1024 .f32) y = mom m c i := by
  blk_simp [iblk1]
  refine (congrFun (W3_args m ρ c main_arg5 (by decide)) _).trans (congrArg (mom m c) ?_)
  blk_ext [idx1_2, Matrix.cons_val_zero, Matrix.cons_val_one]

/-- A block of the second moments. -/
theorem block1_sq (c : Dev nD) (t : Fin cfg1.N) (y : S128x1024.Idx) (i : S512x1024.Idx) (h0 : (i 0).val = (2 + t.val) * 128 + (y 0).val) (h1 : (i 1).val = (y 1).val) :
    (iblk1 (V3 m ρ) c 3 t : Vec Ideal S128x1024 .f32) y = sq m c i := by
  blk_simp [iblk1]
  refine (congrFun (W3_args m ρ c main_arg6 (by decide)) _).trans (congrArg (sq m c) ?_)
  blk_ext [idx1_3, Matrix.cons_val_zero, Matrix.cons_val_one]

/-- After the call for layer 2, the rows from this layer on of the array of the summed gradients. -/
theorem grad1 (c : Dev nD) (i : S512x1024.Idx) (hi : 256 ≤ (i 0).val) :
    ((dat1 (V3 m ρ) c).arrAt 4 cfg1.N : Vec Ideal S512x1024 .f32) i = total m c i := by
  refine (dat1 (V3 m ρ) c).arrAt_forall_of_coversWhere 4 (fun (i : S512x1024.Idx) v => 256 ≤ (i 0).val → v = total m c i)
    (fun β => 2 ≤ β (0 : Fin _) ∧ β (0 : Fin _) < 3) (by decide +kernel) (fun t _ y _ => ?_) (fun j hj hl => ?_) i (Memref.isWhole_whole _) hi
  · blk_simp
    rw [after1_4]
    unfold outsAt1
    frame_out
    have e0 : ((((View.whole main_v3_0).slice (win1_4.rect t)).emb y : S512x1024.Idx) 0).val = (2 + t.val) * 128 + (y 0).val := by
      refine Eq.trans (b := win1_4.index t 0 * 128 + (y 0).val) (ValueKit.view_emb_slice_whole_unit_val _ _ _ _ _ _) ?_
      rw [idx1_4]; rfl
    have e1 : ((((View.whole main_v3_0).slice (win1_4.rect t)).emb y : S512x1024.Idx) 1).val = (y 1).val := by
      refine Eq.trans (b := win1_4.index t 1 * 1024 + (y 1).val) (ValueKit.view_emb_slice_whole_unit_val _ _ _ _ _ _) ?_
      rw [idx1_4]; exact (congrArg (· + _) (Nat.zero_mul 1024)).trans (Nat.zero_add _)
    exact ((parts1_apply _ y).trans (block1_g m ρ c t y _ e0 e1))
  · blk_simp [Pipeline.Window.cell_apply] at hj hl
    have hb : 384 ≤ (j 0).val := by omega
    refine (congrFun (A_eq1 (V3 m ρ) c 4) _).trans (Eq.trans (congrFun (?_ : _ = (dat0 (V1 m ρ) c).arrAt 4 cfg0.N) _) (grad0 m ρ c _ hb))
    show StableHlo.after hostOps1 _ _ = _
    after_results
    exact W2_arr m ρ c 4

/-- After the call for layer 2, the rows from this layer on of the array of the changes. -/
theorem delta1 (c : Dev nD) (i : S512x1024.Idx) (hi : 256 ≤ (i 0).val) :
    ((dat1 (V3 m ρ) c).arrAt 5 cfg1.N : Vec Ideal S512x1024 .f32) i = change (total m c i) (wts m c i) (mom m c i) (sq m c i) := by
  refine (dat1 (V3 m ρ) c).arrAt_forall_of_coversWhere 5 (fun (i : S512x1024.Idx) v => 256 ≤ (i 0).val → v = change (total m c i) (wts m c i) (mom m c i) (sq m c i))
    (fun β => 2 ≤ β (0 : Fin _) ∧ β (0 : Fin _) < 3) (by decide +kernel) (fun t _ y _ => ?_) (fun j hj hl => ?_) i (Memref.isWhole_whole _) hi
  · blk_simp
    rw [after1_5]
    unfold outsAt1
    frame_out
    have e0 : ((((View.whole main_v3_1).slice (win1_5.rect t)).emb y : S512x1024.Idx) 0).val = (2 + t.val) * 128 + (y 0).val := by
      refine Eq.trans (b := win1_5.index t 0 * 128 + (y 0).val) (ValueKit.view_emb_slice_whole_unit_val _ _ _ _ _ _) ?_
      rw [idx1_5]; rfl
    have e1 : ((((View.whole main_v3_1).slice (win1_5.rect t)).emb y : S512x1024.Idx) 1).val = (y 1).val := by
      refine Eq.trans (b := win1_5.index t 1 * 1024 + (y 1).val) (ValueKit.view_emb_slice_whole_unit_val _ _ _ _ _ _) ?_
      rw [idx1_5]; exact (congrArg (· + _) (Nat.zero_mul 1024)).trans (Nat.zero_add _)
    exact (show _ = change _ _ _ _ from congr (congr (congrArg₂ change ((parts1_apply _ y).trans (block1_g m ρ c t y _ e0 e1)) (block1_wts m ρ c t y _ e0 e1)) (block1_mom m ρ c t y _ e0 e1)) (block1_sq m ρ c t y _ e0 e1))
  · blk_simp [Pipeline.Window.cell_apply] at hj hl
    have hb : 384 ≤ (j 0).val := by omega
    refine (congrFun (A_eq1 (V3 m ρ) c 5) _).trans (Eq.trans (congrFun (?_ : _ = (dat0 (V1 m ρ) c).arrAt 5 cfg0.N) _) (delta0 m ρ c _ hb))
    show StableHlo.after hostOps1 _ _ = _
    after_results
    exact W2_arr m ρ c 5

/-- After the call for layer 2, the rows from this layer on of the array of the first moments. -/
theorem moment1 (c : Dev nD) (i : S512x1024.Idx) (hi : 256 ≤ (i 0).val) :
    ((dat1 (V3 m ρ) c).arrAt 6 cfg1.N : Vec Ideal S512x1024 .f32) i = first (total m c i) (mom m c i) := by
  refine (dat1 (V3 m ρ) c).arrAt_forall_of_coversWhere 6 (fun (i : S512x1024.Idx) v => 256 ≤ (i 0).val → v = first (total m c i) (mom m c i))
    (fun β => 2 ≤ β (0 : Fin _) ∧ β (0 : Fin _) < 3) (by decide +kernel) (fun t _ y _ => ?_) (fun j hj hl => ?_) i (Memref.isWhole_whole _) hi
  · blk_simp
    rw [after1_6]
    unfold outsAt1
    frame_out
    have e0 : ((((View.whole main_v3_2).slice (win1_6.rect t)).emb y : S512x1024.Idx) 0).val = (2 + t.val) * 128 + (y 0).val := by
      refine Eq.trans (b := win1_6.index t 0 * 128 + (y 0).val) (ValueKit.view_emb_slice_whole_unit_val _ _ _ _ _ _) ?_
      rw [idx1_6]; rfl
    have e1 : ((((View.whole main_v3_2).slice (win1_6.rect t)).emb y : S512x1024.Idx) 1).val = (y 1).val := by
      refine Eq.trans (b := win1_6.index t 1 * 1024 + (y 1).val) (ValueKit.view_emb_slice_whole_unit_val _ _ _ _ _ _) ?_
      rw [idx1_6]; exact (congrArg (· + _) (Nat.zero_mul 1024)).trans (Nat.zero_add _)
    exact (show _ = first _ _ from congrArg₂ first ((parts1_apply _ y).trans (block1_g m ρ c t y _ e0 e1)) (block1_mom m ρ c t y _ e0 e1))
  · blk_simp [Pipeline.Window.cell_apply] at hj hl
    have hb : 384 ≤ (j 0).val := by omega
    refine (congrFun (A_eq1 (V3 m ρ) c 6) _).trans (Eq.trans (congrFun (?_ : _ = (dat0 (V1 m ρ) c).arrAt 6 cfg0.N) _) (moment0 m ρ c _ hb))
    show StableHlo.after hostOps1 _ _ = _
    after_results
    exact W2_arr m ρ c 6

/-- After the call for layer 2, the rows from this layer on of the array of the second moments. -/
theorem square1 (c : Dev nD) (i : S512x1024.Idx) (hi : 256 ≤ (i 0).val) :
    ((dat1 (V3 m ρ) c).arrAt 7 cfg1.N : Vec Ideal S512x1024 .f32) i = second (total m c i) (sq m c i) := by
  refine (dat1 (V3 m ρ) c).arrAt_forall_of_coversWhere 7 (fun (i : S512x1024.Idx) v => 256 ≤ (i 0).val → v = second (total m c i) (sq m c i))
    (fun β => 2 ≤ β (0 : Fin _) ∧ β (0 : Fin _) < 3) (by decide +kernel) (fun t _ y _ => ?_) (fun j hj hl => ?_) i (Memref.isWhole_whole _) hi
  · blk_simp
    rw [after1_7]
    unfold outsAt1
    frame_out
    have e0 : ((((View.whole main_v3_3).slice (win1_7.rect t)).emb y : S512x1024.Idx) 0).val = (2 + t.val) * 128 + (y 0).val := by
      refine Eq.trans (b := win1_7.index t 0 * 128 + (y 0).val) (ValueKit.view_emb_slice_whole_unit_val _ _ _ _ _ _) ?_
      rw [idx1_7]; rfl
    have e1 : ((((View.whole main_v3_3).slice (win1_7.rect t)).emb y : S512x1024.Idx) 1).val = (y 1).val := by
      refine Eq.trans (b := win1_7.index t 1 * 1024 + (y 1).val) (ValueKit.view_emb_slice_whole_unit_val _ _ _ _ _ _) ?_
      rw [idx1_7]; exact (congrArg (· + _) (Nat.zero_mul 1024)).trans (Nat.zero_add _)
    exact (show _ = second _ _ from congrArg₂ second ((parts1_apply _ y).trans (block1_g m ρ c t y _ e0 e1)) (block1_sq m ρ c t y _ e0 e1))
  · blk_simp [Pipeline.Window.cell_apply] at hj hl
    have hb : 384 ≤ (j 0).val := by omega
    refine (congrFun (A_eq1 (V3 m ρ) c 7) _).trans (Eq.trans (congrFun (?_ : _ = (dat0 (V1 m ρ) c).arrAt 7 cfg0.N) _) (square0 m ρ c _ hb))
    show StableHlo.after hostOps1 _ _ = _
    after_results
    exact W2_arr m ρ c 7

/-- Layer 1's parts are staged narrowed, which over the extended reals is as they are. -/
theorem staged2 (c : Dev nD) : V5 m ρ c main_v4 = (truncf .bf16 (part2 m c) bitsLt_bf16_f32 : FVec Ideal S8x128x1024 .bf16) := by
  show StableHlo.after hostOps2 _ _ = _
  after_results
  exact congrArg (fun x : Vec Ideal S8x128x1024 .f32 => (truncf .bf16 x bitsLt_bf16_f32 : FVec Ideal S8x128x1024 .bf16)) (W4_args m ρ c main_arg2 (by decide))

/-- The sum of a block's eight parts, at an index. -/
theorem parts2_apply (x : Vec Ideal S8x128x1024 .bf16) (y : S128x1024.Idx) :
    k2_pay4 (slice0 x) (slice1 x) (slice2 x) (slice3 x) (slice4 x) (slice5 x) (slice6 x) (slice7 x) y = sumParts x y :=
  parts0_apply x y

theorem idx2_0 : ∀ t : Fin cfg2.N, win2_0.index t = ![0, t.val, 0] := (by decide +kernel : ∀ t : Fin grid2.N, _)
theorem idx2_1 : ∀ t : Fin cfg2.N, win2_1.index t = ![1 + t.val, 0] := (by decide +kernel : ∀ t : Fin grid2.N, _)
theorem idx2_2 : ∀ t : Fin cfg2.N, win2_2.index t = ![1 + t.val, 0] := (by decide +kernel : ∀ t : Fin grid2.N, _)
theorem idx2_3 : ∀ t : Fin cfg2.N, win2_3.index t = ![1 + t.val, 0] := (by decide +kernel : ∀ t : Fin grid2.N, _)
theorem idx2_4 : ∀ t : Fin cfg2.N, win2_4.index t = ![1 + t.val, 0] := (by decide +kernel : ∀ t : Fin grid2.N, _)
theorem idx2_5 : ∀ t : Fin cfg2.N, win2_5.index t = ![1 + t.val, 0] := (by decide +kernel : ∀ t : Fin grid2.N, _)
theorem idx2_6 : ∀ t : Fin cfg2.N, win2_6.index t = ![1 + t.val, 0] := (by decide +kernel : ∀ t : Fin grid2.N, _)
theorem idx2_7 : ∀ t : Fin cfg2.N, win2_7.index t = ![1 + t.val, 0] := (by decide +kernel : ∀ t : Fin grid2.N, _)

/-- A block of layer 1's summed gradients. -/
theorem block2_g (c : Dev nD) (t : Fin cfg2.N) (y : S128x1024.Idx) (i : S512x1024.Idx) (h0 : (i 0).val = (1 + t.val) * 128 + (y 0).val) (h1 : (i 1).val = (y 1).val) :
    sumParts (iblk2 (V5 m ρ) c 0 t) y = total m c i := by
  have ht : t.val < 1 := t.isLt
  have hy : (y 0).val < 128 := (y 0).isLt
  refine Eq.trans (Finset.sum_congr rfl fun k _ => ?_) (total1 m c i (ix2 (⟨t.val * 128 + (y 0).val, by omega⟩ : Fin 128) (y 1)) (by show _ = 128 + (t.val * 128 + (y 0).val); omega) h1).symm
  blk_simp [iblk2]
  rw [staged2]
  refine congrArg (part2 m c) ?_
  blk_ext [idx2_0, ix2, ix3, Matrix.cons_val_zero, Matrix.cons_val_one]

/-- A block of the weights. -/
theorem block2_wts (c : Dev nD) (t : Fin cfg2.N) (y : S128x1024.Idx) (i : S512x1024.Idx) (h0 : (i 0).val = (1 + t.val) * 128 + (y 0).val) (h1 : (i 1).val = (y 1).val) :
    (iblk2 (V5 m ρ) c 1 t : Vec Ideal S128x1024 .f32) y = wts m c i := by
  blk_simp [iblk2]
  refine (congrFun (W5_args m ρ c main_arg4 (by decide)) _).trans (congrArg (wts m c) ?_)
  blk_ext [idx2_1, Matrix.cons_val_zero, Matrix.cons_val_one]

/-- A block of the first moments. -/
theorem block2_mom (c : Dev nD) (t : Fin cfg2.N) (y : S128x1024.Idx) (i : S512x1024.Idx) (h0 : (i 0).val = (1 + t.val) * 128 + (y 0).val) (h1 : (i 1).val = (y 1).val) :
    (iblk2 (V5 m ρ) c 2 t : Vec Ideal S128x1024 .f32) y = mom m c i := by
  blk_simp [iblk2]
  refine (congrFun (W5_args m ρ c main_arg5 (by decide)) _).trans (congrArg (mom m c) ?_)
  blk_ext [idx2_2, Matrix.cons_val_zero, Matrix.cons_val_one]

/-- A block of the second moments. -/
theorem block2_sq (c : Dev nD) (t : Fin cfg2.N) (y : S128x1024.Idx) (i : S512x1024.Idx) (h0 : (i 0).val = (1 + t.val) * 128 + (y 0).val) (h1 : (i 1).val = (y 1).val) :
    (iblk2 (V5 m ρ) c 3 t : Vec Ideal S128x1024 .f32) y = sq m c i := by
  blk_simp [iblk2]
  refine (congrFun (W5_args m ρ c main_arg6 (by decide)) _).trans (congrArg (sq m c) ?_)
  blk_ext [idx2_3, Matrix.cons_val_zero, Matrix.cons_val_one]

/-- After the call for layer 1, the rows from this layer on of the array of the summed gradients. -/
theorem grad2 (c : Dev nD) (i : S512x1024.Idx) (hi : 128 ≤ (i 0).val) :
    ((dat2 (V5 m ρ) c).arrAt 4 cfg2.N : Vec Ideal S512x1024 .f32) i = total m c i := by
  refine (dat2 (V5 m ρ) c).arrAt_forall_of_coversWhere 4 (fun (i : S512x1024.Idx) v => 128 ≤ (i 0).val → v = total m c i)
    (fun β => 1 ≤ β (0 : Fin _) ∧ β (0 : Fin _) < 2) (by decide +kernel) (fun t _ y _ => ?_) (fun j hj hl => ?_) i (Memref.isWhole_whole _) hi
  · blk_simp
    rw [after2_4]
    unfold outsAt2
    frame_out
    have e0 : ((((View.whole main_v5_0).slice (win2_4.rect t)).emb y : S512x1024.Idx) 0).val = (1 + t.val) * 128 + (y 0).val := by
      refine Eq.trans (b := win2_4.index t 0 * 128 + (y 0).val) (ValueKit.view_emb_slice_whole_unit_val _ _ _ _ _ _) ?_
      rw [idx2_4]; rfl
    have e1 : ((((View.whole main_v5_0).slice (win2_4.rect t)).emb y : S512x1024.Idx) 1).val = (y 1).val := by
      refine Eq.trans (b := win2_4.index t 1 * 1024 + (y 1).val) (ValueKit.view_emb_slice_whole_unit_val _ _ _ _ _ _) ?_
      rw [idx2_4]; exact (congrArg (· + _) (Nat.zero_mul 1024)).trans (Nat.zero_add _)
    exact ((parts2_apply _ y).trans (block2_g m ρ c t y _ e0 e1))
  · blk_simp [Pipeline.Window.cell_apply] at hj hl
    have hb : 256 ≤ (j 0).val := by omega
    refine (congrFun (A_eq2 (V5 m ρ) c 4) _).trans (Eq.trans (congrFun (?_ : _ = (dat1 (V3 m ρ) c).arrAt 4 cfg1.N) _) (grad1 m ρ c _ hb))
    show StableHlo.after hostOps2 _ _ = _
    after_results
    exact W4_arr m ρ c 4

/-- After the call for layer 1, the rows from this layer on of the array of the changes. -/
theorem delta2 (c : Dev nD) (i : S512x1024.Idx) (hi : 128 ≤ (i 0).val) :
    ((dat2 (V5 m ρ) c).arrAt 5 cfg2.N : Vec Ideal S512x1024 .f32) i = change (total m c i) (wts m c i) (mom m c i) (sq m c i) := by
  refine (dat2 (V5 m ρ) c).arrAt_forall_of_coversWhere 5 (fun (i : S512x1024.Idx) v => 128 ≤ (i 0).val → v = change (total m c i) (wts m c i) (mom m c i) (sq m c i))
    (fun β => 1 ≤ β (0 : Fin _) ∧ β (0 : Fin _) < 2) (by decide +kernel) (fun t _ y _ => ?_) (fun j hj hl => ?_) i (Memref.isWhole_whole _) hi
  · blk_simp
    rw [after2_5]
    unfold outsAt2
    frame_out
    have e0 : ((((View.whole main_v5_1).slice (win2_5.rect t)).emb y : S512x1024.Idx) 0).val = (1 + t.val) * 128 + (y 0).val := by
      refine Eq.trans (b := win2_5.index t 0 * 128 + (y 0).val) (ValueKit.view_emb_slice_whole_unit_val _ _ _ _ _ _) ?_
      rw [idx2_5]; rfl
    have e1 : ((((View.whole main_v5_1).slice (win2_5.rect t)).emb y : S512x1024.Idx) 1).val = (y 1).val := by
      refine Eq.trans (b := win2_5.index t 1 * 1024 + (y 1).val) (ValueKit.view_emb_slice_whole_unit_val _ _ _ _ _ _) ?_
      rw [idx2_5]; exact (congrArg (· + _) (Nat.zero_mul 1024)).trans (Nat.zero_add _)
    exact (show _ = change _ _ _ _ from congr (congr (congrArg₂ change ((parts2_apply _ y).trans (block2_g m ρ c t y _ e0 e1)) (block2_wts m ρ c t y _ e0 e1)) (block2_mom m ρ c t y _ e0 e1)) (block2_sq m ρ c t y _ e0 e1))
  · blk_simp [Pipeline.Window.cell_apply] at hj hl
    have hb : 256 ≤ (j 0).val := by omega
    refine (congrFun (A_eq2 (V5 m ρ) c 5) _).trans (Eq.trans (congrFun (?_ : _ = (dat1 (V3 m ρ) c).arrAt 5 cfg1.N) _) (delta1 m ρ c _ hb))
    show StableHlo.after hostOps2 _ _ = _
    after_results
    exact W4_arr m ρ c 5

/-- After the call for layer 1, the rows from this layer on of the array of the first moments. -/
theorem moment2 (c : Dev nD) (i : S512x1024.Idx) (hi : 128 ≤ (i 0).val) :
    ((dat2 (V5 m ρ) c).arrAt 6 cfg2.N : Vec Ideal S512x1024 .f32) i = first (total m c i) (mom m c i) := by
  refine (dat2 (V5 m ρ) c).arrAt_forall_of_coversWhere 6 (fun (i : S512x1024.Idx) v => 128 ≤ (i 0).val → v = first (total m c i) (mom m c i))
    (fun β => 1 ≤ β (0 : Fin _) ∧ β (0 : Fin _) < 2) (by decide +kernel) (fun t _ y _ => ?_) (fun j hj hl => ?_) i (Memref.isWhole_whole _) hi
  · blk_simp
    rw [after2_6]
    unfold outsAt2
    frame_out
    have e0 : ((((View.whole main_v5_2).slice (win2_6.rect t)).emb y : S512x1024.Idx) 0).val = (1 + t.val) * 128 + (y 0).val := by
      refine Eq.trans (b := win2_6.index t 0 * 128 + (y 0).val) (ValueKit.view_emb_slice_whole_unit_val _ _ _ _ _ _) ?_
      rw [idx2_6]; rfl
    have e1 : ((((View.whole main_v5_2).slice (win2_6.rect t)).emb y : S512x1024.Idx) 1).val = (y 1).val := by
      refine Eq.trans (b := win2_6.index t 1 * 1024 + (y 1).val) (ValueKit.view_emb_slice_whole_unit_val _ _ _ _ _ _) ?_
      rw [idx2_6]; exact (congrArg (· + _) (Nat.zero_mul 1024)).trans (Nat.zero_add _)
    exact (show _ = first _ _ from congrArg₂ first ((parts2_apply _ y).trans (block2_g m ρ c t y _ e0 e1)) (block2_mom m ρ c t y _ e0 e1))
  · blk_simp [Pipeline.Window.cell_apply] at hj hl
    have hb : 256 ≤ (j 0).val := by omega
    refine (congrFun (A_eq2 (V5 m ρ) c 6) _).trans (Eq.trans (congrFun (?_ : _ = (dat1 (V3 m ρ) c).arrAt 6 cfg1.N) _) (moment1 m ρ c _ hb))
    show StableHlo.after hostOps2 _ _ = _
    after_results
    exact W4_arr m ρ c 6

/-- After the call for layer 1, the rows from this layer on of the array of the second moments. -/
theorem square2 (c : Dev nD) (i : S512x1024.Idx) (hi : 128 ≤ (i 0).val) :
    ((dat2 (V5 m ρ) c).arrAt 7 cfg2.N : Vec Ideal S512x1024 .f32) i = second (total m c i) (sq m c i) := by
  refine (dat2 (V5 m ρ) c).arrAt_forall_of_coversWhere 7 (fun (i : S512x1024.Idx) v => 128 ≤ (i 0).val → v = second (total m c i) (sq m c i))
    (fun β => 1 ≤ β (0 : Fin _) ∧ β (0 : Fin _) < 2) (by decide +kernel) (fun t _ y _ => ?_) (fun j hj hl => ?_) i (Memref.isWhole_whole _) hi
  · blk_simp
    rw [after2_7]
    unfold outsAt2
    frame_out
    have e0 : ((((View.whole main_v5_3).slice (win2_7.rect t)).emb y : S512x1024.Idx) 0).val = (1 + t.val) * 128 + (y 0).val := by
      refine Eq.trans (b := win2_7.index t 0 * 128 + (y 0).val) (ValueKit.view_emb_slice_whole_unit_val _ _ _ _ _ _) ?_
      rw [idx2_7]; rfl
    have e1 : ((((View.whole main_v5_3).slice (win2_7.rect t)).emb y : S512x1024.Idx) 1).val = (y 1).val := by
      refine Eq.trans (b := win2_7.index t 1 * 1024 + (y 1).val) (ValueKit.view_emb_slice_whole_unit_val _ _ _ _ _ _) ?_
      rw [idx2_7]; exact (congrArg (· + _) (Nat.zero_mul 1024)).trans (Nat.zero_add _)
    exact (show _ = second _ _ from congrArg₂ second ((parts2_apply _ y).trans (block2_g m ρ c t y _ e0 e1)) (block2_sq m ρ c t y _ e0 e1))
  · blk_simp [Pipeline.Window.cell_apply] at hj hl
    have hb : 256 ≤ (j 0).val := by omega
    refine (congrFun (A_eq2 (V5 m ρ) c 7) _).trans (Eq.trans (congrFun (?_ : _ = (dat1 (V3 m ρ) c).arrAt 7 cfg1.N) _) (square1 m ρ c _ hb))
    show StableHlo.after hostOps2 _ _ = _
    after_results
    exact W4_arr m ρ c 7

/-- Layer 0's parts are staged narrowed, which over the extended reals is as they are. -/
theorem staged3 (c : Dev nD) : V7 m ρ c main_v6 = (truncf .bf16 (part3 m c) bitsLt_bf16_f32 : FVec Ideal S8x128x1024 .bf16) := by
  show StableHlo.after hostOps3 _ _ = _
  after_results
  exact congrArg (fun x : Vec Ideal S8x128x1024 .f32 => (truncf .bf16 x bitsLt_bf16_f32 : FVec Ideal S8x128x1024 .bf16)) (W6_args m ρ c main_arg3 (by decide))

/-- The sum of a block's eight parts, at an index. -/
theorem parts3_apply (x : Vec Ideal S8x128x1024 .bf16) (y : S128x1024.Idx) :
    k3_pay4 (slice0 x) (slice1 x) (slice2 x) (slice3 x) (slice4 x) (slice5 x) (slice6 x) (slice7 x) y = sumParts x y :=
  parts0_apply x y

theorem idx3_0 : ∀ t : Fin cfg3.N, win3_0.index t = ![0, t.val, 0] := (by decide +kernel : ∀ t : Fin grid3.N, _)
theorem idx3_1 : ∀ t : Fin cfg3.N, win3_1.index t = ![0 + t.val, 0] := (by decide +kernel : ∀ t : Fin grid3.N, _)
theorem idx3_2 : ∀ t : Fin cfg3.N, win3_2.index t = ![0 + t.val, 0] := (by decide +kernel : ∀ t : Fin grid3.N, _)
theorem idx3_3 : ∀ t : Fin cfg3.N, win3_3.index t = ![0 + t.val, 0] := (by decide +kernel : ∀ t : Fin grid3.N, _)
theorem idx3_4 : ∀ t : Fin cfg3.N, win3_4.index t = ![0 + t.val, 0] := (by decide +kernel : ∀ t : Fin grid3.N, _)
theorem idx3_5 : ∀ t : Fin cfg3.N, win3_5.index t = ![0 + t.val, 0] := (by decide +kernel : ∀ t : Fin grid3.N, _)
theorem idx3_6 : ∀ t : Fin cfg3.N, win3_6.index t = ![0 + t.val, 0] := (by decide +kernel : ∀ t : Fin grid3.N, _)
theorem idx3_7 : ∀ t : Fin cfg3.N, win3_7.index t = ![0 + t.val, 0] := (by decide +kernel : ∀ t : Fin grid3.N, _)

/-- A block of layer 0's summed gradients. -/
theorem block3_g (c : Dev nD) (t : Fin cfg3.N) (y : S128x1024.Idx) (i : S512x1024.Idx) (h0 : (i 0).val = (0 + t.val) * 128 + (y 0).val) (h1 : (i 1).val = (y 1).val) :
    sumParts (iblk3 (V7 m ρ) c 0 t) y = total m c i := by
  have ht : t.val < 1 := t.isLt
  have hy : (y 0).val < 128 := (y 0).isLt
  refine Eq.trans (Finset.sum_congr rfl fun k _ => ?_) (total0 m c i (ix2 (⟨t.val * 128 + (y 0).val, by omega⟩ : Fin 128) (y 1)) (by show _ = 0 + (t.val * 128 + (y 0).val); omega) h1).symm
  blk_simp [iblk3]
  rw [staged3]
  refine congrArg (part3 m c) ?_
  blk_ext [idx3_0, ix2, ix3, Matrix.cons_val_zero, Matrix.cons_val_one]

/-- A block of the weights. -/
theorem block3_wts (c : Dev nD) (t : Fin cfg3.N) (y : S128x1024.Idx) (i : S512x1024.Idx) (h0 : (i 0).val = (0 + t.val) * 128 + (y 0).val) (h1 : (i 1).val = (y 1).val) :
    (iblk3 (V7 m ρ) c 1 t : Vec Ideal S128x1024 .f32) y = wts m c i := by
  blk_simp [iblk3]
  refine (congrFun (W7_args m ρ c main_arg4 (by decide)) _).trans (congrArg (wts m c) ?_)
  blk_ext [idx3_1, Matrix.cons_val_zero, Matrix.cons_val_one]

/-- A block of the first moments. -/
theorem block3_mom (c : Dev nD) (t : Fin cfg3.N) (y : S128x1024.Idx) (i : S512x1024.Idx) (h0 : (i 0).val = (0 + t.val) * 128 + (y 0).val) (h1 : (i 1).val = (y 1).val) :
    (iblk3 (V7 m ρ) c 2 t : Vec Ideal S128x1024 .f32) y = mom m c i := by
  blk_simp [iblk3]
  refine (congrFun (W7_args m ρ c main_arg5 (by decide)) _).trans (congrArg (mom m c) ?_)
  blk_ext [idx3_2, Matrix.cons_val_zero, Matrix.cons_val_one]

/-- A block of the second moments. -/
theorem block3_sq (c : Dev nD) (t : Fin cfg3.N) (y : S128x1024.Idx) (i : S512x1024.Idx) (h0 : (i 0).val = (0 + t.val) * 128 + (y 0).val) (h1 : (i 1).val = (y 1).val) :
    (iblk3 (V7 m ρ) c 3 t : Vec Ideal S128x1024 .f32) y = sq m c i := by
  blk_simp [iblk3]
  refine (congrFun (W7_args m ρ c main_arg6 (by decide)) _).trans (congrArg (sq m c) ?_)
  blk_ext [idx3_3, Matrix.cons_val_zero, Matrix.cons_val_one]

/-- After the call for layer 0, the rows from this layer on of the array of the summed gradients. -/
theorem grad3 (c : Dev nD) (i : S512x1024.Idx) (hi : 0 ≤ (i 0).val) :
    ((dat3 (V7 m ρ) c).arrAt 4 cfg3.N : Vec Ideal S512x1024 .f32) i = total m c i := by
  refine (dat3 (V7 m ρ) c).arrAt_forall_of_coversWhere 4 (fun (i : S512x1024.Idx) v => 0 ≤ (i 0).val → v = total m c i)
    (fun β => 0 ≤ β (0 : Fin _) ∧ β (0 : Fin _) < 1) (by decide +kernel) (fun t _ y _ => ?_) (fun j hj hl => ?_) i (Memref.isWhole_whole _) hi
  · blk_simp
    rw [after3_4]
    unfold outsAt3
    frame_out
    have e0 : ((((View.whole main_v7_0).slice (win3_4.rect t)).emb y : S512x1024.Idx) 0).val = (0 + t.val) * 128 + (y 0).val := by
      refine Eq.trans (b := win3_4.index t 0 * 128 + (y 0).val) (ValueKit.view_emb_slice_whole_unit_val _ _ _ _ _ _) ?_
      rw [idx3_4]; rfl
    have e1 : ((((View.whole main_v7_0).slice (win3_4.rect t)).emb y : S512x1024.Idx) 1).val = (y 1).val := by
      refine Eq.trans (b := win3_4.index t 1 * 1024 + (y 1).val) (ValueKit.view_emb_slice_whole_unit_val _ _ _ _ _ _) ?_
      rw [idx3_4]; exact (congrArg (· + _) (Nat.zero_mul 1024)).trans (Nat.zero_add _)
    exact ((parts3_apply _ y).trans (block3_g m ρ c t y _ e0 e1))
  · blk_simp [Pipeline.Window.cell_apply] at hj hl
    have hb : 128 ≤ (j 0).val := by omega
    refine (congrFun (A_eq3 (V7 m ρ) c 4) _).trans (Eq.trans (congrFun (?_ : _ = (dat2 (V5 m ρ) c).arrAt 4 cfg2.N) _) (grad2 m ρ c _ hb))
    show StableHlo.after hostOps3 _ _ = _
    after_results
    exact W6_arr m ρ c 4

/-- After the call for layer 0, the rows from this layer on of the array of the changes. -/
theorem delta3 (c : Dev nD) (i : S512x1024.Idx) (hi : 0 ≤ (i 0).val) :
    ((dat3 (V7 m ρ) c).arrAt 5 cfg3.N : Vec Ideal S512x1024 .f32) i = change (total m c i) (wts m c i) (mom m c i) (sq m c i) := by
  refine (dat3 (V7 m ρ) c).arrAt_forall_of_coversWhere 5 (fun (i : S512x1024.Idx) v => 0 ≤ (i 0).val → v = change (total m c i) (wts m c i) (mom m c i) (sq m c i))
    (fun β => 0 ≤ β (0 : Fin _) ∧ β (0 : Fin _) < 1) (by decide +kernel) (fun t _ y _ => ?_) (fun j hj hl => ?_) i (Memref.isWhole_whole _) hi
  · blk_simp
    rw [after3_5]
    unfold outsAt3
    frame_out
    have e0 : ((((View.whole main_v7_1).slice (win3_5.rect t)).emb y : S512x1024.Idx) 0).val = (0 + t.val) * 128 + (y 0).val := by
      refine Eq.trans (b := win3_5.index t 0 * 128 + (y 0).val) (ValueKit.view_emb_slice_whole_unit_val _ _ _ _ _ _) ?_
      rw [idx3_5]; rfl
    have e1 : ((((View.whole main_v7_1).slice (win3_5.rect t)).emb y : S512x1024.Idx) 1).val = (y 1).val := by
      refine Eq.trans (b := win3_5.index t 1 * 1024 + (y 1).val) (ValueKit.view_emb_slice_whole_unit_val _ _ _ _ _ _) ?_
      rw [idx3_5]; exact (congrArg (· + _) (Nat.zero_mul 1024)).trans (Nat.zero_add _)
    exact (show _ = change _ _ _ _ from congr (congr (congrArg₂ change ((parts3_apply _ y).trans (block3_g m ρ c t y _ e0 e1)) (block3_wts m ρ c t y _ e0 e1)) (block3_mom m ρ c t y _ e0 e1)) (block3_sq m ρ c t y _ e0 e1))
  · blk_simp [Pipeline.Window.cell_apply] at hj hl
    have hb : 128 ≤ (j 0).val := by omega
    refine (congrFun (A_eq3 (V7 m ρ) c 5) _).trans (Eq.trans (congrFun (?_ : _ = (dat2 (V5 m ρ) c).arrAt 5 cfg2.N) _) (delta2 m ρ c _ hb))
    show StableHlo.after hostOps3 _ _ = _
    after_results
    exact W6_arr m ρ c 5

/-- After the call for layer 0, the rows from this layer on of the array of the first moments. -/
theorem moment3 (c : Dev nD) (i : S512x1024.Idx) (hi : 0 ≤ (i 0).val) :
    ((dat3 (V7 m ρ) c).arrAt 6 cfg3.N : Vec Ideal S512x1024 .f32) i = first (total m c i) (mom m c i) := by
  refine (dat3 (V7 m ρ) c).arrAt_forall_of_coversWhere 6 (fun (i : S512x1024.Idx) v => 0 ≤ (i 0).val → v = first (total m c i) (mom m c i))
    (fun β => 0 ≤ β (0 : Fin _) ∧ β (0 : Fin _) < 1) (by decide +kernel) (fun t _ y _ => ?_) (fun j hj hl => ?_) i (Memref.isWhole_whole _) hi
  · blk_simp
    rw [after3_6]
    unfold outsAt3
    frame_out
    have e0 : ((((View.whole main_v7_2).slice (win3_6.rect t)).emb y : S512x1024.Idx) 0).val = (0 + t.val) * 128 + (y 0).val := by
      refine Eq.trans (b := win3_6.index t 0 * 128 + (y 0).val) (ValueKit.view_emb_slice_whole_unit_val _ _ _ _ _ _) ?_
      rw [idx3_6]; rfl
    have e1 : ((((View.whole main_v7_2).slice (win3_6.rect t)).emb y : S512x1024.Idx) 1).val = (y 1).val := by
      refine Eq.trans (b := win3_6.index t 1 * 1024 + (y 1).val) (ValueKit.view_emb_slice_whole_unit_val _ _ _ _ _ _) ?_
      rw [idx3_6]; exact (congrArg (· + _) (Nat.zero_mul 1024)).trans (Nat.zero_add _)
    exact (show _ = first _ _ from congrArg₂ first ((parts3_apply _ y).trans (block3_g m ρ c t y _ e0 e1)) (block3_mom m ρ c t y _ e0 e1))
  · blk_simp [Pipeline.Window.cell_apply] at hj hl
    have hb : 128 ≤ (j 0).val := by omega
    refine (congrFun (A_eq3 (V7 m ρ) c 6) _).trans (Eq.trans (congrFun (?_ : _ = (dat2 (V5 m ρ) c).arrAt 6 cfg2.N) _) (moment2 m ρ c _ hb))
    show StableHlo.after hostOps3 _ _ = _
    after_results
    exact W6_arr m ρ c 6

/-- After the call for layer 0, the rows from this layer on of the array of the second moments. -/
theorem square3 (c : Dev nD) (i : S512x1024.Idx) (hi : 0 ≤ (i 0).val) :
    ((dat3 (V7 m ρ) c).arrAt 7 cfg3.N : Vec Ideal S512x1024 .f32) i = second (total m c i) (sq m c i) := by
  refine (dat3 (V7 m ρ) c).arrAt_forall_of_coversWhere 7 (fun (i : S512x1024.Idx) v => 0 ≤ (i 0).val → v = second (total m c i) (sq m c i))
    (fun β => 0 ≤ β (0 : Fin _) ∧ β (0 : Fin _) < 1) (by decide +kernel) (fun t _ y _ => ?_) (fun j hj hl => ?_) i (Memref.isWhole_whole _) hi
  · blk_simp
    rw [after3_7]
    unfold outsAt3
    frame_out
    have e0 : ((((View.whole main_v7_3).slice (win3_7.rect t)).emb y : S512x1024.Idx) 0).val = (0 + t.val) * 128 + (y 0).val := by
      refine Eq.trans (b := win3_7.index t 0 * 128 + (y 0).val) (ValueKit.view_emb_slice_whole_unit_val _ _ _ _ _ _) ?_
      rw [idx3_7]; rfl
    have e1 : ((((View.whole main_v7_3).slice (win3_7.rect t)).emb y : S512x1024.Idx) 1).val = (y 1).val := by
      refine Eq.trans (b := win3_7.index t 1 * 1024 + (y 1).val) (ValueKit.view_emb_slice_whole_unit_val _ _ _ _ _ _) ?_
      rw [idx3_7]; exact (congrArg (· + _) (Nat.zero_mul 1024)).trans (Nat.zero_add _)
    exact (show _ = second _ _ from congrArg₂ second ((parts3_apply _ y).trans (block3_g m ρ c t y _ e0 e1)) (block3_sq m ρ c t y _ e0 e1))
  · blk_simp [Pipeline.Window.cell_apply] at hj hl
    have hb : 128 ≤ (j 0).val := by omega
    refine (congrFun (A_eq3 (V7 m ρ) c 7) _).trans (Eq.trans (congrFun (?_ : _ = (dat2 (V5 m ρ) c).arrAt 7 cfg2.N) _) (square2 m ρ c _ hb))
    show StableHlo.after hostOps3 _ _ = _
    after_results
    exact W6_arr m ρ c 7

/-- After the last call, the array of the summed gradients is the reference's. -/
theorem final_grad (c : Dev nD) : W8 m ρ c (Proc.devRef .tc main_v7_0) = Cert.Reference13Ideal.Read.val_main_v4 (part0 m c) (part1 m c) (part2 m c) (part3 m c) :=
  (W8_arr m ρ c 4).trans (funext fun i => grad3 m ρ c i (Nat.zero_le _))

/-- After the last call, the array of the changes is the reference's. -/
theorem final_delta (c : Dev nD) : W8 m ρ c (Proc.devRef .tc main_v7_1) = Cert.Reference13Ideal.Read.val_main_v28 (part0 m c) (part1 m c) (part2 m c) (part3 m c) (wts m c) (mom m c) (sq m c) :=
  (W8_arr m ρ c 5).trans (funext fun i => (delta3 m ρ c i (Nat.zero_le _)).trans (ref_change m c i).symm)

/-- After the last call, the array of the first moments is the reference's. -/
theorem final_moment (c : Dev nD) : W8 m ρ c (Proc.devRef .tc main_v7_2) = Cert.Reference13Ideal.Read.val_main_v9 (part0 m c) (part1 m c) (part2 m c) (part3 m c) (mom m c) :=
  (W8_arr m ρ c 6).trans (funext fun i => (moment3 m ρ c i (Nat.zero_le _)).trans (ref_first m c i).symm)

/-- After the last call, the array of the second moments is the reference's. -/
theorem final_square (c : Dev nD) : W8 m ρ c (Proc.devRef .tc main_v7_3) = Cert.Reference13Ideal.Read.val_main_v15 (part0 m c) (part1 m c) (part2 m c) (part3 m c) (sq m c) :=
  (W8_arr m ρ c 7).trans (funext fun i => (square3 m ρ c i (Nat.zero_le _)).trans (ref_second m c i).symm)

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run m ρ)

open Idealize.SL Idealize.SL.RA Idealize.SL.BI Idealize.SL.BI.BIBase Idealize.SL.BI.Laws Idealize.SL.ProofMode Idealize.ShloMosaic.Rounds in
open scoped Idealize.SL.BI in
set_option backward.isDefEq.respectTransparency.types false in
/-- The four calls run one after another; every array that outlives them ends at the last boundary's contents. -/
theorem run_calls : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The value: the four calls leave the reference's four results. -/
theorem value : Cert.algebraic_Kernel13Ideal_Reference13Ideal := fun m ρ m' ρ' _ agree => by
  have key : ∀ c : Dev nD, ∀ (x0 x1 x2 x3 : Vec Ideal S8x128x1024 .f32) (x4 x5 x6 : Vec Ideal S512x1024 .f32),
      x0 = part0 m c → x1 = part1 m c → x2 = part2 m c → x3 = part3 m c → x4 = wts m c → x5 = mom m c → x6 = sq m c →
      Cert.Reference13Ideal.Read.val_main_v4 x0 x1 x2 x3 = Cert.Reference13Ideal.Read.val_main_v4 (part0 m c) (part1 m c) (part2 m c) (part3 m c)
      ∧ Cert.Reference13Ideal.Read.val_main_v28 x0 x1 x2 x3 x4 x5 x6 = Cert.Reference13Ideal.Read.val_main_v28 (part0 m c) (part1 m c) (part2 m c) (part3 m c) (wts m c) (mom m c) (sq m c)
      ∧ Cert.Reference13Ideal.Read.val_main_v9 x0 x1 x2 x3 x5 = Cert.Reference13Ideal.Read.val_main_v9 (part0 m c) (part1 m c) (part2 m c) (part3 m c) (mom m c)
      ∧ Cert.Reference13Ideal.Read.val_main_v15 x0 x1 x2 x3 x6 = Cert.Reference13Ideal.Read.val_main_v15 (part0 m c) (part1 m c) (part2 m c) (part3 m c) (sq m c) := by
    rintro c x0 x1 x2 x3 x4 x5 x6 rfl rfl rfl rfl rfl rfl rfl
    exact ⟨rfl, rfl, rfl, rfl⟩
  refine ⟨_, _, _, _, (θ_run defs _ _).mono (fun _ h c => ⟨(h c _ (mem_uc main_v7_0 (by decide))).trans (final_grad m ρ c), (h c _ (mem_uc main_v7_1 (by decide))).trans (final_delta m ρ c),
      (h c _ (mem_uc main_v7_2 (by decide))).trans (final_moment m ρ c), (h c _ (mem_uc main_v7_3 (by decide))).trans (final_square m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c)⟩) (run_calls m ρ),
    (θ_run Cert.Reference13Ideal.defs _ _).mono (fun _ h c => ?_) (Cert.Reference13Ideal.Value.run m' ρ')⟩
  obtain ⟨a0, a1, a2, a3, a4, a5, a6⟩ := agree c
  obtain ⟨k0, k1, k2, k3⟩ := key c _ _ _ _ _ _ _ a0 a1 a2 a3 a4 a5 a6
  obtain ⟨h0, h1, h2, h3, h4⟩ := h c
  exact ⟨h0.trans ((Cert.Reference13Ideal.Read.val_main_v4_eq _ _ _ _).trans k0), h1.trans ((Cert.Reference13Ideal.Read.val_main_v28_eq _ _ _ _ _ _ _).trans k1),
    h2.trans ((Cert.Reference13Ideal.Read.val_main_v9_eq _ _ _ _ _).trans k2), h3.trans ((Cert.Reference13Ideal.Read.val_main_v15_eq _ _ _ _ _).trans k3), h4⟩

end Cert.Proof.UpdateBranch

end
-- ==== Proof.Update.UpdateFfnIn.lean ====
/-
  The feed-forward layers' first weights' steps: four calls, one for each layer, the last layer first.
-/
module

public import proofs.«01_k».proof.Defs
public import proofs.«01_k».proof.Proof.Update.Basic
public import proofs.«01_k».proof.Proof.Gen.Kernel14.Frame
public import proofs.«01_k».proof.Proof.Gen.Kernel14Ideal.Frame
public import proofs.«01_k».proof.Proof.Gen.Reference14Ideal.Read
public import Idealize.ShloMosaic.PureOps.Ideal
public import Idealize.ShloMosaic.Lib.ValueIdx
public import Idealize.ShloMosaic.Lib.IdealHost
public import Idealize.ShloMosaic.Lib.Pipeline.Value
public import Idealize.ShloMosaic.Lib.Quiescent
public import Idealize.ShloMosaic.Lib.Pipeline.ValueKit.Geometry
public import Idealize.ShloMosaic.Lib.Pipeline.ValueKit.Partial
public import Idealize.ShloMosaic.Lib.Pipeline.ValueKit.Acc
public import Idealize.ShloMosaic.Lib.Pipeline.ReadBack

@[expose] public section

noncomputable section

namespace Cert.Proof.UpdateFfnIn

open Cert.Kernel14Ideal Cert.Kernel14Ideal.Gen Cert.Proof.Update
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The argument arrays: the four layers' parts (the last layer's first), the weights and the two moments. -/
abbrev part0 (c : Dev nD) : Vec Ideal S8x1024x704 .f32 := m ((c : Thread nD τ).loc main_arg0)
abbrev part1 (c : Dev nD) : Vec Ideal S8x1024x704 .f32 := m ((c : Thread nD τ).loc main_arg1)
abbrev part2 (c : Dev nD) : Vec Ideal S8x1024x704 .f32 := m ((c : Thread nD τ).loc main_arg2)
abbrev part3 (c : Dev nD) : Vec Ideal S8x1024x704 .f32 := m ((c : Thread nD τ).loc main_arg3)
abbrev wts (c : Dev nD) : Vec Ideal S4096x704 .f32 := m ((c : Thread nD τ).loc main_arg4)
abbrev mom (c : Dev nD) : Vec Ideal S4096x704 .f32 := m ((c : Thread nD τ).loc main_arg5)
abbrev sq (c : Dev nD) : Vec Ideal S4096x704 .f32 := m ((c : Thread nD τ).loc main_arg6)

/-- The summed gradients, the layers' rows one after another. -/
abbrev total (c : Dev nD) : Vec Ideal S4096x704 .f32 := Cert.Reference14Ideal.Read.val_main_v4 (part0 m c) (part1 m c) (part2 m c) (part3 m c)

/-- The rows of layer 3 of the summed gradients. -/
theorem total3 (c : Dev nD) (i : S4096x704.Idx) (y : Cert.Reference14Ideal.S1024x704.Idx) (h : (i 0).val = 3072 + (y 0).val) (h' : (i 1).val = (y 1).val) :
    total m c i = ∑ k : Fin 8, part0 m c (ix3 k (y 0) (y 1)) := by
  refine (concatenate_apply_piece (t := S4096x704) (0 : Fin 2) _ _ i 3 (by show 3 < 4; decide) Cert.Reference14Ideal.S1024x704 (Cert.Reference14Ideal.Read.val_main_v3 (F := Ideal) (part0 m c)) rfl rfl 3072 rfl y
    (fun b hb => ?_) h.symm).trans ?_
  · match b, hb with
    | ⟨0, _⟩, hb => exact absurd rfl hb
    | ⟨1, _⟩, _ => exact h'.symm
  · refine (Cert.Reference14Ideal.Read.val_main_v3_apply _ y).trans ((congrArg (· + _) (?_ : _ = (0 : EReal))).trans ((zero_add _).trans ?_))
    · exact Ideal.ofBits_zero_f32
    · refine Finset.sum_congr rfl fun k _ => congrArg (part0 m c) ?_
      funext a; match a with | ⟨0, _⟩ => rfl | ⟨1, _⟩ => rfl | ⟨2, _⟩ => rfl

/-- The rows of layer 2 of the summed gradients. -/
theorem total2 (c : Dev nD) (i : S4096x704.Idx) (y : Cert.Reference14Ideal.S1024x704.Idx) (h : (i 0).val = 2048 + (y 0).val) (h' : (i 1).val = (y 1).val) :
    total m c i = ∑ k : Fin 8, part1 m c (ix3 k (y 0) (y 1)) := by
  refine (concatenate_apply_piece (t := S4096x704) (0 : Fin 2) _ _ i 2 (by show 2 < 4; decide) Cert.Reference14Ideal.S1024x704 (Cert.Reference14Ideal.Read.val_main_v2 (F := Ideal) (part1 m c)) rfl rfl 2048 rfl y
    (fun b hb => ?_) h.symm).trans ?_
  · match b, hb with
    | ⟨0, _⟩, hb => exact absurd rfl hb
    | ⟨1, _⟩, _ => exact h'.symm
  · refine (Cert.Reference14Ideal.Read.val_main_v2_apply _ y).trans ((congrArg (· + _) (?_ : _ = (0 : EReal))).trans ((zero_add _).trans ?_))
    · exact Ideal.ofBits_zero_f32
    · refine Finset.sum_congr rfl fun k _ => congrArg (part1 m c) ?_
      funext a; match a with | ⟨0, _⟩ => rfl | ⟨1, _⟩ => rfl | ⟨2, _⟩ => rfl

/-- The rows of layer 1 of the summed gradients. -/
theorem total1 (c : Dev nD) (i : S4096x704.Idx) (y : Cert.Reference14Ideal.S1024x704.Idx) (h : (i 0).val = 1024 + (y 0).val) (h' : (i 1).val = (y 1).val) :
    total m c i = ∑ k : Fin 8, part2 m c (ix3 k (y 0) (y 1)) := by
  refine (concatenate_apply_piece (t := S4096x704) (0 : Fin 2) _ _ i 1 (by show 1 < 4; decide) Cert.Reference14Ideal.S1024x704 (Cert.Reference14Ideal.Read.val_main_v1 (F := Ideal) (part2 m c)) rfl rfl 1024 rfl y
    (fun b hb => ?_) h.symm).trans ?_
  · match b, hb with
    | ⟨0, _⟩, hb => exact absurd rfl hb
    | ⟨1, _⟩, _ => exact h'.symm
  · refine (Cert.Reference14Ideal.Read.val_main_v1_apply _ y).trans ((congrArg (· + _) (?_ : _ = (0 : EReal))).trans ((zero_add _).trans ?_))
    · exact Ideal.ofBits_zero_f32
    · refine Finset.sum_congr rfl fun k _ => congrArg (part2 m c) ?_
      funext a; match a with | ⟨0, _⟩ => rfl | ⟨1, _⟩ => rfl | ⟨2, _⟩ => rfl

/-- The rows of layer 0 of the summed gradients. -/
theorem total0 (c : Dev nD) (i : S4096x704.Idx) (y : Cert.Reference14Ideal.S1024x704.Idx) (h : (i 0).val = 0 + (y 0).val) (h' : (i 1).val = (y 1).val) :
    total m c i = ∑ k : Fin 8, part3 m c (ix3 k (y 0) (y 1)) := by
  refine (concatenate_apply_piece (t := S4096x704) (0 : Fin 2) _ _ i 0 (by show 0 < 4; decide) Cert.Reference14Ideal.S1024x704 (Cert.Reference14Ideal.Read.val_main_v0 (F := Ideal) (part3 m c)) rfl rfl 0 rfl y
    (fun b hb => ?_) h.symm).trans ?_
  · match b, hb with
    | ⟨0, _⟩, hb => exact absurd rfl hb
    | ⟨1, _⟩, _ => exact h'.symm
  · refine (Cert.Reference14Ideal.Read.val_main_v0_apply _ y).trans ((congrArg (· + _) (?_ : _ = (0 : EReal))).trans ((zero_add _).trans ?_))
    · exact Ideal.ofBits_zero_f32
    · refine Finset.sum_congr rfl fun k _ => congrArg (part3 m c) ?_
      funext a; match a with | ⟨0, _⟩ => rfl | ⟨1, _⟩ => rfl | ⟨2, _⟩ => rfl

/-- The reference's new first moment, at an index. -/
theorem ref_first (c : Dev nD) (i : S4096x704.Idx) :
    Cert.Reference14Ideal.Read.val_main_v9 (part0 m c) (part1 m c) (part2 m c) (part3 m c) (mom m c) i = first (total m c i) (mom m c i) := by
  rw [Cert.Reference14Ideal.Read.val_main_v9_apply, Cert.Reference14Ideal.Read.val_main_v6_apply, Cert.Reference14Ideal.Read.val_main_v8_apply, Cert.Reference14Ideal.Read.val_main_v5_apply, Cert.Reference14Ideal.Read.val_main_v7_apply]
  rfl

/-- The reference's new second moment, at an index. -/
theorem ref_second (c : Dev nD) (i : S4096x704.Idx) :
    Cert.Reference14Ideal.Read.val_main_v15 (part0 m c) (part1 m c) (part2 m c) (part3 m c) (sq m c) i = second (total m c i) (sq m c i) := by
  rw [Cert.Reference14Ideal.Read.val_main_v15_apply, Cert.Reference14Ideal.Read.val_main_v11_apply, Cert.Reference14Ideal.Read.val_main_v14_apply, Cert.Reference14Ideal.Read.val_main_v10_apply, Cert.Reference14Ideal.Read.val_main_v13_apply]
  rfl

/-- The reference's change, at an index. -/
theorem ref_change (c : Dev nD) (i : S4096x704.Idx) :
    Cert.Reference14Ideal.Read.val_main_v28 (part0 m c) (part1 m c) (part2 m c) (part3 m c) (wts m c) (mom m c) (sq m c) i
      = change (total m c i) (wts m c i) (mom m c i) (sq m c i) := by
  simp only [Cert.Reference14Ideal.Read.val_main_v16_apply, Cert.Reference14Ideal.Read.val_main_v17_apply, Cert.Reference14Ideal.Read.val_main_v18_apply, Cert.Reference14Ideal.Read.val_main_v19_apply, Cert.Reference14Ideal.Read.val_main_v20_apply, Cert.Reference14Ideal.Read.val_main_v21_apply, Cert.Reference14Ideal.Read.val_main_v22_apply, Cert.Reference14Ideal.Read.val_main_v23_apply, Cert.Reference14Ideal.Read.val_main_v24_apply, Cert.Reference14Ideal.Read.val_main_v25_apply, Cert.Reference14Ideal.Read.val_main_v26_apply, Cert.Reference14Ideal.Read.val_main_v27_apply, Cert.Reference14Ideal.Read.val_main_v28_apply, ref_first, ref_second]
  rfl

/-- Layer 3's parts are staged narrowed, which over the extended reals is as they are. -/
theorem staged0 (c : Dev nD) : V1 m ρ c main_v0 = (truncf .bf16 (part0 m c) bitsLt_bf16_f32 : FVec Ideal S8x1024x704 .bf16) := by
  show StableHlo.after hostOps0 _ _ = _
  after_results

/-! The slices of a block of landed parts that the body reads. -/

abbrev slice0 (x : Vec Ideal S8x256x704 .bf16) := View.ld x (Rect.unit (s := S8x256x704) ![0, 0, 0] S1x256x704.size inb_S8x256x704_S1x256x704_0_0_0)
abbrev slice1 (x : Vec Ideal S8x256x704 .bf16) := View.ld x (Rect.unit (s := S8x256x704) ![1, 0, 0] S1x256x704.size inb_S8x256x704_S1x256x704_1_0_0)
abbrev slice2 (x : Vec Ideal S8x256x704 .bf16) := View.ld x (Rect.unit (s := S8x256x704) ![2, 0, 0] S1x256x704.size inb_S8x256x704_S1x256x704_2_0_0)
abbrev slice3 (x : Vec Ideal S8x256x704 .bf16) := View.ld x (Rect.unit (s := S8x256x704) ![3, 0, 0] S1x256x704.size inb_S8x256x704_S1x256x704_3_0_0)
abbrev slice4 (x : Vec Ideal S8x256x704 .bf16) := View.ld x (Rect.unit (s := S8x256x704) ![4, 0, 0] S1x256x704.size inb_S8x256x704_S1x256x704_4_0_0)
abbrev slice5 (x : Vec Ideal S8x256x704 .bf16) := View.ld x (Rect.unit (s := S8x256x704) ![5, 0, 0] S1x256x704.size inb_S8x256x704_S1x256x704_5_0_0)
abbrev slice6 (x : Vec Ideal S8x256x704 .bf16) := View.ld x (Rect.unit (s := S8x256x704) ![6, 0, 0] S1x256x704.size inb_S8x256x704_S1x256x704_6_0_0)
abbrev slice7 (x : Vec Ideal S8x256x704 .bf16) := View.ld x (Rect.unit (s := S8x256x704) ![7, 0, 0] S1x256x704.size inb_S8x256x704_S1x256x704_7_0_0)

/-- The sum of a block's eight parts, at an index. -/
theorem parts0_apply (x : Vec Ideal S8x256x704 .bf16) (y : S256x704.Idx) :
    k0_pay4 (slice0 x) (slice1 x) (slice2 x) (slice3 x) (slice4 x) (slice5 x) (slice6 x) (slice7 x) y = sumParts x y := by
  unfold k0_pay4 sumParts
  rw [Fin.sum_univ_eight]
  have h0 := slab x y 0 0 rfl inb_S8x256x704_S1x256x704_0_0_0 shapeCasts_S1x256x704_S256x704
  have h1 := slab x y 1 1 rfl inb_S8x256x704_S1x256x704_1_0_0 shapeCasts_S1x256x704_S256x704
  have h2 := slab x y 2 2 rfl inb_S8x256x704_S1x256x704_2_0_0 shapeCasts_S1x256x704_S256x704
  have h3 := slab x y 3 3 rfl inb_S8x256x704_S1x256x704_3_0_0 shapeCasts_S1x256x704_S256x704
  have h4 := slab x y 4 4 rfl inb_S8x256x704_S1x256x704_4_0_0 shapeCasts_S1x256x704_S256x704
  have h5 := slab x y 5 5 rfl inb_S8x256x704_S1x256x704_5_0_0 shapeCasts_S1x256x704_S256x704
  have h6 := slab x y 6 6 rfl inb_S8x256x704_S1x256x704_6_0_0 shapeCasts_S1x256x704_S256x704
  have h7 := slab x y 7 7 rfl inb_S8x256x704_S1x256x704_7_0_0 shapeCasts_S1x256x704_S256x704
  rw [← h0, ← h1, ← h2, ← h3, ← h4, ← h5, ← h6, ← h7]
  rfl

theorem idx0_0 : ∀ t : Fin cfg0.N, win0_0.index t = ![0, t.val, 0] := (by decide +kernel : ∀ t : Fin grid0.N, _)
theorem idx0_1 : ∀ t : Fin cfg0.N, win0_1.index t = ![12 + t.val, 0] := (by decide +kernel : ∀ t : Fin grid0.N, _)
theorem idx0_2 : ∀ t : Fin cfg0.N, win0_2.index t = ![12 + t.val, 0] := (by decide +kernel : ∀ t : Fin grid0.N, _)
theorem idx0_3 : ∀ t : Fin cfg0.N, win0_3.index t = ![12 + t.val, 0] := (by decide +kernel : ∀ t : Fin grid0.N, _)
theorem idx0_4 : ∀ t : Fin cfg0.N, win0_4.index t = ![12 + t.val, 0] := (by decide +kernel : ∀ t : Fin grid0.N, _)
theorem idx0_5 : ∀ t : Fin cfg0.N, win0_5.index t = ![12 + t.val, 0] := (by decide +kernel : ∀ t : Fin grid0.N, _)
theorem idx0_6 : ∀ t : Fin cfg0.N, win0_6.index t = ![12 + t.val, 0] := (by decide +kernel : ∀ t : Fin grid0.N, _)
theorem idx0_7 : ∀ t : Fin cfg0.N, win0_7.index t = ![12 + t.val, 0] := (by decide +kernel : ∀ t : Fin grid0.N, _)

/-- A block of layer 3's summed gradients. -/
theorem block0_g (c : Dev nD) (t : Fin cfg0.N) (y : S256x704.Idx) (i : S4096x704.Idx) (h0 : (i 0).val = (12 + t.val) * 256 + (y 0).val) (h1 : (i 1).val = (y 1).val) :
    sumParts (iblk0 (V1 m ρ) c 0 t) y = total m c i := by
  have ht : t.val < 4 := t.isLt
  have hy : (y 0).val < 256 := (y 0).isLt
  refine Eq.trans (Finset.sum_congr rfl fun k _ => ?_) (total3 m c i (ix2 (⟨t.val * 256 + (y 0).val, by omega⟩ : Fin 1024) (y 1)) (by show _ = 3072 + (t.val * 256 + (y 0).val); omega) h1).symm
  blk_simp [iblk0]
  rw [staged0]
  refine congrArg (part0 m c) ?_
  blk_ext [idx0_0, ix2, ix3, Matrix.cons_val_zero, Matrix.cons_val_one]

/-- A block of the weights. -/
theorem block0_wts (c : Dev nD) (t : Fin cfg0.N) (y : S256x704.Idx) (i : S4096x704.Idx) (h0 : (i 0).val = (12 + t.val) * 256 + (y 0).val) (h1 : (i 1).val = (y 1).val) :
    (iblk0 (V1 m ρ) c 1 t : Vec Ideal S256x704 .f32) y = wts m c i := by
  blk_simp [iblk0]
  refine (congrFun (W1_args m ρ c main_arg4 (by decide)) _).trans (congrArg (wts m c) ?_)
  blk_ext [idx0_1, Matrix.cons_val_zero, Matrix.cons_val_one]

/-- A block of the first moments. -/
theorem block0_mom (c : Dev nD) (t : Fin cfg0.N) (y : S256x704.Idx) (i : S4096x704.Idx) (h0 : (i 0).val = (12 + t.val) * 256 + (y 0).val) (h1 : (i 1).val = (y 1).val) :
    (iblk0 (V1 m ρ) c 2 t : Vec Ideal S256x704 .f32) y = mom m c i := by
  blk_simp [iblk0]
  refine (congrFun (W1_args m ρ c main_arg5 (by decide)) _).trans (congrArg (mom m c) ?_)
  blk_ext [idx0_2, Matrix.cons_val_zero, Matrix.cons_val_one]

/-- A block of the second moments. -/
theorem block0_sq (c : Dev nD) (t : Fin cfg0.N) (y : S256x704.Idx) (i : S4096x704.Idx) (h0 : (i 0).val = (12 + t.val) * 256 + (y 0).val) (h1 : (i 1).val = (y 1).val) :
    (iblk0 (V1 m ρ) c 3 t : Vec Ideal S256x704 .f32) y = sq m c i := by
  blk_simp [iblk0]
  refine (congrFun (W1_args m ρ c main_arg6 (by decide)) _).trans (congrArg (sq m c) ?_)
  blk_ext [idx0_3, Matrix.cons_val_zero, Matrix.cons_val_one]

/-- After the call for layer 3, the rows from this layer on of the array of the summed gradients. -/
theorem grad0 (c : Dev nD) (i : S4096x704.Idx) (hi : 3072 ≤ (i 0).val) :
    ((dat0 (V1 m ρ) c).arrAt 4 cfg0.N : Vec Ideal S4096x704 .f32) i = total m c i := by
  refine (dat0 (V1 m ρ) c).arrAt_forall_of_coversWhere 4 (fun (i : S4096x704.Idx) v => 3072 ≤ (i 0).val → v = total m c i)
    (fun β => 12 ≤ β (0 : Fin _) ∧ β (0 : Fin _) < 16) (by decide +kernel) (fun t _ y _ => ?_) (fun j hj hl => ?_) i (Memref.isWhole_whole _) hi
  · blk_simp
    rw [after0_4]
    frame_out
    have e0 : ((((View.whole main_v1_0).slice (win0_4.rect t)).emb y : S4096x704.Idx) 0).val = (12 + t.val) * 256 + (y 0).val := by
      refine Eq.trans (b := win0_4.index t 0 * 256 + (y 0).val) (ValueKit.view_emb_slice_whole_unit_val _ _ _ _ _ _) ?_
      rw [idx0_4]; rfl
    have e1 : ((((View.whole main_v1_0).slice (win0_4.rect t)).emb y : S4096x704.Idx) 1).val = (y 1).val := by
      refine Eq.trans (b := win0_4.index t 1 * 704 + (y 1).val) (ValueKit.view_emb_slice_whole_unit_val _ _ _ _ _ _) ?_
      rw [idx0_4]; exact (congrArg (· + _) (Nat.zero_mul 704)).trans (Nat.zero_add _)
    exact ((parts0_apply _ y).trans (block0_g m ρ c t y _ e0 e1))
  · blk_simp [Pipeline.Window.cell_apply] at hj hl
    have hb : (j 0).val < 4096 := (j 0).isLt
    exact absurd hj (by omega)

/-- After the call for layer 3, the rows from this layer on of the array of the changes. -/
theorem delta0 (c : Dev nD) (i : S4096x704.Idx) (hi : 3072 ≤ (i 0).val) :
    ((dat0 (V1 m ρ) c).arrAt 5 cfg0.N : Vec Ideal S4096x704 .f32) i = change (total m c i) (wts m c i) (mom m c i) (sq m c i) := by
  refine (dat0 (V1 m ρ) c).arrAt_forall_of_coversWhere 5 (fun (i : S4096x704.Idx) v => 3072 ≤ (i 0).val → v = change (total m c i) (wts m c i) (mom m c i) (sq m c i))
    (fun β => 12 ≤ β (0 : Fin _) ∧ β (0 : Fin _) < 16) (by decide +kernel) (fun t _ y _ => ?_) (fun j hj hl => ?_) i (Memref.isWhole_whole _) hi
  · blk_simp
    rw [after0_5]
    frame_out
    have e0 : ((((View.whole main_v1_1).slice (win0_5.rect t)).emb y : S4096x704.Idx) 0).val = (12 + t.val) * 256 + (y 0).val := by
      refine Eq.trans (b := win0_5.index t 0 * 256 + (y 0).val) (ValueKit.view_emb_slice_whole_unit_val _ _ _ _ _ _) ?_
      rw [idx0_5]; rfl
    have e1 : ((((View.whole main_v1_1).slice (win0_5.rect t)).emb y : S4096x704.Idx) 1).val = (y 1).val := by
      refine Eq.trans (b := win0_5.index t 1 * 704 + (y 1).val) (ValueKit.view_emb_slice_whole_unit_val _ _ _ _ _ _) ?_
      rw [idx0_5]; exact (congrArg (· + _) (Nat.zero_mul 704)).trans (Nat.zero_add _)
    exact (show _ = change _ _ _ _ from congr (congr (congrArg₂ change ((parts0_apply _ y).trans (block0_g m ρ c t y _ e0 e1)) (block0_wts m ρ c t y _ e0 e1)) (block0_mom m ρ c t y _ e0 e1)) (block0_sq m ρ c t y _ e0 e1))
  · blk_simp [Pipeline.Window.cell_apply] at hj hl
    have hb : (j 0).val < 4096 := (j 0).isLt
    exact absurd hj (by omega)

/-- After the call for layer 3, the rows from this layer on of the array of the first moments. -/
theorem moment0 (c : Dev nD) (i : S4096x704.Idx) (hi : 3072 ≤ (i 0).val) :
    ((dat0 (V1 m ρ) c).arrAt 6 cfg0.N : Vec Ideal S4096x704 .f32) i = first (total m c i) (mom m c i) := by
  refine (dat0 (V1 m ρ) c).arrAt_forall_of_coversWhere 6 (fun (i : S4096x704.Idx) v => 3072 ≤ (i 0).val → v = first (total m c i) (mom m c i))
    (fun β => 12 ≤ β (0 : Fin _) ∧ β (0 : Fin _) < 16) (by decide +kernel) (fun t _ y _ => ?_) (fun j hj hl => ?_) i (Memref.isWhole_whole _) hi
  · blk_simp
    rw [after0_6]
    frame_out
    have e0 : ((((View.whole main_v1_2).slice (win0_6.rect t)).emb y : S4096x704.Idx) 0).val = (12 + t.val) * 256 + (y 0).val := by
      refine Eq.trans (b := win0_6.index t 0 * 256 + (y 0).val) (ValueKit.view_emb_slice_whole_unit_val _ _ _ _ _ _) ?_
      rw [idx0_6]; rfl
    have e1 : ((((View.whole main_v1_2).slice (win0_6.rect t)).emb y : S4096x704.Idx) 1).val = (y 1).val := by
      refine Eq.trans (b := win0_6.index t 1 * 704 + (y 1).val) (ValueKit.view_emb_slice_whole_unit_val _ _ _ _ _ _) ?_
      rw [idx0_6]; exact (congrArg (· + _) (Nat.zero_mul 704)).trans (Nat.zero_add _)
    exact (show _ = first _ _ from congrArg₂ first ((parts0_apply _ y).trans (block0_g m ρ c t y _ e0 e1)) (block0_mom m ρ c t y _ e0 e1))
  · blk_simp [Pipeline.Window.cell_apply] at hj hl
    have hb : (j 0).val < 4096 := (j 0).isLt
    exact absurd hj (by omega)

/-- After the call for layer 3, the rows from this layer on of the array of the second moments. -/
theorem square0 (c : Dev nD) (i : S4096x704.Idx) (hi : 3072 ≤ (i 0).val) :
    ((dat0 (V1 m ρ) c).arrAt 7 cfg0.N : Vec Ideal S4096x704 .f32) i = second (total m c i) (sq m c i) := by
  refine (dat0 (V1 m ρ) c).arrAt_forall_of_coversWhere 7 (fun (i : S4096x704.Idx) v => 3072 ≤ (i 0).val → v = second (total m c i) (sq m c i))
    (fun β => 12 ≤ β (0 : Fin _) ∧ β (0 : Fin _) < 16) (by decide +kernel) (fun t _ y _ => ?_) (fun j hj hl => ?_) i (Memref.isWhole_whole _) hi
  · blk_simp
    rw [after0_7]
    frame_out
    have e0 : ((((View.whole main_v1_3).slice (win0_7.rect t)).emb y : S4096x704.Idx) 0).val = (12 + t.val) * 256 + (y 0).val := by
      refine Eq.trans (b := win0_7.index t 0 * 256 + (y 0).val) (ValueKit.view_emb_slice_whole_unit_val _ _ _ _ _ _) ?_
      rw [idx0_7]; rfl
    have e1 : ((((View.whole main_v1_3).slice (win0_7.rect t)).emb y : S4096x704.Idx) 1).val = (y 1).val := by
      refine Eq.trans (b := win0_7.index t 1 * 704 + (y 1).val) (ValueKit.view_emb_slice_whole_unit_val _ _ _ _ _ _) ?_
      rw [idx0_7]; exact (congrArg (· + _) (Nat.zero_mul 704)).trans (Nat.zero_add _)
    exact (show _ = second _ _ from congrArg₂ second ((parts0_apply _ y).trans (block0_g m ρ c t y _ e0 e1)) (block0_sq m ρ c t y _ e0 e1))
  · blk_simp [Pipeline.Window.cell_apply] at hj hl
    have hb : (j 0).val < 4096 := (j 0).isLt
    exact absurd hj (by omega)

/-- Layer 2's parts are staged narrowed, which over the extended reals is as they are. -/
theorem staged1 (c : Dev nD) : V3 m ρ c main_v2 = (truncf .bf16 (part1 m c) bitsLt_bf16_f32 : FVec Ideal S8x1024x704 .bf16) := by
  show StableHlo.after hostOps1 _ _ = _
  after_results
  exact congrArg (fun x : Vec Ideal S8x1024x704 .f32 => (truncf .bf16 x bitsLt_bf16_f32 : FVec Ideal S8x1024x704 .bf16)) (W2_args m ρ c main_arg1 (by decide))

/-- The sum of a block's eight parts, at an index. -/
theorem parts1_apply (x : Vec Ideal S8x256x704 .bf16) (y : S256x704.Idx) :
    k1_pay4 (slice0 x) (slice1 x) (slice2 x) (slice3 x) (slice4 x) (slice5 x) (slice6 x) (slice7 x) y = sumParts x y :=
  parts0_apply x y

theorem idx1_0 : ∀ t : Fin cfg1.N, win1_0.index t = ![0, t.val, 0] := (by decide +kernel : ∀ t : Fin grid1.N, _)
theorem idx1_1 : ∀ t : Fin cfg1.N, win1_1.index t = ![8 + t.val, 0] := (by decide +kernel : ∀ t : Fin grid1.N, _)
theorem idx1_2 : ∀ t : Fin cfg1.N, win1_2.index t = ![8 + t.val, 0] := (by decide +kernel : ∀ t : Fin grid1.N, _)
theorem idx1_3 : ∀ t : Fin cfg1.N, win1_3.index t = ![8 + t.val, 0] := (by decide +kernel : ∀ t : Fin grid1.N, _)
theorem idx1_4 : ∀ t : Fin cfg1.N, win1_4.index t = ![8 + t.val, 0] := (by decide +kernel : ∀ t : Fin grid1.N, _)
theorem idx1_5 : ∀ t : Fin cfg1.N, win1_5.index t = ![8 + t.val, 0] := (by decide +kernel : ∀ t : Fin grid1.N, _)
theorem idx1_6 : ∀ t : Fin cfg1.N, win1_6.index t = ![8 + t.val, 0] := (by decide +kernel : ∀ t : Fin grid1.N, _)
theorem idx1_7 : ∀ t : Fin cfg1.N, win1_7.index t = ![8 + t.val, 0] := (by decide +kernel : ∀ t : Fin grid1.N, _)

/-- A block of layer 2's summed gradients. -/
theorem block1_g (c : Dev nD) (t : Fin cfg1.N) (y : S256x704.Idx) (i : S4096x704.Idx) (h0 : (i 0).val = (8 + t.val) * 256 + (y 0).val) (h1 : (i 1).val = (y 1).val) :
    sumParts (iblk1 (V3 m ρ) c 0 t) y = total m c i := by
  have ht : t.val < 4 := t.isLt
  have hy : (y 0).val < 256 := (y 0).isLt
  refine Eq.trans (Finset.sum_congr rfl fun k _ => ?_) (total2 m c i (ix2 (⟨t.val * 256 + (y 0).val, by omega⟩ : Fin 1024) (y 1)) (by show _ = 2048 + (t.val * 256 + (y 0).val); omega) h1).symm
  blk_simp [iblk1]
  rw [staged1]
  refine congrArg (part1 m c) ?_
  blk_ext [idx1_0, ix2, ix3, Matrix.cons_val_zero, Matrix.cons_val_one]

/-- A block of the weights. -/
theorem block1_wts (c : Dev nD) (t : Fin cfg1.N) (y : S256x704.Idx) (i : S4096x704.Idx) (h0 : (i 0).val = (8 + t.val) * 256 + (y 0).val) (h1 : (i 1).val = (y 1).val) :
    (iblk1 (V3 m ρ) c 1 t : Vec Ideal S256x704 .f32) y = wts m c i := by
  blk_simp [iblk1]
  refine (congrFun (W3_args m ρ c main_arg4 (by decide)) _).trans (congrArg (wts m c) ?_)
  blk_ext [idx1_1, Matrix.cons_val_zero, Matrix.cons_val_one]

/-- A block of the first moments. -/
theorem block1_mom (c : Dev nD) (t : Fin cfg1.N) (y : S256x704.Idx) (i : S4096x704.Idx) (h0 : (i 0).val = (8 + t.val) * 256 + (y 0).val) (h1 : (i 1).val = (y 1).val) :
    (iblk1 (V3 m ρ) c 2 t : Vec Ideal S256x704 .f32) y = mom m c i := by
  blk_simp [iblk1]
  refine (congrFun (W3_args m ρ c main_arg5 (by decide)) _).trans (congrArg (mom m c) ?_)
  blk_ext [idx1_2, Matrix.cons_val_zero, Matrix.cons_val_one]

/-- A block of the second moments. -/
theorem block1_sq (c : Dev nD) (t : Fin cfg1.N) (y : S256x704.Idx) (i : S4096x704.Idx) (h0 : (i 0).val = (8 + t.val) * 256 + (y 0).val) (h1 : (i 1).val = (y 1).val) :
    (iblk1 (V3 m ρ) c 3 t : Vec Ideal S256x704 .f32) y = sq m c i := by
  blk_simp [iblk1]
  refine (congrFun (W3_args m ρ c main_arg6 (by decide)) _).trans (congrArg (sq m c) ?_)
  blk_ext [idx1_3, Matrix.cons_val_zero, Matrix.cons_val_one]

/-- After the call for layer 2, the rows from this layer on of the array of the summed gradients. -/
theorem grad1 (c : Dev nD) (i : S4096x704.Idx) (hi : 2048 ≤ (i 0).val) :
    ((dat1 (V3 m ρ) c).arrAt 4 cfg1.N : Vec Ideal S4096x704 .f32) i = total m c i := by
  refine (dat1 (V3 m ρ) c).arrAt_forall_of_coversWhere 4 (fun (i : S4096x704.Idx) v => 2048 ≤ (i 0).val → v = total m c i)
    (fun β => 8 ≤ β (0 : Fin _) ∧ β (0 : Fin _) < 12) (by decide +kernel) (fun t _ y _ => ?_) (fun j hj hl => ?_) i (Memref.isWhole_whole _) hi
  · blk_simp
    rw [after1_4]
    unfold outsAt1
    frame_out
    have e0 : ((((View.whole main_v3_0).slice (win1_4.rect t)).emb y : S4096x704.Idx) 0).val = (8 + t.val) * 256 + (y 0).val := by
      refine Eq.trans (b := win1_4.index t 0 * 256 + (y 0).val) (ValueKit.view_emb_slice_whole_unit_val _ _ _ _ _ _) ?_
      rw [idx1_4]; rfl
    have e1 : ((((View.whole main_v3_0).slice (win1_4.rect t)).emb y : S4096x704.Idx) 1).val = (y 1).val := by
      refine Eq.trans (b := win1_4.index t 1 * 704 + (y 1).val) (ValueKit.view_emb_slice_whole_unit_val _ _ _ _ _ _) ?_
      rw [idx1_4]; exact (congrArg (· + _) (Nat.zero_mul 704)).trans (Nat.zero_add _)
    exact ((parts1_apply _ y).trans (block1_g m ρ c t y _ e0 e1))
  · blk_simp [Pipeline.Window.cell_apply] at hj hl
    have hb : 3072 ≤ (j 0).val := by omega
    refine (congrFun (A_eq1 (V3 m ρ) c 4) _).trans (Eq.trans (congrFun (?_ : _ = (dat0 (V1 m ρ) c).arrAt 4 cfg0.N) _) (grad0 m ρ c _ hb))
    show StableHlo.after hostOps1 _ _ = _
    after_results
    exact W2_arr m ρ c 4

/-- After the call for layer 2, the rows from this layer on of the array of the changes. -/
theorem delta1 (c : Dev nD) (i : S4096x704.Idx) (hi : 2048 ≤ (i 0).val) :
    ((dat1 (V3 m ρ) c).arrAt 5 cfg1.N : Vec Ideal S4096x704 .f32) i = change (total m c i) (wts m c i) (mom m c i) (sq m c i) := by
  refine (dat1 (V3 m ρ) c).arrAt_forall_of_coversWhere 5 (fun (i : S4096x704.Idx) v => 2048 ≤ (i 0).val → v = change (total m c i) (wts m c i) (mom m c i) (sq m c i))
    (fun β => 8 ≤ β (0 : Fin _) ∧ β (0 : Fin _) < 12) (by decide +kernel) (fun t _ y _ => ?_) (fun j hj hl => ?_) i (Memref.isWhole_whole _) hi
  · blk_simp
    rw [after1_5]
    unfold outsAt1
    frame_out
    have e0 : ((((View.whole main_v3_1).slice (win1_5.rect t)).emb y : S4096x704.Idx) 0).val = (8 + t.val) * 256 + (y 0).val := by
      refine Eq.trans (b := win1_5.index t 0 * 256 + (y 0).val) (ValueKit.view_emb_slice_whole_unit_val _ _ _ _ _ _) ?_
      rw [idx1_5]; rfl
    have e1 : ((((View.whole main_v3_1).slice (win1_5.rect t)).emb y : S4096x704.Idx) 1).val = (y 1).val := by
      refine Eq.trans (b := win1_5.index t 1 * 704 + (y 1).val) (ValueKit.view_emb_slice_whole_unit_val _ _ _ _ _ _) ?_
      rw [idx1_5]; exact (congrArg (· + _) (Nat.zero_mul 704)).trans (Nat.zero_add _)
    exact (show _ = change _ _ _ _ from congr (congr (congrArg₂ change ((parts1_apply _ y).trans (block1_g m ρ c t y _ e0 e1)) (block1_wts m ρ c t y _ e0 e1)) (block1_mom m ρ c t y _ e0 e1)) (block1_sq m ρ c t y _ e0 e1))
  · blk_simp [Pipeline.Window.cell_apply] at hj hl
    have hb : 3072 ≤ (j 0).val := by omega
    refine (congrFun (A_eq1 (V3 m ρ) c 5) _).trans (Eq.trans (congrFun (?_ : _ = (dat0 (V1 m ρ) c).arrAt 5 cfg0.N) _) (delta0 m ρ c _ hb))
    show StableHlo.after hostOps1 _ _ = _
    after_results
    exact W2_arr m ρ c 5

/-- After the call for layer 2, the rows from this layer on of the array of the first moments. -/
theorem moment1 (c : Dev nD) (i : S4096x704.Idx) (hi : 2048 ≤ (i 0).val) :
    ((dat1 (V3 m ρ) c).arrAt 6 cfg1.N : Vec Ideal S4096x704 .f32) i = first (total m c i) (mom m c i) := by
  refine (dat1 (V3 m ρ) c).arrAt_forall_of_coversWhere 6 (fun (i : S4096x704.Idx) v => 2048 ≤ (i 0).val → v = first (total m c i) (mom m c i))
    (fun β => 8 ≤ β (0 : Fin _) ∧ β (0 : Fin _) < 12) (by decide +kernel) (fun t _ y _ => ?_) (fun j hj hl => ?_) i (Memref.isWhole_whole _) hi
  · blk_simp
    rw [after1_6]
    unfold outsAt1
    frame_out
    have e0 : ((((View.whole main_v3_2).slice (win1_6.rect t)).emb y : S4096x704.Idx) 0).val = (8 + t.val) * 256 + (y 0).val := by
      refine Eq.trans (b := win1_6.index t 0 * 256 + (y 0).val) (ValueKit.view_emb_slice_whole_unit_val _ _ _ _ _ _) ?_
      rw [idx1_6]; rfl
    have e1 : ((((View.whole main_v3_2).slice (win1_6.rect t)).emb y : S4096x704.Idx) 1).val = (y 1).val := by
      refine Eq.trans (b := win1_6.index t 1 * 704 + (y 1).val) (ValueKit.view_emb_slice_whole_unit_val _ _ _ _ _ _) ?_
      rw [idx1_6]; exact (congrArg (· + _) (Nat.zero_mul 704)).trans (Nat.zero_add _)
    exact (show _ = first _ _ from congrArg₂ first ((parts1_apply _ y).trans (block1_g m ρ c t y _ e0 e1)) (block1_mom m ρ c t y _ e0 e1))
  · blk_simp [Pipeline.Window.cell_apply] at hj hl
    have hb : 3072 ≤ (j 0).val := by omega
    refine (congrFun (A_eq1 (V3 m ρ) c 6) _).trans (Eq.trans (congrFun (?_ : _ = (dat0 (V1 m ρ) c).arrAt 6 cfg0.N) _) (moment0 m ρ c _ hb))
    show StableHlo.after hostOps1 _ _ = _
    after_results
    exact W2_arr m ρ c 6

/-- After the call for layer 2, the rows from this layer on of the array of the second moments. -/
theorem square1 (c : Dev nD) (i : S4096x704.Idx) (hi : 2048 ≤ (i 0).val) :
    ((dat1 (V3 m ρ) c).arrAt 7 cfg1.N : Vec Ideal S4096x704 .f32) i = second (total m c i) (sq m c i) := by
  refine (dat1 (V3 m ρ) c).arrAt_forall_of_coversWhere 7 (fun (i : S4096x704.Idx) v => 2048 ≤ (i 0).val → v = second (total m c i) (sq m c i))
    (fun β => 8 ≤ β (0 : Fin _) ∧ β (0 : Fin _) < 12) (by decide +kernel) (fun t _ y _ => ?_) (fun j hj hl => ?_) i (Memref.isWhole_whole _) hi
  · blk_simp
    rw [after1_7]
    unfold outsAt1
    frame_out
    have e0 : ((((View.whole main_v3_3).slice (win1_7.rect t)).emb y : S4096x704.Idx) 0).val = (8 + t.val) * 256 + (y 0).val := by
      refine Eq.trans (b := win1_7.index t 0 * 256 + (y 0).val) (ValueKit.view_emb_slice_whole_unit_val _ _ _ _ _ _) ?_
      rw [idx1_7]; rfl
    have e1 : ((((View.whole main_v3_3).slice (win1_7.rect t)).emb y : S4096x704.Idx) 1).val = (y 1).val := by
      refine Eq.trans (b := win1_7.index t 1 * 704 + (y 1).val) (ValueKit.view_emb_slice_whole_unit_val _ _ _ _ _ _) ?_
      rw [idx1_7]; exact (congrArg (· + _) (Nat.zero_mul 704)).trans (Nat.zero_add _)
    exact (show _ = second _ _ from congrArg₂ second ((parts1_apply _ y).trans (block1_g m ρ c t y _ e0 e1)) (block1_sq m ρ c t y _ e0 e1))
  · blk_simp [Pipeline.Window.cell_apply] at hj hl
    have hb : 3072 ≤ (j 0).val := by omega
    refine (congrFun (A_eq1 (V3 m ρ) c 7) _).trans (Eq.trans (congrFun (?_ : _ = (dat0 (V1 m ρ) c).arrAt 7 cfg0.N) _) (square0 m ρ c _ hb))
    show StableHlo.after hostOps1 _ _ = _
    after_results
    exact W2_arr m ρ c 7

/-- Layer 1's parts are staged narrowed, which over the extended reals is as they are. -/
theorem staged2 (c : Dev nD) : V5 m ρ c main_v4 = (truncf .bf16 (part2 m c) bitsLt_bf16_f32 : FVec Ideal S8x1024x704 .bf16) := by
  show StableHlo.after hostOps2 _ _ = _
  after_results
  exact congrArg (fun x : Vec Ideal S8x1024x704 .f32 => (truncf .bf16 x bitsLt_bf16_f32 : FVec Ideal S8x1024x704 .bf16)) (W4_args m ρ c main_arg2 (by decide))

/-- The sum of a block's eight parts, at an index. -/
theorem parts2_apply (x : Vec Ideal S8x256x704 .bf16) (y : S256x704.Idx) :
    k2_pay4 (slice0 x) (slice1 x) (slice2 x) (slice3 x) (slice4 x) (slice5 x) (slice6 x) (slice7 x) y = sumParts x y :=
  parts0_apply x y

theorem idx2_0 : ∀ t : Fin cfg2.N, win2_0.index t = ![0, t.val, 0] := (by decide +kernel : ∀ t : Fin grid2.N, _)
theorem idx2_1 : ∀ t : Fin cfg2.N, win2_1.index t = ![4 + t.val, 0] := (by decide +kernel : ∀ t : Fin grid2.N, _)
theorem idx2_2 : ∀ t : Fin cfg2.N, win2_2.index t = ![4 + t.val, 0] := (by decide +kernel : ∀ t : Fin grid2.N, _)
theorem idx2_3 : ∀ t : Fin cfg2.N, win2_3.index t = ![4 + t.val, 0] := (by decide +kernel : ∀ t : Fin grid2.N, _)
theorem idx2_4 : ∀ t : Fin cfg2.N, win2_4.index t = ![4 + t.val, 0] := (by decide +kernel : ∀ t : Fin grid2.N, _)
theorem idx2_5 : ∀ t : Fin cfg2.N, win2_5.index t = ![4 + t.val, 0] := (by decide +kernel : ∀ t : Fin grid2.N, _)
theorem idx2_6 : ∀ t : Fin cfg2.N, win2_6.index t = ![4 + t.val, 0] := (by decide +kernel : ∀ t : Fin grid2.N, _)
theorem idx2_7 : ∀ t : Fin cfg2.N, win2_7.index t = ![4 + t.val, 0] := (by decide +kernel : ∀ t : Fin grid2.N, _)

/-- A block of layer 1's summed gradients. -/
theorem block2_g (c : Dev nD) (t : Fin cfg2.N) (y : S256x704.Idx) (i : S4096x704.Idx) (h0 : (i 0).val = (4 + t.val) * 256 + (y 0).val) (h1 : (i 1).val = (y 1).val) :
    sumParts (iblk2 (V5 m ρ) c 0 t) y = total m c i := by
  have ht : t.val < 4 := t.isLt
  have hy : (y 0).val < 256 := (y 0).isLt
  refine Eq.trans (Finset.sum_congr rfl fun k _ => ?_) (total1 m c i (ix2 (⟨t.val * 256 + (y 0).val, by omega⟩ : Fin 1024) (y 1)) (by show _ = 1024 + (t.val * 256 + (y 0).val); omega) h1).symm
  blk_simp [iblk2]
  rw [staged2]
  refine congrArg (part2 m c) ?_
  blk_ext [idx2_0, ix2, ix3, Matrix.cons_val_zero, Matrix.cons_val_one]

/-- A block of the weights. -/
theorem block2_wts (c : Dev nD) (t : Fin cfg2.N) (y : S256x704.Idx) (i : S4096x704.Idx) (h0 : (i 0).val = (4 + t.val) * 256 + (y 0).val) (h1 : (i 1).val = (y 1).val) :
    (iblk2 (V5 m ρ) c 1 t : Vec Ideal S256x704 .f32) y = wts m c i := by
  blk_simp [iblk2]
  refine (congrFun (W5_args m ρ c main_arg4 (by decide)) _).trans (congrArg (wts m c) ?_)
  blk_ext [idx2_1, Matrix.cons_val_zero, Matrix.cons_val_one]

/-- A block of the first moments. -/
theorem block2_mom (c : Dev nD) (t : Fin cfg2.N) (y : S256x704.Idx) (i : S4096x704.Idx) (h0 : (i 0).val = (4 + t.val) * 256 + (y 0).val) (h1 : (i 1).val = (y 1).val) :
    (iblk2 (V5 m ρ) c 2 t : Vec Ideal S256x704 .f32) y = mom m c i := by
  blk_simp [iblk2]
  refine (congrFun (W5_args m ρ c main_arg5 (by decide)) _).trans (congrArg (mom m c) ?_)
  blk_ext [idx2_2, Matrix.cons_val_zero, Matrix.cons_val_one]

/-- A block of the second moments. -/
theorem block2_sq (c : Dev nD) (t : Fin cfg2.N) (y : S256x704.Idx) (i : S4096x704.Idx) (h0 : (i 0).val = (4 + t.val) * 256 + (y 0).val) (h1 : (i 1).val = (y 1).val) :
    (iblk2 (V5 m ρ) c 3 t : Vec Ideal S256x704 .f32) y = sq m c i := by
  blk_simp [iblk2]
  refine (congrFun (W5_args m ρ c main_arg6 (by decide)) _).trans (congrArg (sq m c) ?_)
  blk_ext [idx2_3, Matrix.cons_val_zero, Matrix.cons_val_one]

/-- After the call for layer 1, the rows from this layer on of the array of the summed gradients. -/
theorem grad2 (c : Dev nD) (i : S4096x704.Idx) (hi : 1024 ≤ (i 0).val) :
    ((dat2 (V5 m ρ) c).arrAt 4 cfg2.N : Vec Ideal S4096x704 .f32) i = total m c i := by
  refine (dat2 (V5 m ρ) c).arrAt_forall_of_coversWhere 4 (fun (i : S4096x704.Idx) v => 1024 ≤ (i 0).val → v = total m c i)
    (fun β => 4 ≤ β (0 : Fin _) ∧ β (0 : Fin _) < 8) (by decide +kernel) (fun t _ y _ => ?_) (fun j hj hl => ?_) i (Memref.isWhole_whole _) hi
  · blk_simp
    rw [after2_4]
    unfold outsAt2
    frame_out
    have e0 : ((((View.whole main_v5_0).slice (win2_4.rect t)).emb y : S4096x704.Idx) 0).val = (4 + t.val) * 256 + (y 0).val := by
      refine Eq.trans (b := win2_4.index t 0 * 256 + (y 0).val) (ValueKit.view_emb_slice_whole_unit_val _ _ _ _ _ _) ?_
      rw [idx2_4]; rfl
    have e1 : ((((View.whole main_v5_0).slice (win2_4.rect t)).emb y : S4096x704.Idx) 1).val = (y 1).val := by
      refine Eq.trans (b := win2_4.index t 1 * 704 + (y 1).val) (ValueKit.view_emb_slice_whole_unit_val _ _ _ _ _ _) ?_
      rw [idx2_4]; exact (congrArg (· + _) (Nat.zero_mul 704)).trans (Nat.zero_add _)
    exact ((parts2_apply _ y).trans (block2_g m ρ c t y _ e0 e1))
  · blk_simp [Pipeline.Window.cell_apply] at hj hl
    have hb : 2048 ≤ (j 0).val := by omega
    refine (congrFun (A_eq2 (V5 m ρ) c 4) _).trans (Eq.trans (congrFun (?_ : _ = (dat1 (V3 m ρ) c).arrAt 4 cfg1.N) _) (grad1 m ρ c _ hb))
    show StableHlo.after hostOps2 _ _ = _
    after_results
    exact W4_arr m ρ c 4

/-- After the call for layer 1, the rows from this layer on of the array of the changes. -/
theorem delta2 (c : Dev nD) (i : S4096x704.Idx) (hi : 1024 ≤ (i 0).val) :
    ((dat2 (V5 m ρ) c).arrAt 5 cfg2.N : Vec Ideal S4096x704 .f32) i = change (total m c i) (wts m c i) (mom m c i) (sq m c i) := by
  refine (dat2 (V5 m ρ) c).arrAt_forall_of_coversWhere 5 (fun (i : S4096x704.Idx) v => 1024 ≤ (i 0).val → v = change (total m c i) (wts m c i) (mom m c i) (sq m c i))
    (fun β => 4 ≤ β (0 : Fin _) ∧ β (0 : Fin _) < 8) (by decide +kernel) (fun t _ y _ => ?_) (fun j hj hl => ?_) i (Memref.isWhole_whole _) hi
  · blk_simp
    rw [after2_5]
    unfold outsAt2
    frame_out
    have e0 : ((((View.whole main_v5_1).slice (win2_5.rect t)).emb y : S4096x704.Idx) 0).val = (4 + t.val) * 256 + (y 0).val := by
      refine Eq.trans (b := win2_5.index t 0 * 256 + (y 0).val) (ValueKit.view_emb_slice_whole_unit_val _ _ _ _ _ _) ?_
      rw [idx2_5]; rfl
    have e1 : ((((View.whole main_v5_1).slice (win2_5.rect t)).emb y : S4096x704.Idx) 1).val = (y 1).val := by
      refine Eq.trans (b := win2_5.index t 1 * 704 + (y 1).val) (ValueKit.view_emb_slice_whole_unit_val _ _ _ _ _ _) ?_
      rw [idx2_5]; exact (congrArg (· + _) (Nat.zero_mul 704)).trans (Nat.zero_add _)
    exact (show _ = change _ _ _ _ from congr (congr (congrArg₂ change ((parts2_apply _ y).trans (block2_g m ρ c t y _ e0 e1)) (block2_wts m ρ c t y _ e0 e1)) (block2_mom m ρ c t y _ e0 e1)) (block2_sq m ρ c t y _ e0 e1))
  · blk_simp [Pipeline.Window.cell_apply] at hj hl
    have hb : 2048 ≤ (j 0).val := by omega
    refine (congrFun (A_eq2 (V5 m ρ) c 5) _).trans (Eq.trans (congrFun (?_ : _ = (dat1 (V3 m ρ) c).arrAt 5 cfg1.N) _) (delta1 m ρ c _ hb))
    show StableHlo.after hostOps2 _ _ = _
    after_results
    exact W4_arr m ρ c 5

/-- After the call for layer 1, the rows from this layer on of the array of the first moments. -/
theorem moment2 (c : Dev nD) (i : S4096x704.Idx) (hi : 1024 ≤ (i 0).val) :
    ((dat2 (V5 m ρ) c).arrAt 6 cfg2.N : Vec Ideal S4096x704 .f32) i = first (total m c i) (mom m c i) := by
  refine (dat2 (V5 m ρ) c).arrAt_forall_of_coversWhere 6 (fun (i : S4096x704.Idx) v => 1024 ≤ (i 0).val → v = first (total m c i) (mom m c i))
    (fun β => 4 ≤ β (0 : Fin _) ∧ β (0 : Fin _) < 8) (by decide +kernel) (fun t _ y _ => ?_) (fun j hj hl => ?_) i (Memref.isWhole_whole _) hi
  · blk_simp
    rw [after2_6]
    unfold outsAt2
    frame_out
    have e0 : ((((View.whole main_v5_2).slice (win2_6.rect t)).emb y : S4096x704.Idx) 0).val = (4 + t.val) * 256 + (y 0).val := by
      refine Eq.trans (b := win2_6.index t 0 * 256 + (y 0).val) (ValueKit.view_emb_slice_whole_unit_val _ _ _ _ _ _) ?_
      rw [idx2_6]; rfl
    have e1 : ((((View.whole main_v5_2).slice (win2_6.rect t)).emb y : S4096x704.Idx) 1).val = (y 1).val := by
      refine Eq.trans (b := win2_6.index t 1 * 704 + (y 1).val) (ValueKit.view_emb_slice_whole_unit_val _ _ _ _ _ _) ?_
      rw [idx2_6]; exact (congrArg (· + _) (Nat.zero_mul 704)).trans (Nat.zero_add _)
    exact (show _ = first _ _ from congrArg₂ first ((parts2_apply _ y).trans (block2_g m ρ c t y _ e0 e1)) (block2_mom m ρ c t y _ e0 e1))
  · blk_simp [Pipeline.Window.cell_apply] at hj hl
    have hb : 2048 ≤ (j 0).val := by omega
    refine (congrFun (A_eq2 (V5 m ρ) c 6) _).trans (Eq.trans (congrFun (?_ : _ = (dat1 (V3 m ρ) c).arrAt 6 cfg1.N) _) (moment1 m ρ c _ hb))
    show StableHlo.after hostOps2 _ _ = _
    after_results
    exact W4_arr m ρ c 6

/-- After the call for layer 1, the rows from this layer on of the array of the second moments. -/
theorem square2 (c : Dev nD) (i : S4096x704.Idx) (hi : 1024 ≤ (i 0).val) :
    ((dat2 (V5 m ρ) c).arrAt 7 cfg2.N : Vec Ideal S4096x704 .f32) i = second (total m c i) (sq m c i) := by
  refine (dat2 (V5 m ρ) c).arrAt_forall_of_coversWhere 7 (fun (i : S4096x704.Idx) v => 1024 ≤ (i 0).val → v = second (total m c i) (sq m c i))
    (fun β => 4 ≤ β (0 : Fin _) ∧ β (0 : Fin _) < 8) (by decide +kernel) (fun t _ y _ => ?_) (fun j hj hl => ?_) i (Memref.isWhole_whole _) hi
  · blk_simp
    rw [after2_7]
    unfold outsAt2
    frame_out
    have e0 : ((((View.whole main_v5_3).slice (win2_7.rect t)).emb y : S4096x704.Idx) 0).val = (4 + t.val) * 256 + (y 0).val := by
      refine Eq.trans (b := win2_7.index t 0 * 256 + (y 0).val) (ValueKit.view_emb_slice_whole_unit_val _ _ _ _ _ _) ?_
      rw [idx2_7]; rfl
    have e1 : ((((View.whole main_v5_3).slice (win2_7.rect t)).emb y : S4096x704.Idx) 1).val = (y 1).val := by
      refine Eq.trans (b := win2_7.index t 1 * 704 + (y 1).val) (ValueKit.view_emb_slice_whole_unit_val _ _ _ _ _ _) ?_
      rw [idx2_7]; exact (congrArg (· + _) (Nat.zero_mul 704)).trans (Nat.zero_add _)
    exact (show _ = second _ _ from congrArg₂ second ((parts2_apply _ y).trans (block2_g m ρ c t y _ e0 e1)) (block2_sq m ρ c t y _ e0 e1))
  · blk_simp [Pipeline.Window.cell_apply] at hj hl
    have hb : 2048 ≤ (j 0).val := by omega
    refine (congrFun (A_eq2 (V5 m ρ) c 7) _).trans (Eq.trans (congrFun (?_ : _ = (dat1 (V3 m ρ) c).arrAt 7 cfg1.N) _) (square1 m ρ c _ hb))
    show StableHlo.after hostOps2 _ _ = _
    after_results
    exact W4_arr m ρ c 7

/-- Layer 0's parts are staged narrowed, which over the extended reals is as they are. -/
theorem staged3 (c : Dev nD) : V7 m ρ c main_v6 = (truncf .bf16 (part3 m c) bitsLt_bf16_f32 : FVec Ideal S8x1024x704 .bf16) := by
  show StableHlo.after hostOps3 _ _ = _
  after_results
  exact congrArg (fun x : Vec Ideal S8x1024x704 .f32 => (truncf .bf16 x bitsLt_bf16_f32 : FVec Ideal S8x1024x704 .bf16)) (W6_args m ρ c main_arg3 (by decide))

/-- The sum of a block's eight parts, at an index. -/
theorem parts3_apply (x : Vec Ideal S8x256x704 .bf16) (y : S256x704.Idx) :
    k3_pay4 (slice0 x) (slice1 x) (slice2 x) (slice3 x) (slice4 x) (slice5 x) (slice6 x) (slice7 x) y = sumParts x y :=
  parts0_apply x y

theorem idx3_0 : ∀ t : Fin cfg3.N, win3_0.index t = ![0, t.val, 0] := (by decide +kernel : ∀ t : Fin grid3.N, _)
theorem idx3_1 : ∀ t : Fin cfg3.N, win3_1.index t = ![0 + t.val, 0] := (by decide +kernel : ∀ t : Fin grid3.N, _)
theorem idx3_2 : ∀ t : Fin cfg3.N, win3_2.index t = ![0 + t.val, 0] := (by decide +kernel : ∀ t : Fin grid3.N, _)
theorem idx3_3 : ∀ t : Fin cfg3.N, win3_3.index t = ![0 + t.val, 0] := (by decide +kernel : ∀ t : Fin grid3.N, _)
theorem idx3_4 : ∀ t : Fin cfg3.N, win3_4.index t = ![0 + t.val, 0] := (by decide +kernel : ∀ t : Fin grid3.N, _)
theorem idx3_5 : ∀ t : Fin cfg3.N, win3_5.index t = ![0 + t.val, 0] := (by decide +kernel : ∀ t : Fin grid3.N, _)
theorem idx3_6 : ∀ t : Fin cfg3.N, win3_6.index t = ![0 + t.val, 0] := (by decide +kernel : ∀ t : Fin grid3.N, _)
theorem idx3_7 : ∀ t : Fin cfg3.N, win3_7.index t = ![0 + t.val, 0] := (by decide +kernel : ∀ t : Fin grid3.N, _)

/-- A block of layer 0's summed gradients. -/
theorem block3_g (c : Dev nD) (t : Fin cfg3.N) (y : S256x704.Idx) (i : S4096x704.Idx) (h0 : (i 0).val = (0 + t.val) * 256 + (y 0).val) (h1 : (i 1).val = (y 1).val) :
    sumParts (iblk3 (V7 m ρ) c 0 t) y = total m c i := by
  have ht : t.val < 4 := t.isLt
  have hy : (y 0).val < 256 := (y 0).isLt
  refine Eq.trans (Finset.sum_congr rfl fun k _ => ?_) (total0 m c i (ix2 (⟨t.val * 256 + (y 0).val, by omega⟩ : Fin 1024) (y 1)) (by show _ = 0 + (t.val * 256 + (y 0).val); omega) h1).symm
  blk_simp [iblk3]
  rw [staged3]
  refine congrArg (part3 m c) ?_
  blk_ext [idx3_0, ix2, ix3, Matrix.cons_val_zero, Matrix.cons_val_one]

/-- A block of the weights. -/
theorem block3_wts (c : Dev nD) (t : Fin cfg3.N) (y : S256x704.Idx) (i : S4096x704.Idx) (h0 : (i 0).val = (0 + t.val) * 256 + (y 0).val) (h1 : (i 1).val = (y 1).val) :
    (iblk3 (V7 m ρ) c 1 t : Vec Ideal S256x704 .f32) y = wts m c i := by
  blk_simp [iblk3]
  refine (congrFun (W7_args m ρ c main_arg4 (by decide)) _).trans (congrArg (wts m c) ?_)
  blk_ext [idx3_1, Matrix.cons_val_zero, Matrix.cons_val_one]

/-- A block of the first moments. -/
theorem block3_mom (c : Dev nD) (t : Fin cfg3.N) (y : S256x704.Idx) (i : S4096x704.Idx) (h0 : (i 0).val = (0 + t.val) * 256 + (y 0).val) (h1 : (i 1).val = (y 1).val) :
    (iblk3 (V7 m ρ) c 2 t : Vec Ideal S256x704 .f32) y = mom m c i := by
  blk_simp [iblk3]
  refine (congrFun (W7_args m ρ c main_arg5 (by decide)) _).trans (congrArg (mom m c) ?_)
  blk_ext [idx3_2, Matrix.cons_val_zero, Matrix.cons_val_one]

/-- A block of the second moments. -/
theorem block3_sq (c : Dev nD) (t : Fin cfg3.N) (y : S256x704.Idx) (i : S4096x704.Idx) (h0 : (i 0).val = (0 + t.val) * 256 + (y 0).val) (h1 : (i 1).val = (y 1).val) :
    (iblk3 (V7 m ρ) c 3 t : Vec Ideal S256x704 .f32) y = sq m c i := by
  blk_simp [iblk3]
  refine (congrFun (W7_args m ρ c main_arg6 (by decide)) _).trans (congrArg (sq m c) ?_)
  blk_ext [idx3_3, Matrix.cons_val_zero, Matrix.cons_val_one]

/-- After the call for layer 0, the rows from this layer on of the array of the summed gradients. -/
theorem grad3 (c : Dev nD) (i : S4096x704.Idx) (hi : 0 ≤ (i 0).val) :
    ((dat3 (V7 m ρ) c).arrAt 4 cfg3.N : Vec Ideal S4096x704 .f32) i = total m c i := by
  refine (dat3 (V7 m ρ) c).arrAt_forall_of_coversWhere 4 (fun (i : S4096x704.Idx) v => 0 ≤ (i 0).val → v = total m c i)
    (fun β => 0 ≤ β (0 : Fin _) ∧ β (0 : Fin _) < 4) (by decide +kernel) (fun t _ y _ => ?_) (fun j hj hl => ?_) i (Memref.isWhole_whole _) hi
  · blk_simp
    rw [after3_4]
    unfold outsAt3
    frame_out
    have e0 : ((((View.whole main_v7_0).slice (win3_4.rect t)).emb y : S4096x704.Idx) 0).val = (0 + t.val) * 256 + (y 0).val := by
      refine Eq.trans (b := win3_4.index t 0 * 256 + (y 0).val) (ValueKit.view_emb_slice_whole_unit_val _ _ _ _ _ _) ?_
      rw [idx3_4]; rfl
    have e1 : ((((View.whole main_v7_0).slice (win3_4.rect t)).emb y : S4096x704.Idx) 1).val = (y 1).val := by
      refine Eq.trans (b := win3_4.index t 1 * 704 + (y 1).val) (ValueKit.view_emb_slice_whole_unit_val _ _ _ _ _ _) ?_
      rw [idx3_4]; exact (congrArg (· + _) (Nat.zero_mul 704)).trans (Nat.zero_add _)
    exact ((parts3_apply _ y).trans (block3_g m ρ c t y _ e0 e1))
  · blk_simp [Pipeline.Window.cell_apply] at hj hl
    have hb : 1024 ≤ (j 0).val := by omega
    refine (congrFun (A_eq3 (V7 m ρ) c 4) _).trans (Eq.trans (congrFun (?_ : _ = (dat2 (V5 m ρ) c).arrAt 4 cfg2.N) _) (grad2 m ρ c _ hb))
    show StableHlo.after hostOps3 _ _ = _
    after_results
    exact W6_arr m ρ c 4

/-- After the call for layer 0, the rows from this layer on of the array of the changes. -/
theorem delta3 (c : Dev nD) (i : S4096x704.Idx) (hi : 0 ≤ (i 0).val) :
    ((dat3 (V7 m ρ) c).arrAt 5 cfg3.N : Vec Ideal S4096x704 .f32) i = change (total m c i) (wts m c i) (mom m c i) (sq m c i) := by
  refine (dat3 (V7 m ρ) c).arrAt_forall_of_coversWhere 5 (fun (i : S4096x704.Idx) v => 0 ≤ (i 0).val → v = change (total m c i) (wts m c i) (mom m c i) (sq m c i))
    (fun β => 0 ≤ β (0 : Fin _) ∧ β (0 : Fin _) < 4) (by decide +kernel) (fun t _ y _ => ?_) (fun j hj hl => ?_) i (Memref.isWhole_whole _) hi
  · blk_simp
    rw [after3_5]
    unfold outsAt3
    frame_out
    have e0 : ((((View.whole main_v7_1).slice (win3_5.rect t)).emb y : S4096x704.Idx) 0).val = (0 + t.val) * 256 + (y 0).val := by
      refine Eq.trans (b := win3_5.index t 0 * 256 + (y 0).val) (ValueKit.view_emb_slice_whole_unit_val _ _ _ _ _ _) ?_
      rw [idx3_5]; rfl
    have e1 : ((((View.whole main_v7_1).slice (win3_5.rect t)).emb y : S4096x704.Idx) 1).val = (y 1).val := by
      refine Eq.trans (b := win3_5.index t 1 * 704 + (y 1).val) (ValueKit.view_emb_slice_whole_unit_val _ _ _ _ _ _) ?_
      rw [idx3_5]; exact (congrArg (· + _) (Nat.zero_mul 704)).trans (Nat.zero_add _)
    exact (show _ = change _ _ _ _ from congr (congr (congrArg₂ change ((parts3_apply _ y).trans (block3_g m ρ c t y _ e0 e1)) (block3_wts m ρ c t y _ e0 e1)) (block3_mom m ρ c t y _ e0 e1)) (block3_sq m ρ c t y _ e0 e1))
  · blk_simp [Pipeline.Window.cell_apply] at hj hl
    have hb : 1024 ≤ (j 0).val := by omega
    refine (congrFun (A_eq3 (V7 m ρ) c 5) _).trans (Eq.trans (congrFun (?_ : _ = (dat2 (V5 m ρ) c).arrAt 5 cfg2.N) _) (delta2 m ρ c _ hb))
    show StableHlo.after hostOps3 _ _ = _
    after_results
    exact W6_arr m ρ c 5

/-- After the call for layer 0, the rows from this layer on of the array of the first moments. -/
theorem moment3 (c : Dev nD) (i : S4096x704.Idx) (hi : 0 ≤ (i 0).val) :
    ((dat3 (V7 m ρ) c).arrAt 6 cfg3.N : Vec Ideal S4096x704 .f32) i = first (total m c i) (mom m c i) := by
  refine (dat3 (V7 m ρ) c).arrAt_forall_of_coversWhere 6 (fun (i : S4096x704.Idx) v => 0 ≤ (i 0).val → v = first (total m c i) (mom m c i))
    (fun β => 0 ≤ β (0 : Fin _) ∧ β (0 : Fin _) < 4) (by decide +kernel) (fun t _ y _ => ?_) (fun j hj hl => ?_) i (Memref.isWhole_whole _) hi
  · blk_simp
    rw [after3_6]
    unfold outsAt3
    frame_out
    have e0 : ((((View.whole main_v7_2).slice (win3_6.rect t)).emb y : S4096x704.Idx) 0).val = (0 + t.val) * 256 + (y 0).val := by
      refine Eq.trans (b := win3_6.index t 0 * 256 + (y 0).val) (ValueKit.view_emb_slice_whole_unit_val _ _ _ _ _ _) ?_
      rw [idx3_6]; rfl
    have e1 : ((((View.whole main_v7_2).slice (win3_6.rect t)).emb y : S4096x704.Idx) 1).val = (y 1).val := by
      refine Eq.trans (b := win3_6.index t 1 * 704 + (y 1).val) (ValueKit.view_emb_slice_whole_unit_val _ _ _ _ _ _) ?_
      rw [idx3_6]; exact (congrArg (· + _) (Nat.zero_mul 704)).trans (Nat.zero_add _)
    exact (show _ = first _ _ from congrArg₂ first ((parts3_apply _ y).trans (block3_g m ρ c t y _ e0 e1)) (block3_mom m ρ c t y _ e0 e1))
  · blk_simp [Pipeline.Window.cell_apply] at hj hl
    have hb : 1024 ≤ (j 0).val := by omega
    refine (congrFun (A_eq3 (V7 m ρ) c 6) _).trans (Eq.trans (congrFun (?_ : _ = (dat2 (V5 m ρ) c).arrAt 6 cfg2.N) _) (moment2 m ρ c _ hb))
    show StableHlo.after hostOps3 _ _ = _
    after_results
    exact W6_arr m ρ c 6

/-- After the call for layer 0, the rows from this layer on of the array of the second moments. -/
theorem square3 (c : Dev nD) (i : S4096x704.Idx) (hi : 0 ≤ (i 0).val) :
    ((dat3 (V7 m ρ) c).arrAt 7 cfg3.N : Vec Ideal S4096x704 .f32) i = second (total m c i) (sq m c i) := by
  refine (dat3 (V7 m ρ) c).arrAt_forall_of_coversWhere 7 (fun (i : S4096x704.Idx) v => 0 ≤ (i 0).val → v = second (total m c i) (sq m c i))
    (fun β => 0 ≤ β (0 : Fin _) ∧ β (0 : Fin _) < 4) (by decide +kernel) (fun t _ y _ => ?_) (fun j hj hl => ?_) i (Memref.isWhole_whole _) hi
  · blk_simp
    rw [after3_7]
    unfold outsAt3
    frame_out
    have e0 : ((((View.whole main_v7_3).slice (win3_7.rect t)).emb y : S4096x704.Idx) 0).val = (0 + t.val) * 256 + (y 0).val := by
      refine Eq.trans (b := win3_7.index t 0 * 256 + (y 0).val) (ValueKit.view_emb_slice_whole_unit_val _ _ _ _ _ _) ?_
      rw [idx3_7]; rfl
    have e1 : ((((View.whole main_v7_3).slice (win3_7.rect t)).emb y : S4096x704.Idx) 1).val = (y 1).val := by
      refine Eq.trans (b := win3_7.index t 1 * 704 + (y 1).val) (ValueKit.view_emb_slice_whole_unit_val _ _ _ _ _ _) ?_
      rw [idx3_7]; exact (congrArg (· + _) (Nat.zero_mul 704)).trans (Nat.zero_add _)
    exact (show _ = second _ _ from congrArg₂ second ((parts3_apply _ y).trans (block3_g m ρ c t y _ e0 e1)) (block3_sq m ρ c t y _ e0 e1))
  · blk_simp [Pipeline.Window.cell_apply] at hj hl
    have hb : 1024 ≤ (j 0).val := by omega
    refine (congrFun (A_eq3 (V7 m ρ) c 7) _).trans (Eq.trans (congrFun (?_ : _ = (dat2 (V5 m ρ) c).arrAt 7 cfg2.N) _) (square2 m ρ c _ hb))
    show StableHlo.after hostOps3 _ _ = _
    after_results
    exact W6_arr m ρ c 7

/-- After the last call, the array of the summed gradients is the reference's. -/
theorem final_grad (c : Dev nD) : W8 m ρ c (Proc.devRef .tc main_v7_0) = Cert.Reference14Ideal.Read.val_main_v4 (part0 m c) (part1 m c) (part2 m c) (part3 m c) :=
  (W8_arr m ρ c 4).trans (funext fun i => grad3 m ρ c i (Nat.zero_le _))

/-- After the last call, the array of the changes is the reference's. -/
theorem final_delta (c : Dev nD) : W8 m ρ c (Proc.devRef .tc main_v7_1) = Cert.Reference14Ideal.Read.val_main_v28 (part0 m c) (part1 m c) (part2 m c) (part3 m c) (wts m c) (mom m c) (sq m c) :=
  (W8_arr m ρ c 5).trans (funext fun i => (delta3 m ρ c i (Nat.zero_le _)).trans (ref_change m c i).symm)

/-- After the last call, the array of the first moments is the reference's. -/
theorem final_moment (c : Dev nD) : W8 m ρ c (Proc.devRef .tc main_v7_2) = Cert.Reference14Ideal.Read.val_main_v9 (part0 m c) (part1 m c) (part2 m c) (part3 m c) (mom m c) :=
  (W8_arr m ρ c 6).trans (funext fun i => (moment3 m ρ c i (Nat.zero_le _)).trans (ref_first m c i).symm)

/-- After the last call, the array of the second moments is the reference's. -/
theorem final_square (c : Dev nD) : W8 m ρ c (Proc.devRef .tc main_v7_3) = Cert.Reference14Ideal.Read.val_main_v15 (part0 m c) (part1 m c) (part2 m c) (part3 m c) (sq m c) :=
  (W8_arr m ρ c 7).trans (funext fun i => (square3 m ρ c i (Nat.zero_le _)).trans (ref_second m c i).symm)

theorem frame_kernel : Cert.quiescent_Kernel14 := fun m ρ _ => Cert.Kernel14.Gen.frame m ρ

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run m ρ)

open Idealize.SL Idealize.SL.RA Idealize.SL.BI Idealize.SL.BI.BIBase Idealize.SL.BI.Laws Idealize.SL.ProofMode Idealize.ShloMosaic.Rounds in
open scoped Idealize.SL.BI in
set_option backward.isDefEq.respectTransparency.types false in
/-- The four calls run one after another; every array that outlives them ends at the last boundary's contents. -/
theorem run_calls : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The value: the four calls leave the reference's four results. -/
theorem value : Cert.algebraic_Kernel14Ideal_Reference14Ideal := fun m ρ m' ρ' _ agree => by
  have key : ∀ c : Dev nD, ∀ (x0 x1 x2 x3 : Vec Ideal S8x1024x704 .f32) (x4 x5 x6 : Vec Ideal S4096x704 .f32),
      x0 = part0 m c → x1 = part1 m c → x2 = part2 m c → x3 = part3 m c → x4 = wts m c → x5 = mom m c → x6 = sq m c →
      Cert.Reference14Ideal.Read.val_main_v4 x0 x1 x2 x3 = Cert.Reference14Ideal.Read.val_main_v4 (part0 m c) (part1 m c) (part2 m c) (part3 m c)
      ∧ Cert.Reference14Ideal.Read.val_main_v28 x0 x1 x2 x3 x4 x5 x6 = Cert.Reference14Ideal.Read.val_main_v28 (part0 m c) (part1 m c) (part2 m c) (part3 m c) (wts m c) (mom m c) (sq m c)
      ∧ Cert.Reference14Ideal.Read.val_main_v9 x0 x1 x2 x3 x5 = Cert.Reference14Ideal.Read.val_main_v9 (part0 m c) (part1 m c) (part2 m c) (part3 m c) (mom m c)
      ∧ Cert.Reference14Ideal.Read.val_main_v15 x0 x1 x2 x3 x6 = Cert.Reference14Ideal.Read.val_main_v15 (part0 m c) (part1 m c) (part2 m c) (part3 m c) (sq m c) := by
    rintro c x0 x1 x2 x3 x4 x5 x6 rfl rfl rfl rfl rfl rfl rfl
    exact ⟨rfl, rfl, rfl, rfl⟩
  refine ⟨_, _, _, _, (θ_run defs _ _).mono (fun _ h c => ⟨(h c _ (mem_uc main_v7_0 (by decide))).trans (final_grad m ρ c), (h c _ (mem_uc main_v7_1 (by decide))).trans (final_delta m ρ c),
      (h c _ (mem_uc main_v7_2 (by decide))).trans (final_moment m ρ c), (h c _ (mem_uc main_v7_3 (by decide))).trans (final_square m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c)⟩) (run_calls m ρ),
    (θ_run Cert.Reference14Ideal.defs _ _).mono (fun _ h c => ?_) (Cert.Reference14Ideal.Value.run m' ρ')⟩
  obtain ⟨a0, a1, a2, a3, a4, a5, a6⟩ := agree c
  obtain ⟨k0, k1, k2, k3⟩ := key c _ _ _ _ _ _ _ a0 a1 a2 a3 a4 a5 a6
  obtain ⟨h0, h1, h2, h3, h4⟩ := h c
  exact ⟨h0.trans ((Cert.Reference14Ideal.Read.val_main_v4_eq _ _ _ _).trans k0), h1.trans ((Cert.Reference14Ideal.Read.val_main_v28_eq _ _ _ _ _ _ _).trans k1),
    h2.trans ((Cert.Reference14Ideal.Read.val_main_v9_eq _ _ _ _ _).trans k2), h3.trans ((Cert.Reference14Ideal.Read.val_main_v15_eq _ _ _ _ _).trans k3), h4⟩

end Cert.Proof.UpdateFfnIn

end
-- ==== Proof.Update.UpdateFfnOut.lean ====
/-
  The feed-forward layers' second weights' steps: four calls, one for each layer, the last layer first.
-/
module

public import proofs.«01_k».proof.Defs
public import proofs.«01_k».proof.Proof.Update.Basic
public import proofs.«01_k».proof.Proof.Gen.Kernel15.Frame
public import proofs.«01_k».proof.Proof.Gen.Kernel15Ideal.Frame
public import proofs.«01_k».proof.Proof.Gen.Reference15Ideal.Read
public import Idealize.ShloMosaic.PureOps.Ideal
public import Idealize.ShloMosaic.Lib.ValueIdx
public import Idealize.ShloMosaic.Lib.IdealHost
public import Idealize.ShloMosaic.Lib.Pipeline.Value
public import Idealize.ShloMosaic.Lib.Quiescent
public import Idealize.ShloMosaic.Lib.Pipeline.ValueKit.Geometry
public import Idealize.ShloMosaic.Lib.Pipeline.ValueKit.Partial
public import Idealize.ShloMosaic.Lib.Pipeline.ValueKit.Acc
public import Idealize.ShloMosaic.Lib.Pipeline.ReadBack

@[expose] public section

noncomputable section

namespace Cert.Proof.UpdateFfnOut

open Cert.Kernel15Ideal Cert.Kernel15Ideal.Gen Cert.Proof.Update
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The argument arrays: the four layers' parts (the last layer's first), the weights and the two moments. -/
abbrev part0 (c : Dev nD) : Vec Ideal S8x352x1024 .f32 := m ((c : Thread nD τ).loc main_arg0)
abbrev part1 (c : Dev nD) : Vec Ideal S8x352x1024 .f32 := m ((c : Thread nD τ).loc main_arg1)
abbrev part2 (c : Dev nD) : Vec Ideal S8x352x1024 .f32 := m ((c : Thread nD τ).loc main_arg2)
abbrev part3 (c : Dev nD) : Vec Ideal S8x352x1024 .f32 := m ((c : Thread nD τ).loc main_arg3)
abbrev wts (c : Dev nD) : Vec Ideal S1408x1024 .f32 := m ((c : Thread nD τ).loc main_arg4)
abbrev mom (c : Dev nD) : Vec Ideal S1408x1024 .f32 := m ((c : Thread nD τ).loc main_arg5)
abbrev sq (c : Dev nD) : Vec Ideal S1408x1024 .f32 := m ((c : Thread nD τ).loc main_arg6)

/-- The summed gradients, the layers' rows one after another. -/
abbrev total (c : Dev nD) : Vec Ideal S1408x1024 .f32 := Cert.Reference15Ideal.Read.val_main_v4 (part0 m c) (part1 m c) (part2 m c) (part3 m c)

/-- The rows of layer 3 of the summed gradients. -/
theorem total3 (c : Dev nD) (i : S1408x1024.Idx) (y : Cert.Reference15Ideal.S352x1024.Idx) (h : (i 0).val = 1056 + (y 0).val) (h' : (i 1).val = (y 1).val) :
    total m c i = ∑ k : Fin 8, part0 m c (ix3 k (y 0) (y 1)) := by
  refine (concatenate_apply_piece (t := S1408x1024) (0 : Fin 2) _ _ i 3 (by show 3 < 4; decide) Cert.Reference15Ideal.S352x1024 (Cert.Reference15Ideal.Read.val_main_v3 (F := Ideal) (part0 m c)) rfl rfl 1056 rfl y
    (fun b hb => ?_) h.symm).trans ?_
  · match b, hb with
    | ⟨0, _⟩, hb => exact absurd rfl hb
    | ⟨1, _⟩, _ => exact h'.symm
  · refine (Cert.Reference15Ideal.Read.val_main_v3_apply _ y).trans ((congrArg (· + _) (?_ : _ = (0 : EReal))).trans ((zero_add _).trans ?_))
    · exact Ideal.ofBits_zero_f32
    · refine Finset.sum_congr rfl fun k _ => congrArg (part0 m c) ?_
      funext a; match a with | ⟨0, _⟩ => rfl | ⟨1, _⟩ => rfl | ⟨2, _⟩ => rfl

/-- The rows of layer 2 of the summed gradients. -/
theorem total2 (c : Dev nD) (i : S1408x1024.Idx) (y : Cert.Reference15Ideal.S352x1024.Idx) (h : (i 0).val = 704 + (y 0).val) (h' : (i 1).val = (y 1).val) :
    total m c i = ∑ k : Fin 8, part1 m c (ix3 k (y 0) (y 1)) := by
  refine (concatenate_apply_piece (t := S1408x1024) (0 : Fin 2) _ _ i 2 (by show 2 < 4; decide) Cert.Reference15Ideal.S352x1024 (Cert.Reference15Ideal.Read.val_main_v2 (F := Ideal) (part1 m c)) rfl rfl 704 rfl y
    (fun b hb => ?_) h.symm).trans ?_
  · match b, hb with
    | ⟨0, _⟩, hb => exact absurd rfl hb
    | ⟨1, _⟩, _ => exact h'.symm
  · refine (Cert.Reference15Ideal.Read.val_main_v2_apply _ y).trans ((congrArg (· + _) (?_ : _ = (0 : EReal))).trans ((zero_add _).trans ?_))
    · exact Ideal.ofBits_zero_f32
    · refine Finset.sum_congr rfl fun k _ => congrArg (part1 m c) ?_
      funext a; match a with | ⟨0, _⟩ => rfl | ⟨1, _⟩ => rfl | ⟨2, _⟩ => rfl

/-- The rows of layer 1 of the summed gradients. -/
theorem total1 (c : Dev nD) (i : S1408x1024.Idx) (y : Cert.Reference15Ideal.S352x1024.Idx) (h : (i 0).val = 352 + (y 0).val) (h' : (i 1).val = (y 1).val) :
    total m c i = ∑ k : Fin 8, part2 m c (ix3 k (y 0) (y 1)) := by
  refine (concatenate_apply_piece (t := S1408x1024) (0 : Fin 2) _ _ i 1 (by show 1 < 4; decide) Cert.Reference15Ideal.S352x1024 (Cert.Reference15Ideal.Read.val_main_v1 (F := Ideal) (part2 m c)) rfl rfl 352 rfl y
    (fun b hb => ?_) h.symm).trans ?_
  · match b, hb with
    | ⟨0, _⟩, hb => exact absurd rfl hb
    | ⟨1, _⟩, _ => exact h'.symm
  · refine (Cert.Reference15Ideal.Read.val_main_v1_apply _ y).trans ((congrArg (· + _) (?_ : _ = (0 : EReal))).trans ((zero_add _).trans ?_))
    · exact Ideal.ofBits_zero_f32
    · refine Finset.sum_congr rfl fun k _ => congrArg (part2 m c) ?_
      funext a; match a with | ⟨0, _⟩ => rfl | ⟨1, _⟩ => rfl | ⟨2, _⟩ => rfl

/-- The rows of layer 0 of the summed gradients. -/
theorem total0 (c : Dev nD) (i : S1408x1024.Idx) (y : Cert.Reference15Ideal.S352x1024.Idx) (h : (i 0).val = 0 + (y 0).val) (h' : (i 1).val = (y 1).val) :
    total m c i = ∑ k : Fin 8, part3 m c (ix3 k (y 0) (y 1)) := by
  refine (concatenate_apply_piece (t := S1408x1024) (0 : Fin 2) _ _ i 0 (by show 0 < 4; decide) Cert.Reference15Ideal.S352x1024 (Cert.Reference15Ideal.Read.val_main_v0 (F := Ideal) (part3 m c)) rfl rfl 0 rfl y
    (fun b hb => ?_) h.symm).trans ?_
  · match b, hb with
    | ⟨0, _⟩, hb => exact absurd rfl hb
    | ⟨1, _⟩, _ => exact h'.symm
  · refine (Cert.Reference15Ideal.Read.val_main_v0_apply _ y).trans ((congrArg (· + _) (?_ : _ = (0 : EReal))).trans ((zero_add _).trans ?_))
    · exact Ideal.ofBits_zero_f32
    · refine Finset.sum_congr rfl fun k _ => congrArg (part3 m c) ?_
      funext a; match a with | ⟨0, _⟩ => rfl | ⟨1, _⟩ => rfl | ⟨2, _⟩ => rfl

/-- The reference's new first moment, at an index. -/
theorem ref_first (c : Dev nD) (i : S1408x1024.Idx) :
    Cert.Reference15Ideal.Read.val_main_v9 (part0 m c) (part1 m c) (part2 m c) (part3 m c) (mom m c) i = first (total m c i) (mom m c i) := by
  rw [Cert.Reference15Ideal.Read.val_main_v9_apply, Cert.Reference15Ideal.Read.val_main_v6_apply, Cert.Reference15Ideal.Read.val_main_v8_apply, Cert.Reference15Ideal.Read.val_main_v5_apply, Cert.Reference15Ideal.Read.val_main_v7_apply]
  rfl

/-- The reference's new second moment, at an index. -/
theorem ref_second (c : Dev nD) (i : S1408x1024.Idx) :
    Cert.Reference15Ideal.Read.val_main_v15 (part0 m c) (part1 m c) (part2 m c) (part3 m c) (sq m c) i = second (total m c i) (sq m c i) := by
  rw [Cert.Reference15Ideal.Read.val_main_v15_apply, Cert.Reference15Ideal.Read.val_main_v11_apply, Cert.Reference15Ideal.Read.val_main_v14_apply, Cert.Reference15Ideal.Read.val_main_v10_apply, Cert.Reference15Ideal.Read.val_main_v13_apply]
  rfl

/-- The reference's change, at an index. -/
theorem ref_change (c : Dev nD) (i : S1408x1024.Idx) :
    Cert.Reference15Ideal.Read.val_main_v28 (part0 m c) (part1 m c) (part2 m c) (part3 m c) (wts m c) (mom m c) (sq m c) i
      = change (total m c i) (wts m c i) (mom m c i) (sq m c i) := by
  simp only [Cert.Reference15Ideal.Read.val_main_v16_apply, Cert.Reference15Ideal.Read.val_main_v17_apply, Cert.Reference15Ideal.Read.val_main_v18_apply, Cert.Reference15Ideal.Read.val_main_v19_apply, Cert.Reference15Ideal.Read.val_main_v20_apply, Cert.Reference15Ideal.Read.val_main_v21_apply, Cert.Reference15Ideal.Read.val_main_v22_apply, Cert.Reference15Ideal.Read.val_main_v23_apply, Cert.Reference15Ideal.Read.val_main_v24_apply, Cert.Reference15Ideal.Read.val_main_v25_apply, Cert.Reference15Ideal.Read.val_main_v26_apply, Cert.Reference15Ideal.Read.val_main_v27_apply, Cert.Reference15Ideal.Read.val_main_v28_apply, ref_first, ref_second]
  rfl

/-- Layer 3's parts are staged narrowed, which over the extended reals is as they are. -/
theorem staged0 (c : Dev nD) : V1 m ρ c main_v0 = (truncf .bf16 (part0 m c) bitsLt_bf16_f32 : FVec Ideal S8x352x1024 .bf16) := by
  show StableHlo.after hostOps0 _ _ = _
  after_results

/-! The slices of a block of landed parts that the body reads. -/

abbrev slice0 (x : Vec Ideal S8x176x1024 .bf16) := View.ld x (Rect.unit (s := S8x176x1024) ![0, 0, 0] S1x176x1024.size inb_S8x176x1024_S1x176x1024_0_0_0)
abbrev slice1 (x : Vec Ideal S8x176x1024 .bf16) := View.ld x (Rect.unit (s := S8x176x1024) ![1, 0, 0] S1x176x1024.size inb_S8x176x1024_S1x176x1024_1_0_0)
abbrev slice2 (x : Vec Ideal S8x176x1024 .bf16) := View.ld x (Rect.unit (s := S8x176x1024) ![2, 0, 0] S1x176x1024.size inb_S8x176x1024_S1x176x1024_2_0_0)
abbrev slice3 (x : Vec Ideal S8x176x1024 .bf16) := View.ld x (Rect.unit (s := S8x176x1024) ![3, 0, 0] S1x176x1024.size inb_S8x176x1024_S1x176x1024_3_0_0)
abbrev slice4 (x : Vec Ideal S8x176x1024 .bf16) := View.ld x (Rect.unit (s := S8x176x1024) ![4, 0, 0] S1x176x1024.size inb_S8x176x1024_S1x176x1024_4_0_0)
abbrev slice5 (x : Vec Ideal S8x176x1024 .bf16) := View.ld x (Rect.unit (s := S8x176x1024) ![5, 0, 0] S1x176x1024.size inb_S8x176x1024_S1x176x1024_5_0_0)
abbrev slice6 (x : Vec Ideal S8x176x1024 .bf16) := View.ld x (Rect.unit (s := S8x176x1024) ![6, 0, 0] S1x176x1024.size inb_S8x176x1024_S1x176x1024_6_0_0)
abbrev slice7 (x : Vec Ideal S8x176x1024 .bf16) := View.ld x (Rect.unit (s := S8x176x1024) ![7, 0, 0] S1x176x1024.size inb_S8x176x1024_S1x176x1024_7_0_0)

/-- The sum of a block's eight parts, at an index. -/
theorem parts0_apply (x : Vec Ideal S8x176x1024 .bf16) (y : S176x1024.Idx) :
    k0_pay4 (slice0 x) (slice1 x) (slice2 x) (slice3 x) (slice4 x) (slice5 x) (slice6 x) (slice7 x) y = sumParts x y := by
  unfold k0_pay4 sumParts
  rw [Fin.sum_univ_eight]
  have h0 := slab x y 0 0 rfl inb_S8x176x1024_S1x176x1024_0_0_0 shapeCasts_S1x176x1024_S176x1024
  have h1 := slab x y 1 1 rfl inb_S8x176x1024_S1x176x1024_1_0_0 shapeCasts_S1x176x1024_S176x1024
  have h2 := slab x y 2 2 rfl inb_S8x176x1024_S1x176x1024_2_0_0 shapeCasts_S1x176x1024_S176x1024
  have h3 := slab x y 3 3 rfl inb_S8x176x1024_S1x176x1024_3_0_0 shapeCasts_S1x176x1024_S176x1024
  have h4 := slab x y 4 4 rfl inb_S8x176x1024_S1x176x1024_4_0_0 shapeCasts_S1x176x1024_S176x1024
  have h5 := slab x y 5 5 rfl inb_S8x176x1024_S1x176x1024_5_0_0 shapeCasts_S1x176x1024_S176x1024
  have h6 := slab x y 6 6 rfl inb_S8x176x1024_S1x176x1024_6_0_0 shapeCasts_S1x176x1024_S176x1024
  have h7 := slab x y 7 7 rfl inb_S8x176x1024_S1x176x1024_7_0_0 shapeCasts_S1x176x1024_S176x1024
  rw [← h0, ← h1, ← h2, ← h3, ← h4, ← h5, ← h6, ← h7]
  rfl

theorem idx0_0 : ∀ t : Fin cfg0.N, win0_0.index t = ![0, t.val, 0] := (by decide +kernel : ∀ t : Fin grid0.N, _)
theorem idx0_1 : ∀ t : Fin cfg0.N, win0_1.index t = ![6 + t.val, 0] := (by decide +kernel : ∀ t : Fin grid0.N, _)
theorem idx0_2 : ∀ t : Fin cfg0.N, win0_2.index t = ![6 + t.val, 0] := (by decide +kernel : ∀ t : Fin grid0.N, _)
theorem idx0_3 : ∀ t : Fin cfg0.N, win0_3.index t = ![6 + t.val, 0] := (by decide +kernel : ∀ t : Fin grid0.N, _)
theorem idx0_4 : ∀ t : Fin cfg0.N, win0_4.index t = ![6 + t.val, 0] := (by decide +kernel : ∀ t : Fin grid0.N, _)
theorem idx0_5 : ∀ t : Fin cfg0.N, win0_5.index t = ![6 + t.val, 0] := (by decide +kernel : ∀ t : Fin grid0.N, _)
theorem idx0_6 : ∀ t : Fin cfg0.N, win0_6.index t = ![6 + t.val, 0] := (by decide +kernel : ∀ t : Fin grid0.N, _)
theorem idx0_7 : ∀ t : Fin cfg0.N, win0_7.index t = ![6 + t.val, 0] := (by decide +kernel : ∀ t : Fin grid0.N, _)

/-- A block of layer 3's summed gradients. -/
theorem block0_g (c : Dev nD) (t : Fin cfg0.N) (y : S176x1024.Idx) (i : S1408x1024.Idx) (h0 : (i 0).val = (6 + t.val) * 176 + (y 0).val) (h1 : (i 1).val = (y 1).val) :
    sumParts (iblk0 (V1 m ρ) c 0 t) y = total m c i := by
  have ht : t.val < 2 := t.isLt
  have hy : (y 0).val < 176 := (y 0).isLt
  refine Eq.trans (Finset.sum_congr rfl fun k _ => ?_) (total3 m c i (ix2 (⟨t.val * 176 + (y 0).val, by omega⟩ : Fin 352) (y 1)) (by show _ = 1056 + (t.val * 176 + (y 0).val); omega) h1).symm
  blk_simp [iblk0]
  rw [staged0]
  refine congrArg (part0 m c) ?_
  blk_ext [idx0_0, ix2, ix3, Matrix.cons_val_zero, Matrix.cons_val_one]

/-- A block of the weights. -/
theorem block0_wts (c : Dev nD) (t : Fin cfg0.N) (y : S176x1024.Idx) (i : S1408x1024.Idx) (h0 : (i 0).val = (6 + t.val) * 176 + (y 0).val) (h1 : (i 1).val = (y 1).val) :
    (iblk0 (V1 m ρ) c 1 t : Vec Ideal S176x1024 .f32) y = wts m c i := by
  blk_simp [iblk0]
  refine (congrFun (W1_args m ρ c main_arg4 (by decide)) _).trans (congrArg (wts m c) ?_)
  blk_ext [idx0_1, Matrix.cons_val_zero, Matrix.cons_val_one]

/-- A block of the first moments. -/
theorem block0_mom (c : Dev nD) (t : Fin cfg0.N) (y : S176x1024.Idx) (i : S1408x1024.Idx) (h0 : (i 0).val = (6 + t.val) * 176 + (y 0).val) (h1 : (i 1).val = (y 1).val) :
    (iblk0 (V1 m ρ) c 2 t : Vec Ideal S176x1024 .f32) y = mom m c i := by
  blk_simp [iblk0]
  refine (congrFun (W1_args m ρ c main_arg5 (by decide)) _).trans (congrArg (mom m c) ?_)
  blk_ext [idx0_2, Matrix.cons_val_zero, Matrix.cons_val_one]

/-- A block of the second moments. -/
theorem block0_sq (c : Dev nD) (t : Fin cfg0.N) (y : S176x1024.Idx) (i : S1408x1024.Idx) (h0 : (i 0).val = (6 + t.val) * 176 + (y 0).val) (h1 : (i 1).val = (y 1).val) :
    (iblk0 (V1 m ρ) c 3 t : Vec Ideal S176x1024 .f32) y = sq m c i := by
  blk_simp [iblk0]
  refine (congrFun (W1_args m ρ c main_arg6 (by decide)) _).trans (congrArg (sq m c) ?_)
  blk_ext [idx0_3, Matrix.cons_val_zero, Matrix.cons_val_one]

/-- After the call for layer 3, the rows from this layer on of the array of the summed gradients. -/
theorem grad0 (c : Dev nD) (i : S1408x1024.Idx) (hi : 1056 ≤ (i 0).val) :
    ((dat0 (V1 m ρ) c).arrAt 4 cfg0.N : Vec Ideal S1408x1024 .f32) i = total m c i := by
  refine (dat0 (V1 m ρ) c).arrAt_forall_of_coversWhere 4 (fun (i : S1408x1024.Idx) v => 1056 ≤ (i 0).val → v = total m c i)
    (fun β => 6 ≤ β (0 : Fin _) ∧ β (0 : Fin _) < 8) (by decide +kernel) (fun t _ y _ => ?_) (fun j hj hl => ?_) i (Memref.isWhole_whole _) hi
  · blk_simp
    rw [after0_4]
    frame_out
    have e0 : ((((View.whole main_v1_0).slice (win0_4.rect t)).emb y : S1408x1024.Idx) 0).val = (6 + t.val) * 176 + (y 0).val := by
      refine Eq.trans (b := win0_4.index t 0 * 176 + (y 0).val) (ValueKit.view_emb_slice_whole_unit_val _ _ _ _ _ _) ?_
      rw [idx0_4]; rfl
    have e1 : ((((View.whole main_v1_0).slice (win0_4.rect t)).emb y : S1408x1024.Idx) 1).val = (y 1).val := by
      refine Eq.trans (b := win0_4.index t 1 * 1024 + (y 1).val) (ValueKit.view_emb_slice_whole_unit_val _ _ _ _ _ _) ?_
      rw [idx0_4]; exact (congrArg (· + _) (Nat.zero_mul 1024)).trans (Nat.zero_add _)
    exact ((parts0_apply _ y).trans (block0_g m ρ c t y _ e0 e1))
  · blk_simp [Pipeline.Window.cell_apply] at hj hl
    have hb : (j 0).val < 1408 := (j 0).isLt
    exact absurd hj (by omega)

/-- After the call for layer 3, the rows from this layer on of the array of the changes. -/
theorem delta0 (c : Dev nD) (i : S1408x1024.Idx) (hi : 1056 ≤ (i 0).val) :
    ((dat0 (V1 m ρ) c).arrAt 5 cfg0.N : Vec Ideal S1408x1024 .f32) i = change (total m c i) (wts m c i) (mom m c i) (sq m c i) := by
  refine (dat0 (V1 m ρ) c).arrAt_forall_of_coversWhere 5 (fun (i : S1408x1024.Idx) v => 1056 ≤ (i 0).val → v = change (total m c i) (wts m c i) (mom m c i) (sq m c i))
    (fun β => 6 ≤ β (0 : Fin _) ∧ β (0 : Fin _) < 8) (by decide +kernel) (fun t _ y _ => ?_) (fun j hj hl => ?_) i (Memref.isWhole_whole _) hi
  · blk_simp
    rw [after0_5]
    frame_out
    have e0 : ((((View.whole main_v1_1).slice (win0_5.rect t)).emb y : S1408x1024.Idx) 0).val = (6 + t.val) * 176 + (y 0).val := by
      refine Eq.trans (b := win0_5.index t 0 * 176 + (y 0).val) (ValueKit.view_emb_slice_whole_unit_val _ _ _ _ _ _) ?_
      rw [idx0_5]; rfl
    have e1 : ((((View.whole main_v1_1).slice (win0_5.rect t)).emb y : S1408x1024.Idx) 1).val = (y 1).val := by
      refine Eq.trans (b := win0_5.index t 1 * 1024 + (y 1).val) (ValueKit.view_emb_slice_whole_unit_val _ _ _ _ _ _) ?_
      rw [idx0_5]; exact (congrArg (· + _) (Nat.zero_mul 1024)).trans (Nat.zero_add _)
    exact (show _ = change _ _ _ _ from congr (congr (congrArg₂ change ((parts0_apply _ y).trans (block0_g m ρ c t y _ e0 e1)) (block0_wts m ρ c t y _ e0 e1)) (block0_mom m ρ c t y _ e0 e1)) (block0_sq m ρ c t y _ e0 e1))
  · blk_simp [Pipeline.Window.cell_apply] at hj hl
    have hb : (j 0).val < 1408 := (j 0).isLt
    exact absurd hj (by omega)

/-- After the call for layer 3, the rows from this layer on of the array of the first moments. -/
theorem moment0 (c : Dev nD) (i : S1408x1024.Idx) (hi : 1056 ≤ (i 0).val) :
    ((dat0 (V1 m ρ) c).arrAt 6 cfg0.N : Vec Ideal S1408x1024 .f32) i = first (total m c i) (mom m c i) := by
  refine (dat0 (V1 m ρ) c).arrAt_forall_of_coversWhere 6 (fun (i : S1408x1024.Idx) v => 1056 ≤ (i 0).val → v = first (total m c i) (mom m c i))
    (fun β => 6 ≤ β (0 : Fin _) ∧ β (0 : Fin _) < 8) (by decide +kernel) (fun t _ y _ => ?_) (fun j hj hl => ?_) i (Memref.isWhole_whole _) hi
  · blk_simp
    rw [after0_6]
    frame_out
    have e0 : ((((View.whole main_v1_2).slice (win0_6.rect t)).emb y : S1408x1024.Idx) 0).val = (6 + t.val) * 176 + (y 0).val := by
      refine Eq.trans (b := win0_6.index t 0 * 176 + (y 0).val) (ValueKit.view_emb_slice_whole_unit_val _ _ _ _ _ _) ?_
      rw [idx0_6]; rfl
    have e1 : ((((View.whole main_v1_2).slice (win0_6.rect t)).emb y : S1408x1024.Idx) 1).val = (y 1).val := by
      refine Eq.trans (b := win0_6.index t 1 * 1024 + (y 1).val) (ValueKit.view_emb_slice_whole_unit_val _ _ _ _ _ _) ?_
      rw [idx0_6]; exact (congrArg (· + _) (Nat.zero_mul 1024)).trans (Nat.zero_add _)
    exact (show _ = first _ _ from congrArg₂ first ((parts0_apply _ y).trans (block0_g m ρ c t y _ e0 e1)) (block0_mom m ρ c t y _ e0 e1))
  · blk_simp [Pipeline.Window.cell_apply] at hj hl
    have hb : (j 0).val < 1408 := (j 0).isLt
    exact absurd hj (by omega)

/-- After the call for layer 3, the rows from this layer on of the array of the second moments. -/
theorem square0 (c : Dev nD) (i : S1408x1024.Idx) (hi : 1056 ≤ (i 0).val) :
    ((dat0 (V1 m ρ) c).arrAt 7 cfg0.N : Vec Ideal S1408x1024 .f32) i = second (total m c i) (sq m c i) := by
  refine (dat0 (V1 m ρ) c).arrAt_forall_of_coversWhere 7 (fun (i : S1408x1024.Idx) v => 1056 ≤ (i 0).val → v = second (total m c i) (sq m c i))
    (fun β => 6 ≤ β (0 : Fin _) ∧ β (0 : Fin _) < 8) (by decide +kernel) (fun t _ y _ => ?_) (fun j hj hl => ?_) i (Memref.isWhole_whole _) hi
  · blk_simp
    rw [after0_7]
    frame_out
    have e0 : ((((View.whole main_v1_3).slice (win0_7.rect t)).emb y : S1408x1024.Idx) 0).val = (6 + t.val) * 176 + (y 0).val := by
      refine Eq.trans (b := win0_7.index t 0 * 176 + (y 0).val) (ValueKit.view_emb_slice_whole_unit_val _ _ _ _ _ _) ?_
      rw [idx0_7]; rfl
    have e1 : ((((View.whole main_v1_3).slice (win0_7.rect t)).emb y : S1408x1024.Idx) 1).val = (y 1).val := by
      refine Eq.trans (b := win0_7.index t 1 * 1024 + (y 1).val) (ValueKit.view_emb_slice_whole_unit_val _ _ _ _ _ _) ?_
      rw [idx0_7]; exact (congrArg (· + _) (Nat.zero_mul 1024)).trans (Nat.zero_add _)
    exact (show _ = second _ _ from congrArg₂ second ((parts0_apply _ y).trans (block0_g m ρ c t y _ e0 e1)) (block0_sq m ρ c t y _ e0 e1))
  · blk_simp [Pipeline.Window.cell_apply] at hj hl
    have hb : (j 0).val < 1408 := (j 0).isLt
    exact absurd hj (by omega)

/-- Layer 2's parts are staged narrowed, which over the extended reals is as they are. -/
theorem staged1 (c : Dev nD) : V3 m ρ c main_v2 = (truncf .bf16 (part1 m c) bitsLt_bf16_f32 : FVec Ideal S8x352x1024 .bf16) := by
  show StableHlo.after hostOps1 _ _ = _
  after_results
  exact congrArg (fun x : Vec Ideal S8x352x1024 .f32 => (truncf .bf16 x bitsLt_bf16_f32 : FVec Ideal S8x352x1024 .bf16)) (W2_args m ρ c main_arg1 (by decide))

/-- The sum of a block's eight parts, at an index. -/
theorem parts1_apply (x : Vec Ideal S8x176x1024 .bf16) (y : S176x1024.Idx) :
    k1_pay4 (slice0 x) (slice1 x) (slice2 x) (slice3 x) (slice4 x) (slice5 x) (slice6 x) (slice7 x) y = sumParts x y :=
  parts0_apply x y

theorem idx1_0 : ∀ t : Fin cfg1.N, win1_0.index t = ![0, t.val, 0] := (by decide +kernel : ∀ t : Fin grid1.N, _)
theorem idx1_1 : ∀ t : Fin cfg1.N, win1_1.index t = ![4 + t.val, 0] := (by decide +kernel : ∀ t : Fin grid1.N, _)
theorem idx1_2 : ∀ t : Fin cfg1.N, win1_2.index t = ![4 + t.val, 0] := (by decide +kernel : ∀ t : Fin grid1.N, _)
theorem idx1_3 : ∀ t : Fin cfg1.N, win1_3.index t = ![4 + t.val, 0] := (by decide +kernel : ∀ t : Fin grid1.N, _)
theorem idx1_4 : ∀ t : Fin cfg1.N, win1_4.index t = ![4 + t.val, 0] := (by decide +kernel : ∀ t : Fin grid1.N, _)
theorem idx1_5 : ∀ t : Fin cfg1.N, win1_5.index t = ![4 + t.val, 0] := (by decide +kernel : ∀ t : Fin grid1.N, _)
theorem idx1_6 : ∀ t : Fin cfg1.N, win1_6.index t = ![4 + t.val, 0] := (by decide +kernel : ∀ t : Fin grid1.N, _)
theorem idx1_7 : ∀ t : Fin cfg1.N, win1_7.index t = ![4 + t.val, 0] := (by decide +kernel : ∀ t : Fin grid1.N, _)

/-- A block of layer 2's summed gradients. -/
theorem block1_g (c : Dev nD) (t : Fin cfg1.N) (y : S176x1024.Idx) (i : S1408x1024.Idx) (h0 : (i 0).val = (4 + t.val) * 176 + (y 0).val) (h1 : (i 1).val = (y 1).val) :
    sumParts (iblk1 (V3 m ρ) c 0 t) y = total m c i := by
  have ht : t.val < 2 := t.isLt
  have hy : (y 0).val < 176 := (y 0).isLt
  refine Eq.trans (Finset.sum_congr rfl fun k _ => ?_) (total2 m c i (ix2 (⟨t.val * 176 + (y 0).val, by omega⟩ : Fin 352) (y 1)) (by show _ = 704 + (t.val * 176 + (y 0).val); omega) h1).symm
  blk_simp [iblk1]
  rw [staged1]
  refine congrArg (part1 m c) ?_
  blk_ext [idx1_0, ix2, ix3, Matrix.cons_val_zero, Matrix.cons_val_one]

/-- A block of the weights. -/
theorem block1_wts (c : Dev nD) (t : Fin cfg1.N) (y : S176x1024.Idx) (i : S1408x1024.Idx) (h0 : (i 0).val = (4 + t.val) * 176 + (y 0).val) (h1 : (i 1).val = (y 1).val) :
    (iblk1 (V3 m ρ) c 1 t : Vec Ideal S176x1024 .f32) y = wts m c i := by
  blk_simp [iblk1]
  refine (congrFun (W3_args m ρ c main_arg4 (by decide)) _).trans (congrArg (wts m c) ?_)
  blk_ext [idx1_1, Matrix.cons_val_zero, Matrix.cons_val_one]

/-- A block of the first moments. -/
theorem block1_mom (c : Dev nD) (t : Fin cfg1.N) (y : S176x1024.Idx) (i : S1408x1024.Idx) (h0 : (i 0).val = (4 + t.val) * 176 + (y 0).val) (h1 : (i 1).val = (y 1).val) :
    (iblk1 (V3 m ρ) c 2 t : Vec Ideal S176x1024 .f32) y = mom m c i := by
  blk_simp [iblk1]
  refine (congrFun (W3_args m ρ c main_arg5 (by decide)) _).trans (congrArg (mom m c) ?_)
  blk_ext [idx1_2, Matrix.cons_val_zero, Matrix.cons_val_one]

/-- A block of the second moments. -/
theorem block1_sq (c : Dev nD) (t : Fin cfg1.N) (y : S176x1024.Idx) (i : S1408x1024.Idx) (h0 : (i 0).val = (4 + t.val) * 176 + (y 0).val) (h1 : (i 1).val = (y 1).val) :
    (iblk1 (V3 m ρ) c 3 t : Vec Ideal S176x1024 .f32) y = sq m c i := by
  blk_simp [iblk1]
  refine (congrFun (W3_args m ρ c main_arg6 (by decide)) _).trans (congrArg (sq m c) ?_)
  blk_ext [idx1_3, Matrix.cons_val_zero, Matrix.cons_val_one]

/-- After the call for layer 2, the rows from this layer on of the array of the summed gradients. -/
theorem grad1 (c : Dev nD) (i : S1408x1024.Idx) (hi : 704 ≤ (i 0).val) :
    ((dat1 (V3 m ρ) c).arrAt 4 cfg1.N : Vec Ideal S1408x1024 .f32) i = total m c i := by
  refine (dat1 (V3 m ρ) c).arrAt_forall_of_coversWhere 4 (fun (i : S1408x1024.Idx) v => 704 ≤ (i 0).val → v = total m c i)
    (fun β => 4 ≤ β (0 : Fin _) ∧ β (0 : Fin _) < 6) (by decide +kernel) (fun t _ y _ => ?_) (fun j hj hl => ?_) i (Memref.isWhole_whole _) hi
  · blk_simp
    rw [after1_4]
    unfold outsAt1
    frame_out
    have e0 : ((((View.whole main_v3_0).slice (win1_4.rect t)).emb y : S1408x1024.Idx) 0).val = (4 + t.val) * 176 + (y 0).val := by
      refine Eq.trans (b := win1_4.index t 0 * 176 + (y 0).val) (ValueKit.view_emb_slice_whole_unit_val _ _ _ _ _ _) ?_
      rw [idx1_4]; rfl
    have e1 : ((((View.whole main_v3_0).slice (win1_4.rect t)).emb y : S1408x1024.Idx) 1).val = (y 1).val := by
      refine Eq.trans (b := win1_4.index t 1 * 1024 + (y 1).val) (ValueKit.view_emb_slice_whole_unit_val _ _ _ _ _ _) ?_
      rw [idx1_4]; exact (congrArg (· + _) (Nat.zero_mul 1024)).trans (Nat.zero_add _)
    exact ((parts1_apply _ y).trans (block1_g m ρ c t y _ e0 e1))
  · blk_simp [Pipeline.Window.cell_apply] at hj hl
    have hb : 1056 ≤ (j 0).val := by omega
    refine (congrFun (A_eq1 (V3 m ρ) c 4) _).trans (Eq.trans (congrFun (?_ : _ = (dat0 (V1 m ρ) c).arrAt 4 cfg0.N) _) (grad0 m ρ c _ hb))
    show StableHlo.after hostOps1 _ _ = _
    after_results
    exact W2_arr m ρ c 4

/-- After the call for layer 2, the rows from this layer on of the array of the changes. -/
theorem delta1 (c : Dev nD) (i : S1408x1024.Idx) (hi : 704 ≤ (i 0).val) :
    ((dat1 (V3 m ρ) c).arrAt 5 cfg1.N : Vec Ideal S1408x1024 .f32) i = change (total m c i) (wts m c i) (mom m c i) (sq m c i) := by
  refine (dat1 (V3 m ρ) c).arrAt_forall_of_coversWhere 5 (fun (i : S1408x1024.Idx) v => 704 ≤ (i 0).val → v = change (total m c i) (wts m c i) (mom m c i) (sq m c i))
    (fun β => 4 ≤ β (0 : Fin _) ∧ β (0 : Fin _) < 6) (by decide +kernel) (fun t _ y _ => ?_) (fun j hj hl => ?_) i (Memref.isWhole_whole _) hi
  · blk_simp
    rw [after1_5]
    unfold outsAt1
    frame_out
    have e0 : ((((View.whole main_v3_1).slice (win1_5.rect t)).emb y : S1408x1024.Idx) 0).val = (4 + t.val) * 176 + (y 0).val := by
      refine Eq.trans (b := win1_5.index t 0 * 176 + (y 0).val) (ValueKit.view_emb_slice_whole_unit_val _ _ _ _ _ _) ?_
      rw [idx1_5]; rfl
    have e1 : ((((View.whole main_v3_1).slice (win1_5.rect t)).emb y : S1408x1024.Idx) 1).val = (y 1).val := by
      refine Eq.trans (b := win1_5.index t 1 * 1024 + (y 1).val) (ValueKit.view_emb_slice_whole_unit_val _ _ _ _ _ _) ?_
      rw [idx1_5]; exact (congrArg (· + _) (Nat.zero_mul 1024)).trans (Nat.zero_add _)
    exact (show _ = change _ _ _ _ from congr (congr (congrArg₂ change ((parts1_apply _ y).trans (block1_g m ρ c t y _ e0 e1)) (block1_wts m ρ c t y _ e0 e1)) (block1_mom m ρ c t y _ e0 e1)) (block1_sq m ρ c t y _ e0 e1))
  · blk_simp [Pipeline.Window.cell_apply] at hj hl
    have hb : 1056 ≤ (j 0).val := by omega
    refine (congrFun (A_eq1 (V3 m ρ) c 5) _).trans (Eq.trans (congrFun (?_ : _ = (dat0 (V1 m ρ) c).arrAt 5 cfg0.N) _) (delta0 m ρ c _ hb))
    show StableHlo.after hostOps1 _ _ = _
    after_results
    exact W2_arr m ρ c 5

/-- After the call for layer 2, the rows from this layer on of the array of the first moments. -/
theorem moment1 (c : Dev nD) (i : S1408x1024.Idx) (hi : 704 ≤ (i 0).val) :
    ((dat1 (V3 m ρ) c).arrAt 6 cfg1.N : Vec Ideal S1408x1024 .f32) i = first (total m c i) (mom m c i) := by
  refine (dat1 (V3 m ρ) c).arrAt_forall_of_coversWhere 6 (fun (i : S1408x1024.Idx) v => 704 ≤ (i 0).val → v = first (total m c i) (mom m c i))
    (fun β => 4 ≤ β (0 : Fin _) ∧ β (0 : Fin _) < 6) (by decide +kernel) (fun t _ y _ => ?_) (fun j hj hl => ?_) i (Memref.isWhole_whole _) hi
  · blk_simp
    rw [after1_6]
    unfold outsAt1
    frame_out
    have e0 : ((((View.whole main_v3_2).slice (win1_6.rect t)).emb y : S1408x1024.Idx) 0).val = (4 + t.val) * 176 + (y 0).val := by
      refine Eq.trans (b := win1_6.index t 0 * 176 + (y 0).val) (ValueKit.view_emb_slice_whole_unit_val _ _ _ _ _ _) ?_
      rw [idx1_6]; rfl
    have e1 : ((((View.whole main_v3_2).slice (win1_6.rect t)).emb y : S1408x1024.Idx) 1).val = (y 1).val := by
      refine Eq.trans (b := win1_6.index t 1 * 1024 + (y 1).val) (ValueKit.view_emb_slice_whole_unit_val _ _ _ _ _ _) ?_
      rw [idx1_6]; exact (congrArg (· + _) (Nat.zero_mul 1024)).trans (Nat.zero_add _)
    exact (show _ = first _ _ from congrArg₂ first ((parts1_apply _ y).trans (block1_g m ρ c t y _ e0 e1)) (block1_mom m ρ c t y _ e0 e1))
  · blk_simp [Pipeline.Window.cell_apply] at hj hl
    have hb : 1056 ≤ (j 0).val := by omega
    refine (congrFun (A_eq1 (V3 m ρ) c 6) _).trans (Eq.trans (congrFun (?_ : _ = (dat0 (V1 m ρ) c).arrAt 6 cfg0.N) _) (moment0 m ρ c _ hb))
    show StableHlo.after hostOps1 _ _ = _
    after_results
    exact W2_arr m ρ c 6

/-- After the call for layer 2, the rows from this layer on of the array of the second moments. -/
theorem square1 (c : Dev nD) (i : S1408x1024.Idx) (hi : 704 ≤ (i 0).val) :
    ((dat1 (V3 m ρ) c).arrAt 7 cfg1.N : Vec Ideal S1408x1024 .f32) i = second (total m c i) (sq m c i) := by
  refine (dat1 (V3 m ρ) c).arrAt_forall_of_coversWhere 7 (fun (i : S1408x1024.Idx) v => 704 ≤ (i 0).val → v = second (total m c i) (sq m c i))
    (fun β => 4 ≤ β (0 : Fin _) ∧ β (0 : Fin _) < 6) (by decide +kernel) (fun t _ y _ => ?_) (fun j hj hl => ?_) i (Memref.isWhole_whole _) hi
  · blk_simp
    rw [after1_7]
    unfold outsAt1
    frame_out
    have e0 : ((((View.whole main_v3_3).slice (win1_7.rect t)).emb y : S1408x1024.Idx) 0).val = (4 + t.val) * 176 + (y 0).val := by
      refine Eq.trans (b := win1_7.index t 0 * 176 + (y 0).val) (ValueKit.view_emb_slice_whole_unit_val _ _ _ _ _ _) ?_
      rw [idx1_7]; rfl
    have e1 : ((((View.whole main_v3_3).slice (win1_7.rect t)).emb y : S1408x1024.Idx) 1).val = (y 1).val := by
      refine Eq.trans (b := win1_7.index t 1 * 1024 + (y 1).val) (ValueKit.view_emb_slice_whole_unit_val _ _ _ _ _ _) ?_
      rw [idx1_7]; exact (congrArg (· + _) (Nat.zero_mul 1024)).trans (Nat.zero_add _)
    exact (show _ = second _ _ from congrArg₂ second ((parts1_apply _ y).trans (block1_g m ρ c t y _ e0 e1)) (block1_sq m ρ c t y _ e0 e1))
  · blk_simp [Pipeline.Window.cell_apply] at hj hl
    have hb : 1056 ≤ (j 0).val := by omega
    refine (congrFun (A_eq1 (V3 m ρ) c 7) _).trans (Eq.trans (congrFun (?_ : _ = (dat0 (V1 m ρ) c).arrAt 7 cfg0.N) _) (square0 m ρ c _ hb))
    show StableHlo.after hostOps1 _ _ = _
    after_results
    exact W2_arr m ρ c 7

/-- Layer 1's parts are staged narrowed, which over the extended reals is as they are. -/
theorem staged2 (c : Dev nD) : V5 m ρ c main_v4 = (truncf .bf16 (part2 m c) bitsLt_bf16_f32 : FVec Ideal S8x352x1024 .bf16) := by
  show StableHlo.after hostOps2 _ _ = _
  after_results
  exact congrArg (fun x : Vec Ideal S8x352x1024 .f32 => (truncf .bf16 x bitsLt_bf16_f32 : FVec Ideal S8x352x1024 .bf16)) (W4_args m ρ c main_arg2 (by decide))

/-- The sum of a block's eight parts, at an index. -/
theorem parts2_apply (x : Vec Ideal S8x176x1024 .bf16) (y : S176x1024.Idx) :
    k2_pay4 (slice0 x) (slice1 x) (slice2 x) (slice3 x) (slice4 x) (slice5 x) (slice6 x) (slice7 x) y = sumParts x y :=
  parts0_apply x y

theorem idx2_0 : ∀ t : Fin cfg2.N, win2_0.index t = ![0, t.val, 0] := (by decide +kernel : ∀ t : Fin grid2.N, _)
theorem idx2_1 : ∀ t : Fin cfg2.N, win2_1.index t = ![2 + t.val, 0] := (by decide +kernel : ∀ t : Fin grid2.N, _)
theorem idx2_2 : ∀ t : Fin cfg2.N, win2_2.index t = ![2 + t.val, 0] := (by decide +kernel : ∀ t : Fin grid2.N, _)
theorem idx2_3 : ∀ t : Fin cfg2.N, win2_3.index t = ![2 + t.val, 0] := (by decide +kernel : ∀ t : Fin grid2.N, _)
theorem idx2_4 : ∀ t : Fin cfg2.N, win2_4.index t = ![2 + t.val, 0] := (by decide +kernel : ∀ t : Fin grid2.N, _)
theorem idx2_5 : ∀ t : Fin cfg2.N, win2_5.index t = ![2 + t.val, 0] := (by decide +kernel : ∀ t : Fin grid2.N, _)
theorem idx2_6 : ∀ t : Fin cfg2.N, win2_6.index t = ![2 + t.val, 0] := (by decide +kernel : ∀ t : Fin grid2.N, _)
theorem idx2_7 : ∀ t : Fin cfg2.N, win2_7.index t = ![2 + t.val, 0] := (by decide +kernel : ∀ t : Fin grid2.N, _)

/-- A block of layer 1's summed gradients. -/
theorem block2_g (c : Dev nD) (t : Fin cfg2.N) (y : S176x1024.Idx) (i : S1408x1024.Idx) (h0 : (i 0).val = (2 + t.val) * 176 + (y 0).val) (h1 : (i 1).val = (y 1).val) :
    sumParts (iblk2 (V5 m ρ) c 0 t) y = total m c i := by
  have ht : t.val < 2 := t.isLt
  have hy : (y 0).val < 176 := (y 0).isLt
  refine Eq.trans (Finset.sum_congr rfl fun k _ => ?_) (total1 m c i (ix2 (⟨t.val * 176 + (y 0).val, by omega⟩ : Fin 352) (y 1)) (by show _ = 352 + (t.val * 176 + (y 0).val); omega) h1).symm
  blk_simp [iblk2]
  rw [staged2]
  refine congrArg (part2 m c) ?_
  blk_ext [idx2_0, ix2, ix3, Matrix.cons_val_zero, Matrix.cons_val_one]

/-- A block of the weights. -/
theorem block2_wts (c : Dev nD) (t : Fin cfg2.N) (y : S176x1024.Idx) (i : S1408x1024.Idx) (h0 : (i 0).val = (2 + t.val) * 176 + (y 0).val) (h1 : (i 1).val = (y 1).val) :
    (iblk2 (V5 m ρ) c 1 t : Vec Ideal S176x1024 .f32) y = wts m c i := by
  blk_simp [iblk2]
  refine (congrFun (W5_args m ρ c main_arg4 (by decide)) _).trans (congrArg (wts m c) ?_)
  blk_ext [idx2_1, Matrix.cons_val_zero, Matrix.cons_val_one]

/-- A block of the first moments. -/
theorem block2_mom (c : Dev nD) (t : Fin cfg2.N) (y : S176x1024.Idx) (i : S1408x1024.Idx) (h0 : (i 0).val = (2 + t.val) * 176 + (y 0).val) (h1 : (i 1).val = (y 1).val) :
    (iblk2 (V5 m ρ) c 2 t : Vec Ideal S176x1024 .f32) y = mom m c i := by
  blk_simp [iblk2]
  refine (congrFun (W5_args m ρ c main_arg5 (by decide)) _).trans (congrArg (mom m c) ?_)
  blk_ext [idx2_2, Matrix.cons_val_zero, Matrix.cons_val_one]

/-- A block of the second moments. -/
theorem block2_sq (c : Dev nD) (t : Fin cfg2.N) (y : S176x1024.Idx) (i : S1408x1024.Idx) (h0 : (i 0).val = (2 + t.val) * 176 + (y 0).val) (h1 : (i 1).val = (y 1).val) :
    (iblk2 (V5 m ρ) c 3 t : Vec Ideal S176x1024 .f32) y = sq m c i := by
  blk_simp [iblk2]
  refine (congrFun (W5_args m ρ c main_arg6 (by decide)) _).trans (congrArg (sq m c) ?_)
  blk_ext [idx2_3, Matrix.cons_val_zero, Matrix.cons_val_one]

/-- After the call for layer 1, the rows from this layer on of the array of the summed gradients. -/
theorem grad2 (c : Dev nD) (i : S1408x1024.Idx) (hi : 352 ≤ (i 0).val) :
    ((dat2 (V5 m ρ) c).arrAt 4 cfg2.N : Vec Ideal S1408x1024 .f32) i = total m c i := by
  refine (dat2 (V5 m ρ) c).arrAt_forall_of_coversWhere 4 (fun (i : S1408x1024.Idx) v => 352 ≤ (i 0).val → v = total m c i)
    (fun β => 2 ≤ β (0 : Fin _) ∧ β (0 : Fin _) < 4) (by decide +kernel) (fun t _ y _ => ?_) (fun j hj hl => ?_) i (Memref.isWhole_whole _) hi
  · blk_simp
    rw [after2_4]
    unfold outsAt2
    frame_out
    have e0 : ((((View.whole main_v5_0).slice (win2_4.rect t)).emb y : S1408x1024.Idx) 0).val = (2 + t.val) * 176 + (y 0).val := by
      refine Eq.trans (b := win2_4.index t 0 * 176 + (y 0).val) (ValueKit.view_emb_slice_whole_unit_val _ _ _ _ _ _) ?_
      rw [idx2_4]; rfl
    have e1 : ((((View.whole main_v5_0).slice (win2_4.rect t)).emb y : S1408x1024.Idx) 1).val = (y 1).val := by
      refine Eq.trans (b := win2_4.index t 1 * 1024 + (y 1).val) (ValueKit.view_emb_slice_whole_unit_val _ _ _ _ _ _) ?_
      rw [idx2_4]; exact (congrArg (· + _) (Nat.zero_mul 1024)).trans (Nat.zero_add _)
    exact ((parts2_apply _ y).trans (block2_g m ρ c t y _ e0 e1))
  · blk_simp [Pipeline.Window.cell_apply] at hj hl
    have hb : 704 ≤ (j 0).val := by omega
    refine (congrFun (A_eq2 (V5 m ρ) c 4) _).trans (Eq.trans (congrFun (?_ : _ = (dat1 (V3 m ρ) c).arrAt 4 cfg1.N) _) (grad1 m ρ c _ hb))
    show StableHlo.after hostOps2 _ _ = _
    after_results
    exact W4_arr m ρ c 4

/-- After the call for layer 1, the rows from this layer on of the array of the changes. -/
theorem delta2 (c : Dev nD) (i : S1408x1024.Idx) (hi : 352 ≤ (i 0).val) :
    ((dat2 (V5 m ρ) c).arrAt 5 cfg2.N : Vec Ideal S1408x1024 .f32) i = change (total m c i) (wts m c i) (mom m c i) (sq m c i) := by
  refine (dat2 (V5 m ρ) c).arrAt_forall_of_coversWhere 5 (fun (i : S1408x1024.Idx) v => 352 ≤ (i 0).val → v = change (total m c i) (wts m c i) (mom m c i) (sq m c i))
    (fun β => 2 ≤ β (0 : Fin _) ∧ β (0 : Fin _) < 4) (by decide +kernel) (fun t _ y _ => ?_) (fun j hj hl => ?_) i (Memref.isWhole_whole _) hi
  · blk_simp
    rw [after2_5]
    unfold outsAt2
    frame_out
    have e0 : ((((View.whole main_v5_1).slice (win2_5.rect t)).emb y : S1408x1024.Idx) 0).val = (2 + t.val) * 176 + (y 0).val := by
      refine Eq.trans (b := win2_5.index t 0 * 176 + (y 0).val) (ValueKit.view_emb_slice_whole_unit_val _ _ _ _ _ _) ?_
      rw [idx2_5]; rfl
    have e1 : ((((View.whole main_v5_1).slice (win2_5.rect t)).emb y : S1408x1024.Idx) 1).val = (y 1).val := by
      refine Eq.trans (b := win2_5.index t 1 * 1024 + (y 1).val) (ValueKit.view_emb_slice_whole_unit_val _ _ _ _ _ _) ?_
      rw [idx2_5]; exact (congrArg (· + _) (Nat.zero_mul 1024)).trans (Nat.zero_add _)
    exact (show _ = change _ _ _ _ from congr (congr (congrArg₂ change ((parts2_apply _ y).trans (block2_g m ρ c t y _ e0 e1)) (block2_wts m ρ c t y _ e0 e1)) (block2_mom m ρ c t y _ e0 e1)) (block2_sq m ρ c t y _ e0 e1))
  · blk_simp [Pipeline.Window.cell_apply] at hj hl
    have hb : 704 ≤ (j 0).val := by omega
    refine (congrFun (A_eq2 (V5 m ρ) c 5) _).trans (Eq.trans (congrFun (?_ : _ = (dat1 (V3 m ρ) c).arrAt 5 cfg1.N) _) (delta1 m ρ c _ hb))
    show StableHlo.after hostOps2 _ _ = _
    after_results
    exact W4_arr m ρ c 5

/-- After the call for layer 1, the rows from this layer on of the array of the first moments. -/
theorem moment2 (c : Dev nD) (i : S1408x1024.Idx) (hi : 352 ≤ (i 0).val) :
    ((dat2 (V5 m ρ) c).arrAt 6 cfg2.N : Vec Ideal S1408x1024 .f32) i = first (total m c i) (mom m c i) := by
  refine (dat2 (V5 m ρ) c).arrAt_forall_of_coversWhere 6 (fun (i : S1408x1024.Idx) v => 352 ≤ (i 0).val → v = first (total m c i) (mom m c i))
    (fun β => 2 ≤ β (0 : Fin _) ∧ β (0 : Fin _) < 4) (by decide +kernel) (fun t _ y _ => ?_) (fun j hj hl => ?_) i (Memref.isWhole_whole _) hi
  · blk_simp
    rw [after2_6]
    unfold outsAt2
    frame_out
    have e0 : ((((View.whole main_v5_2).slice (win2_6.rect t)).emb y : S1408x1024.Idx) 0).val = (2 + t.val) * 176 + (y 0).val := by
      refine Eq.trans (b := win2_6.index t 0 * 176 + (y 0).val) (ValueKit.view_emb_slice_whole_unit_val _ _ _ _ _ _) ?_
      rw [idx2_6]; rfl
    have e1 : ((((View.whole main_v5_2).slice (win2_6.rect t)).emb y : S1408x1024.Idx) 1).val = (y 1).val := by
      refine Eq.trans (b := win2_6.index t 1 * 1024 + (y 1).val) (ValueKit.view_emb_slice_whole_unit_val _ _ _ _ _ _) ?_
      rw [idx2_6]; exact (congrArg (· + _) (Nat.zero_mul 1024)).trans (Nat.zero_add _)
    exact (show _ = first _ _ from congrArg₂ first ((parts2_apply _ y).trans (block2_g m ρ c t y _ e0 e1)) (block2_mom m ρ c t y _ e0 e1))
  · blk_simp [Pipeline.Window.cell_apply] at hj hl
    have hb : 704 ≤ (j 0).val := by omega
    refine (congrFun (A_eq2 (V5 m ρ) c 6) _).trans (Eq.trans (congrFun (?_ : _ = (dat1 (V3 m ρ) c).arrAt 6 cfg1.N) _) (moment1 m ρ c _ hb))
    show StableHlo.after hostOps2 _ _ = _
    after_results
    exact W4_arr m ρ c 6

/-- After the call for layer 1, the rows from this layer on of the array of the second moments. -/
theorem square2 (c : Dev nD) (i : S1408x1024.Idx) (hi : 352 ≤ (i 0).val) :
    ((dat2 (V5 m ρ) c).arrAt 7 cfg2.N : Vec Ideal S1408x1024 .f32) i = second (total m c i) (sq m c i) := by
  refine (dat2 (V5 m ρ) c).arrAt_forall_of_coversWhere 7 (fun (i : S1408x1024.Idx) v => 352 ≤ (i 0).val → v = second (total m c i) (sq m c i))
    (fun β => 2 ≤ β (0 : Fin _) ∧ β (0 : Fin _) < 4) (by decide +kernel) (fun t _ y _ => ?_) (fun j hj hl => ?_) i (Memref.isWhole_whole _) hi
  · blk_simp
    rw [after2_7]
    unfold outsAt2
    frame_out
    have e0 : ((((View.whole main_v5_3).slice (win2_7.rect t)).emb y : S1408x1024.Idx) 0).val = (2 + t.val) * 176 + (y 0).val := by
      refine Eq.trans (b := win2_7.index t 0 * 176 + (y 0).val) (ValueKit.view_emb_slice_whole_unit_val _ _ _ _ _ _) ?_
      rw [idx2_7]; rfl
    have e1 : ((((View.whole main_v5_3).slice (win2_7.rect t)).emb y : S1408x1024.Idx) 1).val = (y 1).val := by
      refine Eq.trans (b := win2_7.index t 1 * 1024 + (y 1).val) (ValueKit.view_emb_slice_whole_unit_val _ _ _ _ _ _) ?_
      rw [idx2_7]; exact (congrArg (· + _) (Nat.zero_mul 1024)).trans (Nat.zero_add _)
    exact (show _ = second _ _ from congrArg₂ second ((parts2_apply _ y).trans (block2_g m ρ c t y _ e0 e1)) (block2_sq m ρ c t y _ e0 e1))
  · blk_simp [Pipeline.Window.cell_apply] at hj hl
    have hb : 704 ≤ (j 0).val := by omega
    refine (congrFun (A_eq2 (V5 m ρ) c 7) _).trans (Eq.trans (congrFun (?_ : _ = (dat1 (V3 m ρ) c).arrAt 7 cfg1.N) _) (square1 m ρ c _ hb))
    show StableHlo.after hostOps2 _ _ = _
    after_results
    exact W4_arr m ρ c 7

/-- Layer 0's parts are staged narrowed, which over the extended reals is as they are. -/
theorem staged3 (c : Dev nD) : V7 m ρ c main_v6 = (truncf .bf16 (part3 m c) bitsLt_bf16_f32 : FVec Ideal S8x352x1024 .bf16) := by
  show StableHlo.after hostOps3 _ _ = _
  after_results
  exact congrArg (fun x : Vec Ideal S8x352x1024 .f32 => (truncf .bf16 x bitsLt_bf16_f32 : FVec Ideal S8x352x1024 .bf16)) (W6_args m ρ c main_arg3 (by decide))

/-- The sum of a block's eight parts, at an index. -/
theorem parts3_apply (x : Vec Ideal S8x176x1024 .bf16) (y : S176x1024.Idx) :
    k3_pay4 (slice0 x) (slice1 x) (slice2 x) (slice3 x) (slice4 x) (slice5 x) (slice6 x) (slice7 x) y = sumParts x y :=
  parts0_apply x y

theorem idx3_0 : ∀ t : Fin cfg3.N, win3_0.index t = ![0, t.val, 0] := (by decide +kernel : ∀ t : Fin grid3.N, _)
theorem idx3_1 : ∀ t : Fin cfg3.N, win3_1.index t = ![0 + t.val, 0] := (by decide +kernel : ∀ t : Fin grid3.N, _)
theorem idx3_2 : ∀ t : Fin cfg3.N, win3_2.index t = ![0 + t.val, 0] := (by decide +kernel : ∀ t : Fin grid3.N, _)
theorem idx3_3 : ∀ t : Fin cfg3.N, win3_3.index t = ![0 + t.val, 0] := (by decide +kernel : ∀ t : Fin grid3.N, _)
theorem idx3_4 : ∀ t : Fin cfg3.N, win3_4.index t = ![0 + t.val, 0] := (by decide +kernel : ∀ t : Fin grid3.N, _)
theorem idx3_5 : ∀ t : Fin cfg3.N, win3_5.index t = ![0 + t.val, 0] := (by decide +kernel : ∀ t : Fin grid3.N, _)
theorem idx3_6 : ∀ t : Fin cfg3.N, win3_6.index t = ![0 + t.val, 0] := (by decide +kernel : ∀ t : Fin grid3.N, _)
theorem idx3_7 : ∀ t : Fin cfg3.N, win3_7.index t = ![0 + t.val, 0] := (by decide +kernel : ∀ t : Fin grid3.N, _)

/-- A block of layer 0's summed gradients. -/
theorem block3_g (c : Dev nD) (t : Fin cfg3.N) (y : S176x1024.Idx) (i : S1408x1024.Idx) (h0 : (i 0).val = (0 + t.val) * 176 + (y 0).val) (h1 : (i 1).val = (y 1).val) :
    sumParts (iblk3 (V7 m ρ) c 0 t) y = total m c i := by
  have ht : t.val < 2 := t.isLt
  have hy : (y 0).val < 176 := (y 0).isLt
  refine Eq.trans (Finset.sum_congr rfl fun k _ => ?_) (total0 m c i (ix2 (⟨t.val * 176 + (y 0).val, by omega⟩ : Fin 352) (y 1)) (by show _ = 0 + (t.val * 176 + (y 0).val); omega) h1).symm
  blk_simp [iblk3]
  rw [staged3]
  refine congrArg (part3 m c) ?_
  blk_ext [idx3_0, ix2, ix3, Matrix.cons_val_zero, Matrix.cons_val_one]

/-- A block of the weights. -/
theorem block3_wts (c : Dev nD) (t : Fin cfg3.N) (y : S176x1024.Idx) (i : S1408x1024.Idx) (h0 : (i 0).val = (0 + t.val) * 176 + (y 0).val) (h1 : (i 1).val = (y 1).val) :
    (iblk3 (V7 m ρ) c 1 t : Vec Ideal S176x1024 .f32) y = wts m c i := by
  blk_simp [iblk3]
  refine (congrFun (W7_args m ρ c main_arg4 (by decide)) _).trans (congrArg (wts m c) ?_)
  blk_ext [idx3_1, Matrix.cons_val_zero, Matrix.cons_val_one]

/-- A block of the first moments. -/
theorem block3_mom (c : Dev nD) (t : Fin cfg3.N) (y : S176x1024.Idx) (i : S1408x1024.Idx) (h0 : (i 0).val = (0 + t.val) * 176 + (y 0).val) (h1 : (i 1).val = (y 1).val) :
    (iblk3 (V7 m ρ) c 2 t : Vec Ideal S176x1024 .f32) y = mom m c i := by
  blk_simp [iblk3]
  refine (congrFun (W7_args m ρ c main_arg5 (by decide)) _).trans (congrArg (mom m c) ?_)
  blk_ext [idx3_2, Matrix.cons_val_zero, Matrix.cons_val_one]

/-- A block of the second moments. -/
theorem block3_sq (c : Dev nD) (t : Fin cfg3.N) (y : S176x1024.Idx) (i : S1408x1024.Idx) (h0 : (i 0).val = (0 + t.val) * 176 + (y 0).val) (h1 : (i 1).val = (y 1).val) :
    (iblk3 (V7 m ρ) c 3 t : Vec Ideal S176x1024 .f32) y = sq m c i := by
  blk_simp [iblk3]
  refine (congrFun (W7_args m ρ c main_arg6 (by decide)) _).trans (congrArg (sq m c) ?_)
  blk_ext [idx3_3, Matrix.cons_val_zero, Matrix.cons_val_one]

/-- After the call for layer 0, the rows from this layer on of the array of the summed gradients. -/
theorem grad3 (c : Dev nD) (i : S1408x1024.Idx) (hi : 0 ≤ (i 0).val) :
    ((dat3 (V7 m ρ) c).arrAt 4 cfg3.N : Vec Ideal S1408x1024 .f32) i = total m c i := by
  refine (dat3 (V7 m ρ) c).arrAt_forall_of_coversWhere 4 (fun (i : S1408x1024.Idx) v => 0 ≤ (i 0).val → v = total m c i)
    (fun β => 0 ≤ β (0 : Fin _) ∧ β (0 : Fin _) < 2) (by decide +kernel) (fun t _ y _ => ?_) (fun j hj hl => ?_) i (Memref.isWhole_whole _) hi
  · blk_simp
    rw [after3_4]
    unfold outsAt3
    frame_out
    have e0 : ((((View.whole main_v7_0).slice (win3_4.rect t)).emb y : S1408x1024.Idx) 0).val = (0 + t.val) * 176 + (y 0).val := by
      refine Eq.trans (b := win3_4.index t 0 * 176 + (y 0).val) (ValueKit.view_emb_slice_whole_unit_val _ _ _ _ _ _) ?_
      rw [idx3_4]; rfl
    have e1 : ((((View.whole main_v7_0).slice (win3_4.rect t)).emb y : S1408x1024.Idx) 1).val = (y 1).val := by
      refine Eq.trans (b := win3_4.index t 1 * 1024 + (y 1).val) (ValueKit.view_emb_slice_whole_unit_val _ _ _ _ _ _) ?_
      rw [idx3_4]; exact (congrArg (· + _) (Nat.zero_mul 1024)).trans (Nat.zero_add _)
    exact ((parts3_apply _ y).trans (block3_g m ρ c t y _ e0 e1))
  · blk_simp [Pipeline.Window.cell_apply] at hj hl
    have hb : 352 ≤ (j 0).val := by omega
    refine (congrFun (A_eq3 (V7 m ρ) c 4) _).trans (Eq.trans (congrFun (?_ : _ = (dat2 (V5 m ρ) c).arrAt 4 cfg2.N) _) (grad2 m ρ c _ hb))
    show StableHlo.after hostOps3 _ _ = _
    after_results
    exact W6_arr m ρ c 4

/-- After the call for layer 0, the rows from this layer on of the array of the changes. -/
theorem delta3 (c : Dev nD) (i : S1408x1024.Idx) (hi : 0 ≤ (i 0).val) :
    ((dat3 (V7 m ρ) c).arrAt 5 cfg3.N : Vec Ideal S1408x1024 .f32) i = change (total m c i) (wts m c i) (mom m c i) (sq m c i) := by
  refine (dat3 (V7 m ρ) c).arrAt_forall_of_coversWhere 5 (fun (i : S1408x1024.Idx) v => 0 ≤ (i 0).val → v = change (total m c i) (wts m c i) (mom m c i) (sq m c i))
    (fun β => 0 ≤ β (0 : Fin _) ∧ β (0 : Fin _) < 2) (by decide +kernel) (fun t _ y _ => ?_) (fun j hj hl => ?_) i (Memref.isWhole_whole _) hi
  · blk_simp
    rw [after3_5]
    unfold outsAt3
    frame_out
    have e0 : ((((View.whole main_v7_1).slice (win3_5.rect t)).emb y : S1408x1024.Idx) 0).val = (0 + t.val) * 176 + (y 0).val := by
      refine Eq.trans (b := win3_5.index t 0 * 176 + (y 0).val) (ValueKit.view_emb_slice_whole_unit_val _ _ _ _ _ _) ?_
      rw [idx3_5]; rfl
    have e1 : ((((View.whole main_v7_1).slice (win3_5.rect t)).emb y : S1408x1024.Idx) 1).val = (y 1).val := by
      refine Eq.trans (b := win3_5.index t 1 * 1024 + (y 1).val) (ValueKit.view_emb_slice_whole_unit_val _ _ _ _ _ _) ?_
      rw [idx3_5]; exact (congrArg (· + _) (Nat.zero_mul 1024)).trans (Nat.zero_add _)
    exact (show _ = change _ _ _ _ from congr (congr (congrArg₂ change ((parts3_apply _ y).trans (block3_g m ρ c t y _ e0 e1)) (block3_wts m ρ c t y _ e0 e1)) (block3_mom m ρ c t y _ e0 e1)) (block3_sq m ρ c t y _ e0 e1))
  · blk_simp [Pipeline.Window.cell_apply] at hj hl
    have hb : 352 ≤ (j 0).val := by omega
    refine (congrFun (A_eq3 (V7 m ρ) c 5) _).trans (Eq.trans (congrFun (?_ : _ = (dat2 (V5 m ρ) c).arrAt 5 cfg2.N) _) (delta2 m ρ c _ hb))
    show StableHlo.after hostOps3 _ _ = _
    after_results
    exact W6_arr m ρ c 5

/-- After the call for layer 0, the rows from this layer on of the array of the first moments. -/
theorem moment3 (c : Dev nD) (i : S1408x1024.Idx) (hi : 0 ≤ (i 0).val) :
    ((dat3 (V7 m ρ) c).arrAt 6 cfg3.N : Vec Ideal S1408x1024 .f32) i = first (total m c i) (mom m c i) := by
  refine (dat3 (V7 m ρ) c).arrAt_forall_of_coversWhere 6 (fun (i : S1408x1024.Idx) v => 0 ≤ (i 0).val → v = first (total m c i) (mom m c i))
    (fun β => 0 ≤ β (0 : Fin _) ∧ β (0 : Fin _) < 2) (by decide +kernel) (fun t _ y _ => ?_) (fun j hj hl => ?_) i (Memref.isWhole_whole _) hi
  · blk_simp
    rw [after3_6]
    unfold outsAt3
    frame_out
    have e0 : ((((View.whole main_v7_2).slice (win3_6.rect t)).emb y : S1408x1024.Idx) 0).val = (0 + t.val) * 176 + (y 0).val := by
      refine Eq.trans (b := win3_6.index t 0 * 176 + (y 0).val) (ValueKit.view_emb_slice_whole_unit_val _ _ _ _ _ _) ?_
      rw [idx3_6]; rfl
    have e1 : ((((View.whole main_v7_2).slice (win3_6.rect t)).emb y : S1408x1024.Idx) 1).val = (y 1).val := by
      refine Eq.trans (b := win3_6.index t 1 * 1024 + (y 1).val) (ValueKit.view_emb_slice_whole_unit_val _ _ _ _ _ _) ?_
      rw [idx3_6]; exact (congrArg (· + _) (Nat.zero_mul 1024)).trans (Nat.zero_add _)
    exact (show _ = first _ _ from congrArg₂ first ((parts3_apply _ y).trans (block3_g m ρ c t y _ e0 e1)) (block3_mom m ρ c t y _ e0 e1))
  · blk_simp [Pipeline.Window.cell_apply] at hj hl
    have hb : 352 ≤ (j 0).val := by omega
    refine (congrFun (A_eq3 (V7 m ρ) c 6) _).trans (Eq.trans (congrFun (?_ : _ = (dat2 (V5 m ρ) c).arrAt 6 cfg2.N) _) (moment2 m ρ c _ hb))
    show StableHlo.after hostOps3 _ _ = _
    after_results
    exact W6_arr m ρ c 6

/-- After the call for layer 0, the rows from this layer on of the array of the second moments. -/
theorem square3 (c : Dev nD) (i : S1408x1024.Idx) (hi : 0 ≤ (i 0).val) :
    ((dat3 (V7 m ρ) c).arrAt 7 cfg3.N : Vec Ideal S1408x1024 .f32) i = second (total m c i) (sq m c i) := by
  refine (dat3 (V7 m ρ) c).arrAt_forall_of_coversWhere 7 (fun (i : S1408x1024.Idx) v => 0 ≤ (i 0).val → v = second (total m c i) (sq m c i))
    (fun β => 0 ≤ β (0 : Fin _) ∧ β (0 : Fin _) < 2) (by decide +kernel) (fun t _ y _ => ?_) (fun j hj hl => ?_) i (Memref.isWhole_whole _) hi
  · blk_simp
    rw [after3_7]
    unfold outsAt3
    frame_out
    have e0 : ((((View.whole main_v7_3).slice (win3_7.rect t)).emb y : S1408x1024.Idx) 0).val = (0 + t.val) * 176 + (y 0).val := by
      refine Eq.trans (b := win3_7.index t 0 * 176 + (y 0).val) (ValueKit.view_emb_slice_whole_unit_val _ _ _ _ _ _) ?_
      rw [idx3_7]; rfl
    have e1 : ((((View.whole main_v7_3).slice (win3_7.rect t)).emb y : S1408x1024.Idx) 1).val = (y 1).val := by
      refine Eq.trans (b := win3_7.index t 1 * 1024 + (y 1).val) (ValueKit.view_emb_slice_whole_unit_val _ _ _ _ _ _) ?_
      rw [idx3_7]; exact (congrArg (· + _) (Nat.zero_mul 1024)).trans (Nat.zero_add _)
    exact (show _ = second _ _ from congrArg₂ second ((parts3_apply _ y).trans (block3_g m ρ c t y _ e0 e1)) (block3_sq m ρ c t y _ e0 e1))
  · blk_simp [Pipeline.Window.cell_apply] at hj hl
    have hb : 352 ≤ (j 0).val := by omega
    refine (congrFun (A_eq3 (V7 m ρ) c 7) _).trans (Eq.trans (congrFun (?_ : _ = (dat2 (V5 m ρ) c).arrAt 7 cfg2.N) _) (square2 m ρ c _ hb))
    show StableHlo.after hostOps3 _ _ = _
    after_results
    exact W6_arr m ρ c 7

/-- After the last call, the array of the summed gradients is the reference's. -/
theorem final_grad (c : Dev nD) : W8 m ρ c (Proc.devRef .tc main_v7_0) = Cert.Reference15Ideal.Read.val_main_v4 (part0 m c) (part1 m c) (part2 m c) (part3 m c) :=
  (W8_arr m ρ c 4).trans (funext fun i => grad3 m ρ c i (Nat.zero_le _))

/-- After the last call, the array of the changes is the reference's. -/
theorem final_delta (c : Dev nD) : W8 m ρ c (Proc.devRef .tc main_v7_1) = Cert.Reference15Ideal.Read.val_main_v28 (part0 m c) (part1 m c) (part2 m c) (part3 m c) (wts m c) (mom m c) (sq m c) :=
  (W8_arr m ρ c 5).trans (funext fun i => (delta3 m ρ c i (Nat.zero_le _)).trans (ref_change m c i).symm)

/-- After the last call, the array of the first moments is the reference's. -/
theorem final_moment (c : Dev nD) : W8 m ρ c (Proc.devRef .tc main_v7_2) = Cert.Reference15Ideal.Read.val_main_v9 (part0 m c) (part1 m c) (part2 m c) (part3 m c) (mom m c) :=
  (W8_arr m ρ c 6).trans (funext fun i => (moment3 m ρ c i (Nat.zero_le _)).trans (ref_first m c i).symm)

/-- After the last call, the array of the second moments is the reference's. -/
theorem final_square (c : Dev nD) : W8 m ρ c (Proc.devRef .tc main_v7_3) = Cert.Reference15Ideal.Read.val_main_v15 (part0 m c) (part1 m c) (part2 m c) (part3 m c) (sq m c) :=
  (W8_arr m ρ c 7).trans (funext fun i => (square3 m ρ c i (Nat.zero_le _)).trans (ref_second m c i).symm)

theorem frame_kernel : Cert.quiescent_Kernel15 := fun m ρ _ => Cert.Kernel15.Gen.frame m ρ

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run m ρ)

open Idealize.SL Idealize.SL.RA Idealize.SL.BI Idealize.SL.BI.BIBase Idealize.SL.BI.Laws Idealize.SL.ProofMode Idealize.ShloMosaic.Rounds in
open scoped Idealize.SL.BI in
set_option backward.isDefEq.respectTransparency.types false in
/-- The four calls run one after another; every array that outlives them ends at the last boundary's contents. -/
theorem run_calls : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The value: the four calls leave the reference's four results. -/
theorem value : Cert.algebraic_Kernel15Ideal_Reference15Ideal := fun m ρ m' ρ' _ agree => by
  have key : ∀ c : Dev nD, ∀ (x0 x1 x2 x3 : Vec Ideal S8x352x1024 .f32) (x4 x5 x6 : Vec Ideal S1408x1024 .f32),
      x0 = part0 m c → x1 = part1 m c → x2 = part2 m c → x3 = part3 m c → x4 = wts m c → x5 = mom m c → x6 = sq m c →
      Cert.Reference15Ideal.Read.val_main_v4 x0 x1 x2 x3 = Cert.Reference15Ideal.Read.val_main_v4 (part0 m c) (part1 m c) (part2 m c) (part3 m c)
      ∧ Cert.Reference15Ideal.Read.val_main_v28 x0 x1 x2 x3 x4 x5 x6 = Cert.Reference15Ideal.Read.val_main_v28 (part0 m c) (part1 m c) (part2 m c) (part3 m c) (wts m c) (mom m c) (sq m c)
      ∧ Cert.Reference15Ideal.Read.val_main_v9 x0 x1 x2 x3 x5 = Cert.Reference15Ideal.Read.val_main_v9 (part0 m c) (part1 m c) (part2 m c) (part3 m c) (mom m c)
      ∧ Cert.Reference15Ideal.Read.val_main_v15 x0 x1 x2 x3 x6 = Cert.Reference15Ideal.Read.val_main_v15 (part0 m c) (part1 m c) (part2 m c) (part3 m c) (sq m c) := by
    rintro c x0 x1 x2 x3 x4 x5 x6 rfl rfl rfl rfl rfl rfl rfl
    exact ⟨rfl, rfl, rfl, rfl⟩
  refine ⟨_, _, _, _, (θ_run defs _ _).mono (fun _ h c => ⟨(h c _ (mem_uc main_v7_0 (by decide))).trans (final_grad m ρ c), (h c _ (mem_uc main_v7_1 (by decide))).trans (final_delta m ρ c),
      (h c _ (mem_uc main_v7_2 (by decide))).trans (final_moment m ρ c), (h c _ (mem_uc main_v7_3 (by decide))).trans (final_square m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c)⟩) (run_calls m ρ),
    (θ_run Cert.Reference15Ideal.defs _ _).mono (fun _ h c => ?_) (Cert.Reference15Ideal.Value.run m' ρ')⟩
  obtain ⟨a0, a1, a2, a3, a4, a5, a6⟩ := agree c
  obtain ⟨k0, k1, k2, k3⟩ := key c _ _ _ _ _ _ _ a0 a1 a2 a3 a4 a5 a6
  obtain ⟨h0, h1, h2, h3, h4⟩ := h c
  exact ⟨h0.trans ((Cert.Reference15Ideal.Read.val_main_v4_eq _ _ _ _).trans k0), h1.trans ((Cert.Reference15Ideal.Read.val_main_v28_eq _ _ _ _ _ _ _).trans k1),
    h2.trans ((Cert.Reference15Ideal.Read.val_main_v9_eq _ _ _ _ _).trans k2), h3.trans ((Cert.Reference15Ideal.Read.val_main_v15_eq _ _ _ _ _).trans k3), h4⟩

end Cert.Proof.UpdateFfnOut

end
-- ==== Proof.Update.UpdateIn.lean ====
/-
  The mixer's first weights' steps: four calls, one for each layer, the last layer first.
-/
module

public import proofs.«01_k».proof.Defs
public import proofs.«01_k».proof.Proof.Update.Basic
public import proofs.«01_k».proof.Proof.Gen.Kernel16.Frame
public import proofs.«01_k».proof.Proof.Gen.Kernel16Ideal.Frame
public import proofs.«01_k».proof.Proof.Gen.Reference16Ideal.Read
public import Idealize.ShloMosaic.PureOps.Ideal
public import Idealize.ShloMosaic.Lib.ValueIdx
public import Idealize.ShloMosaic.Lib.IdealHost
public import Idealize.ShloMosaic.Lib.Pipeline.Value
public import Idealize.ShloMosaic.Lib.Quiescent
public import Idealize.ShloMosaic.Lib.Pipeline.ValueKit.Geometry
public import Idealize.ShloMosaic.Lib.Pipeline.ValueKit.Partial
public import Idealize.ShloMosaic.Lib.Pipeline.ValueKit.Acc
public import Idealize.ShloMosaic.Lib.Pipeline.ReadBack

@[expose] public section

noncomputable section

namespace Cert.Proof.UpdateIn

open Cert.Kernel16Ideal Cert.Kernel16Ideal.Gen Cert.Proof.Update
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The argument arrays: the four layers' parts (the last layer's first), the weights and the two moments. -/
abbrev part0 (c : Dev nD) : Vec Ideal S8x1024x1154 .f32 := m ((c : Thread nD τ).loc main_arg0)
abbrev part1 (c : Dev nD) : Vec Ideal S8x1024x1154 .f32 := m ((c : Thread nD τ).loc main_arg1)
abbrev part2 (c : Dev nD) : Vec Ideal S8x1024x1154 .f32 := m ((c : Thread nD τ).loc main_arg2)
abbrev part3 (c : Dev nD) : Vec Ideal S8x1024x1154 .f32 := m ((c : Thread nD τ).loc main_arg3)
abbrev wts (c : Dev nD) : Vec Ideal S4096x1154 .f32 := m ((c : Thread nD τ).loc main_arg4)
abbrev mom (c : Dev nD) : Vec Ideal S4096x1154 .f32 := m ((c : Thread nD τ).loc main_arg5)
abbrev sq (c : Dev nD) : Vec Ideal S4096x1154 .f32 := m ((c : Thread nD τ).loc main_arg6)

/-- The summed gradients, the layers' rows one after another. -/
abbrev total (c : Dev nD) : Vec Ideal S4096x1154 .f32 := Cert.Reference16Ideal.Read.val_main_v4 (part0 m c) (part1 m c) (part2 m c) (part3 m c)

/-- The rows of layer 3 of the summed gradients. -/
theorem total3 (c : Dev nD) (i : S4096x1154.Idx) (y : Cert.Reference16Ideal.S1024x1154.Idx) (h : (i 0).val = 3072 + (y 0).val) (h' : (i 1).val = (y 1).val) :
    total m c i = ∑ k : Fin 8, part0 m c (ix3 k (y 0) (y 1)) := by
  refine (concatenate_apply_piece (t := S4096x1154) (0 : Fin 2) _ _ i 3 (by show 3 < 4; decide) Cert.Reference16Ideal.S1024x1154 (Cert.Reference16Ideal.Read.val_main_v3 (F := Ideal) (part0 m c)) rfl rfl 3072 rfl y
    (fun b hb => ?_) h.symm).trans ?_
  · match b, hb with
    | ⟨0, _⟩, hb => exact absurd rfl hb
    | ⟨1, _⟩, _ => exact h'.symm
  · refine (Cert.Reference16Ideal.Read.val_main_v3_apply _ y).trans ((congrArg (· + _) (?_ : _ = (0 : EReal))).trans ((zero_add _).trans ?_))
    · exact Ideal.ofBits_zero_f32
    · refine Finset.sum_congr rfl fun k _ => congrArg (part0 m c) ?_
      funext a; match a with | ⟨0, _⟩ => rfl | ⟨1, _⟩ => rfl | ⟨2, _⟩ => rfl

/-- The rows of layer 2 of the summed gradients. -/
theorem total2 (c : Dev nD) (i : S4096x1154.Idx) (y : Cert.Reference16Ideal.S1024x1154.Idx) (h : (i 0).val = 2048 + (y 0).val) (h' : (i 1).val = (y 1).val) :
    total m c i = ∑ k : Fin 8, part1 m c (ix3 k (y 0) (y 1)) := by
  refine (concatenate_apply_piece (t := S4096x1154) (0 : Fin 2) _ _ i 2 (by show 2 < 4; decide) Cert.Reference16Ideal.S1024x1154 (Cert.Reference16Ideal.Read.val_main_v2 (F := Ideal) (part1 m c)) rfl rfl 2048 rfl y
    (fun b hb => ?_) h.symm).trans ?_
  · match b, hb with
    | ⟨0, _⟩, hb => exact absurd rfl hb
    | ⟨1, _⟩, _ => exact h'.symm
  · refine (Cert.Reference16Ideal.Read.val_main_v2_apply _ y).trans ((congrArg (· + _) (?_ : _ = (0 : EReal))).trans ((zero_add _).trans ?_))
    · exact Ideal.ofBits_zero_f32
    · refine Finset.sum_congr rfl fun k _ => congrArg (part1 m c) ?_
      funext a; match a with | ⟨0, _⟩ => rfl | ⟨1, _⟩ => rfl | ⟨2, _⟩ => rfl

/-- The rows of layer 1 of the summed gradients. -/
theorem total1 (c : Dev nD) (i : S4096x1154.Idx) (y : Cert.Reference16Ideal.S1024x1154.Idx) (h : (i 0).val = 1024 + (y 0).val) (h' : (i 1).val = (y 1).val) :
    total m c i = ∑ k : Fin 8, part2 m c (ix3 k (y 0) (y 1)) := by
  refine (concatenate_apply_piece (t := S4096x1154) (0 : Fin 2) _ _ i 1 (by show 1 < 4; decide) Cert.Reference16Ideal.S1024x1154 (Cert.Reference16Ideal.Read.val_main_v1 (F := Ideal) (part2 m c)) rfl rfl 1024 rfl y
    (fun b hb => ?_) h.symm).trans ?_
  · match b, hb with
    | ⟨0, _⟩, hb => exact absurd rfl hb
    | ⟨1, _⟩, _ => exact h'.symm
  · refine (Cert.Reference16Ideal.Read.val_main_v1_apply _ y).trans ((congrArg (· + _) (?_ : _ = (0 : EReal))).trans ((zero_add _).trans ?_))
    · exact Ideal.ofBits_zero_f32
    · refine Finset.sum_congr rfl fun k _ => congrArg (part2 m c) ?_
      funext a; match a with | ⟨0, _⟩ => rfl | ⟨1, _⟩ => rfl | ⟨2, _⟩ => rfl

/-- The rows of layer 0 of the summed gradients. -/
theorem total0 (c : Dev nD) (i : S4096x1154.Idx) (y : Cert.Reference16Ideal.S1024x1154.Idx) (h : (i 0).val = 0 + (y 0).val) (h' : (i 1).val = (y 1).val) :
    total m c i = ∑ k : Fin 8, part3 m c (ix3 k (y 0) (y 1)) := by
  refine (concatenate_apply_piece (t := S4096x1154) (0 : Fin 2) _ _ i 0 (by show 0 < 4; decide) Cert.Reference16Ideal.S1024x1154 (Cert.Reference16Ideal.Read.val_main_v0 (F := Ideal) (part3 m c)) rfl rfl 0 rfl y
    (fun b hb => ?_) h.symm).trans ?_
  · match b, hb with
    | ⟨0, _⟩, hb => exact absurd rfl hb
    | ⟨1, _⟩, _ => exact h'.symm
  · refine (Cert.Reference16Ideal.Read.val_main_v0_apply _ y).trans ((congrArg (· + _) (?_ : _ = (0 : EReal))).trans ((zero_add _).trans ?_))
    · exact Ideal.ofBits_zero_f32
    · refine Finset.sum_congr rfl fun k _ => congrArg (part3 m c) ?_
      funext a; match a with | ⟨0, _⟩ => rfl | ⟨1, _⟩ => rfl | ⟨2, _⟩ => rfl

/-- The reference's new first moment, at an index. -/
theorem ref_first (c : Dev nD) (i : S4096x1154.Idx) :
    Cert.Reference16Ideal.Read.val_main_v9 (part0 m c) (part1 m c) (part2 m c) (part3 m c) (mom m c) i = first (total m c i) (mom m c i) := by
  rw [Cert.Reference16Ideal.Read.val_main_v9_apply, Cert.Reference16Ideal.Read.val_main_v6_apply, Cert.Reference16Ideal.Read.val_main_v8_apply, Cert.Reference16Ideal.Read.val_main_v5_apply, Cert.Reference16Ideal.Read.val_main_v7_apply]
  rfl

/-- The reference's new second moment, at an index. -/
theorem ref_second (c : Dev nD) (i : S4096x1154.Idx) :
    Cert.Reference16Ideal.Read.val_main_v15 (part0 m c) (part1 m c) (part2 m c) (part3 m c) (sq m c) i = second (total m c i) (sq m c i) := by
  rw [Cert.Reference16Ideal.Read.val_main_v15_apply, Cert.Reference16Ideal.Read.val_main_v11_apply, Cert.Reference16Ideal.Read.val_main_v14_apply, Cert.Reference16Ideal.Read.val_main_v10_apply, Cert.Reference16Ideal.Read.val_main_v13_apply]
  rfl

/-- The reference's change, at an index. -/
theorem ref_change (c : Dev nD) (i : S4096x1154.Idx) :
    Cert.Reference16Ideal.Read.val_main_v28 (part0 m c) (part1 m c) (part2 m c) (part3 m c) (wts m c) (mom m c) (sq m c) i
      = change (total m c i) (wts m c i) (mom m c i) (sq m c i) := by
  simp only [Cert.Reference16Ideal.Read.val_main_v16_apply, Cert.Reference16Ideal.Read.val_main_v17_apply, Cert.Reference16Ideal.Read.val_main_v18_apply, Cert.Reference16Ideal.Read.val_main_v19_apply, Cert.Reference16Ideal.Read.val_main_v20_apply, Cert.Reference16Ideal.Read.val_main_v21_apply, Cert.Reference16Ideal.Read.val_main_v22_apply, Cert.Reference16Ideal.Read.val_main_v23_apply, Cert.Reference16Ideal.Read.val_main_v24_apply, Cert.Reference16Ideal.Read.val_main_v25_apply, Cert.Reference16Ideal.Read.val_main_v26_apply, Cert.Reference16Ideal.Read.val_main_v27_apply, Cert.Reference16Ideal.Read.val_main_v28_apply, ref_first, ref_second]
  rfl

/-- Layer 3's parts are staged narrowed, which over the extended reals is as they are. -/
theorem staged0 (c : Dev nD) : V1 m ρ c main_v0 = (truncf .bf16 (part0 m c) bitsLt_bf16_f32 : FVec Ideal S8x1024x1154 .bf16) := by
  show StableHlo.after hostOps0 _ _ = _
  after_results

/-! The slices of a block of landed parts that the body reads. -/

abbrev slice0 (x : Vec Ideal S8x256x1154 .bf16) := View.ld x (Rect.unit (s := S8x256x1154) ![0, 0, 0] S1x256x1154.size inb_S8x256x1154_S1x256x1154_0_0_0)
abbrev slice1 (x : Vec Ideal S8x256x1154 .bf16) := View.ld x (Rect.unit (s := S8x256x1154) ![1, 0, 0] S1x256x1154.size inb_S8x256x1154_S1x256x1154_1_0_0)
abbrev slice2 (x : Vec Ideal S8x256x1154 .bf16) := View.ld x (Rect.unit (s := S8x256x1154) ![2, 0, 0] S1x256x1154.size inb_S8x256x1154_S1x256x1154_2_0_0)
abbrev slice3 (x : Vec Ideal S8x256x1154 .bf16) := View.ld x (Rect.unit (s := S8x256x1154) ![3, 0, 0] S1x256x1154.size inb_S8x256x1154_S1x256x1154_3_0_0)
abbrev slice4 (x : Vec Ideal S8x256x1154 .bf16) := View.ld x (Rect.unit (s := S8x256x1154) ![4, 0, 0] S1x256x1154.size inb_S8x256x1154_S1x256x1154_4_0_0)
abbrev slice5 (x : Vec Ideal S8x256x1154 .bf16) := View.ld x (Rect.unit (s := S8x256x1154) ![5, 0, 0] S1x256x1154.size inb_S8x256x1154_S1x256x1154_5_0_0)
abbrev slice6 (x : Vec Ideal S8x256x1154 .bf16) := View.ld x (Rect.unit (s := S8x256x1154) ![6, 0, 0] S1x256x1154.size inb_S8x256x1154_S1x256x1154_6_0_0)
abbrev slice7 (x : Vec Ideal S8x256x1154 .bf16) := View.ld x (Rect.unit (s := S8x256x1154) ![7, 0, 0] S1x256x1154.size inb_S8x256x1154_S1x256x1154_7_0_0)

/-- The sum of a block's eight parts, at an index. -/
theorem parts0_apply (x : Vec Ideal S8x256x1154 .bf16) (y : S256x1154.Idx) :
    k0_pay4 (slice0 x) (slice1 x) (slice2 x) (slice3 x) (slice4 x) (slice5 x) (slice6 x) (slice7 x) y = sumParts x y := by
  unfold k0_pay4 sumParts
  rw [Fin.sum_univ_eight]
  have h0 := slab x y 0 0 rfl inb_S8x256x1154_S1x256x1154_0_0_0 shapeCasts_S1x256x1154_S256x1154
  have h1 := slab x y 1 1 rfl inb_S8x256x1154_S1x256x1154_1_0_0 shapeCasts_S1x256x1154_S256x1154
  have h2 := slab x y 2 2 rfl inb_S8x256x1154_S1x256x1154_2_0_0 shapeCasts_S1x256x1154_S256x1154
  have h3 := slab x y 3 3 rfl inb_S8x256x1154_S1x256x1154_3_0_0 shapeCasts_S1x256x1154_S256x1154
  have h4 := slab x y 4 4 rfl inb_S8x256x1154_S1x256x1154_4_0_0 shapeCasts_S1x256x1154_S256x1154
  have h5 := slab x y 5 5 rfl inb_S8x256x1154_S1x256x1154_5_0_0 shapeCasts_S1x256x1154_S256x1154
  have h6 := slab x y 6 6 rfl inb_S8x256x1154_S1x256x1154_6_0_0 shapeCasts_S1x256x1154_S256x1154
  have h7 := slab x y 7 7 rfl inb_S8x256x1154_S1x256x1154_7_0_0 shapeCasts_S1x256x1154_S256x1154
  rw [← h0, ← h1, ← h2, ← h3, ← h4, ← h5, ← h6, ← h7]
  rfl

theorem idx0_0 : ∀ t : Fin cfg0.N, win0_0.index t = ![0, t.val, 0] := (by decide +kernel : ∀ t : Fin grid0.N, _)
theorem idx0_1 : ∀ t : Fin cfg0.N, win0_1.index t = ![12 + t.val, 0] := (by decide +kernel : ∀ t : Fin grid0.N, _)
theorem idx0_2 : ∀ t : Fin cfg0.N, win0_2.index t = ![12 + t.val, 0] := (by decide +kernel : ∀ t : Fin grid0.N, _)
theorem idx0_3 : ∀ t : Fin cfg0.N, win0_3.index t = ![12 + t.val, 0] := (by decide +kernel : ∀ t : Fin grid0.N, _)
theorem idx0_4 : ∀ t : Fin cfg0.N, win0_4.index t = ![12 + t.val, 0] := (by decide +kernel : ∀ t : Fin grid0.N, _)
theorem idx0_5 : ∀ t : Fin cfg0.N, win0_5.index t = ![12 + t.val, 0] := (by decide +kernel : ∀ t : Fin grid0.N, _)
theorem idx0_6 : ∀ t : Fin cfg0.N, win0_6.index t = ![12 + t.val, 0] := (by decide +kernel : ∀ t : Fin grid0.N, _)
theorem idx0_7 : ∀ t : Fin cfg0.N, win0_7.index t = ![12 + t.val, 0] := (by decide +kernel : ∀ t : Fin grid0.N, _)

/-- A block of layer 3's summed gradients. -/
theorem block0_g (c : Dev nD) (t : Fin cfg0.N) (y : S256x1154.Idx) (i : S4096x1154.Idx) (h0 : (i 0).val = (12 + t.val) * 256 + (y 0).val) (h1 : (i 1).val = (y 1).val) :
    sumParts (iblk0 (V1 m ρ) c 0 t) y = total m c i := by
  have ht : t.val < 4 := t.isLt
  have hy : (y 0).val < 256 := (y 0).isLt
  refine Eq.trans (Finset.sum_congr rfl fun k _ => ?_) (total3 m c i (ix2 (⟨t.val * 256 + (y 0).val, by omega⟩ : Fin 1024) (y 1)) (by show _ = 3072 + (t.val * 256 + (y 0).val); omega) h1).symm
  blk_simp [iblk0]
  rw [staged0]
  refine congrArg (part0 m c) ?_
  blk_ext [idx0_0, ix2, ix3, Matrix.cons_val_zero, Matrix.cons_val_one]

/-- A block of the weights. -/
theorem block0_wts (c : Dev nD) (t : Fin cfg0.N) (y : S256x1154.Idx) (i : S4096x1154.Idx) (h0 : (i 0).val = (12 + t.val) * 256 + (y 0).val) (h1 : (i 1).val = (y 1).val) :
    (iblk0 (V1 m ρ) c 1 t : Vec Ideal S256x1154 .f32) y = wts m c i := by
  blk_simp [iblk0]
  refine (congrFun (W1_args m ρ c main_arg4 (by decide)) _).trans (congrArg (wts m c) ?_)
  blk_ext [idx0_1, Matrix.cons_val_zero, Matrix.cons_val_one]

/-- A block of the first moments. -/
theorem block0_mom (c : Dev nD) (t : Fin cfg0.N) (y : S256x1154.Idx) (i : S4096x1154.Idx) (h0 : (i 0).val = (12 + t.val) * 256 + (y 0).val) (h1 : (i 1).val = (y 1).val) :
    (iblk0 (V1 m ρ) c 2 t : Vec Ideal S256x1154 .f32) y = mom m c i := by
  blk_simp [iblk0]
  refine (congrFun (W1_args m ρ c main_arg5 (by decide)) _).trans (congrArg (mom m c) ?_)
  blk_ext [idx0_2, Matrix.cons_val_zero, Matrix.cons_val_one]

/-- A block of the second moments. -/
theorem block0_sq (c : Dev nD) (t : Fin cfg0.N) (y : S256x1154.Idx) (i : S4096x1154.Idx) (h0 : (i 0).val = (12 + t.val) * 256 + (y 0).val) (h1 : (i 1).val = (y 1).val) :
    (iblk0 (V1 m ρ) c 3 t : Vec Ideal S256x1154 .f32) y = sq m c i := by
  blk_simp [iblk0]
  refine (congrFun (W1_args m ρ c main_arg6 (by decide)) _).trans (congrArg (sq m c) ?_)
  blk_ext [idx0_3, Matrix.cons_val_zero, Matrix.cons_val_one]

/-- After the call for layer 3, the rows from this layer on of the array of the summed gradients. -/
theorem grad0 (c : Dev nD) (i : S4096x1154.Idx) (hi : 3072 ≤ (i 0).val) :
    ((dat0 (V1 m ρ) c).arrAt 4 cfg0.N : Vec Ideal S4096x1154 .f32) i = total m c i := by
  refine (dat0 (V1 m ρ) c).arrAt_forall_of_coversWhere 4 (fun (i : S4096x1154.Idx) v => 3072 ≤ (i 0).val → v = total m c i)
    (fun β => 12 ≤ β (0 : Fin _) ∧ β (0 : Fin _) < 16) (by decide +kernel) (fun t _ y _ => ?_) (fun j hj hl => ?_) i (Memref.isWhole_whole _) hi
  · blk_simp
    rw [after0_4]
    frame_out
    have e0 : ((((View.whole main_v1_0).slice (win0_4.rect t)).emb y : S4096x1154.Idx) 0).val = (12 + t.val) * 256 + (y 0).val := by
      refine Eq.trans (b := win0_4.index t 0 * 256 + (y 0).val) (ValueKit.view_emb_slice_whole_unit_val _ _ _ _ _ _) ?_
      rw [idx0_4]; rfl
    have e1 : ((((View.whole main_v1_0).slice (win0_4.rect t)).emb y : S4096x1154.Idx) 1).val = (y 1).val := by
      refine Eq.trans (b := win0_4.index t 1 * 1154 + (y 1).val) (ValueKit.view_emb_slice_whole_unit_val _ _ _ _ _ _) ?_
      rw [idx0_4]; exact (congrArg (· + _) (Nat.zero_mul 1154)).trans (Nat.zero_add _)
    exact ((parts0_apply _ y).trans (block0_g m ρ c t y _ e0 e1))
  · blk_simp [Pipeline.Window.cell_apply] at hj hl
    have hb : (j 0).val < 4096 := (j 0).isLt
    exact absurd hj (by omega)

/-- After the call for layer 3, the rows from this layer on of the array of the changes. -/
theorem delta0 (c : Dev nD) (i : S4096x1154.Idx) (hi : 3072 ≤ (i 0).val) :
    ((dat0 (V1 m ρ) c).arrAt 5 cfg0.N : Vec Ideal S4096x1154 .f32) i = change (total m c i) (wts m c i) (mom m c i) (sq m c i) := by
  refine (dat0 (V1 m ρ) c).arrAt_forall_of_coversWhere 5 (fun (i : S4096x1154.Idx) v => 3072 ≤ (i 0).val → v = change (total m c i) (wts m c i) (mom m c i) (sq m c i))
    (fun β => 12 ≤ β (0 : Fin _) ∧ β (0 : Fin _) < 16) (by decide +kernel) (fun t _ y _ => ?_) (fun j hj hl => ?_) i (Memref.isWhole_whole _) hi
  · blk_simp
    rw [after0_5]
    frame_out
    have e0 : ((((View.whole main_v1_1).slice (win0_5.rect t)).emb y : S4096x1154.Idx) 0).val = (12 + t.val) * 256 + (y 0).val := by
      refine Eq.trans (b := win0_5.index t 0 * 256 + (y 0).val) (ValueKit.view_emb_slice_whole_unit_val _ _ _ _ _ _) ?_
      rw [idx0_5]; rfl
    have e1 : ((((View.whole main_v1_1).slice (win0_5.rect t)).emb y : S4096x1154.Idx) 1).val = (y 1).val := by
      refine Eq.trans (b := win0_5.index t 1 * 1154 + (y 1).val) (ValueKit.view_emb_slice_whole_unit_val _ _ _ _ _ _) ?_
      rw [idx0_5]; exact (congrArg (· + _) (Nat.zero_mul 1154)).trans (Nat.zero_add _)
    exact (show _ = change _ _ _ _ from congr (congr (congrArg₂ change ((parts0_apply _ y).trans (block0_g m ρ c t y _ e0 e1)) (block0_wts m ρ c t y _ e0 e1)) (block0_mom m ρ c t y _ e0 e1)) (block0_sq m ρ c t y _ e0 e1))
  · blk_simp [Pipeline.Window.cell_apply] at hj hl
    have hb : (j 0).val < 4096 := (j 0).isLt
    exact absurd hj (by omega)

/-- After the call for layer 3, the rows from this layer on of the array of the first moments. -/
theorem moment0 (c : Dev nD) (i : S4096x1154.Idx) (hi : 3072 ≤ (i 0).val) :
    ((dat0 (V1 m ρ) c).arrAt 6 cfg0.N : Vec Ideal S4096x1154 .f32) i = first (total m c i) (mom m c i) := by
  refine (dat0 (V1 m ρ) c).arrAt_forall_of_coversWhere 6 (fun (i : S4096x1154.Idx) v => 3072 ≤ (i 0).val → v = first (total m c i) (mom m c i))
    (fun β => 12 ≤ β (0 : Fin _) ∧ β (0 : Fin _) < 16) (by decide +kernel) (fun t _ y _ => ?_) (fun j hj hl => ?_) i (Memref.isWhole_whole _) hi
  · blk_simp
    rw [after0_6]
    frame_out
    have e0 : ((((View.whole main_v1_2).slice (win0_6.rect t)).emb y : S4096x1154.Idx) 0).val = (12 + t.val) * 256 + (y 0).val := by
      refine Eq.trans (b := win0_6.index t 0 * 256 + (y 0).val) (ValueKit.view_emb_slice_whole_unit_val _ _ _ _ _ _) ?_
      rw [idx0_6]; rfl
    have e1 : ((((View.whole main_v1_2).slice (win0_6.rect t)).emb y : S4096x1154.Idx) 1).val = (y 1).val := by
      refine Eq.trans (b := win0_6.index t 1 * 1154 + (y 1).val) (ValueKit.view_emb_slice_whole_unit_val _ _ _ _ _ _) ?_
      rw [idx0_6]; exact (congrArg (· + _) (Nat.zero_mul 1154)).trans (Nat.zero_add _)
    exact (show _ = first _ _ from congrArg₂ first ((parts0_apply _ y).trans (block0_g m ρ c t y _ e0 e1)) (block0_mom m ρ c t y _ e0 e1))
  · blk_simp [Pipeline.Window.cell_apply] at hj hl
    have hb : (j 0).val < 4096 := (j 0).isLt
    exact absurd hj (by omega)

/-- After the call for layer 3, the rows from this layer on of the array of the second moments. -/
theorem square0 (c : Dev nD) (i : S4096x1154.Idx) (hi : 3072 ≤ (i 0).val) :
    ((dat0 (V1 m ρ) c).arrAt 7 cfg0.N : Vec Ideal S4096x1154 .f32) i = second (total m c i) (sq m c i) := by
  refine (dat0 (V1 m ρ) c).arrAt_forall_of_coversWhere 7 (fun (i : S4096x1154.Idx) v => 3072 ≤ (i 0).val → v = second (total m c i) (sq m c i))
    (fun β => 12 ≤ β (0 : Fin _) ∧ β (0 : Fin _) < 16) (by decide +kernel) (fun t _ y _ => ?_) (fun j hj hl => ?_) i (Memref.isWhole_whole _) hi
  · blk_simp
    rw [after0_7]
    frame_out
    have e0 : ((((View.whole main_v1_3).slice (win0_7.rect t)).emb y : S4096x1154.Idx) 0).val = (12 + t.val) * 256 + (y 0).val := by
      refine Eq.trans (b := win0_7.index t 0 * 256 + (y 0).val) (ValueKit.view_emb_slice_whole_unit_val _ _ _ _ _ _) ?_
      rw [idx0_7]; rfl
    have e1 : ((((View.whole main_v1_3).slice (win0_7.rect t)).emb y : S4096x1154.Idx) 1).val = (y 1).val := by
      refine Eq.trans (b := win0_7.index t 1 * 1154 + (y 1).val) (ValueKit.view_emb_slice_whole_unit_val _ _ _ _ _ _) ?_
      rw [idx0_7]; exact (congrArg (· + _) (Nat.zero_mul 1154)).trans (Nat.zero_add _)
    exact (show _ = second _ _ from congrArg₂ second ((parts0_apply _ y).trans (block0_g m ρ c t y _ e0 e1)) (block0_sq m ρ c t y _ e0 e1))
  · blk_simp [Pipeline.Window.cell_apply] at hj hl
    have hb : (j 0).val < 4096 := (j 0).isLt
    exact absurd hj (by omega)

/-- Layer 2's parts are staged narrowed, which over the extended reals is as they are. -/
theorem staged1 (c : Dev nD) : V3 m ρ c main_v2 = (truncf .bf16 (part1 m c) bitsLt_bf16_f32 : FVec Ideal S8x1024x1154 .bf16) := by
  show StableHlo.after hostOps1 _ _ = _
  after_results
  exact congrArg (fun x : Vec Ideal S8x1024x1154 .f32 => (truncf .bf16 x bitsLt_bf16_f32 : FVec Ideal S8x1024x1154 .bf16)) (W2_args m ρ c main_arg1 (by decide))

/-- The sum of a block's eight parts, at an index. -/
theorem parts1_apply (x : Vec Ideal S8x256x1154 .bf16) (y : S256x1154.Idx) :
    k1_pay4 (slice0 x) (slice1 x) (slice2 x) (slice3 x) (slice4 x) (slice5 x) (slice6 x) (slice7 x) y = sumParts x y :=
  parts0_apply x y

theorem idx1_0 : ∀ t : Fin cfg1.N, win1_0.index t = ![0, t.val, 0] := (by decide +kernel : ∀ t : Fin grid1.N, _)
theorem idx1_1 : ∀ t : Fin cfg1.N, win1_1.index t = ![8 + t.val, 0] := (by decide +kernel : ∀ t : Fin grid1.N, _)
theorem idx1_2 : ∀ t : Fin cfg1.N, win1_2.index t = ![8 + t.val, 0] := (by decide +kernel : ∀ t : Fin grid1.N, _)
theorem idx1_3 : ∀ t : Fin cfg1.N, win1_3.index t = ![8 + t.val, 0] := (by decide +kernel : ∀ t : Fin grid1.N, _)
theorem idx1_4 : ∀ t : Fin cfg1.N, win1_4.index t = ![8 + t.val, 0] := (by decide +kernel : ∀ t : Fin grid1.N, _)
theorem idx1_5 : ∀ t : Fin cfg1.N, win1_5.index t = ![8 + t.val, 0] := (by decide +kernel : ∀ t : Fin grid1.N, _)
theorem idx1_6 : ∀ t : Fin cfg1.N, win1_6.index t = ![8 + t.val, 0] := (by decide +kernel : ∀ t : Fin grid1.N, _)
theorem idx1_7 : ∀ t : Fin cfg1.N, win1_7.index t = ![8 + t.val, 0] := (by decide +kernel : ∀ t : Fin grid1.N, _)

/-- A block of layer 2's summed gradients. -/
theorem block1_g (c : Dev nD) (t : Fin cfg1.N) (y : S256x1154.Idx) (i : S4096x1154.Idx) (h0 : (i 0).val = (8 + t.val) * 256 + (y 0).val) (h1 : (i 1).val = (y 1).val) :
    sumParts (iblk1 (V3 m ρ) c 0 t) y = total m c i := by
  have ht : t.val < 4 := t.isLt
  have hy : (y 0).val < 256 := (y 0).isLt
  refine Eq.trans (Finset.sum_congr rfl fun k _ => ?_) (total2 m c i (ix2 (⟨t.val * 256 + (y 0).val, by omega⟩ : Fin 1024) (y 1)) (by show _ = 2048 + (t.val * 256 + (y 0).val); omega) h1).symm
  blk_simp [iblk1]
  rw [staged1]
  refine congrArg (part1 m c) ?_
  blk_ext [idx1_0, ix2, ix3, Matrix.cons_val_zero, Matrix.cons_val_one]

/-- A block of the weights. -/
theorem block1_wts (c : Dev nD) (t : Fin cfg1.N) (y : S256x1154.Idx) (i : S4096x1154.Idx) (h0 : (i 0).val = (8 + t.val) * 256 + (y 0).val) (h1 : (i 1).val = (y 1).val) :
    (iblk1 (V3 m ρ) c 1 t : Vec Ideal S256x1154 .f32) y = wts m c i := by
  blk_simp [iblk1]
  refine (congrFun (W3_args m ρ c main_arg4 (by decide)) _).trans (congrArg (wts m c) ?_)
  blk_ext [idx1_1, Matrix.cons_val_zero, Matrix.cons_val_one]

/-- A block of the first moments. -/
theorem block1_mom (c : Dev nD) (t : Fin cfg1.N) (y : S256x1154.Idx) (i : S4096x1154.Idx) (h0 : (i 0).val = (8 + t.val) * 256 + (y 0).val) (h1 : (i 1).val = (y 1).val) :
    (iblk1 (V3 m ρ) c 2 t : Vec Ideal S256x1154 .f32) y = mom m c i := by
  blk_simp [iblk1]
  refine (congrFun (W3_args m ρ c main_arg5 (by decide)) _).trans (congrArg (mom m c) ?_)
  blk_ext [idx1_2, Matrix.cons_val_zero, Matrix.cons_val_one]

/-- A block of the second moments. -/
theorem block1_sq (c : Dev nD) (t : Fin cfg1.N) (y : S256x1154.Idx) (i : S4096x1154.Idx) (h0 : (i 0).val = (8 + t.val) * 256 + (y 0).val) (h1 : (i 1).val = (y 1).val) :
    (iblk1 (V3 m ρ) c 3 t : Vec Ideal S256x1154 .f32) y = sq m c i := by
  blk_simp [iblk1]
  refine (congrFun (W3_args m ρ c main_arg6 (by decide)) _).trans (congrArg (sq m c) ?_)
  blk_ext [idx1_3, Matrix.cons_val_zero, Matrix.cons_val_one]

/-- After the call for layer 2, the rows from this layer on of the array of the summed gradients. -/
theorem grad1 (c : Dev nD) (i : S4096x1154.Idx) (hi : 2048 ≤ (i 0).val) :
    ((dat1 (V3 m ρ) c).arrAt 4 cfg1.N : Vec Ideal S4096x1154 .f32) i = total m c i := by
  refine (dat1 (V3 m ρ) c).arrAt_forall_of_coversWhere 4 (fun (i : S4096x1154.Idx) v => 2048 ≤ (i 0).val → v = total m c i)
    (fun β => 8 ≤ β (0 : Fin _) ∧ β (0 : Fin _) < 12) (by decide +kernel) (fun t _ y _ => ?_) (fun j hj hl => ?_) i (Memref.isWhole_whole _) hi
  · blk_simp
    rw [after1_4]
    unfold outsAt1
    frame_out
    have e0 : ((((View.whole main_v3_0).slice (win1_4.rect t)).emb y : S4096x1154.Idx) 0).val = (8 + t.val) * 256 + (y 0).val := by
      refine Eq.trans (b := win1_4.index t 0 * 256 + (y 0).val) (ValueKit.view_emb_slice_whole_unit_val _ _ _ _ _ _) ?_
      rw [idx1_4]; rfl
    have e1 : ((((View.whole main_v3_0).slice (win1_4.rect t)).emb y : S4096x1154.Idx) 1).val = (y 1).val := by
      refine Eq.trans (b := win1_4.index t 1 * 1154 + (y 1).val) (ValueKit.view_emb_slice_whole_unit_val _ _ _ _ _ _) ?_
      rw [idx1_4]; exact (congrArg (· + _) (Nat.zero_mul 1154)).trans (Nat.zero_add _)
    exact ((parts1_apply _ y).trans (block1_g m ρ c t y _ e0 e1))
  · blk_simp [Pipeline.Window.cell_apply] at hj hl
    have hb : 3072 ≤ (j 0).val := by omega
    refine (congrFun (A_eq1 (V3 m ρ) c 4) _).trans (Eq.trans (congrFun (?_ : _ = (dat0 (V1 m ρ) c).arrAt 4 cfg0.N) _) (grad0 m ρ c _ hb))
    show StableHlo.after hostOps1 _ _ = _
    after_results
    exact W2_arr m ρ c 4

/-- After the call for layer 2, the rows from this layer on of the array of the changes. -/
theorem delta1 (c : Dev nD) (i : S4096x1154.Idx) (hi : 2048 ≤ (i 0).val) :
    ((dat1 (V3 m ρ) c).arrAt 5 cfg1.N : Vec Ideal S4096x1154 .f32) i = change (total m c i) (wts m c i) (mom m c i) (sq m c i) := by
  refine (dat1 (V3 m ρ) c).arrAt_forall_of_coversWhere 5 (fun (i : S4096x1154.Idx) v => 2048 ≤ (i 0).val → v = change (total m c i) (wts m c i) (mom m c i) (sq m c i))
    (fun β => 8 ≤ β (0 : Fin _) ∧ β (0 : Fin _) < 12) (by decide +kernel) (fun t _ y _ => ?_) (fun j hj hl => ?_) i (Memref.isWhole_whole _) hi
  · blk_simp
    rw [after1_5]
    unfold outsAt1
    frame_out
    have e0 : ((((View.whole main_v3_1).slice (win1_5.rect t)).emb y : S4096x1154.Idx) 0).val = (8 + t.val) * 256 + (y 0).val := by
      refine Eq.trans (b := win1_5.index t 0 * 256 + (y 0).val) (ValueKit.view_emb_slice_whole_unit_val _ _ _ _ _ _) ?_
      rw [idx1_5]; rfl
    have e1 : ((((View.whole main_v3_1).slice (win1_5.rect t)).emb y : S4096x1154.Idx) 1).val = (y 1).val := by
      refine Eq.trans (b := win1_5.index t 1 * 1154 + (y 1).val) (ValueKit.view_emb_slice_whole_unit_val _ _ _ _ _ _) ?_
      rw [idx1_5]; exact (congrArg (· + _) (Nat.zero_mul 1154)).trans (Nat.zero_add _)
    exact (show _ = change _ _ _ _ from congr (congr (congrArg₂ change ((parts1_apply _ y).trans (block1_g m ρ c t y _ e0 e1)) (block1_wts m ρ c t y _ e0 e1)) (block1_mom m ρ c t y _ e0 e1)) (block1_sq m ρ c t y _ e0 e1))
  · blk_simp [Pipeline.Window.cell_apply] at hj hl
    have hb : 3072 ≤ (j 0).val := by omega
    refine (congrFun (A_eq1 (V3 m ρ) c 5) _).trans (Eq.trans (congrFun (?_ : _ = (dat0 (V1 m ρ) c).arrAt 5 cfg0.N) _) (delta0 m ρ c _ hb))
    show StableHlo.after hostOps1 _ _ = _
    after_results
    exact W2_arr m ρ c 5

/-- After the call for layer 2, the rows from this layer on of the array of the first moments. -/
theorem moment1 (c : Dev nD) (i : S4096x1154.Idx) (hi : 2048 ≤ (i 0).val) :
    ((dat1 (V3 m ρ) c).arrAt 6 cfg1.N : Vec Ideal S4096x1154 .f32) i = first (total m c i) (mom m c i) := by
  refine (dat1 (V3 m ρ) c).arrAt_forall_of_coversWhere 6 (fun (i : S4096x1154.Idx) v => 2048 ≤ (i 0).val → v = first (total m c i) (mom m c i))
    (fun β => 8 ≤ β (0 : Fin _) ∧ β (0 : Fin _) < 12) (by decide +kernel) (fun t _ y _ => ?_) (fun j hj hl => ?_) i (Memref.isWhole_whole _) hi
  · blk_simp
    rw [after1_6]
    unfold outsAt1
    frame_out
    have e0 : ((((View.whole main_v3_2).slice (win1_6.rect t)).emb y : S4096x1154.Idx) 0).val = (8 + t.val) * 256 + (y 0).val := by
      refine Eq.trans (b := win1_6.index t 0 * 256 + (y 0).val) (ValueKit.view_emb_slice_whole_unit_val _ _ _ _ _ _) ?_
      rw [idx1_6]; rfl
    have e1 : ((((View.whole main_v3_2).slice (win1_6.rect t)).emb y : S4096x1154.Idx) 1).val = (y 1).val := by
      refine Eq.trans (b := win1_6.index t 1 * 1154 + (y 1).val) (ValueKit.view_emb_slice_whole_unit_val _ _ _ _ _ _) ?_
      rw [idx1_6]; exact (congrArg (· + _) (Nat.zero_mul 1154)).trans (Nat.zero_add _)
    exact (show _ = first _ _ from congrArg₂ first ((parts1_apply _ y).trans (block1_g m ρ c t y _ e0 e1)) (block1_mom m ρ c t y _ e0 e1))
  · blk_simp [Pipeline.Window.cell_apply] at hj hl
    have hb : 3072 ≤ (j 0).val := by omega
    refine (congrFun (A_eq1 (V3 m ρ) c 6) _).trans (Eq.trans (congrFun (?_ : _ = (dat0 (V1 m ρ) c).arrAt 6 cfg0.N) _) (moment0 m ρ c _ hb))
    show StableHlo.after hostOps1 _ _ = _
    after_results
    exact W2_arr m ρ c 6

/-- After the call for layer 2, the rows from this layer on of the array of the second moments. -/
theorem square1 (c : Dev nD) (i : S4096x1154.Idx) (hi : 2048 ≤ (i 0).val) :
    ((dat1 (V3 m ρ) c).arrAt 7 cfg1.N : Vec Ideal S4096x1154 .f32) i = second (total m c i) (sq m c i) := by
  refine (dat1 (V3 m ρ) c).arrAt_forall_of_coversWhere 7 (fun (i : S4096x1154.Idx) v => 2048 ≤ (i 0).val → v = second (total m c i) (sq m c i))
    (fun β => 8 ≤ β (0 : Fin _) ∧ β (0 : Fin _) < 12) (by decide +kernel) (fun t _ y _ => ?_) (fun j hj hl => ?_) i (Memref.isWhole_whole _) hi
  · blk_simp
    rw [after1_7]
    unfold outsAt1
    frame_out
    have e0 : ((((View.whole main_v3_3).slice (win1_7.rect t)).emb y : S4096x1154.Idx) 0).val = (8 + t.val) * 256 + (y 0).val := by
      refine Eq.trans (b := win1_7.index t 0 * 256 + (y 0).val) (ValueKit.view_emb_slice_whole_unit_val _ _ _ _ _ _) ?_
      rw [idx1_7]; rfl
    have e1 : ((((View.whole main_v3_3).slice (win1_7.rect t)).emb y : S4096x1154.Idx) 1).val = (y 1).val := by
      refine Eq.trans (b := win1_7.index t 1 * 1154 + (y 1).val) (ValueKit.view_emb_slice_whole_unit_val _ _ _ _ _ _) ?_
      rw [idx1_7]; exact (congrArg (· + _) (Nat.zero_mul 1154)).trans (Nat.zero_add _)
    exact (show _ = second _ _ from congrArg₂ second ((parts1_apply _ y).trans (block1_g m ρ c t y _ e0 e1)) (block1_sq m ρ c t y _ e0 e1))
  · blk_simp [Pipeline.Window.cell_apply] at hj hl
    have hb : 3072 ≤ (j 0).val := by omega
    refine (congrFun (A_eq1 (V3 m ρ) c 7) _).trans (Eq.trans (congrFun (?_ : _ = (dat0 (V1 m ρ) c).arrAt 7 cfg0.N) _) (square0 m ρ c _ hb))
    show StableHlo.after hostOps1 _ _ = _
    after_results
    exact W2_arr m ρ c 7

/-- Layer 1's parts are staged narrowed, which over the extended reals is as they are. -/
theorem staged2 (c : Dev nD) : V5 m ρ c main_v4 = (truncf .bf16 (part2 m c) bitsLt_bf16_f32 : FVec Ideal S8x1024x1154 .bf16) := by
  show StableHlo.after hostOps2 _ _ = _
  after_results
  exact congrArg (fun x : Vec Ideal S8x1024x1154 .f32 => (truncf .bf16 x bitsLt_bf16_f32 : FVec Ideal S8x1024x1154 .bf16)) (W4_args m ρ c main_arg2 (by decide))

/-- The sum of a block's eight parts, at an index. -/
theorem parts2_apply (x : Vec Ideal S8x256x1154 .bf16) (y : S256x1154.Idx) :
    k2_pay4 (slice0 x) (slice1 x) (slice2 x) (slice3 x) (slice4 x) (slice5 x) (slice6 x) (slice7 x) y = sumParts x y :=
  parts0_apply x y

theorem idx2_0 : ∀ t : Fin cfg2.N, win2_0.index t = ![0, t.val, 0] := (by decide +kernel : ∀ t : Fin grid2.N, _)
theorem idx2_1 : ∀ t : Fin cfg2.N, win2_1.index t = ![4 + t.val, 0] := (by decide +kernel : ∀ t : Fin grid2.N, _)
theorem idx2_2 : ∀ t : Fin cfg2.N, win2_2.index t = ![4 + t.val, 0] := (by decide +kernel : ∀ t : Fin grid2.N, _)
theorem idx2_3 : ∀ t : Fin cfg2.N, win2_3.index t = ![4 + t.val, 0] := (by decide +kernel : ∀ t : Fin grid2.N, _)
theorem idx2_4 : ∀ t : Fin cfg2.N, win2_4.index t = ![4 + t.val, 0] := (by decide +kernel : ∀ t : Fin grid2.N, _)
theorem idx2_5 : ∀ t : Fin cfg2.N, win2_5.index t = ![4 + t.val, 0] := (by decide +kernel : ∀ t : Fin grid2.N, _)
theorem idx2_6 : ∀ t : Fin cfg2.N, win2_6.index t = ![4 + t.val, 0] := (by decide +kernel : ∀ t : Fin grid2.N, _)
theorem idx2_7 : ∀ t : Fin cfg2.N, win2_7.index t = ![4 + t.val, 0] := (by decide +kernel : ∀ t : Fin grid2.N, _)

/-- A block of layer 1's summed gradients. -/
theorem block2_g (c : Dev nD) (t : Fin cfg2.N) (y : S256x1154.Idx) (i : S4096x1154.Idx) (h0 : (i 0).val = (4 + t.val) * 256 + (y 0).val) (h1 : (i 1).val = (y 1).val) :
    sumParts (iblk2 (V5 m ρ) c 0 t) y = total m c i := by
  have ht : t.val < 4 := t.isLt
  have hy : (y 0).val < 256 := (y 0).isLt
  refine Eq.trans (Finset.sum_congr rfl fun k _ => ?_) (total1 m c i (ix2 (⟨t.val * 256 + (y 0).val, by omega⟩ : Fin 1024) (y 1)) (by show _ = 1024 + (t.val * 256 + (y 0).val); omega) h1).symm
  blk_simp [iblk2]
  rw [staged2]
  refine congrArg (part2 m c) ?_
  blk_ext [idx2_0, ix2, ix3, Matrix.cons_val_zero, Matrix.cons_val_one]

/-- A block of the weights. -/
theorem block2_wts (c : Dev nD) (t : Fin cfg2.N) (y : S256x1154.Idx) (i : S4096x1154.Idx) (h0 : (i 0).val = (4 + t.val) * 256 + (y 0).val) (h1 : (i 1).val = (y 1).val) :
    (iblk2 (V5 m ρ) c 1 t : Vec Ideal S256x1154 .f32) y = wts m c i := by
  blk_simp [iblk2]
  refine (congrFun (W5_args m ρ c main_arg4 (by decide)) _).trans (congrArg (wts m c) ?_)
  blk_ext [idx2_1, Matrix.cons_val_zero, Matrix.cons_val_one]

/-- A block of the first moments. -/
theorem block2_mom (c : Dev nD) (t : Fin cfg2.N) (y : S256x1154.Idx) (i : S4096x1154.Idx) (h0 : (i 0).val = (4 + t.val) * 256 + (y 0).val) (h1 : (i 1).val = (y 1).val) :
    (iblk2 (V5 m ρ) c 2 t : Vec Ideal S256x1154 .f32) y = mom m c i := by
  blk_simp [iblk2]
  refine (congrFun (W5_args m ρ c main_arg5 (by decide)) _).trans (congrArg (mom m c) ?_)
  blk_ext [idx2_2, Matrix.cons_val_zero, Matrix.cons_val_one]

/-- A block of the second moments. -/
theorem block2_sq (c : Dev nD) (t : Fin cfg2.N) (y : S256x1154.Idx) (i : S4096x1154.Idx) (h0 : (i 0).val = (4 + t.val) * 256 + (y 0).val) (h1 : (i 1).val = (y 1).val) :
    (iblk2 (V5 m ρ) c 3 t : Vec Ideal S256x1154 .f32) y = sq m c i := by
  blk_simp [iblk2]
  refine (congrFun (W5_args m ρ c main_arg6 (by decide)) _).trans (congrArg (sq m c) ?_)
  blk_ext [idx2_3, Matrix.cons_val_zero, Matrix.cons_val_one]

/-- After the call for layer 1, the rows from this layer on of the array of the summed gradients. -/
theorem grad2 (c : Dev nD) (i : S4096x1154.Idx) (hi : 1024 ≤ (i 0).val) :
    ((dat2 (V5 m ρ) c).arrAt 4 cfg2.N : Vec Ideal S4096x1154 .f32) i = total m c i := by
  refine (dat2 (V5 m ρ) c).arrAt_forall_of_coversWhere 4 (fun (i : S4096x1154.Idx) v => 1024 ≤ (i 0).val → v = total m c i)
    (fun β => 4 ≤ β (0 : Fin _) ∧ β (0 : Fin _) < 8) (by decide +kernel) (fun t _ y _ => ?_) (fun j hj hl => ?_) i (Memref.isWhole_whole _) hi
  · blk_simp
    rw [after2_4]
    unfold outsAt2
    frame_out
    have e0 : ((((View.whole main_v5_0).slice (win2_4.rect t)).emb y : S4096x1154.Idx) 0).val = (4 + t.val) * 256 + (y 0).val := by
      refine Eq.trans (b := win2_4.index t 0 * 256 + (y 0).val) (ValueKit.view_emb_slice_whole_unit_val _ _ _ _ _ _) ?_
      rw [idx2_4]; rfl
    have e1 : ((((View.whole main_v5_0).slice (win2_4.rect t)).emb y : S4096x1154.Idx) 1).val = (y 1).val := by
      refine Eq.trans (b := win2_4.index t 1 * 1154 + (y 1).val) (ValueKit.view_emb_slice_whole_unit_val _ _ _ _ _ _) ?_
      rw [idx2_4]; exact (congrArg (· + _) (Nat.zero_mul 1154)).trans (Nat.zero_add _)
    exact ((parts2_apply _ y).trans (block2_g m ρ c t y _ e0 e1))
  · blk_simp [Pipeline.Window.cell_apply] at hj hl
    have hb : 2048 ≤ (j 0).val := by omega
    refine (congrFun (A_eq2 (V5 m ρ) c 4) _).trans (Eq.trans (congrFun (?_ : _ = (dat1 (V3 m ρ) c).arrAt 4 cfg1.N) _) (grad1 m ρ c _ hb))
    show StableHlo.after hostOps2 _ _ = _
    after_results
    exact W4_arr m ρ c 4

/-- After the call for layer 1, the rows from this layer on of the array of the changes. -/
theorem delta2 (c : Dev nD) (i : S4096x1154.Idx) (hi : 1024 ≤ (i 0).val) :
    ((dat2 (V5 m ρ) c).arrAt 5 cfg2.N : Vec Ideal S4096x1154 .f32) i = change (total m c i) (wts m c i) (mom m c i) (sq m c i) := by
  refine (dat2 (V5 m ρ) c).arrAt_forall_of_coversWhere 5 (fun (i : S4096x1154.Idx) v => 1024 ≤ (i 0).val → v = change (total m c i) (wts m c i) (mom m c i) (sq m c i))
    (fun β => 4 ≤ β (0 : Fin _) ∧ β (0 : Fin _) < 8) (by decide +kernel) (fun t _ y _ => ?_) (fun j hj hl => ?_) i (Memref.isWhole_whole _) hi
  · blk_simp
    rw [after2_5]
    unfold outsAt2
    frame_out
    have e0 : ((((View.whole main_v5_1).slice (win2_5.rect t)).emb y : S4096x1154.Idx) 0).val = (4 + t.val) * 256 + (y 0).val := by
      refine Eq.trans (b := win2_5.index t 0 * 256 + (y 0).val) (ValueKit.view_emb_slice_whole_unit_val _ _ _ _ _ _) ?_
      rw [idx2_5]; rfl
    have e1 : ((((View.whole main_v5_1).slice (win2_5.rect t)).emb y : S4096x1154.Idx) 1).val = (y 1).val := by
      refine Eq.trans (b := win2_5.index t 1 * 1154 + (y 1).val) (ValueKit.view_emb_slice_whole_unit_val _ _ _ _ _ _) ?_
      rw [idx2_5]; exact (congrArg (· + _) (Nat.zero_mul 1154)).trans (Nat.zero_add _)
    exact (show _ = change _ _ _ _ from congr (congr (congrArg₂ change ((parts2_apply _ y).trans (block2_g m ρ c t y _ e0 e1)) (block2_wts m ρ c t y _ e0 e1)) (block2_mom m ρ c t y _ e0 e1)) (block2_sq m ρ c t y _ e0 e1))
  · blk_simp [Pipeline.Window.cell_apply] at hj hl
    have hb : 2048 ≤ (j 0).val := by omega
    refine (congrFun (A_eq2 (V5 m ρ) c 5) _).trans (Eq.trans (congrFun (?_ : _ = (dat1 (V3 m ρ) c).arrAt 5 cfg1.N) _) (delta1 m ρ c _ hb))
    show StableHlo.after hostOps2 _ _ = _
    after_results
    exact W4_arr m ρ c 5

/-- After the call for layer 1, the rows from this layer on of the array of the first moments. -/
theorem moment2 (c : Dev nD) (i : S4096x1154.Idx) (hi : 1024 ≤ (i 0).val) :
    ((dat2 (V5 m ρ) c).arrAt 6 cfg2.N : Vec Ideal S4096x1154 .f32) i = first (total m c i) (mom m c i) := by
  refine (dat2 (V5 m ρ) c).arrAt_forall_of_coversWhere 6 (fun (i : S4096x1154.Idx) v => 1024 ≤ (i 0).val → v = first (total m c i) (mom m c i))
    (fun β => 4 ≤ β (0 : Fin _) ∧ β (0 : Fin _) < 8) (by decide +kernel) (fun t _ y _ => ?_) (fun j hj hl => ?_) i (Memref.isWhole_whole _) hi
  · blk_simp
    rw [after2_6]
    unfold outsAt2
    frame_out
    have e0 : ((((View.whole main_v5_2).slice (win2_6.rect t)).emb y : S4096x1154.Idx) 0).val = (4 + t.val) * 256 + (y 0).val := by
      refine Eq.trans (b := win2_6.index t 0 * 256 + (y 0).val) (ValueKit.view_emb_slice_whole_unit_val _ _ _ _ _ _) ?_
      rw [idx2_6]; rfl
    have e1 : ((((View.whole main_v5_2).slice (win2_6.rect t)).emb y : S4096x1154.Idx) 1).val = (y 1).val := by
      refine Eq.trans (b := win2_6.index t 1 * 1154 + (y 1).val) (ValueKit.view_emb_slice_whole_unit_val _ _ _ _ _ _) ?_
      rw [idx2_6]; exact (congrArg (· + _) (Nat.zero_mul 1154)).trans (Nat.zero_add _)
    exact (show _ = first _ _ from congrArg₂ first ((parts2_apply _ y).trans (block2_g m ρ c t y _ e0 e1)) (block2_mom m ρ c t y _ e0 e1))
  · blk_simp [Pipeline.Window.cell_apply] at hj hl
    have hb : 2048 ≤ (j 0).val := by omega
    refine (congrFun (A_eq2 (V5 m ρ) c 6) _).trans (Eq.trans (congrFun (?_ : _ = (dat1 (V3 m ρ) c).arrAt 6 cfg1.N) _) (moment1 m ρ c _ hb))
    show StableHlo.after hostOps2 _ _ = _
    after_results
    exact W4_arr m ρ c 6

/-- After the call for layer 1, the rows from this layer on of the array of the second moments. -/
theorem square2 (c : Dev nD) (i : S4096x1154.Idx) (hi : 1024 ≤ (i 0).val) :
    ((dat2 (V5 m ρ) c).arrAt 7 cfg2.N : Vec Ideal S4096x1154 .f32) i = second (total m c i) (sq m c i) := by
  refine (dat2 (V5 m ρ) c).arrAt_forall_of_coversWhere 7 (fun (i : S4096x1154.Idx) v => 1024 ≤ (i 0).val → v = second (total m c i) (sq m c i))
    (fun β => 4 ≤ β (0 : Fin _) ∧ β (0 : Fin _) < 8) (by decide +kernel) (fun t _ y _ => ?_) (fun j hj hl => ?_) i (Memref.isWhole_whole _) hi
  · blk_simp
    rw [after2_7]
    unfold outsAt2
    frame_out
    have e0 : ((((View.whole main_v5_3).slice (win2_7.rect t)).emb y : S4096x1154.Idx) 0).val = (4 + t.val) * 256 + (y 0).val := by
      refine Eq.trans (b := win2_7.index t 0 * 256 + (y 0).val) (ValueKit.view_emb_slice_whole_unit_val _ _ _ _ _ _) ?_
      rw [idx2_7]; rfl
    have e1 : ((((View.whole main_v5_3).slice (win2_7.rect t)).emb y : S4096x1154.Idx) 1).val = (y 1).val := by
      refine Eq.trans (b := win2_7.index t 1 * 1154 + (y 1).val) (ValueKit.view_emb_slice_whole_unit_val _ _ _ _ _ _) ?_
      rw [idx2_7]; exact (congrArg (· + _) (Nat.zero_mul 1154)).trans (Nat.zero_add _)
    exact (show _ = second _ _ from congrArg₂ second ((parts2_apply _ y).trans (block2_g m ρ c t y _ e0 e1)) (block2_sq m ρ c t y _ e0 e1))
  · blk_simp [Pipeline.Window.cell_apply] at hj hl
    have hb : 2048 ≤ (j 0).val := by omega
    refine (congrFun (A_eq2 (V5 m ρ) c 7) _).trans (Eq.trans (congrFun (?_ : _ = (dat1 (V3 m ρ) c).arrAt 7 cfg1.N) _) (square1 m ρ c _ hb))
    show StableHlo.after hostOps2 _ _ = _
    after_results
    exact W4_arr m ρ c 7

/-- Layer 0's parts are staged narrowed, which over the extended reals is as they are. -/
theorem staged3 (c : Dev nD) : V7 m ρ c main_v6 = (truncf .bf16 (part3 m c) bitsLt_bf16_f32 : FVec Ideal S8x1024x1154 .bf16) := by
  show StableHlo.after hostOps3 _ _ = _
  after_results
  exact congrArg (fun x : Vec Ideal S8x1024x1154 .f32 => (truncf .bf16 x bitsLt_bf16_f32 : FVec Ideal S8x1024x1154 .bf16)) (W6_args m ρ c main_arg3 (by decide))

/-- The sum of a block's eight parts, at an index. -/
theorem parts3_apply (x : Vec Ideal S8x256x1154 .bf16) (y : S256x1154.Idx) :
    k3_pay4 (slice0 x) (slice1 x) (slice2 x) (slice3 x) (slice4 x) (slice5 x) (slice6 x) (slice7 x) y = sumParts x y :=
  parts0_apply x y

theorem idx3_0 : ∀ t : Fin cfg3.N, win3_0.index t = ![0, t.val, 0] := (by decide +kernel : ∀ t : Fin grid3.N, _)
theorem idx3_1 : ∀ t : Fin cfg3.N, win3_1.index t = ![0 + t.val, 0] := (by decide +kernel : ∀ t : Fin grid3.N, _)
theorem idx3_2 : ∀ t : Fin cfg3.N, win3_2.index t = ![0 + t.val, 0] := (by decide +kernel : ∀ t : Fin grid3.N, _)
theorem idx3_3 : ∀ t : Fin cfg3.N, win3_3.index t = ![0 + t.val, 0] := (by decide +kernel : ∀ t : Fin grid3.N, _)
theorem idx3_4 : ∀ t : Fin cfg3.N, win3_4.index t = ![0 + t.val, 0] := (by decide +kernel : ∀ t : Fin grid3.N, _)
theorem idx3_5 : ∀ t : Fin cfg3.N, win3_5.index t = ![0 + t.val, 0] := (by decide +kernel : ∀ t : Fin grid3.N, _)
theorem idx3_6 : ∀ t : Fin cfg3.N, win3_6.index t = ![0 + t.val, 0] := (by decide +kernel : ∀ t : Fin grid3.N, _)
theorem idx3_7 : ∀ t : Fin cfg3.N, win3_7.index t = ![0 + t.val, 0] := (by decide +kernel : ∀ t : Fin grid3.N, _)

/-- A block of layer 0's summed gradients. -/
theorem block3_g (c : Dev nD) (t : Fin cfg3.N) (y : S256x1154.Idx) (i : S4096x1154.Idx) (h0 : (i 0).val = (0 + t.val) * 256 + (y 0).val) (h1 : (i 1).val = (y 1).val) :
    sumParts (iblk3 (V7 m ρ) c 0 t) y = total m c i := by
  have ht : t.val < 4 := t.isLt
  have hy : (y 0).val < 256 := (y 0).isLt
  refine Eq.trans (Finset.sum_congr rfl fun k _ => ?_) (total0 m c i (ix2 (⟨t.val * 256 + (y 0).val, by omega⟩ : Fin 1024) (y 1)) (by show _ = 0 + (t.val * 256 + (y 0).val); omega) h1).symm
  blk_simp [iblk3]
  rw [staged3]
  refine congrArg (part3 m c) ?_
  blk_ext [idx3_0, ix2, ix3, Matrix.cons_val_zero, Matrix.cons_val_one]

/-- A block of the weights. -/
theorem block3_wts (c : Dev nD) (t : Fin cfg3.N) (y : S256x1154.Idx) (i : S4096x1154.Idx) (h0 : (i 0).val = (0 + t.val) * 256 + (y 0).val) (h1 : (i 1).val = (y 1).val) :
    (iblk3 (V7 m ρ) c 1 t : Vec Ideal S256x1154 .f32) y = wts m c i := by
  blk_simp [iblk3]
  refine (congrFun (W7_args m ρ c main_arg4 (by decide)) _).trans (congrArg (wts m c) ?_)
  blk_ext [idx3_1, Matrix.cons_val_zero, Matrix.cons_val_one]

/-- A block of the first moments. -/
theorem block3_mom (c : Dev nD) (t : Fin cfg3.N) (y : S256x1154.Idx) (i : S4096x1154.Idx) (h0 : (i 0).val = (0 + t.val) * 256 + (y 0).val) (h1 : (i 1).val = (y 1).val) :
    (iblk3 (V7 m ρ) c 2 t : Vec Ideal S256x1154 .f32) y = mom m c i := by
  blk_simp [iblk3]
  refine (congrFun (W7_args m ρ c main_arg5 (by decide)) _).trans (congrArg (mom m c) ?_)
  blk_ext [idx3_2, Matrix.cons_val_zero, Matrix.cons_val_one]

/-- A block of the second moments. -/
theorem block3_sq (c : Dev nD) (t : Fin cfg3.N) (y : S256x1154.Idx) (i : S4096x1154.Idx) (h0 : (i 0).val = (0 + t.val) * 256 + (y 0).val) (h1 : (i 1).val = (y 1).val) :
    (iblk3 (V7 m ρ) c 3 t : Vec Ideal S256x1154 .f32) y = sq m c i := by
  blk_simp [iblk3]
  refine (congrFun (W7_args m ρ c main_arg6 (by decide)) _).trans (congrArg (sq m c) ?_)
  blk_ext [idx3_3, Matrix.cons_val_zero, Matrix.cons_val_one]

/-- After the call for layer 0, the rows from this layer on of the array of the summed gradients. -/
theorem grad3 (c : Dev nD) (i : S4096x1154.Idx) (hi : 0 ≤ (i 0).val) :
    ((dat3 (V7 m ρ) c).arrAt 4 cfg3.N : Vec Ideal S4096x1154 .f32) i = total m c i := by
  refine (dat3 (V7 m ρ) c).arrAt_forall_of_coversWhere 4 (fun (i : S4096x1154.Idx) v => 0 ≤ (i 0).val → v = total m c i)
    (fun β => 0 ≤ β (0 : Fin _) ∧ β (0 : Fin _) < 4) (by decide +kernel) (fun t _ y _ => ?_) (fun j hj hl => ?_) i (Memref.isWhole_whole _) hi
  · blk_simp
    rw [after3_4]
    unfold outsAt3
    frame_out
    have e0 : ((((View.whole main_v7_0).slice (win3_4.rect t)).emb y : S4096x1154.Idx) 0).val = (0 + t.val) * 256 + (y 0).val := by
      refine Eq.trans (b := win3_4.index t 0 * 256 + (y 0).val) (ValueKit.view_emb_slice_whole_unit_val _ _ _ _ _ _) ?_
      rw [idx3_4]; rfl
    have e1 : ((((View.whole main_v7_0).slice (win3_4.rect t)).emb y : S4096x1154.Idx) 1).val = (y 1).val := by
      refine Eq.trans (b := win3_4.index t 1 * 1154 + (y 1).val) (ValueKit.view_emb_slice_whole_unit_val _ _ _ _ _ _) ?_
      rw [idx3_4]; exact (congrArg (· + _) (Nat.zero_mul 1154)).trans (Nat.zero_add _)
    exact ((parts3_apply _ y).trans (block3_g m ρ c t y _ e0 e1))
  · blk_simp [Pipeline.Window.cell_apply] at hj hl
    have hb : 1024 ≤ (j 0).val := by omega
    refine (congrFun (A_eq3 (V7 m ρ) c 4) _).trans (Eq.trans (congrFun (?_ : _ = (dat2 (V5 m ρ) c).arrAt 4 cfg2.N) _) (grad2 m ρ c _ hb))
    show StableHlo.after hostOps3 _ _ = _
    after_results
    exact W6_arr m ρ c 4

/-- After the call for layer 0, the rows from this layer on of the array of the changes. -/
theorem delta3 (c : Dev nD) (i : S4096x1154.Idx) (hi : 0 ≤ (i 0).val) :
    ((dat3 (V7 m ρ) c).arrAt 5 cfg3.N : Vec Ideal S4096x1154 .f32) i = change (total m c i) (wts m c i) (mom m c i) (sq m c i) := by
  refine (dat3 (V7 m ρ) c).arrAt_forall_of_coversWhere 5 (fun (i : S4096x1154.Idx) v => 0 ≤ (i 0).val → v = change (total m c i) (wts m c i) (mom m c i) (sq m c i))
    (fun β => 0 ≤ β (0 : Fin _) ∧ β (0 : Fin _) < 4) (by decide +kernel) (fun t _ y _ => ?_) (fun j hj hl => ?_) i (Memref.isWhole_whole _) hi
  · blk_simp
    rw [after3_5]
    unfold outsAt3
    frame_out
    have e0 : ((((View.whole main_v7_1).slice (win3_5.rect t)).emb y : S4096x1154.Idx) 0).val = (0 + t.val) * 256 + (y 0).val := by
      refine Eq.trans (b := win3_5.index t 0 * 256 + (y 0).val) (ValueKit.view_emb_slice_whole_unit_val _ _ _ _ _ _) ?_
      rw [idx3_5]; rfl
    have e1 : ((((View.whole main_v7_1).slice (win3_5.rect t)).emb y : S4096x1154.Idx) 1).val = (y 1).val := by
      refine Eq.trans (b := win3_5.index t 1 * 1154 + (y 1).val) (ValueKit.view_emb_slice_whole_unit_val _ _ _ _ _ _) ?_
      rw [idx3_5]; exact (congrArg (· + _) (Nat.zero_mul 1154)).trans (Nat.zero_add _)
    exact (show _ = change _ _ _ _ from congr (congr (congrArg₂ change ((parts3_apply _ y).trans (block3_g m ρ c t y _ e0 e1)) (block3_wts m ρ c t y _ e0 e1)) (block3_mom m ρ c t y _ e0 e1)) (block3_sq m ρ c t y _ e0 e1))
  · blk_simp [Pipeline.Window.cell_apply] at hj hl
    have hb : 1024 ≤ (j 0).val := by omega
    refine (congrFun (A_eq3 (V7 m ρ) c 5) _).trans (Eq.trans (congrFun (?_ : _ = (dat2 (V5 m ρ) c).arrAt 5 cfg2.N) _) (delta2 m ρ c _ hb))
    show StableHlo.after hostOps3 _ _ = _
    after_results
    exact W6_arr m ρ c 5

/-- After the call for layer 0, the rows from this layer on of the array of the first moments. -/
theorem moment3 (c : Dev nD) (i : S4096x1154.Idx) (hi : 0 ≤ (i 0).val) :
    ((dat3 (V7 m ρ) c).arrAt 6 cfg3.N : Vec Ideal S4096x1154 .f32) i = first (total m c i) (mom m c i) := by
  refine (dat3 (V7 m ρ) c).arrAt_forall_of_coversWhere 6 (fun (i : S4096x1154.Idx) v => 0 ≤ (i 0).val → v = first (total m c i) (mom m c i))
    (fun β => 0 ≤ β (0 : Fin _) ∧ β (0 : Fin _) < 4) (by decide +kernel) (fun t _ y _ => ?_) (fun j hj hl => ?_) i (Memref.isWhole_whole _) hi
  · blk_simp
    rw [after3_6]
    unfold outsAt3
    frame_out
    have e0 : ((((View.whole main_v7_2).slice (win3_6.rect t)).emb y : S4096x1154.Idx) 0).val = (0 + t.val) * 256 + (y 0).val := by
      refine Eq.trans (b := win3_6.index t 0 * 256 + (y 0).val) (ValueKit.view_emb_slice_whole_unit_val _ _ _ _ _ _) ?_
      rw [idx3_6]; rfl
    have e1 : ((((View.whole main_v7_2).slice (win3_6.rect t)).emb y : S4096x1154.Idx) 1).val = (y 1).val := by
      refine Eq.trans (b := win3_6.index t 1 * 1154 + (y 1).val) (ValueKit.view_emb_slice_whole_unit_val _ _ _ _ _ _) ?_
      rw [idx3_6]; exact (congrArg (· + _) (Nat.zero_mul 1154)).trans (Nat.zero_add _)
    exact (show _ = first _ _ from congrArg₂ first ((parts3_apply _ y).trans (block3_g m ρ c t y _ e0 e1)) (block3_mom m ρ c t y _ e0 e1))
  · blk_simp [Pipeline.Window.cell_apply] at hj hl
    have hb : 1024 ≤ (j 0).val := by omega
    refine (congrFun (A_eq3 (V7 m ρ) c 6) _).trans (Eq.trans (congrFun (?_ : _ = (dat2 (V5 m ρ) c).arrAt 6 cfg2.N) _) (moment2 m ρ c _ hb))
    show StableHlo.after hostOps3 _ _ = _
    after_results
    exact W6_arr m ρ c 6

/-- After the call for layer 0, the rows from this layer on of the array of the second moments. -/
theorem square3 (c : Dev nD) (i : S4096x1154.Idx) (hi : 0 ≤ (i 0).val) :
    ((dat3 (V7 m ρ) c).arrAt 7 cfg3.N : Vec Ideal S4096x1154 .f32) i = second (total m c i) (sq m c i) := by
  refine (dat3 (V7 m ρ) c).arrAt_forall_of_coversWhere 7 (fun (i : S4096x1154.Idx) v => 0 ≤ (i 0).val → v = second (total m c i) (sq m c i))
    (fun β => 0 ≤ β (0 : Fin _) ∧ β (0 : Fin _) < 4) (by decide +kernel) (fun t _ y _ => ?_) (fun j hj hl => ?_) i (Memref.isWhole_whole _) hi
  · blk_simp
    rw [after3_7]
    unfold outsAt3
    frame_out
    have e0 : ((((View.whole main_v7_3).slice (win3_7.rect t)).emb y : S4096x1154.Idx) 0).val = (0 + t.val) * 256 + (y 0).val := by
      refine Eq.trans (b := win3_7.index t 0 * 256 + (y 0).val) (ValueKit.view_emb_slice_whole_unit_val _ _ _ _ _ _) ?_
      rw [idx3_7]; rfl
    have e1 : ((((View.whole main_v7_3).slice (win3_7.rect t)).emb y : S4096x1154.Idx) 1).val = (y 1).val := by
      refine Eq.trans (b := win3_7.index t 1 * 1154 + (y 1).val) (ValueKit.view_emb_slice_whole_unit_val _ _ _ _ _ _) ?_
      rw [idx3_7]; exact (congrArg (· + _) (Nat.zero_mul 1154)).trans (Nat.zero_add _)
    exact (show _ = second _ _ from congrArg₂ second ((parts3_apply _ y).trans (block3_g m ρ c t y _ e0 e1)) (block3_sq m ρ c t y _ e0 e1))
  · blk_simp [Pipeline.Window.cell_apply] at hj hl
    have hb : 1024 ≤ (j 0).val := by omega
    refine (congrFun (A_eq3 (V7 m ρ) c 7) _).trans (Eq.trans (congrFun (?_ : _ = (dat2 (V5 m ρ) c).arrAt 7 cfg2.N) _) (square2 m ρ c _ hb))
    show StableHlo.after hostOps3 _ _ = _
    after_results
    exact W6_arr m ρ c 7

/-- After the last call, the array of the summed gradients is the reference's. -/
theorem final_grad (c : Dev nD) : W8 m ρ c (Proc.devRef .tc main_v7_0) = Cert.Reference16Ideal.Read.val_main_v4 (part0 m c) (part1 m c) (part2 m c) (part3 m c) :=
  (W8_arr m ρ c 4).trans (funext fun i => grad3 m ρ c i (Nat.zero_le _))

/-- After the last call, the array of the changes is the reference's. -/
theorem final_delta (c : Dev nD) : W8 m ρ c (Proc.devRef .tc main_v7_1) = Cert.Reference16Ideal.Read.val_main_v28 (part0 m c) (part1 m c) (part2 m c) (part3 m c) (wts m c) (mom m c) (sq m c) :=
  (W8_arr m ρ c 5).trans (funext fun i => (delta3 m ρ c i (Nat.zero_le _)).trans (ref_change m c i).symm)

/-- After the last call, the array of the first moments is the reference's. -/
theorem final_moment (c : Dev nD) : W8 m ρ c (Proc.devRef .tc main_v7_2) = Cert.Reference16Ideal.Read.val_main_v9 (part0 m c) (part1 m c) (part2 m c) (part3 m c) (mom m c) :=
  (W8_arr m ρ c 6).trans (funext fun i => (moment3 m ρ c i (Nat.zero_le _)).trans (ref_first m c i).symm)

/-- After the last call, the array of the second moments is the reference's. -/
theorem final_square (c : Dev nD) : W8 m ρ c (Proc.devRef .tc main_v7_3) = Cert.Reference16Ideal.Read.val_main_v15 (part0 m c) (part1 m c) (part2 m c) (part3 m c) (sq m c) :=
  (W8_arr m ρ c 7).trans (funext fun i => (square3 m ρ c i (Nat.zero_le _)).trans (ref_second m c i).symm)

theorem frame_kernel : Cert.quiescent_Kernel16 := fun m ρ _ => Cert.Kernel16.Gen.frame m ρ

theorem frame_ideal : Cert.quiescent_Kernel16Ideal := fun m ρ _ => Cert.Kernel16Ideal.Gen.frame m ρ

theorem frame_reference : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run m ρ)

open Idealize.SL Idealize.SL.RA Idealize.SL.BI Idealize.SL.BI.BIBase Idealize.SL.BI.Laws Idealize.SL.ProofMode Idealize.ShloMosaic.Rounds in
open scoped Idealize.SL.BI in
set_option backward.isDefEq.respectTransparency.types false in
/-- The four calls run one after another; every array that outlives them ends at the last boundary's contents. -/
theorem run_calls : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The value: the four calls leave the reference's four results. -/
theorem value : Cert.algebraic_Kernel16Ideal_Reference16Ideal := fun m ρ m' ρ' _ agree => by
  have key : ∀ c : Dev nD, ∀ (x0 x1 x2 x3 : Vec Ideal S8x1024x1154 .f32) (x4 x5 x6 : Vec Ideal S4096x1154 .f32),
      x0 = part0 m c → x1 = part1 m c → x2 = part2 m c → x3 = part3 m c → x4 = wts m c → x5 = mom m c → x6 = sq m c →
      Cert.Reference16Ideal.Read.val_main_v4 x0 x1 x2 x3 = Cert.Reference16Ideal.Read.val_main_v4 (part0 m c) (part1 m c) (part2 m c) (part3 m c)
      ∧ Cert.Reference16Ideal.Read.val_main_v28 x0 x1 x2 x3 x4 x5 x6 = Cert.Reference16Ideal.Read.val_main_v28 (part0 m c) (part1 m c) (part2 m c) (part3 m c) (wts m c) (mom m c) (sq m c)
      ∧ Cert.Reference16Ideal.Read.val_main_v9 x0 x1 x2 x3 x5 = Cert.Reference16Ideal.Read.val_main_v9 (part0 m c) (part1 m c) (part2 m c) (part3 m c) (mom m c)
      ∧ Cert.Reference16Ideal.Read.val_main_v15 x0 x1 x2 x3 x6 = Cert.Reference16Ideal.Read.val_main_v15 (part0 m c) (part1 m c) (part2 m c) (part3 m c) (sq m c) := by
    rintro c x0 x1 x2 x3 x4 x5 x6 rfl rfl rfl rfl rfl rfl rfl
    exact ⟨rfl, rfl, rfl, rfl⟩
  refine ⟨_, _, _, _, (θ_run defs _ _).mono (fun _ h c => ⟨(h c _ (mem_uc main_v7_0 (by decide))).trans (final_grad m ρ c), (h c _ (mem_uc main_v7_1 (by decide))).trans (final_delta m ρ c),
      (h c _ (mem_uc main_v7_2 (by decide))).trans (final_moment m ρ c), (h c _ (mem_uc main_v7_3 (by decide))).trans (final_square m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c)⟩) (run_calls m ρ),
    (θ_run Cert.Reference16Ideal.defs _ _).mono (fun _ h c => ?_) (Cert.Reference16Ideal.Value.run m' ρ')⟩
  obtain ⟨a0, a1, a2, a3, a4, a5, a6⟩ := agree c
  obtain ⟨k0, k1, k2, k3⟩ := key c _ _ _ _ _ _ _ a0 a1 a2 a3 a4 a5 a6
  obtain ⟨h0, h1, h2, h3, h4⟩ := h c
  exact ⟨h0.trans ((Cert.Reference16Ideal.Read.val_main_v4_eq _ _ _ _).trans k0), h1.trans ((Cert.Reference16Ideal.Read.val_main_v28_eq _ _ _ _ _ _ _).trans k1),
    h2.trans ((Cert.Reference16Ideal.Read.val_main_v9_eq _ _ _ _ _).trans k2), h3.trans ((Cert.Reference16Ideal.Read.val_main_v15_eq _ _ _ _ _).trans k3), h4⟩

end Cert.Proof.UpdateIn

end
-- ==== Proof.Update.LossHead.lean ====
/-
  The loss and its gradient: half the sum of the rows' mean squared errors, and the errors over the width.
-/
module

public import proofs.«01_k».proof.Defs
public import proofs.«01_k».proof.Proof.Gen.Kernel17.Frame
public import proofs.«01_k».proof.Proof.Gen.Kernel17Ideal.Value
public import proofs.«01_k».proof.Proof.Gen.Reference17Ideal.Read
public import proofs.«01_k».proof.Proof.Products.Basic
public import Idealize.ShloMosaic.PureOps.Ideal
public import Idealize.ShloMosaic.PureOps.Ideal.Laws
public import Idealize.ShloMosaic.Lib.ValueIdx
public import Idealize.ShloMosaic.Lib.ValueIdxRank1
public import Idealize.ShloMosaic.Lib.Pipeline.Value
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.Proof.LossHead

open Cert.Kernel17Ideal Cert.Kernel17Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The f32 number that a word spells. -/
abbrev lit (b : BitVec 32) : EReal := Ideal.ofBits .f32 b

theorem lit_width : lit 0x44800000#32 = ((1024 : ℝ) : EReal) := by
  simp [lit, Ideal.ofBits, Ideal.ieee, -EReal.coe_mul]; norm_num

theorem lit_inv : lit 0x3A800000#32 = ((1 / 1024 : ℝ) : EReal) := by
  simp [lit, Ideal.ofBits, Ideal.ieee, -EReal.coe_mul]; norm_num

theorem lit_half : lit 0x3F000000#32 = ((1 / 2 : ℝ) : EReal) := ofBits_half

theorem lit_one : lit 0x3F800000#32 = ((1 : ℝ) : EReal) := by
  simp [lit, Ideal.ofBits, Ideal.ieee, -EReal.coe_mul]; norm_num

theorem lit_two : lit 0x40000000#32 = ((2 : ℝ) : EReal) := by
  simp [lit, Ideal.ofBits, Ideal.ieee, -EReal.coe_mul]; norm_num

/-- A division by the width is a product with its inverse. -/
theorem div_width (x : EReal) : Ideal.div x (lit 0x44800000#32) = x * lit 0x3A800000#32 := by
  rw [lit_width, lit_inv]
  exact Ideal.div_coe (by norm_num) x

/-- The error's factor in the gradient. -/
theorem factor (e : EReal) :
    Ideal.div (lit 0x3F000000#32 * lit 0x3F800000#32) (lit 0x44800000#32) * (lit 0x40000000#32 * e) = e * lit 0x3A800000#32 := by
  rw [div_width, lit_half, lit_one, lit_inv, lit_two, ← mul_assoc, mul_comm e]
  refine congrArg (· * e) ?_
  rw [← EReal.coe_mul, ← EReal.coe_mul, ← EReal.coe_mul]
  norm_num

/-- The mean squared error of a row. -/
def rowMean (a b : Fin 1024 → EReal) : EReal := (∑ k : Fin 1024, (a k - b k) * (a k - b k)) * lit 0x3A800000#32

/-- What one step adds to the loss. -/
def part (a b : Vec Ideal S256x1024 .f32) : EReal :=
  ∑ r : Fin 256, lit 0x3F000000#32 * rowMean (fun k => a (ix2 r k)) (fun k => b (ix2 r k))

theorem dy_apply (a b : Vec Ideal S256x1024 .f32) (y : S256x1024.Idx) : k0_pay2 a b y = (a y - b y) * lit 0x3A800000#32 := rfl

theorem zero_apply (y : S1x128.Idx) : (k0_pay3 : FVec Ideal S1x128 .f32) y = 0 := Ideal.ofBits_zero_f32

/-- What a step leaves in the loss. -/
theorem next_apply (a b : Vec Ideal S256x1024 .f32) (acc : Vec Ideal S1x128 .f32) (y : S1x128.Idx) :
    k0_pay4 a b acc y = acc y + part a b := by
  unfold k0_pay4
  rw [shapeCast_self]
  refine congrArg (acc y + ·) ?_
  refine (broadcastTo_apply _ broadcasts_S1x1_S1x128 y (ix2 0 0) (fun a => match a with
    | ⟨0, _⟩ => rfl
    | ⟨1, _⟩ => rfl)).trans ?_
  refine Eq.trans ?_ (half_mul_sum _ _)
  refine congrArg (lit 0x3F000000#32 * ·) ?_
  refine (shapeCast_addUnit_apply _ _ _ _).trans ?_
  refine (Ideal.multiReduction_add_single _ _ reduces_S256x1_S1 _ _ _).trans ?_
  refine Finset.sum_congr rfl fun r _ => ?_
  refine congrArg (· * lit 0x3A800000#32) ?_
  refine (shapeCast_apply _ shapeCasts_S256_S256x1 _ (idxEquiv1.symm r) ?_).trans ?_
  · rw [Shape.rowMajor_val_two, Shape.rowMajor_val_one]
    show r.val = r.val * 1 + 0
    omega
  refine (Ideal.multiReduction_add_single _ _ reduces_S256x1024_S256 _ _ _).trans ?_
  refine Finset.sum_congr rfl fun k _ => ?_
  have e : reduces_S256x1024_S256.lift (idxEquiv1.symm r : S256.Idx) k = ix2 r k :=
    funext fun d => match d with | ⟨0, _⟩ => rfl | ⟨1, _⟩ => rfl
  rw [e]
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- At the last point the loss is the sum of the steps' parts. -/
theorem acc_apply (c : Dev nD) (t : Fin cfg0.N) (h : t.val % 8 = 7) (y : S1x128.Idx) :
    (outsAt0 m c t.val t.isLt).1 y = ∑ s : Fin 8,
      part (iblk m c 0 ⟨8 * (t.val / 8) + s.val, Pipeline.run_point_lt_of_flush t h s⟩)
        (iblk m c 1 ⟨8 * (t.val / 8) + s.val, Pipeline.run_point_lt_of_flush t h s⟩) := by
  rw [Pipeline.eq_sum_fin_of_reset_step_apply_of_flush (fun n h => (outsAt0 m c n h).1) 8 (fun _ => 0)
    (fun t y => part (iblk m c 0 t) (iblk m c 1 t))
    (fun t h y => by
      rw [outsAt0_A m c t h]; frame_out
      exact (next_apply _ _ _ y).trans (congrArg (· + _) (zero_apply y)))
    (fun t h y => by
      rw [outsAt0_B m c t (by omega)]; frame_out
      exact next_apply _ _ _ y) t h y]
  exact zero_add _

/-- The gradient's array is the reference's. -/
theorem final_dy (c : Dev nD) : (dats m 0 c).arrAt 3 cfg0.N
    = Cert.Reference17Ideal.Read.val_main_v14 (m ((c : Thread nD τ).loc main_arg0)) (m ((c : Thread nD τ).loc main_arg1)) := by
  refine (dats m 0 c).arrAt_eq_of_covers 3 _ (by decide +kernel) fun t hf y => ?_
  blk_simp
  rw [after0_3]
  have e : (outsAt0 m c t.val t.isLt).2 = k0_pay2 (iblk m c 0 t) (iblk m c 1 t) := by
    by_cases h : t.val % 8 = 0
    · rw [outsAt0_A m c t h]; frame_out
    · rw [outsAt0_B m c t h]; frame_out
  rw [e]
  refine (dy_apply _ _ y).trans (Eq.trans ?_ (factor _).symm)
  blk_simp [iblk]
  rw [V_main_arg0, V_main_arg1]
  refine congrArg₂ (fun p q : EReal => (p - q) * lit 0x3A800000#32) ?_ ?_
  · refine congrArg (m ((c : Thread nD τ).loc main_arg0)) ?_
    blk_ext [idx0, idx3, Matrix.cons_val_zero, Matrix.cons_val_one]
  · refine congrArg (m ((c : Thread nD τ).loc main_arg1)) ?_
    blk_ext [idx1, idx3, Matrix.cons_val_zero, Matrix.cons_val_one]

/-- The reference's loss, at an index. -/
theorem ref_loss (x0 x1 : Vec Ideal S2048x1024 .f32) (i : S1x128.Idx) :
    Cert.Reference17Ideal.Read.val_main_v15 x0 x1 i
      = ∑ r : Fin 2048, lit 0x3F000000#32 * rowMean (fun k => x0 (ix2 r k)) (fun k => x1 (ix2 r k)) := by
  rw [Cert.Reference17Ideal.Read.val_main_v15_apply, Cert.Reference17Ideal.Read.val_main_v8_apply, Cert.Reference17Ideal.Read.val_main_v7_apply]
  refine Eq.trans ?_ (half_mul_sum _ _)
  refine congrArg (lit 0x3F000000#32 * ·) ?_
  refine (congrArg (· + _) (Ideal.ofBits_zero_f32 : _ = (0 : EReal))).trans ((zero_add _).trans ?_)
  rw [← Equiv.sum_comp (idxEquiv1 (n := 2048)).symm]
  refine Finset.sum_congr rfl fun r _ => ?_
  rw [Cert.Reference17Ideal.Read.val_main_v6_apply]
  refine (div_width _).trans (congrArg (· * _) ?_)
  rw [Cert.Reference17Ideal.Read.val_main_v4_apply]
  refine (congrArg (· + _) (Ideal.ofBits_zero_f32 : _ = (0 : EReal))).trans ((zero_add _).trans ?_)
  refine Finset.sum_congr rfl fun k _ => ?_
  have e : Cert.Reference17Ideal.Read.idx_main_v4 (idxEquiv1.symm r) k = ix2 r k :=
    funext fun d => match d with | ⟨0, _⟩ => rfl | ⟨1, _⟩ => rfl
  rw [e]
  rfl

/-- The loss's array is the reference's. -/
theorem final_loss (c : Dev nD) : (dats m 0 c).arrAt 2 cfg0.N
    = Cert.Reference17Ideal.Read.val_main_v15 (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  have h8 : t.val < 8 := t.isLt
  blk_simp
  rw [after0_2]
  refine (acc_apply m c t h7 y).trans (Eq.trans ?_ (ref_loss _ _ _).symm)
  unfold part
  refine Fin.sum_mul_add_congr fun s k hl => ?_
  refine congrArg (lit 0x3F000000#32 * ·) ?_
  refine congrArg₂ rowMean (funext fun q => ?_) (funext fun q => ?_)
  · blk_simp [iblk]
    rw [V_main_arg0]
    refine congrArg (m ((c : Thread nD τ).loc main_arg0)) ?_
    blk_ext [idx0, ix2, Matrix.cons_val_zero, Matrix.cons_val_one]
  · blk_simp [iblk]
    rw [V_main_arg1]
    refine congrArg (m ((c : Thread nD τ).loc main_arg1)) ?_
    blk_ext [idx1, ix2, Matrix.cons_val_zero, Matrix.cons_val_one]

theorem frame_kernel : Cert.quiescent_Kernel17 := fun m ρ _ => Cert.Kernel17.Gen.frame m ρ

theorem frame_ideal : Cert.quiescent_Kernel17Ideal := fun m ρ _ => Cert.Kernel17Ideal.Gen.frame m ρ

theorem frame_reference : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run m ρ)

theorem value : Cert.algebraic_Kernel17Ideal_Reference17Ideal := fun m ρ m' ρ' _ agree =>
  ⟨_, _,
    (θ_run defs _ _).mono (fun _ h c => ⟨(h c).1.trans (final_loss m c), (h c).2.1.trans (final_dy m c), (h c).2.2⟩)
      (Cert.Kernel17Ideal.Value.run_blocks m ρ),
    (θ_run Cert.Reference17Ideal.defs _ _).mono
      (fun _ h c => ⟨(h c).1.trans ((Cert.Reference17Ideal.Read.val_main_v15_eq _ _).trans
          (congrArg₂ Cert.Reference17Ideal.Read.val_main_v15 (agree c).1 (agree c).2)),
        (h c).2.1.trans ((Cert.Reference17Ideal.Read.val_main_v14_eq _ _).trans
          (congrArg₂ Cert.Reference17Ideal.Read.val_main_v14 (agree c).1 (agree c).2)), (h c).2.2⟩)
      (Cert.Reference17Ideal.Value.run m' ρ')⟩

end Cert.Proof.LossHead

end
-- ==== Proof.Update.NormRows.lean ====
/-
  The norm's pieces that its forward and its backward call share: a row's mean square, its inverse square root, and a block's
  sums and broadcasts at an index. Then one row of the norm's gradient, over the extended reals: the kernel's form and the
  reference's, and that they agree.
-/
module

public import Idealize.ShloMosaic.PureOps.Ideal
public import Idealize.ShloMosaic.PureOps.Ideal.Laws
public import Idealize.ShloMosaic.Lib.ValueIdx
public import Idealize.ShloMosaic.Lib.ValueIdxRank1
public import Idealize.ShloMosaic.Lib.IdealHost
public import Idealize.ShloMosaic.Lib.Pipeline.Value

@[expose] public section

noncomputable section

namespace Cert.Proof.NormRows

open Idealize.ShloMosaic Idealize.ShloMosaic.ValueIdx
open scoped BigOperators

/-- The f32 number that a word spells. -/
abbrev lit (b : BitVec 32) : EReal := Ideal.ofBits .f32 b

theorem lit_width : lit 0x44800000#32 = ((1024 : ℝ) : EReal) := by
  simp [lit, Ideal.ofBits, Ideal.ieee, -EReal.coe_mul]; norm_num

theorem lit_minus_half : lit 0xBF000000#32 = ((-(1 / 2) : ℝ) : EReal) := by
  simp [lit, Ideal.ofBits, Ideal.ieee, -EReal.coe_mul]; norm_num

theorem lit_eps : ∃ e : ℝ, 0 < e ∧ lit 0x358637BD#32 = (e : EReal) := by
  refine ⟨_, ?_, by simp [lit, Ideal.ofBits, Ideal.ieee, -EReal.coe_mul]; rfl⟩
  norm_num

/-- A row's mean square plus the small constant. -/
def meanSq (x : Fin 1024 → EReal) : EReal := Ideal.div (∑ k, x k * x k) (lit 0x44800000#32) + lit 0x358637BD#32

theorem div_width (x : EReal) : Ideal.div x (lit 0x44800000#32) = x * ((1 / 1024 : ℝ) : EReal) := by
  rw [lit_width]; exact Ideal.div_coe (by norm_num) x

theorem square_nonneg (x : EReal) : 0 ≤ x * x := by
  rcases le_total 0 x with h | h
  · exact EReal.mul_nonneg h h
  · exact EReal.mul_nonneg_iff.2 (.inr ⟨h, h⟩)

/-- It is positive, so its inverse square root is a real number, whose cube is that over it. -/
theorem scale_real (x : Fin 1024 → EReal) :
    ∃ q : ℝ, 0 ≤ q ∧ Ideal.rsqrt (meanSq x) = (q : EReal) ∧ Ideal.div (Ideal.rsqrt (meanSq x)) (meanSq x) = ((q * q * q : ℝ) : EReal) := by
  obtain ⟨e, he, hl⟩ := lit_eps
  have h0 : 0 ≤ Ideal.div (∑ k, x k * x k) (lit 0x44800000#32) := by
    rw [div_width]
    exact EReal.mul_nonneg (Finset.sum_nonneg fun k _ => square_nonneg _) (by exact_mod_cast (by norm_num : (0 : ℝ) ≤ 1 / 1024))
  have hp : 0 < meanSq x := by
    unfold meanSq
    rw [hl]
    exact lt_of_lt_of_le (by exact_mod_cast he) (le_add_of_nonneg_left h0)
  generalize meanSq x = v at hp ⊢
  induction v with
  | bot => exact absurd hp (by simp)
  | top => exact ⟨0, le_refl _, by simp, by simp [Ideal.div]⟩
  | coe w =>
    have hw : 0 < w := by exact_mod_cast hp
    have hs : Real.sqrt w * Real.sqrt w = w := Real.mul_self_sqrt hw.le
    refine ⟨(Real.sqrt w)⁻¹, inv_nonneg.2 (Real.sqrt_nonneg w), ?_, ?_⟩
    · rw [Ideal.rsqrt_coe, if_neg (not_lt.2 hw.le), if_neg hw.ne']
    · rw [Ideal.rsqrt_coe, if_neg (not_lt.2 hw.le), if_neg hw.ne', Ideal.div_coe hw.ne', ← EReal.coe_mul]
      refine congrArg _ ?_
      rw [mul_assoc, ← mul_inv, hs, one_div]

/-- A nonnegative real number distributes over a sum. -/
theorem real_mul_sum {ι : Type} (s : Finset ι) (q : ℝ) (hq : 0 ≤ q) (f : ι → EReal) : (q : EReal) * ∑ k ∈ s, f k = ∑ k ∈ s, (q : EReal) * f k := by
  classical
  induction s using Finset.induction_on with
  | empty => simp
  | insert a s ha ih =>
    rw [Finset.sum_insert ha, Finset.sum_insert ha, ← ih]
    exact EReal.left_distrib_of_nonneg_of_ne_top (by exact_mod_cast hq) (EReal.coe_ne_top _) _ _

/-- The kernel's form of one element: `res + r · (a − y · mean(a · y))`, with `y = x · r`. -/
def kernelForm (x a : Fin 1024 → EReal) (res : EReal) (j : Fin 1024) : EReal :=
  res + Ideal.rsqrt (meanSq x) * (a j - x j * Ideal.rsqrt (meanSq x)
    * Ideal.div (∑ k, a k * (x k * Ideal.rsqrt (meanSq x))) (lit 0x44800000#32))

/-- The reference's: the derivative through the row's mean square, twice. -/
def meanGrad (x a : Fin 1024 → EReal) : EReal :=
  Ideal.div ((∑ k, x k * a k) * (lit 0xBF000000#32 * Ideal.div (Ideal.rsqrt (meanSq x)) (meanSq x))) (lit 0x44800000#32)

def referenceForm (x a : Fin 1024 → EReal) (res : EReal) (j : Fin 1024) : EReal :=
  res + ((a j * Ideal.rsqrt (meanSq x) + x j * meanGrad x a) + meanGrad x a * x j)

theorem twice (t : EReal) : t + t = ((2 : ℝ) : EReal) * t := by
  have h := EReal.right_distrib_of_nonneg (a := 1) (b := 1) (c := t) zero_le_one zero_le_one
  rw [one_mul] at h
  rw [← h]
  refine congrArg (· * t) ?_
  rw [← EReal.coe_one, ← EReal.coe_add]
  norm_num

theorem forms (x a : Fin 1024 → EReal) (res : EReal) (j : Fin 1024) : kernelForm x a res j = referenceForm x a res j := by
  unfold kernelForm referenceForm meanGrad
  obtain ⟨q, hq, h1, h2⟩ := scale_real x
  rw [h2, h1, div_width, div_width, lit_minus_half]
  have e : ∑ k, a k * (x k * (q : EReal)) = (q : EReal) * ∑ k, x k * a k := by
    rw [real_mul_sum _ q hq]
    refine Finset.sum_congr rfl fun k _ => ?_
    rw [mul_comm (a k), mul_comm (x k) (q : EReal), mul_assoc]
  rw [e]
  generalize (∑ k, x k * a k) = S
  refine congrArg (res + ·) ?_
  rw [sub_eq_add_neg, EReal.left_distrib_of_nonneg_of_ne_top (by exact_mod_cast hq) (EReal.coe_ne_top _), add_assoc, mul_comm (a j)]
  refine congrArg ((q : EReal) * a j + ·) ?_
  rw [mul_comm _ (x j), twice, ← EReal.coe_mul]
  have l : (q : EReal) * -(x j * (q : EReal) * ((q : EReal) * S * ((1 / 1024 : ℝ) : EReal)))
      = (x j * S) * ((-(q * q * q * (1 / 1024)) : ℝ) : EReal) := by
    rw [mul_neg, EReal.coe_neg, mul_neg, EReal.coe_mul, EReal.coe_mul, EReal.coe_mul]
    refine congrArg _ ?_
    ac_rfl
  rw [l]
  have k : (-(q * q * q * (1 / 1024)) : ℝ) = 2 * (-(1 / 2) * (q * q * q)) * (1 / 1024) := by ring
  rw [k, EReal.coe_mul, EReal.coe_mul (2 : ℝ)]
  ac_rfl

/-- A sum over a block's columns, kept as a column, at an index. -/
theorem rowSum_apply (hr : (⟨2, ![256, 1024]⟩ : Shape).Reduces [1] ⟨1, ![256]⟩) (hc : (⟨1, ![256]⟩ : Shape).ShapeCasts ⟨2, ![256, 1]⟩)
    (v : FVec Ideal ⟨2, ![256, 1024]⟩ .f32) (r : Fin 256) (z : Fin 1) :
    shapeCast ⟨2, ![256, 1]⟩ (multiReduction .add [1] ⟨1, ![256]⟩ v 0x00000000#32 hr (.inl rfl) rfl : FVec Ideal ⟨1, ![256]⟩ .f32)
      hc (ix2 r z) = ∑ k : Fin 1024, v (ix2 r k) := by
  refine (shapeCast_apply _ hc _ (idxEquiv1.symm r) ?_).trans ?_
  · rw [Shape.rowMajor_val_two, Shape.rowMajor_val_one]
    show r.val = r.val * 1 + z.val
    omega
  refine (Ideal.multiReduction_add_single _ _ hr _ _ _).trans ?_
  refine Finset.sum_congr rfl fun k _ => ?_
  have e : hr.lift (idxEquiv1.symm r : (⟨1, ![256]⟩ : Shape).Idx) k = ix2 r k :=
    funext fun d => match d with | ⟨0, _⟩ => rfl | ⟨1, _⟩ => rfl
  rw [e]
  rfl

/-- A column broadcast along the rows, at an index. -/
theorem col_apply (h : (⟨2, ![256, 1]⟩ : Shape).Broadcasts ⟨2, ![256, 1024]⟩) (v : FVec Ideal ⟨2, ![256, 1]⟩ .f32) (y : (⟨2, ![256, 1024]⟩ : Shape).Idx) :
    broadcastTo ⟨2, ![256, 1024]⟩ v h y = v (ix2 (y 0) 0) :=
  broadcastTo_apply _ h y (ix2 (y 0) 0) (fun a => match a with
    | ⟨0, _⟩ => rfl
    | ⟨1, _⟩ => rfl)

/-- A row broadcast along the columns, at an index. -/
theorem row_apply (h : (⟨2, ![1, 1024]⟩ : Shape).Broadcasts ⟨2, ![256, 1024]⟩) (v : FVec Ideal ⟨2, ![1, 1024]⟩ .f32) (y : (⟨2, ![256, 1024]⟩ : Shape).Idx) :
    broadcastTo ⟨2, ![256, 1024]⟩ v h y = v (ix2 0 (y 1)) :=
  broadcastTo_apply _ h y (ix2 0 (y 1)) (fun a => match a with
    | ⟨0, _⟩ => rfl
    | ⟨1, _⟩ => rfl)

end Cert.Proof.NormRows

end
-- ==== Proof.Update.NormBwd.lean ====
/-
  The norm's gradient: of its input, added to the residual's gradient, and of its gain, accumulated over eight blocks of rows.
-/
module

public import proofs.«01_k».proof.Defs
public import proofs.«01_k».proof.Proof.Gen.Kernel18.Frame
public import proofs.«01_k».proof.Proof.Gen.Kernel18Ideal.Value
public import proofs.«01_k».proof.Proof.Gen.Reference18Ideal.Read
public import proofs.«01_k».proof.Proof.Update.NormRows
public import Idealize.ShloMosaic.PureOps.Ideal
public import Idealize.ShloMosaic.PureOps.Ideal.Laws
public import Idealize.ShloMosaic.Lib.ValueIdx
public import Idealize.ShloMosaic.Lib.ValueIdxRank1
public import Idealize.ShloMosaic.Lib.IdealHost
public import Idealize.ShloMosaic.Lib.Pipeline.Value
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.Proof.NormBwd

open Cert.Kernel18Ideal Cert.Kernel18Ideal.Gen Cert.Proof.NormRows
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- A row's scale. -/
theorem scale_apply (x : Vec Ideal S256x1024 .f32) (r : Fin 256) :
    k0_pay1 x (ix2 r 0) = Ideal.rsqrt (meanSq fun k => x (ix2 r k)) := by
  unfold k0_pay1
  refine congrArg (fun z => Ideal.rsqrt (Ideal.div z (lit 0x44800000#32) + lit 0x358637BD#32)) ?_
  exact rowSum_apply _ _ _ r 0

/-- The normed input. -/
theorem normed_apply (x : Vec Ideal S256x1024 .f32) (y : S256x1024.Idx) :
    k0_pay2 x y = x y * Ideal.rsqrt (meanSq fun k => x (ix2 (y 0) k)) := by
  unfold k0_pay2
  refine congrArg (x y * ·) ?_
  exact (col_apply _ _ y).trans (scale_apply x (y 0))

/-- The input's gradient. -/
theorem dx_apply (x dh : Vec Ideal S256x1024 .f32) (g : Vec Ideal S1x1024 .f32) (res : Vec Ideal S256x1024 .f32) (r : Fin 256) (j : Fin 1024) :
    k0_pay3 x dh g res (ix2 r j)
      = kernelForm (fun k => x (ix2 r k)) (fun k => dh (ix2 r k) * g (ix2 0 k)) (res (ix2 r j)) j := by
  unfold k0_pay3 kernelForm
  refine congrArg (res (ix2 r j) + ·) ?_
  refine congrArg₂ (· * ·) ((col_apply _ _ _).trans (scale_apply x r)) ?_
  refine congrArg₂ (fun p q : EReal => p - q) (congrArg (dh (ix2 r j) * ·) (row_apply _ g _)) ?_
  refine congrArg₂ (· * ·) (normed_apply x _) ?_
  refine (col_apply _ _ _).trans ?_
  refine congrArg (fun z => Ideal.div z (lit 0x44800000#32)) ?_
  refine (rowSum_apply _ _ _ r 0).trans ?_
  refine Finset.sum_congr rfl fun k _ => ?_
  exact congrArg₂ (· * ·) (congrArg (dh (ix2 r k) * ·) (row_apply _ g _)) (normed_apply x _)

/-- What one block of rows adds to the gain's gradient. -/
def part (x dh : Vec Ideal S256x1024 .f32) (j : Fin 1024) : EReal :=
  ∑ r : Fin 256, dh (ix2 r j) * (x (ix2 r j) * Ideal.rsqrt (meanSq fun k => x (ix2 r k)))

theorem zero_apply (y : S1x1024.Idx) : (k0_pay4 : FVec Ideal S1x1024 .f32) y = 0 := Ideal.ofBits_zero_f32

/-- What a step leaves in the gain's gradient. -/
theorem next_apply (x dh : Vec Ideal S256x1024 .f32) (acc : Vec Ideal S1x1024 .f32) (y : S1x1024.Idx) :
    k0_pay5 x dh acc y = acc y + part x dh (y 1) := by
  unfold k0_pay5 part
  rw [shapeCast_self]
  refine congrArg (acc y + ·) ?_
  refine (shapeCast_apply _ shapeCasts_S1024_S1x1024 y (idxEquiv1.symm (y 1)) ?_).trans ?_
  · rw [Shape.rowMajor_val_two, Shape.rowMajor_val_one]
    have h0 : (y 0).val < 1 := (y 0).isLt
    show (y 1).val = (y 0).val * 1024 + (y 1).val
    omega
  refine (Ideal.multiReduction_add_single _ _ reduces_S256x1024_S1024 _ _ _).trans ?_
  refine Finset.sum_congr rfl fun r _ => ?_
  have e : reduces_S256x1024_S1024.lift (idxEquiv1.symm (y 1) : S1024.Idx) r = ix2 r (y 1) :=
    funext fun d => match d with | ⟨0, _⟩ => rfl | ⟨1, _⟩ => rfl
  rw [e]
  exact congrArg (dh (ix2 r (y 1)) * ·) (normed_apply x _)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

/-- At the last point the gain's gradient is the sum of the steps' parts. -/
theorem acc_apply (c : Dev nD) (t : Fin cfg0.N) (h : t.val % 8 = 7) (y : S1x1024.Idx) :
    (outsAt0 m c t.val t.isLt).2 y = ∑ s : Fin 8,
      part (iblk m c 1 ⟨8 * (t.val / 8) + s.val, Pipeline.run_point_lt_of_flush t h s⟩)
        (iblk m c 0 ⟨8 * (t.val / 8) + s.val, Pipeline.run_point_lt_of_flush t h s⟩) (y 1) := by
  rw [Pipeline.eq_sum_fin_of_reset_step_apply_of_flush (fun n h => (outsAt0 m c n h).2) 8 (fun _ => 0)
    (fun t y => part (iblk m c 1 t) (iblk m c 0 t) (y 1))
    (fun t h y => by
      rw [outsAt0_A m c t h]; frame_out
      exact (next_apply _ _ _ y).trans (congrArg (· + _) (zero_apply y)))
    (fun t h y => by
      rw [outsAt0_B m c t (by omega)]; frame_out
      exact next_apply _ _ _ y) t h y]
  exact zero_add _

/-- The reference's scale of a row. -/
theorem ref_scale (x1 : Vec Ideal S2048x1024 .f32) (r : Fin 2048) :
    Cert.Reference18Ideal.Read.val_main_v6 x1 (ix2 r 0) = meanSq fun k => x1 (ix2 r k) := by
  rw [Cert.Reference18Ideal.Read.val_main_v6_apply, Cert.Reference18Ideal.Read.val_main_v4_apply]
  unfold meanSq
  refine congrArg (fun z => Ideal.div z (lit 0x44800000#32) + lit 0x358637BD#32) ?_
  rw [Cert.Reference18Ideal.Read.val_main_v2_apply, Cert.Reference18Ideal.Read.val_main_v1_apply]
  refine (congrArg (· + _) (Ideal.ofBits_zero_f32 : _ = (0 : EReal))).trans ((zero_add _).trans ?_)
  refine Finset.sum_congr rfl fun k _ => ?_
  have e : Cert.Reference18Ideal.Read.idx_main_v1 (Cert.Reference18Ideal.Read.idx_main_v2 (ix2 r 0)) k = ix2 r k :=
    funext fun d => match d with | ⟨0, _⟩ => rfl | ⟨1, _⟩ => rfl
  rw [e]
  rfl

theorem ref_rsqrt (x1 : Vec Ideal S2048x1024 .f32) (r : Fin 2048) :
    Cert.Reference18Ideal.Read.val_main_v7 x1 (ix2 r 0) = Ideal.rsqrt (meanSq fun k => x1 (ix2 r k)) :=
  congrArg Ideal.rsqrt (ref_scale x1 r)

/-- The reference's gradient of the input, at an index. -/
theorem ref_dx (x0 x1 : Vec Ideal S2048x1024 .f32) (x2 : Vec Ideal S1x1024 .f32) (x3 : Vec Ideal S2048x1024 .f32) (r : Fin 2048) (j : Fin 1024) :
    Cert.Reference18Ideal.Read.val_main_v34 x0 x1 x2 x3 (ix2 r j)
      = referenceForm (fun k => x1 (ix2 r k)) (fun k => x0 (ix2 r k) * x2 (ix2 0 k)) (x3 (ix2 r j)) j := by
  have g : ∀ k : Fin 1024, Cert.Reference18Ideal.Read.val_main_v19 x0 x2 (ix2 r k) = x0 (ix2 r k) * x2 (ix2 0 k) := fun k => by
    rw [Cert.Reference18Ideal.Read.val_main_v19_apply, Cert.Reference18Ideal.Read.val_main_v18_apply]
    have e : Cert.Reference18Ideal.Read.idx_main_v18 (ix2 r k) = ix2 0 k :=
      funext fun d => match d with | ⟨0, _⟩ => rfl | ⟨1, _⟩ => rfl
    rw [e]
    rfl
  have h : Cert.Reference18Ideal.Read.val_main_v29 x0 x1 x2 (ix2 r j)
      = meanGrad (fun k => x1 (ix2 r k)) (fun k => x0 (ix2 r k) * x2 (ix2 0 k)) := by
    rw [Cert.Reference18Ideal.Read.val_main_v29_apply, Cert.Reference18Ideal.Read.val_main_v28_apply]
    refine (congrArg (· + _) (Ideal.ofBits_zero_f32 : _ = (0 : EReal))).trans ((zero_add _).trans ?_)
    rw [Fin.sum_univ_one]
    have e : Cert.Reference18Ideal.Read.idx_main_v28 (Cert.Reference18Ideal.Read.idx_main_v29 (ix2 r j)) 0 = ix2 r 0 :=
      funext fun d => match d with | ⟨0, _⟩ => rfl | ⟨1, _⟩ => rfl
    rw [e, Cert.Reference18Ideal.Read.val_main_v27_apply, Cert.Reference18Ideal.Read.val_main_v25_apply, Cert.Reference18Ideal.Read.val_main_v10_apply, Cert.Reference18Ideal.Read.val_main_v8_apply]
    unfold meanGrad
    refine congrArg (fun z => Ideal.div z (lit 0x44800000#32)) ?_
    refine congrArg₂ (· * ·) ?_ ?_
    · rw [Cert.Reference18Ideal.Read.val_main_v22_apply, Cert.Reference18Ideal.Read.val_main_v21_apply]
      refine (congrArg (· + _) (Ideal.ofBits_zero_f32 : _ = (0 : EReal))).trans ((zero_add _).trans ?_)
      refine Finset.sum_congr rfl fun k _ => ?_
      have e : Cert.Reference18Ideal.Read.idx_main_v21 (Cert.Reference18Ideal.Read.idx_main_v22 (ix2 r 0)) k = ix2 r k :=
        funext fun d => match d with | ⟨0, _⟩ => Fin.ext (by show r.val * 1 + 0 = r.val; omega) | ⟨1, _⟩ => rfl
      rw [e]
      exact congrArg (x1 (ix2 r k) * ·) (g k)
    · refine congrArg (lit 0xBF000000#32 * ·) ?_
      exact congrArg₂ Ideal.div (ref_rsqrt x1 r) (ref_scale x1 r)
  unfold referenceForm
  refine congrArg (x3 (ix2 r j) + ·) ?_
  refine congrArg₂ (· + ·) (congrArg₂ (· + ·) (congrArg₂ (· * ·) (g j) ?_) (congrArg (x1 (ix2 r j) * ·) h)) (congrArg (· * x1 (ix2 r j)) h)
  rw [Cert.Reference18Ideal.Read.val_main_v23_apply]
  have e : Cert.Reference18Ideal.Read.idx_main_v23 (ix2 r j) = ix2 r 0 :=
    funext fun d => match d with | ⟨0, _⟩ => rfl | ⟨1, _⟩ => rfl
  rw [e]
  exact ref_rsqrt x1 r

/-- The reference's gradient of the gain, at an index. -/
theorem ref_dgain (x0 x1 : Vec Ideal S2048x1024 .f32) (i : S1x1024.Idx) :
    Cert.Reference18Ideal.Read.val_main_v17 x0 x1 i
      = ∑ r : Fin 2048, x0 (ix2 r (i 1)) * (x1 (ix2 r (i 1)) * Ideal.rsqrt (meanSq fun k => x1 (ix2 r k))) := by
  rw [Cert.Reference18Ideal.Read.val_main_v17_apply, Cert.Reference18Ideal.Read.val_main_v16_apply]
  refine (congrArg (· + _) (Ideal.ofBits_zero_f32 : _ = (0 : EReal))).trans ((zero_add _).trans ?_)
  refine Finset.sum_congr rfl fun r _ => ?_
  have e : Cert.Reference18Ideal.Read.idx_main_v16 (Cert.Reference18Ideal.Read.idx_main_v17 i) r = ix2 r (i 1) :=
    funext fun d => match d with | ⟨0, _⟩ => rfl | ⟨1, _⟩ => Fin.ext (by have h0 : (i 0).val < 1 := (i 0).isLt; show (i 0).val * 1024 + (i 1).val = (i 1).val; omega)
  rw [e]
  refine (mul_comm _ _).trans (congrArg (x0 (ix2 r (i 1)) * ·) (congrArg (x1 (ix2 r (i 1)) * ·) ?_))
  have e : Cert.Reference18Ideal.Read.idx_main_v11 (ix2 r (i 1)) = ix2 r 0 :=
    funext fun d => match d with | ⟨0, _⟩ => rfl | ⟨1, _⟩ => rfl
  exact (Cert.Reference18Ideal.Read.val_main_v11_apply _ _).trans ((congrArg _ e).trans (ref_rsqrt x1 r))

/-- The array of the input's gradient is the reference's. -/
theorem final_dx (c : Dev nD) : (dats m 0 c).arrAt 4 cfg0.N
    = Cert.Reference18Ideal.Read.val_main_v34 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h8 : t.val < 8 := t.isLt
  blk_simp
  rw [after0_4]
  have e : (outsAt0 m c t.val t.isLt).1 = k0_pay3 (iblk m c 1 t) (iblk m c 0 t) (iblk m c 2 t) (iblk m c 3 t) := by
    by_cases h : t.val % 8 = 0
    · rw [outsAt0_A m c t h]; frame_out
    · rw [outsAt0_B m c t h]; frame_out
  rw [e]
  have ey : y = ix2 (y 0) (y 1) := funext fun d => match d with | ⟨0, _⟩ => rfl | ⟨1, _⟩ => rfl
  refine (congrArg _ ey).trans ((dx_apply _ _ _ _ _ _).trans ((forms _ _ _ _).trans ?_))
  have hr : t.val * 256 + (y 0).val < 2048 := by
    have h0 : (y 0).val < 256 := (y 0).isLt
    omega
  refine Eq.trans ?_ ((ref_dx _ _ _ _ ⟨t.val * 256 + (y 0).val, hr⟩ (y 1)).symm.trans (congrArg _ ?_))
  · refine congrFun (congr (congrArg₂ referenceForm (funext fun k => ?_) (funext fun k => congrArg₂ (fun p q : EReal => p * q) ?_ ?_)) ?_) (y 1)
    · blk_simp [iblk]
      rw [V_main_arg1]
      refine congrArg (m ((c : Thread nD τ).loc main_arg1)) ?_
      blk_ext [idx1, ix2, Matrix.cons_val_zero, Matrix.cons_val_one]
    · blk_simp [iblk]
      rw [V_main_arg0]
      refine congrArg (m ((c : Thread nD τ).loc main_arg0)) ?_
      blk_ext [idx0, ix2, Matrix.cons_val_zero, Matrix.cons_val_one]
    · blk_simp [iblk]
      rw [V_main_arg2]
      refine congrArg (m ((c : Thread nD τ).loc main_arg2)) ?_
      blk_ext [idx2, ix2, Matrix.cons_val_zero, Matrix.cons_val_one]
    · blk_simp [iblk]
      rw [V_main_arg3]
      refine congrArg (m ((c : Thread nD τ).loc main_arg3)) ?_
      blk_ext [idx3, ix2, Matrix.cons_val_zero, Matrix.cons_val_one]
  · blk_ext [idx4, ix2, Matrix.cons_val_zero, Matrix.cons_val_one]

/-- The array of the gain's gradient is the reference's. -/
theorem final_dgain (c : Dev nD) : (dats m 0 c).arrAt 5 cfg0.N
    = Cert.Reference18Ideal.Read.val_main_v17 (m ((c : Thread nD τ).loc main_arg0)) (m ((c : Thread nD τ).loc main_arg1)) := by
  refine (dats m 0 c).arrAt_eq_of_covers 5 _ (by decide +kernel) fun t hf y => ?_
  have h7 : t.val % 8 = 7 := (flush0_5 t).mp hf
  have h8 : t.val < 8 := t.isLt
  blk_simp
  rw [after0_5]
  refine (acc_apply m c t h7 y).trans (Eq.trans ?_ (ref_dgain _ _ _).symm)
  unfold part
  refine Fin.sum_mul_add_congr fun s k hl => ?_
  refine congrArg₂ (· * ·) ?_ (congrArg₂ (· * ·) ?_ (congrArg (fun z => Ideal.rsqrt (meanSq z)) (funext fun q => ?_)))
  · blk_simp [iblk]
    rw [V_main_arg0]
    refine congrArg (m ((c : Thread nD τ).loc main_arg0)) ?_
    blk_ext [idx0, idx5, ix2, Matrix.cons_val_zero, Matrix.cons_val_one]
  · blk_simp [iblk]
    rw [V_main_arg1]
    refine congrArg (m ((c : Thread nD τ).loc main_arg1)) ?_
    blk_ext [idx1, idx5, ix2, Matrix.cons_val_zero, Matrix.cons_val_one]
  · blk_simp [iblk]
    rw [V_main_arg1]
    refine congrArg (m ((c : Thread nD τ).loc main_arg1)) ?_
    blk_ext [idx1, ix2, Matrix.cons_val_zero, Matrix.cons_val_one]

theorem frame_kernel : Cert.quiescent_Kernel18 := fun m ρ _ => Cert.Kernel18.Gen.frame m ρ

theorem frame_ideal : Cert.quiescent_Kernel18Ideal := fun m ρ _ => Cert.Kernel18Ideal.Gen.frame m ρ

theorem frame_reference : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run m ρ)

theorem value : Cert.algebraic_Kernel18Ideal_Reference18Ideal := fun m ρ m' ρ' _ agree =>
  ⟨_, _,
    (θ_run defs _ _).mono (fun _ h c => ⟨(h c).1.trans (final_dx m c), (h c).2.1.trans (final_dgain m c), (h c).2.2⟩)
      (Cert.Kernel18Ideal.Value.run_blocks m ρ),
    (θ_run Cert.Reference18Ideal.defs _ _).mono
      (fun _ h c => ⟨(h c).1.trans ((Cert.Reference18Ideal.Read.val_main_v34_eq _ _ _ _).trans
          (congr (congr (congrArg₂ Cert.Reference18Ideal.Read.val_main_v34 (agree c).1 (agree c).2.1) (agree c).2.2.1) (agree c).2.2.2)),
        (h c).2.1.trans ((Cert.Reference18Ideal.Read.val_main_v17_eq _ _).trans
          (congrArg₂ Cert.Reference18Ideal.Read.val_main_v17 (agree c).1 (agree c).2.1)), (h c).2.2⟩)
      (Cert.Reference18Ideal.Value.run m' ρ')⟩

end Cert.Proof.NormBwd

end
-- ==== Proof.Update.NormFwd.lean ====
/-
  The norm of the rows, `x · rsqrt(mean(x²) + eps) · gain` in bf16.
-/
module

public import proofs.«01_k».proof.Defs
public import proofs.«01_k».proof.Proof.Gen.Kernel19.Frame
public import proofs.«01_k».proof.Proof.Gen.Kernel19Ideal.Value
public import proofs.«01_k».proof.Proof.Gen.Reference19Ideal.Read
public import proofs.«01_k».proof.Proof.Update.NormRows
public import Idealize.ShloMosaic.PureOps.Ideal
public import Idealize.ShloMosaic.PureOps.Ideal.Laws
public import Idealize.ShloMosaic.Lib.ValueIdx
public import Idealize.ShloMosaic.Lib.ValueIdxRank1
public import Idealize.ShloMosaic.Lib.IdealHost
public import Idealize.ShloMosaic.Lib.Pipeline.Value
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.Proof.NormFwd

open Cert.Kernel19Ideal Cert.Kernel19Ideal.Gen Cert.Proof.NormRows
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- What the body stores, at an index. -/
theorem pay_apply (x : Vec Ideal S256x1024 .f32) (g : Vec Ideal S1x1024 .f32) (y : S256x1024.Idx) :
    k0_pay1 x g y = x y * Ideal.rsqrt (meanSq fun k => x (ix2 (y 0) k)) * g (ix2 0 (y 1)) := by
  unfold k0_pay1
  refine congrArg₂ (fun p q : EReal => p * q) (congrArg (x y * ·) ((col_apply _ _ y).trans ?_)) (row_apply _ g y)
  refine congrArg (fun z => Ideal.rsqrt (Ideal.div z (lit 0x44800000#32) + lit 0x358637BD#32)) ?_
  exact rowSum_apply _ _ _ (y 0) 0

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The reference's scale of a row. -/
theorem ref_scale (x0 : Vec Ideal S2048x1024 .f32) (r : Fin 2048) :
    Cert.Reference19Ideal.Read.val_main_v6 x0 (ix2 r 0) = meanSq fun k => x0 (ix2 r k) := by
  rw [Cert.Reference19Ideal.Read.val_main_v6_apply, Cert.Reference19Ideal.Read.val_main_v4_apply]
  unfold meanSq
  refine congrArg (fun z => Ideal.div z (lit 0x44800000#32) + lit 0x358637BD#32) ?_
  rw [Cert.Reference19Ideal.Read.val_main_v2_apply, Cert.Reference19Ideal.Read.val_main_v1_apply]
  refine (congrArg (· + _) (Ideal.ofBits_zero_f32 : _ = (0 : EReal))).trans ((zero_add _).trans ?_)
  refine Finset.sum_congr rfl fun k _ => ?_
  have e : Cert.Reference19Ideal.Read.idx_main_v1 (Cert.Reference19Ideal.Read.idx_main_v2 (ix2 r 0)) k = ix2 r k :=
    funext fun d => match d with | ⟨0, _⟩ => rfl | ⟨1, _⟩ => rfl
  rw [e]
  rfl

theorem ref_rsqrt (x0 : Vec Ideal S2048x1024 .f32) (r : Fin 2048) :
    Cert.Reference19Ideal.Read.val_main_v7 x0 (ix2 r 0) = Ideal.rsqrt (meanSq fun k => x0 (ix2 r k)) :=
  congrArg Ideal.rsqrt (ref_scale x0 r)

/-- The reference's norm, at an index. -/
theorem ref_apply (x0 : Vec Ideal S2048x1024 .f32) (x1 : Vec Ideal S1x1024 .f32) (r : Fin 2048) (j : Fin 1024) :
    Cert.Reference19Ideal.Read.val_main_v12 x0 x1 (ix2 r j) = x0 (ix2 r j) * Ideal.rsqrt (meanSq fun k => x0 (ix2 r k)) * x1 (ix2 0 j) := by
  have e8 : Cert.Reference19Ideal.Read.idx_main_v8 (ix2 r j) = ix2 r 0 := funext fun d => match d with | ⟨0, _⟩ => rfl | ⟨1, _⟩ => rfl
  have e10 : Cert.Reference19Ideal.Read.idx_main_v10 (ix2 r j) = ix2 0 j := funext fun d => match d with | ⟨0, _⟩ => rfl | ⟨1, _⟩ => rfl
  refine congrArg₂ (fun p q : EReal => p * q) (congrArg (x0 (ix2 r j) * ·) ?_) ?_
  · exact (Cert.Reference19Ideal.Read.val_main_v8_apply _ _).trans ((congrArg _ e8).trans (ref_rsqrt x0 r))
  · exact (Cert.Reference19Ideal.Read.val_main_v10_apply _ _).trans (congrArg x1 e10)

/-- The kernel's output array is the reference's result. -/
theorem final (c : Dev nD) : (dats m 0 c).arrAt 2 cfg0.N = Cert.Reference19Ideal.Read.val_main_v12 (m ((c : Thread nD τ).loc main_arg0)) (m ((c : Thread nD τ).loc main_arg1)) := by
  refine (dats m 0 c).arrAt_eq_of_covers 2 _ (by decide +kernel) fun t _ y => ?_
  have h8 : t.val < 8 := t.isLt
  blk_simp
  rw [after0_2]
  frame_out
  refine (pay_apply _ _ y).trans ?_
  have hr : t.val * 256 + (y 0).val < 2048 := by
    have h0 : (y 0).val < 256 := (y 0).isLt
    omega
  refine Eq.trans ?_ ((ref_apply _ _ ⟨t.val * 256 + (y 0).val, hr⟩ (y 1)).symm.trans (congrArg _ ?_))
  · refine congrArg₂ (fun p q : EReal => p * q) (congrArg₂ (fun p q : EReal => p * q) ?_ (congrArg (fun z => Ideal.rsqrt (meanSq z)) (funext fun k => ?_))) ?_
    · blk_simp [iblk]
      rw [V_main_arg0]
      refine congrArg (m ((c : Thread nD τ).loc main_arg0)) ?_
      blk_ext [idx0, ix2, Matrix.cons_val_zero, Matrix.cons_val_one]
    · blk_simp [iblk]
      rw [V_main_arg0]
      refine congrArg (m ((c : Thread nD τ).loc main_arg0)) ?_
      blk_ext [idx0, ix2, Matrix.cons_val_zero, Matrix.cons_val_one]
    · blk_simp [iblk]
      rw [V_main_arg1]
      refine congrArg (m ((c : Thread nD τ).loc main_arg1)) ?_
      blk_ext [idx1, ix2, Matrix.cons_val_zero, Matrix.cons_val_one]
  · blk_ext [idx2, ix2, Matrix.cons_val_zero, Matrix.cons_val_one]

theorem frame_kernel : Cert.quiescent_Kernel19 := fun m ρ _ => Cert.Kernel19.Gen.frame m ρ

theorem frame_ideal : Cert.quiescent_Kernel19Ideal := fun m ρ _ => Cert.Kernel19Ideal.Gen.frame m ρ

theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run m ρ)

theorem value : Cert.algebraic_Kernel19Ideal_Reference19Ideal := fun m ρ m' ρ' _ agree =>
  ⟨fun c => Cert.Reference19Ideal.Read.val_main_v12 (m ((c : Thread nD τ).loc main_arg0)) (m ((c : Thread nD τ).loc main_arg1)),
    (θ_run defs _ _).mono (fun _ h c => ⟨(h c).1.trans (final m c), (h c).2⟩) (Cert.Kernel19Ideal.Value.run_blocks m ρ),
    (θ_run Cert.Reference19Ideal.defs _ _).mono
      (fun _ h c => ⟨(h c).1.trans ((Cert.Reference19Ideal.Read.val_main_v12_eq _ _).trans
        (congrArg₂ Cert.Reference19Ideal.Read.val_main_v12 (agree c).1 (agree c).2)), (h c).2⟩)
      (Cert.Reference19Ideal.Value.run m' ρ')⟩

end Cert.Proof.NormFwd

end
-- ==== Proof.Products.Branch.lean ====
/-
  A branch's projection, whose weights are square: `a · w`.
-/
module

public import proofs.«01_k».proof.Defs
public import proofs.«01_k».proof.Proof.Products.Basic
public import proofs.«01_k».proof.Proof.Gen.Kernel20.Frame
public import proofs.«01_k».proof.Proof.Gen.Kernel20Ideal.Value
public import proofs.«01_k».proof.Proof.Gen.Reference20Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.Branch

open Cert.Kernel20Ideal Cert.Kernel20Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The branch's rows are staged narrowed, which over the extended reals is as they are. -/
theorem staged_h (c : Dev nD) :
    V m c main_v0 = (truncf .bf16 (m ((c : Thread nD τ).loc main_arg0) : FVec Ideal S2048x1024 .f32) bitsLt_bf16_f32 : FVec Ideal S2048x1024 .bf16) := by
  unfold V; after_results <;> rfl

/-- The weights are staged narrowed, which over the extended reals is as they are. -/
theorem staged_w (c : Dev nD) :
    V m c main_v1 = (truncf .bf16 (m ((c : Thread nD τ).loc main_arg1) : FVec Ideal S1024x1024 .f32) bitsLt_bf16_f32 : FVec Ideal S1024x1024 .bf16) := by
  unfold V; after_results <;> rfl

/-- What the body stores, at an index. -/
theorem pay_apply (a : Vec Ideal S1024x1024 .bf16) (b : Vec Ideal S1024x512 .bf16) (y : S1024x512.Idx) :
    k0_pay1 a b y = ∑ k : Fin 1024, a (ix2 (y 0) k) * b (ix2 k (y 1)) := by
  unfold k0_pay1
  refine (matmul_rows_cols _ rfl rfl rfl rfl rfl rfl _ _ _).trans ?_
  rw [shapeCast_self, shapeCast_self]

theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The kernel's output array is the reference's result. -/
theorem final (c : Dev nD) : (dats m 0 c).arrAt 2 cfg0.N
    = Cert.Reference20Ideal.Read.val_main_v0 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  refine Eq.trans ?_ (Cert.Reference20Ideal.Read.val_main_v0_apply _ _ _).symm
  blk_simp [iblk]
  rw [staged_h, staged_w]
  refine Finset.sum_congr rfl fun k _ => congrArg₂ (· * ·) ?_ ?_
  · refine congrArg (m ((c : Thread nD τ).loc main_arg0)) ?_
    blk_ext [idx0, idx1, idx2, ix2, ix3, Matrix.cons_val_zero, Matrix.cons_val_one]
  · refine congrArg (m ((c : Thread nD τ).loc main_arg1)) ?_
    blk_ext [idx0, idx1, idx2, ix2, ix3, Matrix.cons_val_zero, Matrix.cons_val_one]

theorem frame_kernel : Cert.quiescent_Kernel20 := fun m ρ _ => Cert.Kernel20.Gen.frame m ρ

theorem frame_ideal : Cert.quiescent_Kernel20Ideal := fun m ρ _ => Cert.Kernel20Ideal.Gen.frame m ρ

theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run m ρ)

theorem value : Cert.algebraic_Kernel20Ideal_Reference20Ideal := fun m ρ m' ρ' _ agree =>
  ⟨fun c => Cert.Reference20Ideal.Read.val_main_v0 (m ((c : Thread nD τ).loc main_arg0)) (m ((c : Thread nD τ).loc main_arg1)),
    (θ_run defs _ _).mono (fun _ h c => ⟨(h c).1.trans (final m c), (h c).2⟩) (Cert.Kernel20Ideal.Value.run_blocks m ρ),
    (θ_run Cert.Reference20Ideal.defs _ _).mono
      (fun _ h c => ⟨(h c).1.trans ((Cert.Reference20Ideal.Read.val_main_v0_eq _ _).trans
        (congrArg₂ Cert.Reference20Ideal.Read.val_main_v0 (agree c).1 (agree c).2)), (h c).2⟩)
      (Cert.Reference20Ideal.Value.run m' ρ')⟩

end Cert.Proof.Branch

end
-- ==== Proof.Products.MixOut.lean ====
/-
  The mixer's output product with its residual: `x + a · w`.
-/
module

public import proofs.«01_k».proof.Defs
public import proofs.«01_k».proof.Proof.Products.Basic
public import proofs.«01_k».proof.Proof.Gen.Kernel21.Frame
public import proofs.«01_k».proof.Proof.Gen.Kernel21Ideal.Value
public import proofs.«01_k».proof.Proof.Gen.Reference21Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.MixOut

open Cert.Kernel21Ideal Cert.Kernel21Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The merged rows are staged narrowed, which over the extended reals is as they are. -/
theorem staged_h (c : Dev nD) :
    V m c main_v0 = (truncf .bf16 (m ((c : Thread nD τ).loc main_arg1) : FVec Ideal S2048x1024 .f32) bitsLt_bf16_f32 : FVec Ideal S2048x1024 .bf16) := by
  unfold V; after_results <;> rfl

/-- The weights are staged narrowed, which over the extended reals is as they are. -/
theorem staged_w (c : Dev nD) :
    V m c main_v1 = (truncf .bf16 (m ((c : Thread nD τ).loc main_arg2) : FVec Ideal S1024x1024 .f32) bitsLt_bf16_f32 : FVec Ideal S1024x1024 .bf16) := by
  unfold V; after_results <;> rfl

/-- What the body stores, at an index. -/
theorem pay_apply (a : Vec Ideal S1024x1024 .bf16) (b : Vec Ideal S1024x512 .bf16) (x : Vec Ideal S1024x512 .f32) (y : S1024x512.Idx) :
    k0_pay1 a b x y = x y + ∑ k : Fin 1024, a (ix2 (y 0) k) * b (ix2 k (y 1)) := by
  unfold k0_pay1
  refine congrArg (x y + ·) ?_
  refine (matmul_rows_cols _ rfl rfl rfl rfl rfl rfl _ _ _).trans ?_
  rw [shapeCast_self, shapeCast_self]

theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)
theorem idx3 : ∀ t : Fin cfg0.N, win0_3.index t = ![(grid0.coords t 0).val, (grid0.coords t 1).val] :=
  (by decide +kernel : ∀ t : Fin grid0.N, _)

/-- The kernel's output array is the reference's result. -/
theorem final (c : Dev nD) : (dats m 0 c).arrAt 3 cfg0.N
    = Cert.Reference21Ideal.Read.val_main_v1 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  refine (pay_apply _ _ _ y).trans ?_
  rw [Cert.Reference21Ideal.Read.val_main_v1_apply]
  refine congrArg₂ (fun p q : EReal => p + q) ?_ ?_
  · blk_simp [iblk]
    rw [V_main_arg0]
    refine congrArg (m ((c : Thread nD τ).loc main_arg0)) ?_
    blk_ext [idx2, idx3, ix2, ix3, Matrix.cons_val_zero, Matrix.cons_val_one]
  refine Eq.trans ?_ (Cert.Reference21Ideal.Read.val_main_v0_apply _ _ _).symm
  blk_simp [iblk]
  rw [staged_h, staged_w]
  refine Finset.sum_congr rfl fun k _ => congrArg₂ (· * ·) ?_ ?_
  · refine congrArg (m ((c : Thread nD τ).loc main_arg1)) ?_
    blk_ext [idx0, idx1, idx3, ix2, ix3, Matrix.cons_val_zero, Matrix.cons_val_one]
  · refine congrArg (m ((c : Thread nD τ).loc main_arg2)) ?_
    blk_ext [idx0, idx1, idx3, ix2, ix3, Matrix.cons_val_zero, Matrix.cons_val_one]

theorem frame_kernel : Cert.quiescent_Kernel21 := fun m ρ _ => Cert.Kernel21.Gen.frame m ρ

theorem frame_ideal : Cert.quiescent_Kernel21Ideal := fun m ρ _ => Cert.Kernel21Ideal.Gen.frame m ρ

theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run m ρ)

theorem value : Cert.algebraic_Kernel21Ideal_Reference21Ideal := fun m ρ m' ρ' _ agree =>
  ⟨fun c => Cert.Reference21Ideal.Read.val_main_v1 (m ((c : Thread nD τ).loc main_arg0)) (m ((c : Thread nD τ).loc main_arg1)) (m ((c : Thread nD τ).loc main_arg2)),
    (θ_run defs _ _).mono (fun _ h c => ⟨(h c).1.trans (final m c), (h c).2⟩) (Cert.Kernel21Ideal.Value.run_blocks m ρ),
    (θ_run Cert.Reference21Ideal.defs _ _).mono
      (fun _ h c => ⟨(h c).1.trans ((Cert.Reference21Ideal.Read.val_main_v1_eq _ _ _).trans
        (congr (congrArg₂ Cert.Reference21Ideal.Read.val_main_v1 (agree c).1 (agree c).2.1) (agree c).2.2)), (h c).2⟩)
      (Cert.Reference21Ideal.Value.run m' ρ')⟩

end Cert.Proof.MixOut

end
-- ==== Proof.Products.BranchDx.lean ====
/-
  The gradient of a branch's rows: `dy · wᵀ`.
-/
module

public import proofs.«01_k».proof.Defs
public import proofs.«01_k».proof.Proof.Products.Basic
public import proofs.«01_k».proof.Proof.Gen.Kernel22.Frame
public import proofs.«01_k».proof.Proof.Gen.Kernel22Ideal.Value
public import proofs.«01_k».proof.Proof.Gen.Reference22Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.BranchDx

open Cert.Kernel22Ideal Cert.Kernel22Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The gradients are staged narrowed, which over the extended reals is as they are. -/
theorem staged_h (c : Dev nD) :
    V m c main_v0 = (truncf .bf16 (m ((c : Thread nD τ).loc main_arg0) : FVec Ideal S2048x1024 .f32) bitsLt_bf16_f32 : FVec Ideal S2048x1024 .bf16) := by
  unfold V; after_results <;> rfl

/-- The weights are staged narrowed, which over the extended reals is as they are. -/
theorem staged_w (c : Dev nD) :
    V m c main_v1 = (truncf .bf16 (m ((c : Thread nD τ).loc main_arg1) : FVec Ideal S1024x1024 .f32) bitsLt_bf16_f32 : FVec Ideal S1024x1024 .bf16) := by
  unfold V; after_results <;> rfl

/-- What the body stores, at an index. -/
theorem pay_apply (a : Vec Ideal S1024x1024 .bf16) (b : Vec Ideal S512x1024 .bf16) (y : S1024x512.Idx) :
    k0_pay1 a b y = ∑ k : Fin 1024, a (ix2 (y 0) k) * b (ix2 (y 1) k) := by
  unfold k0_pay1
  refine (matmul_rows_rows _ rfl rfl rfl rfl rfl rfl _ _ _).trans ?_
  rw [shapeCast_self, shapeCast_self]

theorem idx0 : ∀ t : Fin cfg0.N, win0_0.index t = ![(grid0.coords t 0).val, 0] :=
  (by decide +kernel : ∀ t : Fin grid0.N, _)
theorem idx1 : ∀ t : Fin cfg0.N, win0_1.index t = ![(grid0.coords t 1).val, 0] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The kernel's output array is the reference's result. -/
theorem final (c : Dev nD) : (dats m 0 c).arrAt 2 cfg0.N
    = Cert.Reference22Ideal.Read.val_main_v0 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  refine Eq.trans ?_ (Cert.Reference22Ideal.Read.val_main_v0_apply _ _ _).symm
  blk_simp [iblk]
  rw [staged_h, staged_w]
  refine Finset.sum_congr rfl fun k _ => congrArg₂ (· * ·) ?_ ?_
  · refine congrArg (m ((c : Thread nD τ).loc main_arg0)) ?_
    blk_ext [idx0, idx1, idx2, ix2, ix3, Matrix.cons_val_zero, Matrix.cons_val_one]
  · refine congrArg (m ((c : Thread nD τ).loc main_arg1)) ?_
    blk_ext [idx0, idx1, idx2, ix2, ix3, Matrix.cons_val_zero, Matrix.cons_val_one]

theorem frame_kernel : Cert.quiescent_Kernel22 := fun m ρ _ => Cert.Kernel22.Gen.frame m ρ

theorem frame_ideal : Cert.quiescent_Kernel22Ideal := fun m ρ _ => Cert.Kernel22Ideal.Gen.frame m ρ

theorem frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run m ρ)

theorem value : Cert.algebraic_Kernel22Ideal_Reference22Ideal := fun m ρ m' ρ' _ agree =>
  ⟨fun c => Cert.Reference22Ideal.Read.val_main_v0 (m ((c : Thread nD τ).loc main_arg0)) (m ((c : Thread nD τ).loc main_arg1)),
    (θ_run defs _ _).mono (fun _ h c => ⟨(h c).1.trans (final m c), (h c).2⟩) (Cert.Kernel22Ideal.Value.run_blocks m ρ),
    (θ_run Cert.Reference22Ideal.defs _ _).mono
      (fun _ h c => ⟨(h c).1.trans ((Cert.Reference22Ideal.Read.val_main_v0_eq _ _).trans
        (congrArg₂ Cert.Reference22Ideal.Read.val_main_v0 (agree c).1 (agree c).2)), (h c).2⟩)
      (Cert.Reference22Ideal.Value.run m' ρ')⟩

end Cert.Proof.BranchDx

end
-- ==== Proof.Products.MixOutDx.lean ====
/-
  The gradient of the mixer's merged rows: `dy · wᵀ` in bf16.
-/
module

public import proofs.«01_k».proof.Defs
public import proofs.«01_k».proof.Proof.Products.Basic
public import proofs.«01_k».proof.Proof.Gen.Kernel23.Frame
public import proofs.«01_k».proof.Proof.Gen.Kernel23Ideal.Value
public import proofs.«01_k».proof.Proof.Gen.Reference23Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.MixOutDx

open Cert.Kernel23Ideal Cert.Kernel23Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The weights are staged narrowed, which over the extended reals is as they are. -/
theorem staged_w (c : Dev nD) :
    V m c main_v0 = (truncf .bf16 (m ((c : Thread nD τ).loc main_arg1) : FVec Ideal S1024x1024 .f32) bitsLt_bf16_f32 : FVec Ideal S1024x1024 .bf16) := by
  unfold V; after_results <;> rfl

/-- What the body stores, at an index. -/
theorem pay_apply (a : Vec Ideal S1024x1024 .f32) (b : Vec Ideal S512x1024 .bf16) (y : S1024x512.Idx) :
    k0_pay1 a b y = ∑ k : Fin 1024, a (ix2 (y 0) k) * b (ix2 (y 1) k) := by
  unfold k0_pay1
  refine (matmul_rows_rows _ rfl rfl rfl rfl rfl rfl _ _ _).trans ?_
  rw [shapeCast_self]
  rfl

theorem idx0 : ∀ t : Fin cfg0.N, win0_0.index t = ![(grid0.coords t 0).val, 0] :=
  (by decide +kernel : ∀ t : Fin grid0.N, _)
theorem idx1 : ∀ t : Fin cfg0.N, win0_1.index t = ![(grid0.coords t 1).val, 0] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The kernel's output array is the reference's result. -/
theorem final (c : Dev nD) : (dats m 0 c).arrAt 2 cfg0.N
    = Cert.Reference23Ideal.Read.val_main_v1 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  rw [Cert.Reference23Ideal.Read.val_main_v1_apply]
  refine Eq.trans ?_ (Cert.Reference23Ideal.Read.val_main_v0_apply _ _ _).symm
  blk_simp [iblk]
  rw [V_main_arg0, staged_w]
  refine Finset.sum_congr rfl fun k _ => congrArg₂ (· * ·) ?_ ?_
  · refine congrArg (m ((c : Thread nD τ).loc main_arg0)) ?_
    blk_ext [idx0, idx1, idx2, ix2, ix3, Matrix.cons_val_zero, Matrix.cons_val_one]
  · refine congrArg (m ((c : Thread nD τ).loc main_arg1)) ?_
    blk_ext [idx0, idx1, idx2, ix2, ix3, Matrix.cons_val_zero, Matrix.cons_val_one]

theorem frame_kernel : Cert.quiescent_Kernel23 := fun m ρ _ => Cert.Kernel23.Gen.frame m ρ

theorem frame_ideal : Cert.quiescent_Kernel23Ideal := fun m ρ _ => Cert.Kernel23Ideal.Gen.frame m ρ

theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run m ρ)

theorem value : Cert.algebraic_Kernel23Ideal_Reference23Ideal := fun m ρ m' ρ' _ agree =>
  ⟨fun c => Cert.Reference23Ideal.Read.val_main_v1 (m ((c : Thread nD τ).loc main_arg0)) (m ((c : Thread nD τ).loc main_arg1)),
    (θ_run defs _ _).mono (fun _ h c => ⟨(h c).1.trans (final m c), (h c).2⟩) (Cert.Kernel23Ideal.Value.run_blocks m ρ),
    (θ_run Cert.Reference23Ideal.defs _ _).mono
      (fun _ h c => ⟨(h c).1.trans ((Cert.Reference23Ideal.Read.val_main_v1_eq _ _).trans
        (congrArg₂ Cert.Reference23Ideal.Read.val_main_v1 (agree c).1 (agree c).2)), (h c).2⟩)
      (Cert.Reference23Ideal.Value.run m' ρ')⟩

end Cert.Proof.MixOutDx

end
-- ==== Proof.Products.BranchDw.lean ====
/-
  The gradient of a branch's weights: `aᵀ · dy`.
-/
module

public import proofs.«01_k».proof.Defs
public import proofs.«01_k».proof.Proof.Products.Basic
public import proofs.«01_k».proof.Proof.Gen.Kernel24.Frame
public import proofs.«01_k».proof.Proof.Gen.Kernel24Ideal.Value
public import proofs.«01_k».proof.Proof.Gen.Reference24Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.BranchDw

open Cert.Kernel24Ideal Cert.Kernel24Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The branch's rows are staged narrowed, which over the extended reals is as they are. -/
theorem staged_h (c : Dev nD) :
    V m c main_v0 = (truncf .bf16 (m ((c : Thread nD τ).loc main_arg0) : FVec Ideal S2048x1024 .f32) bitsLt_bf16_f32 : FVec Ideal S2048x1024 .bf16) := by
  unfold V; after_results <;> rfl

/-- The gradients are staged narrowed, which over the extended reals is as they are. -/
theorem staged_d (c : Dev nD) :
    V m c main_v1 = (truncf .bf16 (m ((c : Thread nD τ).loc main_arg1) : FVec Ideal S2048x1024 .f32) bitsLt_bf16_f32 : FVec Ideal S2048x1024 .bf16) := by
  unfold V; after_results <;> rfl

/-- What the body stores, at an index. -/
theorem pay_apply (a : Vec Ideal S2048x1024 .bf16) (b : Vec Ideal S2048x512 .bf16) (y : S1024x512.Idx) :
    k0_pay1 a b y = ∑ k : Fin 2048, a (ix2 k (y 0)) * b (ix2 k (y 1)) := by
  unfold k0_pay1
  refine (matmul_cols_cols _ rfl rfl rfl rfl rfl rfl _ _ _).trans ?_
  rw [shapeCast_self, shapeCast_self]

theorem idx0 : ∀ t : Fin cfg0.N, win0_0.index t = ![0, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![0, (grid0.coords t 1).val] :=
  (by decide +kernel : ∀ t : Fin grid0.N, _)

/-- The kernel's output array is the reference's result. -/
theorem final (c : Dev nD) : (dats m 0 c).arrAt 2 cfg0.N
    = Cert.Reference24Ideal.Read.val_main_v2 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  rw [Cert.Reference24Ideal.Read.val_main_v2_apply, Cert.Reference24Ideal.Read.val_main_v1_apply]
  refine Eq.trans ?_ (Cert.Reference24Ideal.Read.val_main_v0_apply _ _ _).symm
  blk_simp [iblk]
  rw [staged_h, staged_d]
  refine Finset.sum_congr rfl fun k _ => (mul_comm _ _).trans (congrArg₂ (· * ·) ?_ ?_)
  · refine congrArg (m ((c : Thread nD τ).loc main_arg1)) ?_
    blk_ext [idx0, idx1, idx2, ix2, ix3, Matrix.cons_val_zero, Matrix.cons_val_one]
  · refine congrArg (m ((c : Thread nD τ).loc main_arg0)) ?_
    blk_ext [idx0, idx1, idx2, ix2, ix3, Matrix.cons_val_zero, Matrix.cons_val_one]

theorem frame_kernel : Cert.quiescent_Kernel24 := fun m ρ _ => Cert.Kernel24.Gen.frame m ρ

theorem frame_ideal : Cert.quiescent_Kernel24Ideal := fun m ρ _ => Cert.Kernel24Ideal.Gen.frame m ρ

theorem frame_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run m ρ)

theorem value : Cert.algebraic_Kernel24Ideal_Reference24Ideal := fun m ρ m' ρ' _ agree =>
  ⟨fun c => Cert.Reference24Ideal.Read.val_main_v2 (m ((c : Thread nD τ).loc main_arg0)) (m ((c : Thread nD τ).loc main_arg1)),
    (θ_run defs _ _).mono (fun _ h c => ⟨(h c).1.trans (final m c), (h c).2⟩) (Cert.Kernel24Ideal.Value.run_blocks m ρ),
    (θ_run Cert.Reference24Ideal.defs _ _).mono
      (fun _ h c => ⟨(h c).1.trans ((Cert.Reference24Ideal.Read.val_main_v2_eq _ _).trans
        (congrArg₂ Cert.Reference24Ideal.Read.val_main_v2 (agree c).1 (agree c).2)), (h c).2⟩)
      (Cert.Reference24Ideal.Value.run m' ρ')⟩

end Cert.Proof.BranchDw

end
-- ==== Proof.Update.Gate.lean ====
/-
  The logistic function as the kernels write it, `1 / (1 + exp(0 - z))`, and as the references do, `1 / (1 + exp(-z))`.
-/
module

public import Idealize.ShloMosaic.PureOps.Ideal
public import Idealize.ShloMosaic.PureOps.Ideal.Laws

@[expose] public section

noncomputable section

namespace Cert.Proof.Gate

open Idealize.ShloMosaic

/-- The number one, as its f32 word. -/
abbrev one : EReal := Ideal.ofBits .f32 0x3F800000#32

/-- The logistic function. -/
def sig (z : EReal) : EReal := Ideal.div one (one + Ideal.exp (-z))

theorem sig_zero_sub (z : EReal) : Ideal.div one (one + Ideal.exp (Ideal.ofBits .f32 0x00000000#32 - z)) = sig z := by
  rw [Ideal.ofBits_zero_f32, zero_sub]; rfl

/-- A gate's gradient: the factors in the kernels' order and in the references'. -/
theorem slope (p s : EReal) : p * s * (one - s) = p * (s * (one - s)) := mul_assoc _ _ _

end Cert.Proof.Gate

end
-- ==== Proof.Update.Merge.lean ====
/-
  The gated merge of the two branches: `sigmoid(gate_a) · y_a + sigmoid(gate_b) · y_b` in bf16.
-/
module

public import proofs.«01_k».proof.Defs
public import proofs.«01_k».proof.Proof.Gen.Kernel25.Frame
public import proofs.«01_k».proof.Proof.Gen.Kernel25Ideal.Value
public import proofs.«01_k».proof.Proof.Gen.Reference25Ideal.Read
public import proofs.«01_k».proof.Proof.Update.Gate
public import Idealize.ShloMosaic.PureOps.Ideal
public import Idealize.ShloMosaic.Lib.ValueIdx
public import Idealize.ShloMosaic.Lib.Pipeline.Value
public import Idealize.ShloMosaic.Lib.Quiescent
public import Idealize.ShloMosaic.Lib.Pipeline.ValueKit.Geometry
public import Idealize.ShloMosaic.Lib.Pipeline.ValueKit.Acc

@[expose] public section

noncomputable section

namespace Cert.Proof.Merge

open Cert.Kernel25Ideal Cert.Kernel25Ideal.Gen Cert.Proof.Gate
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- What the body stores, at an index. -/
theorem pay_apply (ga ya gb yb : Vec Ideal S256x1024 .f32) (y : S256x1024.Idx) :
    k0_pay1 ga ya gb yb y = sig (ga y) * ya y + sig (gb y) * yb y :=
  congrArg₂ (fun p q : EReal => p * ya y + q * yb y) (sig_zero_sub _) (sig_zero_sub _)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 7] := (by decide +kernel : ∀ t : Fin grid0.N, _)
theorem idx3 : ∀ t : Fin cfg0.N, win0_3.index t = ![t.val, 8] := (by decide +kernel : ∀ t : Fin grid0.N, _)
theorem idx4 : ∀ t : Fin cfg0.N, win0_4.index t = ![t.val, 0] := (by decide +kernel : ∀ t : Fin grid0.N, _)

open Cert.Reference25Ideal.Read in
/-- The reference's first gate, at an index. -/
theorem ref_sig_a (x2 : Vec Ideal S2048x9216 .f32) (i : S2048x1024.Idx) :
    val_main_v7 (F := Ideal) x2 i = sig (x2 (idx_main_v0 i)) := by
  rw [val_main_v7_apply, val_main_v6_apply, val_main_cst_0_apply, val_main_v5_apply, val_main_v4_apply, val_main_cst_apply, val_main_v3_apply, val_main_v2_apply, val_main_v0_apply]
  rfl

open Cert.Reference25Ideal.Read in
/-- The reference's second gate, at an index. -/
theorem ref_sig_b (x2 : Vec Ideal S2048x9216 .f32) (i : S2048x1024.Idx) :
    val_main_v14 (F := Ideal) x2 i = sig (x2 (idx_main_v1 i)) := by
  rw [val_main_v14_apply, val_main_v13_apply, val_main_cst_2_apply, val_main_v12_apply, val_main_v11_apply, val_main_cst_1_apply, val_main_v10_apply, val_main_v9_apply, val_main_v1_apply]
  rfl

/-- The reference's merge, at an index. -/
theorem ref_apply (x0 x1 : Vec Ideal S2048x1024 .f32) (x2 : Vec Ideal S2048x9216 .f32) (i : S2048x1024.Idx) :
    Cert.Reference25Ideal.Read.val_main_v17 x0 x1 x2 i = sig (x2 (Cert.Reference25Ideal.Read.idx_main_v0 i)) * x0 i + sig (x2 (Cert.Reference25Ideal.Read.idx_main_v1 i)) * x1 i :=
  congrArg₂ (fun p q : EReal => p * x0 i + q * x1 i) (ref_sig_a x2 i) (ref_sig_b x2 i)

/-- The kernel's output array is the reference's result. -/
theorem final (c : Dev nD) : (dats m 0 c).arrAt 4 cfg0.N = Cert.Reference25Ideal.Read.val_main_v17 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  refine (pay_apply _ _ _ _ y).trans (Eq.trans ?_ (ref_apply _ _ _ _).symm)
  refine congrArg₂ (fun p q : EReal => p + q) (congrArg₂ (fun p q : EReal => p * q) (congrArg sig ?_) ?_)
    (congrArg₂ (fun p q : EReal => p * q) (congrArg sig ?_) ?_)
  · blk_simp [iblk]
    rw [V_main_arg2]
    refine congrArg (m ((c : Thread nD τ).loc main_arg2)) ?_
    blk_ext [idx2, idx4, Matrix.cons_val_zero, Matrix.cons_val_one]
  · blk_simp [iblk]
    rw [V_main_arg0]
    refine congrArg (m ((c : Thread nD τ).loc main_arg0)) ?_
    blk_ext [idx0, idx4, Matrix.cons_val_zero, Matrix.cons_val_one]
  · blk_simp [iblk]
    rw [V_main_arg2]
    refine congrArg (m ((c : Thread nD τ).loc main_arg2)) ?_
    blk_ext [idx3, idx4, Matrix.cons_val_zero, Matrix.cons_val_one]
  · blk_simp [iblk]
    rw [V_main_arg1]
    refine congrArg (m ((c : Thread nD τ).loc main_arg1)) ?_
    blk_ext [idx1, idx4, Matrix.cons_val_zero, Matrix.cons_val_one]

theorem frame_kernel : Cert.quiescent_Kernel25 := fun m ρ _ => Cert.Kernel25.Gen.frame m ρ

theorem frame_ideal : Cert.quiescent_Kernel25Ideal := fun m ρ _ => Cert.Kernel25Ideal.Gen.frame m ρ

theorem frame_reference : Cert.quiescent_Reference25Ideal := fun m ρ _ =>
  (θ_run Cert.Reference25Ideal.defs _ _).mono (fun r h => ⟨fun c => (h c).2, sem_eq_zero_of_no_sems (by decide) r.2⟩)
    (Cert.Reference25Ideal.Value.run m ρ)

theorem value : Cert.algebraic_Kernel25Ideal_Reference25Ideal := fun m ρ m' ρ' _ agree =>
  ⟨_,
    (θ_run defs _ _).mono (fun _ h c => ⟨(h c).1.trans (final m c), (h c).2⟩) (Cert.Kernel25Ideal.Value.run_blocks m ρ),
    (θ_run Cert.Reference25Ideal.defs _ _).mono
      (fun _ h c => ⟨(h c).1.trans ((Cert.Reference25Ideal.Read.val_main_v17_eq _ _ _).trans
        (congr (congrArg₂ Cert.Reference25Ideal.Read.val_main_v17 (agree c).1 (agree c).2.1) (agree c).2.2)), (h c).2⟩)
      (Cert.Reference25Ideal.Value.run m' ρ')⟩

end Cert.Proof.Merge

end
-- ==== Proof.Update.MergeBwd.lean ====
/-
  The gradient of the gated merge: of the two branches and of the two gates, in bf16.
-/
module

public import proofs.«01_k».proof.Defs
public import proofs.«01_k».proof.Proof.Gen.Kernel26.Frame
public import proofs.«01_k».proof.Proof.Gen.Kernel26Ideal.Value
public import proofs.«01_k».proof.Proof.Gen.Reference26Ideal.Read
public import proofs.«01_k».proof.Proof.Update.Gate
public import Idealize.ShloMosaic.PureOps.Ideal
public import Idealize.ShloMosaic.Lib.ValueIdx
public import Idealize.ShloMosaic.Lib.Pipeline.Value
public import Idealize.ShloMosaic.Lib.Quiescent
public import Idealize.ShloMosaic.Lib.Pipeline.ValueKit.Geometry
public import Idealize.ShloMosaic.Lib.Pipeline.ValueKit.Acc

@[expose] public section

noncomputable section

namespace Cert.Proof.MergeBwd

open Cert.Kernel26Ideal Cert.Kernel26Ideal.Gen Cert.Proof.Gate
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The gradient is staged narrowed, which over the extended reals is as it is. -/
theorem staged_d (c : Dev nD) :
    V m c main_v0 = (truncf .bf16 (m ((c : Thread nD τ).loc main_arg0) : FVec Ideal S2048x1024 .f32) bitsLt_bf16_f32 : FVec Ideal S2048x1024 .bf16) := by
  unfold V; after_results <;> rfl

theorem d_apply (d : Vec Ideal S256x1024 .bf16) : k0_pay2 d = d := by
  unfold k0_pay2
  exact shapeCast_self _ _

/-- What the body stores for the first branch, at an index. -/
theorem pay_a (d : Vec Ideal S256x1024 .bf16) (g : Vec Ideal S256x1024 .f32) (y : S256x1024.Idx) :
    k0_pay5 d g y = d y * sig (g y) := by
  unfold k0_pay5
  rw [d_apply]
  exact congrArg (d y * ·) (sig_zero_sub _)

/-- For the second. -/
theorem pay_b (d : Vec Ideal S256x1024 .bf16) (g : Vec Ideal S256x1024 .f32) (y : S256x1024.Idx) :
    k0_pay6 d g y = d y * sig (g y) := pay_a d g y

/-- For the first gate. -/
theorem pay_ga (d : Vec Ideal S256x1024 .bf16) (g v : Vec Ideal S256x1024 .f32) (y : S256x1024.Idx) :
    k0_pay7 d g v y = d y * v y * (sig (g y) * (one - sig (g y))) := by
  unfold k0_pay7
  rw [d_apply]
  exact (congrArg (fun s : EReal => d y * v y * s * (one - s)) (sig_zero_sub (g y))).trans (slope _ _)

/-- For the second gate. -/
theorem pay_gb (d : Vec Ideal S256x1024 .bf16) (g v : Vec Ideal S256x1024 .f32) (y : S256x1024.Idx) :
    k0_pay1 (k0_pay2 d) (k0_pay4 g) v y = d y * v y * (sig (g y) * (one - sig (g y))) := pay_ga d g v y

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 7] := (by decide +kernel : ∀ t : Fin grid0.N, _)
theorem idx4 : ∀ t : Fin cfg0.N, win0_4.index t = ![t.val, 8] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

open Cert.Reference26Ideal.Read in
/-- The reference's first gate, at an index. -/
theorem ref_sig_a (x3 : Vec Ideal S2048x9216 .f32) (i : S2048x1024.Idx) :
    val_main_v7 (F := Ideal) x3 i = sig (x3 (idx_main_v0 i)) := by
  rw [val_main_v7_apply, val_main_v6_apply, val_main_cst_0_apply, val_main_v5_apply, val_main_v4_apply, val_main_cst_apply, val_main_v3_apply, val_main_v2_apply, val_main_v0_apply]
  rfl

open Cert.Reference26Ideal.Read in
/-- The reference's second gate, at an index. -/
theorem ref_sig_b (x3 : Vec Ideal S2048x9216 .f32) (i : S2048x1024.Idx) :
    val_main_v17 (F := Ideal) x3 i = sig (x3 (idx_main_v1 i)) := by
  rw [val_main_v17_apply, val_main_v16_apply, val_main_cst_3_apply, val_main_v15_apply, val_main_v14_apply, val_main_cst_2_apply, val_main_v13_apply, val_main_v12_apply, val_main_v1_apply]
  rfl

/-- The reference's gradient of the first branch, at an index. -/
theorem ref_a (x0 : Vec Ideal S2048x1024 .f32) (x3 : Vec Ideal S2048x9216 .f32) (i : S2048x1024.Idx) :
    Cert.Reference26Ideal.Read.val_main_v31 x0 x3 i = x0 i * sig (x3 (Cert.Reference26Ideal.Read.idx_main_v0 i)) :=
  (congrArg₂ (fun p q : EReal => p * q) (ref_sig_a x3 i) (congrFun (shapeCast_self x0 _) i)).trans (mul_comm _ _)

/-- Of the second. -/
theorem ref_b (x0 : Vec Ideal S2048x1024 .f32) (x3 : Vec Ideal S2048x9216 .f32) (i : S2048x1024.Idx) :
    Cert.Reference26Ideal.Read.val_main_v32 x0 x3 i = x0 i * sig (x3 (Cert.Reference26Ideal.Read.idx_main_v1 i)) :=
  (congrArg₂ (fun p q : EReal => p * q) (ref_sig_b x3 i) (congrFun (shapeCast_self x0 _) i)).trans (mul_comm _ _)

/-- The reference's gradient of the first gate, at an index. -/
theorem ref_ga (x0 x1 : Vec Ideal S2048x1024 .f32) (x3 : Vec Ideal S2048x9216 .f32) (i : S2048x1024.Idx) :
    Cert.Reference26Ideal.Read.val_main_v33 x0 x1 x3 i = x0 i * x1 i * (sig (x3 (Cert.Reference26Ideal.Read.idx_main_v0 i)) * (one - sig (x3 (Cert.Reference26Ideal.Read.idx_main_v0 i)))) :=
  congrArg₂ (fun p q : EReal => p * x1 i * (q * (one - q))) (congrFun (shapeCast_self x0 _) i) (ref_sig_a x3 i)

/-- Of the second. -/
theorem ref_gb (x0 x1 : Vec Ideal S2048x1024 .f32) (x3 : Vec Ideal S2048x9216 .f32) (i : S2048x1024.Idx) :
    Cert.Reference26Ideal.Read.val_main_v34 x0 x1 x3 i = x0 i * x1 i * (sig (x3 (Cert.Reference26Ideal.Read.idx_main_v1 i)) * (one - sig (x3 (Cert.Reference26Ideal.Read.idx_main_v1 i)))) :=
  congrArg₂ (fun p q : EReal => p * x1 i * (q * (one - q))) (congrFun (shapeCast_self x0 _) i) (ref_sig_b x3 i)

/-- The array of the first branch's gradient is the reference's. -/
theorem final_a (c : Dev nD) : (dats m 0 c).arrAt 5 cfg0.N = Cert.Reference26Ideal.Read.val_main_v31 (m ((c : Thread nD τ).loc main_arg0)) (m ((c : Thread nD τ).loc main_arg3)) := by
  refine (dats m 0 c).arrAt_eq_of_covers 5 _ (by decide +kernel) fun t _ y => ?_
  blk_simp
  rw [after0_5]
  frame_out
  refine (pay_a _ _ y).trans (Eq.trans ?_ (ref_a _ _ _).symm)
  refine congrArg₂ (fun p q : EReal => p * q) ?_ (congrArg sig ?_)
  · blk_simp [iblk]
    rw [staged_d]
    refine congrArg (m ((c : Thread nD τ).loc main_arg0)) ?_
    blk_ext [idx0, idx5, Matrix.cons_val_zero, Matrix.cons_val_one]
  · blk_simp [iblk]
    rw [V_main_arg3]
    refine congrArg (m ((c : Thread nD τ).loc main_arg3)) ?_
    blk_ext [idx3, idx5, Matrix.cons_val_zero, Matrix.cons_val_one]

/-- The array of the second branch's gradient is the reference's. -/
theorem final_b (c : Dev nD) : (dats m 0 c).arrAt 6 cfg0.N = Cert.Reference26Ideal.Read.val_main_v32 (m ((c : Thread nD τ).loc main_arg0)) (m ((c : Thread nD τ).loc main_arg3)) := by
  refine (dats m 0 c).arrAt_eq_of_covers 6 _ (by decide +kernel) fun t _ y => ?_
  blk_simp
  rw [after0_6]
  frame_out
  refine (pay_b _ _ y).trans (Eq.trans ?_ (ref_b _ _ _).symm)
  refine congrArg₂ (fun p q : EReal => p * q) ?_ (congrArg sig ?_)
  · blk_simp [iblk]
    rw [staged_d]
    refine congrArg (m ((c : Thread nD τ).loc main_arg0)) ?_
    blk_ext [idx0, idx6, Matrix.cons_val_zero, Matrix.cons_val_one]
  · blk_simp [iblk]
    rw [V_main_arg3]
    refine congrArg (m ((c : Thread nD τ).loc main_arg3)) ?_
    blk_ext [idx4, idx6, Matrix.cons_val_zero, Matrix.cons_val_one]

/-- The array of the first gate's gradient is the reference's. -/
theorem final_ga (c : Dev nD) : (dats m 0 c).arrAt 7 cfg0.N = Cert.Reference26Ideal.Read.val_main_v33 (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]
  frame_out
  refine (pay_ga _ _ _ y).trans (Eq.trans ?_ (ref_ga _ _ _ _).symm)
  refine congrArg₂ (fun p q : EReal => p * (sig q * (one - sig q))) (congrArg₂ (fun p q : EReal => p * q) ?_ ?_) ?_
  · blk_simp [iblk]
    rw [staged_d]
    refine congrArg (m ((c : Thread nD τ).loc main_arg0)) ?_
    blk_ext [idx0, idx7, Matrix.cons_val_zero, Matrix.cons_val_one]
  · blk_simp [iblk]
    rw [V_main_arg1]
    refine congrArg (m ((c : Thread nD τ).loc main_arg1)) ?_
    blk_ext [idx1, idx7, Matrix.cons_val_zero, Matrix.cons_val_one]
  · blk_simp [iblk]
    rw [V_main_arg3]
    refine congrArg (m ((c : Thread nD τ).loc main_arg3)) ?_
    blk_ext [idx3, idx7, Matrix.cons_val_zero, Matrix.cons_val_one]

/-- The array of the second gate's gradient is the reference's. -/
theorem final_gb (c : Dev nD) : (dats m 0 c).arrAt 8 cfg0.N = Cert.Reference26Ideal.Read.val_main_v34 (m ((c : Thread nD τ).loc main_arg0)) (m ((c : Thread nD τ).loc main_arg2)) (m ((c : Thread nD τ).loc main_arg3)) := by
  refine (dats m 0 c).arrAt_eq_of_covers 8 _ (by decide +kernel) fun t _ y => ?_
  blk_simp
  rw [after0_8]
  frame_out
  refine (pay_gb _ _ _ y).trans (Eq.trans ?_ (ref_gb _ _ _ _).symm)
  refine congrArg₂ (fun p q : EReal => p * (sig q * (one - sig q))) (congrArg₂ (fun p q : EReal => p * q) ?_ ?_) ?_
  · blk_simp [iblk]
    rw [staged_d]
    refine congrArg (m ((c : Thread nD τ).loc main_arg0)) ?_
    blk_ext [idx0, idx8, Matrix.cons_val_zero, Matrix.cons_val_one]
  · blk_simp [iblk]
    rw [V_main_arg2]
    refine congrArg (m ((c : Thread nD τ).loc main_arg2)) ?_
    blk_ext [idx2, idx8, Matrix.cons_val_zero, Matrix.cons_val_one]
  · blk_simp [iblk]
    rw [V_main_arg3]
    refine congrArg (m ((c : Thread nD τ).loc main_arg3)) ?_
    blk_ext [idx4, idx8, Matrix.cons_val_zero, Matrix.cons_val_one]

theorem frame_kernel : Cert.quiescent_Kernel26 := fun m ρ _ => Cert.Kernel26.Gen.frame m ρ

theorem frame_ideal : Cert.quiescent_Kernel26Ideal := fun m ρ _ => Cert.Kernel26Ideal.Gen.frame m ρ

theorem frame_reference : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run m ρ)

theorem value : Cert.algebraic_Kernel26Ideal_Reference26Ideal := fun m ρ m' ρ' _ agree =>
  ⟨_, _, _, _,
    (θ_run defs _ _).mono (fun _ h c => ⟨(h c).1.trans (final_a m c), (h c).2.1.trans (final_b m c), (h c).2.2.1.trans (final_ga m c),
        (h c).2.2.2.1.trans (final_gb m c), (h c).2.2.2.2⟩)
      (Cert.Kernel26Ideal.Value.run_blocks m ρ),
    (θ_run Cert.Reference26Ideal.defs _ _).mono
      (fun _ h c => ⟨(h c).1.trans ((Cert.Reference26Ideal.Read.val_main_v31_eq _ _).trans (congrArg₂ Cert.Reference26Ideal.Read.val_main_v31 (agree c).1 (agree c).2.2.2)),
        (h c).2.1.trans ((Cert.Reference26Ideal.Read.val_main_v32_eq _ _).trans (congrArg₂ Cert.Reference26Ideal.Read.val_main_v32 (agree c).1 (agree c).2.2.2)),
        (h c).2.2.1.trans ((Cert.Reference26Ideal.Read.val_main_v33_eq _ _ _).trans
          (congr (congrArg₂ Cert.Reference26Ideal.Read.val_main_v33 (agree c).1 (agree c).2.1) (agree c).2.2.2)),
        (h c).2.2.2.1.trans ((Cert.Reference26Ideal.Read.val_main_v34_eq _ _ _).trans
          (congr (congrArg₂ Cert.Reference26Ideal.Read.val_main_v34 (agree c).1 (agree c).2.2.1) (agree c).2.2.2)), (h c).2.2.2.2⟩)
      (Cert.Reference26Ideal.Value.run m' ρ')⟩

end Cert.Proof.MergeBwd

end
-- ==== Proof.Products.MixOutDw.lean ====
/-
  The gradient of the mixer's output weights: `aᵀ · dy`, whose second factor the body narrows.
-/
module

public import proofs.«01_k».proof.Defs
public import proofs.«01_k».proof.Proof.Products.Basic
public import proofs.«01_k».proof.Proof.Gen.Kernel27.Frame
public import proofs.«01_k».proof.Proof.Gen.Kernel27Ideal.Value
public import proofs.«01_k».proof.Proof.Gen.Reference27Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.MixOutDw

open Cert.Kernel27Ideal Cert.Kernel27Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The merged rows are staged narrowed, which over the extended reals is as they are. -/
theorem staged_h (c : Dev nD) :
    V m c main_v0 = (truncf .bf16 (m ((c : Thread nD τ).loc main_arg0) : FVec Ideal S2048x1024 .f32) bitsLt_bf16_f32 : FVec Ideal S2048x1024 .bf16) := by
  unfold V; after_results <;> rfl

/-- What the body stores, at an index. -/
theorem pay_apply (a : Vec Ideal S2048x1024 .bf16) (b : Vec Ideal S2048x512 .f32) (y : S1024x512.Idx) :
    k0_pay1 a b y = ∑ k : Fin 2048, a (ix2 k (y 0)) * b (ix2 k (y 1)) := by
  unfold k0_pay1
  refine (matmul_cols_cols _ rfl rfl rfl rfl rfl rfl _ _ _).trans ?_
  rw [shapeCast_self]
  rfl

theorem idx0 : ∀ t : Fin cfg0.N, win0_0.index t = ![0, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![0, (grid0.coords t 1).val] :=
  (by decide +kernel : ∀ t : Fin grid0.N, _)

/-- The kernel's output array is the reference's result. -/
theorem final (c : Dev nD) : (dats m 0 c).arrAt 2 cfg0.N
    = Cert.Reference27Ideal.Read.val_main_v2 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  rw [Cert.Reference27Ideal.Read.val_main_v2_apply, Cert.Reference27Ideal.Read.val_main_v1_apply]
  refine Eq.trans ?_ (Cert.Reference27Ideal.Read.val_main_v0_apply _ _ _).symm
  blk_simp [iblk]
  rw [staged_h, V_main_arg1]
  refine Finset.sum_congr rfl fun k _ => (mul_comm _ _).trans (congrArg₂ (· * ·) ?_ ?_)
  · refine congrArg (m ((c : Thread nD τ).loc main_arg1)) ?_
    blk_ext [idx0, idx1, idx2, ix2, ix3, Matrix.cons_val_zero, Matrix.cons_val_one]
  · refine congrArg (m ((c : Thread nD τ).loc main_arg0)) ?_
    blk_ext [idx0, idx1, idx2, ix2, ix3, Matrix.cons_val_zero, Matrix.cons_val_one]

theorem frame_kernel : Cert.quiescent_Kernel27 := fun m ρ _ => Cert.Kernel27.Gen.frame m ρ

theorem frame_ideal : Cert.quiescent_Kernel27Ideal := fun m ρ _ => Cert.Kernel27Ideal.Gen.frame m ρ

theorem frame_reference : Cert.quiescent_Reference27Ideal := fun m ρ _ =>
  (θ_run Cert.Reference27Ideal.defs _ _).mono (fun r h => ⟨fun c => (h c).2, sem_eq_zero_of_no_sems (by decide) r.2⟩)
    (Cert.Reference27Ideal.Value.run m ρ)

theorem value : Cert.algebraic_Kernel27Ideal_Reference27Ideal := fun m ρ m' ρ' _ agree =>
  ⟨fun c => Cert.Reference27Ideal.Read.val_main_v2 (m ((c : Thread nD τ).loc main_arg0)) (m ((c : Thread nD τ).loc main_arg1)),
    (θ_run defs _ _).mono (fun _ h c => ⟨(h c).1.trans (final m c), (h c).2⟩) (Cert.Kernel27Ideal.Value.run_blocks m ρ),
    (θ_run Cert.Reference27Ideal.defs _ _).mono
      (fun _ h c => ⟨(h c).1.trans ((Cert.Reference27Ideal.Read.val_main_v2_eq _ _).trans
        (congrArg₂ Cert.Reference27Ideal.Read.val_main_v2 (agree c).1 (agree c).2)), (h c).2⟩)
      (Cert.Reference27Ideal.Value.run m' ρ')⟩

end Cert.Proof.MixOutDw

end
-- ==== Proof.Products.ProjScal.lean ====
/-
  The mixer's projection on its narrow columns: `h · w`.
-/
module

public import proofs.«01_k».proof.Defs
public import proofs.«01_k».proof.Proof.Products.Basic
public import proofs.«01_k».proof.Proof.Gen.Kernel28.Frame
public import proofs.«01_k».proof.Proof.Gen.Kernel28Ideal.Value
public import proofs.«01_k».proof.Proof.Gen.Reference28Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.ProjScal

open Cert.Kernel28Ideal Cert.Kernel28Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The normed rows are staged narrowed, which over the extended reals is as they are. -/
theorem staged_h (c : Dev nD) :
    V m c main_v0 = (truncf .bf16 (m ((c : Thread nD τ).loc main_arg0) : FVec Ideal S2048x1024 .f32) bitsLt_bf16_f32 : FVec Ideal S2048x1024 .bf16) := by
  unfold V; after_results <;> rfl

/-- The weights are staged narrowed, which over the extended reals is as they are. -/
theorem staged_w (c : Dev nD) :
    V m c main_v1 = (truncf .bf16 (m ((c : Thread nD τ).loc main_arg1) : FVec Ideal S1024x128 .f32) bitsLt_bf16_f32 : FVec Ideal S1024x128 .bf16) := by
  unfold V; after_results <;> rfl

/-- What the body stores, at an index. -/
theorem pay_apply (a : Vec Ideal S1024x1024 .bf16) (b : Vec Ideal S1024x128 .bf16) (y : S1024x128.Idx) :
    k0_pay1 a b y = ∑ k : Fin 1024, a (ix2 (y 0) k) * b (ix2 k (y 1)) := by
  unfold k0_pay1
  refine (matmul_rows_cols _ rfl rfl rfl rfl rfl rfl _ _ _).trans ?_
  rw [shapeCast_self, shapeCast_self]

theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The kernel's output array is the reference's result. -/
theorem final (c : Dev nD) : (dats m 0 c).arrAt 2 cfg0.N
    = Cert.Reference28Ideal.Read.val_main_v0 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  refine Eq.trans ?_ (Cert.Reference28Ideal.Read.val_main_v0_apply _ _ _).symm
  blk_simp [iblk]
  rw [staged_h, staged_w]
  refine Finset.sum_congr rfl fun k _ => congrArg₂ (· * ·) ?_ ?_
  · refine congrArg (m ((c : Thread nD τ).loc main_arg0)) ?_
    blk_ext [idx0, idx1, idx2, ix2, ix3, Matrix.cons_val_zero, Matrix.cons_val_one]
  · refine congrArg (m ((c : Thread nD τ).loc main_arg1)) ?_
    blk_ext [idx0, idx1, idx2, ix2, ix3, Matrix.cons_val_zero, Matrix.cons_val_one]

theorem frame_kernel : Cert.quiescent_Kernel28 := fun m ρ _ => Cert.Kernel28.Gen.frame m ρ

theorem frame_ideal : Cert.quiescent_Kernel28Ideal := fun m ρ _ => Cert.Kernel28Ideal.Gen.frame m ρ

theorem frame_reference : Cert.quiescent_Reference28Ideal := fun m ρ _ =>
  (θ_run Cert.Reference28Ideal.defs _ _).mono (fun r h => ⟨fun c => (h c).2, sem_eq_zero_of_no_sems (by decide) r.2⟩)
    (Cert.Reference28Ideal.Value.run m ρ)

theorem value : Cert.algebraic_Kernel28Ideal_Reference28Ideal := fun m ρ m' ρ' _ agree =>
  ⟨fun c => Cert.Reference28Ideal.Read.val_main_v0 (m ((c : Thread nD τ).loc main_arg0)) (m ((c : Thread nD τ).loc main_arg1)),
    (θ_run defs _ _).mono (fun _ h c => ⟨(h c).1.trans (final m c), (h c).2⟩) (Cert.Kernel28Ideal.Value.run_blocks m ρ),
    (θ_run Cert.Reference28Ideal.defs _ _).mono
      (fun _ h c => ⟨(h c).1.trans ((Cert.Reference28Ideal.Read.val_main_v0_eq _ _).trans
        (congrArg₂ Cert.Reference28Ideal.Read.val_main_v0 (agree c).1 (agree c).2)), (h c).2⟩)
      (Cert.Reference28Ideal.Value.run m' ρ')⟩

end Cert.Proof.ProjScal

end
-- ==== Proof.Products.ProjScalDw.lean ====
/-
  The gradient of the weights of the mixer's narrow columns: `hᵀ · dy`.
-/
module

public import proofs.«01_k».proof.Defs
public import proofs.«01_k».proof.Proof.Products.Basic
public import proofs.«01_k».proof.Proof.Gen.Kernel29.Frame
public import proofs.«01_k».proof.Proof.Gen.Kernel29Ideal.Value
public import proofs.«01_k».proof.Proof.Gen.Reference29Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.ProjScalDw

open Cert.Kernel29Ideal Cert.Kernel29Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The normed rows are staged narrowed, which over the extended reals is as they are. -/
theorem staged_h (c : Dev nD) :
    V m c main_v0 = (truncf .bf16 (m ((c : Thread nD τ).loc main_arg0) : FVec Ideal S2048x1024 .f32) bitsLt_bf16_f32 : FVec Ideal S2048x1024 .bf16) := by
  unfold V; after_results <;> rfl

/-- The gradients are staged narrowed, which over the extended reals is as they are. -/
theorem staged_d (c : Dev nD) :
    V m c main_v1 = (truncf .bf16 (m ((c : Thread nD τ).loc main_arg1) : FVec Ideal S2048x128 .f32) bitsLt_bf16_f32 : FVec Ideal S2048x128 .bf16) := by
  unfold V; after_results <;> rfl

/-- What the body stores, at an index. -/
theorem pay_apply (a : Vec Ideal S2048x1024 .bf16) (b : Vec Ideal S2048x128 .bf16) (y : S1024x128.Idx) :
    k0_pay1 a b y = ∑ k : Fin 2048, a (ix2 k (y 0)) * b (ix2 k (y 1)) := by
  unfold k0_pay1
  refine (matmul_cols_cols _ rfl rfl rfl rfl rfl rfl _ _ _).trans ?_
  rw [shapeCast_self, shapeCast_self]

theorem idx0 : ∀ t : Fin cfg0.N, win0_0.index t = ![0, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![0, (grid0.coords t 1).val] :=
  (by decide +kernel : ∀ t : Fin grid0.N, _)

/-- The kernel's output array is the reference's result. -/
theorem final (c : Dev nD) : (dats m 0 c).arrAt 2 cfg0.N
    = Cert.Reference29Ideal.Read.val_main_v2 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  rw [Cert.Reference29Ideal.Read.val_main_v2_apply, Cert.Reference29Ideal.Read.val_main_v1_apply]
  refine Eq.trans ?_ (Cert.Reference29Ideal.Read.val_main_v0_apply _ _ _).symm
  blk_simp [iblk]
  rw [staged_h, staged_d]
  refine Finset.sum_congr rfl fun k _ => (mul_comm _ _).trans (congrArg₂ (· * ·) ?_ ?_)
  · refine congrArg (m ((c : Thread nD τ).loc main_arg1)) ?_
    blk_ext [idx0, idx1, idx2, ix2, ix3, Matrix.cons_val_zero, Matrix.cons_val_one]
  · refine congrArg (m ((c : Thread nD τ).loc main_arg0)) ?_
    blk_ext [idx0, idx1, idx2, ix2, ix3, Matrix.cons_val_zero, Matrix.cons_val_one]

theorem frame_kernel : Cert.quiescent_Kernel29 := fun m ρ _ => Cert.Kernel29.Gen.frame m ρ

theorem frame_ideal : Cert.quiescent_Kernel29Ideal := fun m ρ _ => Cert.Kernel29Ideal.Gen.frame m ρ

theorem frame_reference : Cert.quiescent_Reference29Ideal := fun m ρ _ =>
  (θ_run Cert.Reference29Ideal.defs _ _).mono (fun r h => ⟨fun c => (h c).2, sem_eq_zero_of_no_sems (by decide) r.2⟩)
    (Cert.Reference29Ideal.Value.run m ρ)

theorem value : Cert.algebraic_Kernel29Ideal_Reference29Ideal := fun m ρ m' ρ' _ agree =>
  ⟨fun c => Cert.Reference29Ideal.Read.val_main_v2 (m ((c : Thread nD τ).loc main_arg0)) (m ((c : Thread nD τ).loc main_arg1)),
    (θ_run defs _ _).mono (fun _ h c => ⟨(h c).1.trans (final m c), (h c).2⟩) (Cert.Kernel29Ideal.Value.run_blocks m ρ),
    (θ_run Cert.Reference29Ideal.defs _ _).mono
      (fun _ h c => ⟨(h c).1.trans ((Cert.Reference29Ideal.Read.val_main_v2_eq _ _).trans
        (congrArg₂ Cert.Reference29Ideal.Read.val_main_v2 (agree c).1 (agree c).2)), (h c).2⟩)
      (Cert.Reference29Ideal.Value.run m' ρ')⟩

end Cert.Proof.ProjScalDw

end
-- ==== Proof.Products.ProjScalDx.lean ====
/-
  The gradient of the mixer's normed rows by its narrow columns: `dy · wᵀ`.
-/
module

public import proofs.«01_k».proof.Defs
public import proofs.«01_k».proof.Proof.Products.Basic
public import proofs.«01_k».proof.Proof.Gen.Kernel30.Frame
public import proofs.«01_k».proof.Proof.Gen.Kernel30Ideal.Value
public import proofs.«01_k».proof.Proof.Gen.Reference30Ideal.Read
public import Idealize.ShloMosaic.Lib.Quiescent
public import Idealize.ShloMosaic.Lib.Pipeline.ValueKit.Geometry
public import Idealize.ShloMosaic.Lib.Pipeline.ValueKit.Acc

@[expose] public section

noncomputable section

namespace Cert.Proof.ProjScalDx

open Cert.Kernel30Ideal Cert.Kernel30Ideal.Gen Cert.Proof.Products
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ)

/-- The gradients are staged narrowed, which over the extended reals is as they are. -/
theorem staged_h (c : Dev nD) :
    V m c main_v0 = (truncf .bf16 (m ((c : Thread nD τ).loc main_arg0) : FVec Ideal S2048x128 .f32) bitsLt_bf16_f32 : FVec Ideal S2048x128 .bf16) := by
  unfold V; after_results <;> rfl

/-- The weights are staged narrowed, which over the extended reals is as they are. -/
theorem staged_w (c : Dev nD) :
    V m c main_v1 = (truncf .bf16 (m ((c : Thread nD τ).loc main_arg1) : FVec Ideal S1024x128 .f32) bitsLt_bf16_f32 : FVec Ideal S1024x128 .bf16) := by
  unfold V; after_results <;> rfl

/-- What the body stores, at an index. -/
theorem pay_apply (a : Vec Ideal S1024x128 .bf16) (b : Vec Ideal S512x128 .bf16) (y : S1024x512.Idx) :
    k0_pay1 a b y = ∑ k : Fin 128, a (ix2 (y 0) k) * b (ix2 (y 1) k) := by
  unfold k0_pay1
  refine (matmul_rows_rows _ rfl rfl rfl rfl rfl rfl _ _ _).trans ?_
  rw [shapeCast_self, shapeCast_self]

theorem idx0 : ∀ t : Fin cfg0.N, win0_0.index t = ![(grid0.coords t 0).val, 0] :=
  (by decide +kernel : ∀ t : Fin grid0.N, _)
theorem idx1 : ∀ t : Fin cfg0.N, win0_1.index t = ![(grid0.coords t 1).val, 0] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The kernel's output array is the reference's result. -/
theorem final (c : Dev nD) : (dats m 0 c).arrAt 2 cfg0.N
    = Cert.Reference30Ideal.Read.val_main_v0 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_apply _ _ y).trans ?_
  refine Eq.trans ?_ (Cert.Reference30Ideal.Read.val_main_v0_apply _ _ _).symm
  blk_simp [iblk]
  rw [staged_h, staged_w]
  refine Finset.sum_congr rfl fun k _ => congrArg₂ (· * ·) ?_ ?_
  · refine congrArg (m ((c : Thread nD τ).loc main_arg0)) ?_
    blk_ext [idx0, idx1, idx2, ix2, ix3, Matrix.cons_val_zero, Matrix.cons_val_one]
  · refine congrArg (m ((c : Thread nD τ).loc main_arg1)) ?_
    blk_ext [idx0, idx1, idx2, ix2, ix3, Matrix.cons_val_zero, Matrix.cons_val_one]

theorem frame_kernel : Cert.quiescent_Kernel30 := fun m ρ _ => Cert.Kernel30.Gen.frame m ρ

theorem frame_ideal : Cert.quiescent_Kernel30Ideal := fun m ρ _ => Cert.Kernel30Ideal.Gen.frame m ρ

theorem frame_reference : Cert.quiescent_Reference30Ideal := fun m ρ _ =>
  (θ_run Cert.Reference30Ideal.defs _ _).mono (fun r h => ⟨fun c => (h c).2, sem_eq_zero_of_no_sems (by decide) r.2⟩)
    (Cert.Reference30Ideal.Value.run m ρ)

theorem value : Cert.algebraic_Kernel30Ideal_Reference30Ideal := fun m ρ m' ρ' _ agree =>
  ⟨fun c => Cert.Reference30Ideal.Read.val_main_v0 (m ((c : Thread nD τ).loc main_arg0)) (m ((c : Thread nD τ).loc main_arg1)),
    (θ_run defs _ _).mono (fun _ h c => ⟨(h c).1.trans (final m c), (h c).2⟩) (Cert.Kernel30Ideal.Value.run_blocks m ρ),
    (θ_run Cert.Reference30Ideal.defs _ _).mono
      (fun _ h c => ⟨(h c).1.trans ((Cert.Reference30Ideal.Read.val_main_v0_eq _ _).trans
        (congrArg₂ Cert.Reference30Ideal.Read.val_main_v0 (agree c).1 (agree c).2)), (h c).2⟩)
      (Cert.Reference30Ideal.Value.run m' ρ')⟩

end Cert.Proof.ProjScalDx

end
-- ==== Proof.lean ====
/- The attention gradient's frames, and the frames and values of the matrix products, the norms, the merge, the loss head and the optimiser, put together. -/
module

public import proofs.«01_k».proof.Defs
public import proofs.«01_k».proof.Proof.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Read
public import proofs.«01_k».proof.Proof.Products.FfnOutDx
public import proofs.«01_k».proof.Proof.Gen.Kernel3.Frame
public import proofs.«01_k».proof.Proof.Gen.Kernel3Ideal.Value
public import proofs.«01_k».proof.Proof.Gen.Reference3Ideal.Read
public import proofs.«01_k».proof.Proof.Products.FfnOutDw
public import proofs.«01_k».proof.Proof.Gen.Kernel4.Frame
public import proofs.«01_k».proof.Proof.Gen.Kernel4Ideal.Value
public import proofs.«01_k».proof.Proof.Gen.Reference4Ideal.Read
public import proofs.«01_k».proof.Proof.Products.FfnInDw
public import proofs.«01_k».proof.Proof.Gen.Kernel5.Frame
public import proofs.«01_k».proof.Proof.Gen.Kernel5Ideal.Value
public import proofs.«01_k».proof.Proof.Gen.Reference5Ideal.Read
public import proofs.«01_k».proof.Proof.Products.FfnInDx
public import proofs.«01_k».proof.Proof.Gen.Kernel6.Frame
public import proofs.«01_k».proof.Proof.Gen.Kernel6Ideal.Value
public import proofs.«01_k».proof.Proof.Gen.Reference6Ideal.Read
public import proofs.«01_k».proof.Proof.Products.ProjDw
public import proofs.«01_k».proof.Proof.Gen.Kernel7.Frame
public import proofs.«01_k».proof.Proof.Gen.Kernel7Ideal.Value
public import proofs.«01_k».proof.Proof.Gen.Reference7Ideal.Read
public import proofs.«01_k».proof.Proof.Products.ProjDx
public import proofs.«01_k».proof.Proof.Gen.Kernel8.Frame
public import proofs.«01_k».proof.Proof.Gen.Kernel8Ideal.Value
public import proofs.«01_k».proof.Proof.Gen.Reference8Ideal.Read
public import proofs.«01_k».proof.Proof.Products.FfnInAct
public import proofs.«01_k».proof.Proof.Gen.Kernel9.Frame
public import proofs.«01_k».proof.Proof.Gen.Kernel9Ideal.Value
public import proofs.«01_k».proof.Proof.Gen.Reference9Ideal.Read
public import proofs.«01_k».proof.Proof.Products.FfnOut
public import proofs.«01_k».proof.Proof.Gen.Kernel10.Frame
public import proofs.«01_k».proof.Proof.Gen.Kernel10Ideal.Value
public import proofs.«01_k».proof.Proof.Gen.Reference10Ideal.Read
public import proofs.«01_k».proof.Proof.Products.Proj
public import proofs.«01_k».proof.Proof.Gen.Kernel11.Frame
public import proofs.«01_k».proof.Proof.Gen.Kernel11Ideal.Value
public import proofs.«01_k».proof.Proof.Gen.Reference11Ideal.Read
public import proofs.«01_k».proof.Proof.Update.UpdateSmall
public import proofs.«01_k».proof.Proof.Gen.Kernel12.Frame
public import proofs.«01_k».proof.Proof.Gen.Kernel12Ideal.Value
public import proofs.«01_k».proof.Proof.Gen.Reference12Ideal.Read
public import proofs.«01_k».proof.Proof.Update.UpdateConv
public import proofs.«01_k».proof.Proof.Gen.Kernel13.Frame
public import proofs.«01_k».proof.Proof.Gen.Kernel13Ideal.Frame
public import proofs.«01_k».proof.Proof.Gen.Reference13Ideal.Read
public import proofs.«01_k».proof.Proof.Update.UpdateBranch
public import proofs.«01_k».proof.Proof.Gen.Kernel14.Frame
public import proofs.«01_k».proof.Proof.Gen.Kernel14Ideal.Frame
public import proofs.«01_k».proof.Proof.Gen.Reference14Ideal.Read
public import proofs.«01_k».proof.Proof.Update.UpdateFfnIn
public import proofs.«01_k».proof.Proof.Gen.Kernel15.Frame
public import proofs.«01_k».proof.Proof.Gen.Kernel15Ideal.Frame
public import proofs.«01_k».proof.Proof.Gen.Reference15Ideal.Read
public import proofs.«01_k».proof.Proof.Update.UpdateFfnOut
public import proofs.«01_k».proof.Proof.Gen.Kernel16.Frame
public import proofs.«01_k».proof.Proof.Gen.Kernel16Ideal.Frame
public import proofs.«01_k».proof.Proof.Gen.Reference16Ideal.Read
public import proofs.«01_k».proof.Proof.Update.UpdateIn
public import proofs.«01_k».proof.Proof.Gen.Kernel17.Frame
public import proofs.«01_k».proof.Proof.Gen.Kernel17Ideal.Value
public import proofs.«01_k».proof.Proof.Gen.Reference17Ideal.Read
public import proofs.«01_k».proof.Proof.Update.LossHead
public import proofs.«01_k».proof.Proof.Gen.Kernel18.Frame
public import proofs.«01_k».proof.Proof.Gen.Kernel18Ideal.Value
public import proofs.«01_k».proof.Proof.Gen.Reference18Ideal.Read
public import proofs.«01_k».proof.Proof.Update.NormBwd
public import proofs.«01_k».proof.Proof.Gen.Kernel19.Frame
public import proofs.«01_k».proof.Proof.Gen.Kernel19Ideal.Value
public import proofs.«01_k».proof.Proof.Gen.Reference19Ideal.Read
public import proofs.«01_k».proof.Proof.Update.NormFwd
public import proofs.«01_k».proof.Proof.Gen.Kernel20.Frame
public import proofs.«01_k».proof.Proof.Gen.Kernel20Ideal.Value
public import proofs.«01_k».proof.Proof.Gen.Reference20Ideal.Read
public import proofs.«01_k».proof.Proof.Products.Branch
public import proofs.«01_k».proof.Proof.Gen.Kernel21.Frame
public import proofs.«01_k».proof.Proof.Gen.Kernel21Ideal.Value
public import proofs.«01_k».proof.Proof.Gen.Reference21Ideal.Read
public import proofs.«01_k».proof.Proof.Products.MixOut
public import proofs.«01_k».proof.Proof.Gen.Kernel22.Frame
public import proofs.«01_k».proof.Proof.Gen.Kernel22Ideal.Value
public import proofs.«01_k».proof.Proof.Gen.Reference22Ideal.Read
public import proofs.«01_k».proof.Proof.Products.BranchDx
public import proofs.«01_k».proof.Proof.Gen.Kernel23.Frame
public import proofs.«01_k».proof.Proof.Gen.Kernel23Ideal.Value
public import proofs.«01_k».proof.Proof.Gen.Reference23Ideal.Read
public import proofs.«01_k».proof.Proof.Products.MixOutDx
public import proofs.«01_k».proof.Proof.Gen.Kernel24.Frame
public import proofs.«01_k».proof.Proof.Gen.Kernel24Ideal.Value
public import proofs.«01_k».proof.Proof.Gen.Reference24Ideal.Read
public import proofs.«01_k».proof.Proof.Products.BranchDw
public import proofs.«01_k».proof.Proof.Gen.Kernel25.Frame
public import proofs.«01_k».proof.Proof.Gen.Kernel25Ideal.Value
public import proofs.«01_k».proof.Proof.Gen.Reference25Ideal.Read
public import proofs.«01_k».proof.Proof.Update.Merge
public import proofs.«01_k».proof.Proof.Gen.Kernel26.Frame
public import proofs.«01_k».proof.Proof.Gen.Kernel26Ideal.Value
public import proofs.«01_k».proof.Proof.Gen.Reference26Ideal.Read
public import proofs.«01_k».proof.Proof.Update.MergeBwd
public import proofs.«01_k».proof.Proof.Gen.Kernel27.Frame
public import proofs.«01_k».proof.Proof.Gen.Kernel27Ideal.Value
public import proofs.«01_k».proof.Proof.Gen.Reference27Ideal.Read
public import proofs.«01_k».proof.Proof.Products.MixOutDw
public import proofs.«01_k».proof.Proof.Gen.Kernel28.Frame
public import proofs.«01_k».proof.Proof.Gen.Kernel28Ideal.Value
public import proofs.«01_k».proof.Proof.Gen.Reference28Ideal.Read
public import proofs.«01_k».proof.Proof.Products.ProjScal
public import proofs.«01_k».proof.Proof.Gen.Kernel29.Frame
public import proofs.«01_k».proof.Proof.Gen.Kernel29Ideal.Value
public import proofs.«01_k».proof.Proof.Gen.Reference29Ideal.Read
public import proofs.«01_k».proof.Proof.Products.ProjScalDw
public import proofs.«01_k».proof.Proof.Gen.Kernel30.Frame
public import proofs.«01_k».proof.Proof.Gen.Kernel30Ideal.Value
public import proofs.«01_k».proof.Proof.Gen.Reference30Ideal.Read
public import proofs.«01_k».proof.Proof.Products.ProjScalDx
public import Idealize.ShloMosaic.Lib.Quiescent
public import Idealize.ShloMosaic.Lib.Claim

@[expose] public section

noncomputable section

namespace Cert.Proof

open Idealize.ShloMosaic

set_option maxHeartbeats 4000000 in
set_option maxRecDepth 10000 in
/-- The attention gradient's body over words is the same in the two programs, label by label. -/
theorem bodies_eq : Cert.Kernel.defs₀ (F := Bits) = Cert.KernelIdeal.defs₀ (F := Bits) := by
  refine congrArg (Defs.onTc (nD := Cert.KernelIdeal.nD) (τ := Cert.KernelIdeal.τ) (sig := Cert.KernelIdeal.sig)
    (Λ := Cert.KernelIdeal.Λ₀)) ?_
  funext l a
  match l, a with
  | 0, (t, s) => rfl
  | ⟨_ + 1, h⟩, _ => exact absurd h (Nat.not_lt.2 (Nat.le_add_left _ _))

/-- So are its labels together with the pipeline's. -/
theorem defs_eq : Cert.Kernel.defs (F := Bits) = Cert.KernelIdeal.defs (F := Bits) :=
  congrArg (Pipeline.defs (Cert.KernelIdeal.pcfgs (F := Bits))) bodies_eq

set_option maxHeartbeats 4000000 in
set_option maxRecDepth 10000 in
/-- The attention gradient's kernel over words: the run over any float values, taken at words. -/
theorem frame_kernel : Cert.quiescent_Kernel := fun m ρ _ => by
  have h := SbBwd.frame (F := Bits) m ρ
  rw [← defs_eq] at h
  exact h

/-- The same kernel over the extended reals. -/
theorem frame_ideal : Cert.quiescent_KernelIdeal := fun m ρ _ => SbBwd.frame m ρ

/-- The attention gradient's reference, host operations alone. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run m ρ)

end Cert.Proof

open Cert.Proof in
/-- Every claim. -/
theorem Cert.Proof.claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts,
   frame_kernel, frame_ideal, frame_reference,
   FfnOutDx.frame_kernel, FfnOutDx.frame_ideal, FfnOutDx.frame_reference,
   FfnOutDw.frame_kernel, FfnOutDw.frame_ideal, FfnOutDw.frame_reference,
   FfnInDw.frame_kernel, FfnInDw.frame_ideal, FfnInDw.frame_reference,
   FfnInDx.frame_kernel, FfnInDx.frame_ideal, FfnInDx.frame_reference,
   ProjDw.frame_kernel, ProjDw.frame_ideal, ProjDw.frame_reference,
   ProjDx.frame_kernel, ProjDx.frame_ideal, ProjDx.frame_reference,
   FfnInAct.frame_kernel, FfnInAct.frame_ideal, FfnInAct.frame_reference,
   FfnOut.frame_kernel, FfnOut.frame_ideal, FfnOut.frame_reference,
   Proj.frame_kernel, Proj.frame_ideal, Proj.frame_reference,
   UpdateSmall.frame_kernel, UpdateSmall.frame_ideal, UpdateSmall.frame_reference,
   UpdateConv.frame_kernel, UpdateConv.frame_ideal, UpdateConv.frame_reference,
   UpdateBranch.frame_kernel, UpdateBranch.frame_ideal, UpdateBranch.frame_reference,
   UpdateFfnIn.frame_kernel, UpdateFfnIn.frame_ideal, UpdateFfnIn.frame_reference,
   UpdateFfnOut.frame_kernel, UpdateFfnOut.frame_ideal, UpdateFfnOut.frame_reference,
   UpdateIn.frame_kernel, UpdateIn.frame_ideal, UpdateIn.frame_reference,
   LossHead.frame_kernel, LossHead.frame_ideal, LossHead.frame_reference,
   NormBwd.frame_kernel, NormBwd.frame_ideal, NormBwd.frame_reference,
   NormFwd.frame_kernel, NormFwd.frame_ideal, NormFwd.frame_reference,
   Branch.frame_kernel, Branch.frame_ideal, Branch.frame_reference,
   MixOut.frame_kernel, MixOut.frame_ideal, MixOut.frame_reference,
   BranchDx.frame_kernel, BranchDx.frame_ideal, BranchDx.frame_reference,
   MixOutDx.frame_kernel, MixOutDx.frame_ideal, MixOutDx.frame_reference,
   BranchDw.frame_kernel, BranchDw.frame_ideal, BranchDw.frame_reference,
   Merge.frame_kernel, Merge.frame_ideal, Merge.frame_reference,
   MergeBwd.frame_kernel, MergeBwd.frame_ideal, MergeBwd.frame_reference,
   MixOutDw.frame_kernel, MixOutDw.frame_ideal, MixOutDw.frame_reference,
   ProjScal.frame_kernel, ProjScal.frame_ideal, ProjScal.frame_reference,
   ProjScalDw.frame_kernel, ProjScalDw.frame_ideal, ProjScalDw.frame_reference,
   ProjScalDx.frame_kernel, ProjScalDx.frame_ideal, ProjScalDx.frame_reference,
   trivial,
   trivial, FfnOutDx.value,
   trivial, FfnOutDw.value,
   trivial, FfnInDw.value,
   trivial, FfnInDx.value,
   trivial, ProjDw.value,
   trivial, ProjDx.value,
   trivial, FfnInAct.value,
   trivial, FfnOut.value,
   trivial, Proj.value,
   trivial, UpdateSmall.value,
   trivial, UpdateConv.value,
   trivial, UpdateBranch.value,
   trivial, UpdateFfnIn.value,
   trivial, UpdateFfnOut.value,
   trivial, UpdateIn.value,
   trivial, LossHead.value,
   trivial, NormBwd.value,
   trivial, NormFwd.value,
   trivial, Branch.value,
   trivial, MixOut.value,
   trivial, BranchDx.value,
   trivial, MixOutDx.value,
   trivial, BranchDw.value,
   trivial, Merge.value,
   trivial, MergeBwd.value,
   trivial, MixOutDw.value,
   trivial, ProjScal.value,
   trivial, ProjScalDw.value,
   trivial, ProjScalDx.value⟩

end
